-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "c2" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥
  ∧ IdealRules.named_const.Statement Cert.Kernel2Ideal.κ "c2" .f32 0x3DD53B95#32 (((Real.sqrt 192)⁻¹ * (Real.log 2)⁻¹ : ℝ) : EReal)
  ∧ IdealRules.named_const.Statement Cert.Kernel2Ideal.κ "log2e" .f32 0x3FB8AA3B#32 (((Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11)) (v1 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_v15) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4112x8x192 : Shape := ⟨3, ![4112, 8, 192]⟩
abbrev S4112x8x128 : Shape := ⟨3, ![4112, 8, 128]⟩
abbrev S_ : Shape := ⟨0, ![]⟩

class Facts : Prop where
  bcast_S_S4112x8x192 : S_.BroadcastsInDim S4112x8x192 (![] : Fin 0 → Fin S4112x8x192.rank)
  reducesTo_S4112x8x192_S_d0_1_2 : S4112x8x192.ReducesTo [0, 1, 2] S_
  h_S_ : 0 < S_.numel
  bcast_S_S4112x8x128 : S_.BroadcastsInDim S4112x8x128 (![] : Fin 0 → Fin S4112x8x128.rank)
  reducesTo_S4112x8x128_S_d0_1_2 : S4112x8x128.ReducesTo [0, 1, 2] S_

variable [Facts]

def fn_part1 {F : FTy → Type} [FloatOps F] (main_arg2 : FVec F S4112x8x128 .f32) (main_arg3 : FVec F S4112x8x128 .f32) (main_v12 : IVec S_ 1) (main_v14 : IVec S4112x8x128 1) (main_v15 : FVec F S4112x8x128 .f32) : IVec S_ 1 :=
  let main_v16 : IVec S4112x8x128 1 := cmpf .olt main_arg2 main_v15
  let main_v17 : IVec S4112x8x128 1 := andi main_v14 main_v16
  let main_c_6 : IVec S_ 1 := constantI S_ 1 1#1
  let main_v18 : IVec S_ 1 := (fun x v => Host.reduce IntOp.andi x v reducesTo_S4112x8x128_S_d0_1_2 h_S_) main_v17 main_c_6
  let main_v19 : IVec S_ 1 := andi main_v12 main_v18
  let main_cst_7 : FVec F S_ .f32 := constant S_ .f32 0xFF800000#32
  let main_v20 : FVec F S4112x8x128 .f32 := broadcastInDim S4112x8x128 ![] bcast_S_S4112x8x128 main_cst_7
  let main_v21 : IVec S4112x8x128 1 := cmpf .ogt main_arg3 main_v20
  let main_cst_8 : FVec F S_ .f32 := constant S_ .f32 0x7F800000#32
  let main_v22 : FVec F S4112x8x128 .f32 := broadcastInDim S4112x8x128 ![] bcast_S_S4112x8x128 main_cst_8
  let main_v23 : IVec S4112x8x128 1 := cmpf .olt main_arg3 main_v22
  let main_v24 : IVec S4112x8x128 1 := andi main_v21 main_v23
  let main_c_9 : IVec S_ 1 := constantI S_ 1 1#1
  let main_v25 : IVec S_ 1 := (fun x v => Host.reduce IntOp.andi x v reducesTo_S4112x8x128_S_d0_1_2 h_S_) main_v24 main_c_9
  let main_v26 : IVec S_ 1 := andi main_v19 main_v25
  main_v26

def fn {F : FTy → Type} [FloatOps F] (main_arg0 : FVec F S4112x8x192 .f32) (main_arg1 : FVec F S4112x8x192 .f32) (main_arg2 : FVec F S4112x8x128 .f32) (main_arg3 : FVec F S4112x8x128 .f32) : IVec S_ 1 :=
  let main_cst : FVec F S_ .f32 := constant S_ .f32 0xFF800000#32
  let main_v0 : FVec F S4112x8x192 .f32 := broadcastInDim S4112x8x192 ![] bcast_S_S4112x8x192 main_cst
  let main_v1 : IVec S4112x8x192 1 := cmpf .ogt main_arg0 main_v0
  let main_cst_0 : FVec F S_ .f32 := constant S_ .f32 0x7F800000#32
  let main_v2 : FVec F S4112x8x192 .f32 := broadcastInDim S4112x8x192 ![] bcast_S_S4112x8x192 main_cst_0
  let main_v3 : IVec S4112x8x192 1 := cmpf .olt main_arg0 main_v2
  let main_v4 : IVec S4112x8x192 1 := andi main_v1 main_v3
  let main_c : IVec S_ 1 := constantI S_ 1 1#1
  let main_v5 : IVec S_ 1 := (fun x v => Host.reduce IntOp.andi x v reducesTo_S4112x8x192_S_d0_1_2 h_S_) main_v4 main_c
  let main_cst_1 : FVec F S_ .f32 := constant S_ .f32 0xFF800000#32
  let main_v6 : FVec F S4112x8x192 .f32 := broadcastInDim S4112x8x192 ![] bcast_S_S4112x8x192 main_cst_1
  let main_v7 : IVec S4112x8x192 1 := cmpf .ogt main_arg1 main_v6
  let main_cst_2 : FVec F S_ .f32 := constant S_ .f32 0x7F800000#32
  let main_v8 : FVec F S4112x8x192 .f32 := broadcastInDim S4112x8x192 ![] bcast_S_S4112x8x192 main_cst_2
  let main_v9 : IVec S4112x8x192 1 := cmpf .olt main_arg1 main_v8
  let main_v10 : IVec S4112x8x192 1 := andi main_v7 main_v9
  let main_c_3 : IVec S_ 1 := constantI S_ 1 1#1
  let main_v11 : IVec S_ 1 := (fun x v => Host.reduce IntOp.andi x v reducesTo_S4112x8x192_S_d0_1_2 h_S_) main_v10 main_c_3
  let main_v12 : IVec S_ 1 := andi main_v5 main_v11
  let main_cst_4 : FVec F S_ .f32 := constant S_ .f32 0xFF800000#32
  let main_v13 : FVec F S4112x8x128 .f32 := broadcastInDim S4112x8x128 ![] bcast_S_S4112x8x128 main_cst_4
  let main_v14 : IVec S4112x8x128 1 := cmpf .ogt main_arg2 main_v13
  let main_cst_5 : FVec F S_ .f32 := constant S_ .f32 0x7F800000#32
  let main_v15 : FVec F S4112x8x128 .f32 := broadcastInDim S4112x8x128 ![] bcast_S_S4112x8x128 main_cst_5
  fn_part1 (F := F) main_arg2 main_arg3 main_v12 main_v14 main_v15
-- ==== Kernel.lean ====
abbrev S4112x8x192 : Shape := ⟨3, ![4112, 8, 192]⟩
abbrev S4112x8x128 : Shape := ⟨3, ![4112, 8, 128]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x4112x4112 : Shape := ⟨3, ![1, 4112, 4112]⟩
abbrev S8x4112 : Shape := ⟨2, ![8, 4112]⟩
abbrev S8x4112x1 : Shape := ⟨3, ![8, 4112, 1]⟩
abbrev S8x128x4112 : Shape := ⟨3, ![8, 128, 4112]⟩
abbrev S4112x8 : Shape := ⟨2, ![4112, 8]⟩
abbrev S4224x8x256 : Shape := ⟨3, ![4224, 8, 256]⟩
abbrev S4224x2048 : Shape := ⟨2, ![4224, 2048]⟩
abbrev S4224x8x128 : Shape := ⟨3, ![4224, 8, 128]⟩
abbrev S4224x1024 : Shape := ⟨2, ![4224, 1024]⟩
abbrev S8x4224 : Shape := ⟨2, ![8, 4224]⟩
abbrev S8x11x1x384 : Shape := ⟨4, ![8, 11, 1, 384]⟩
abbrev S8x11x8x384 : Shape := ⟨4, ![8, 11, 8, 384]⟩
abbrev S4224x256 : Shape := ⟨2, ![4224, 256]⟩
abbrev S384x256 : Shape := ⟨2, ![384, 256]⟩
abbrev S384x128 : Shape := ⟨2, ![384, 128]⟩
abbrev S1x11x8x384 : Shape := ⟨4, ![1, 11, 8, 384]⟩
abbrev S4224x128 : Shape := ⟨2, ![4224, 128]⟩
abbrev S384x384 : Shape := ⟨2, ![384, 384]⟩
abbrev S1x1x8x384 : Shape := ⟨4, ![1, 1, 8, 384]⟩
abbrev S8x384 : Shape := ⟨2, ![8, 384]⟩
abbrev S1x384 : Shape := ⟨2, ![1, 384]⟩
abbrev S768x256 : Shape := ⟨2, ![768, 256]⟩
abbrev S768x128 : Shape := ⟨2, ![768, 128]⟩
abbrev S384x768 : Shape := ⟨2, ![384, 768]⟩
abbrev S1x768 : Shape := ⟨2, ![1, 768]⟩
abbrev S1536x256 : Shape := ⟨2, ![1536, 256]⟩
abbrev S1536x128 : Shape := ⟨2, ![1536, 128]⟩
abbrev S384x1536 : Shape := ⟨2, ![384, 1536]⟩
abbrev S1x1536 : Shape := ⟨2, ![1, 1536]⟩

abbrev nBuf : Space → Nat
  | .hbm => 84
  | .vmem => 18
  | .smem => 0
  | _ => 0

abbrev bufTy : (tb : Table) → Fin (tcTables nBuf tb) → BufTy
  | .hbm, ⟨0, _⟩ => ⟨S4112x8x192, .f32⟩
  | .hbm, ⟨1, _⟩ => ⟨S4112x8x192, .f32⟩
  | .hbm, ⟨2, _⟩ => ⟨S4112x8x128, .f32⟩
  | .hbm, ⟨3, _⟩ => ⟨S4112x8x128, .f32⟩
  | .hbm, ⟨4, _⟩ => ⟨S8x4112x4112, .f32⟩
  | .hbm, ⟨5, _⟩ => ⟨S_, .f32⟩
  | .hbm, ⟨6, _⟩ => ⟨S_, .f32⟩
  | .hbm, ⟨7, _⟩ => ⟨S8x4112x4112, .f32⟩
  | .hbm, ⟨8, _⟩ => ⟨S8x4112x4112, .f32⟩
  | .hbm, ⟨9, _⟩ => ⟨S4112, .i32⟩
  | .hbm, ⟨10, _⟩ => ⟨S1x4112, .i32⟩
  | .hbm, ⟨11, _⟩ => ⟨S4112, .i32⟩
  | .hbm, ⟨12, _⟩ => ⟨S4112x1, .i32⟩
  | .hbm, ⟨13, _⟩ => ⟨S4112x4112, .i32⟩
  | .hbm, ⟨14, _⟩ => ⟨S4112x4112, .i32⟩
  | .hbm, ⟨15, _⟩ => ⟨S4112x4112, .i1⟩
  | .hbm, ⟨16, _⟩ => ⟨S1x4112x4112, .i1⟩
  | .hbm, ⟨17, _⟩ => ⟨S_, .f32⟩
  | .hbm, ⟨18, _⟩ => ⟨S_, .f32⟩
  | .hbm, ⟨19, _⟩ => ⟨S8x4112x4112, .i1⟩
  | .hbm, ⟨20, _⟩ => ⟨S8x4112x4112, .f32⟩
  | .hbm, ⟨21, _⟩ => ⟨S8x4112x4112, .f32⟩
  | .hbm, ⟨22, _⟩ => ⟨S_, .f32⟩
  | .hbm, ⟨23, _⟩ => ⟨S8x4112, .f32⟩
  | .hbm, ⟨24, _⟩ => ⟨S8x4112x1, .f32⟩
  | .hbm, ⟨25, _⟩ => ⟨S8x4112x4112, .f32⟩
  | .hbm, ⟨26, _⟩ => ⟨S8x4112x4112, .f32⟩
  | .hbm, ⟨27, _⟩ => ⟨S8x4112x4112, .f32⟩
  | .hbm, ⟨28, _⟩ => ⟨S_, .f32⟩
  | .hbm, ⟨29, _⟩ => ⟨S8x4112, .f32⟩
  | .hbm, ⟨30, _⟩ => ⟨S8x4112, .f32⟩
  | .hbm, ⟨31, _⟩ => ⟨S8x4112, .f32⟩
  | .hbm, ⟨32, _⟩ => ⟨S_, .f32⟩
  | .hbm, ⟨33, _⟩ => ⟨S_, .f32⟩
  | .hbm, ⟨34, _⟩ => ⟨S8x4112, .f32⟩
  | .hbm, ⟨35, _⟩ => ⟨S8x4112, .f32⟩
  | .hbm, ⟨36, _⟩ => ⟨S8x4112x1, .f32⟩
  | .hbm, ⟨37, _⟩ => ⟨S8x4112x4112, .f32⟩
  | .hbm, ⟨38, _⟩ => ⟨S8x4112x4112, .f32⟩
  | .hbm, ⟨39, _⟩ => ⟨S8x128x4112, .f32⟩
  | .hbm, ⟨40, _⟩ => ⟨S4112x8x128, .f32⟩
  | .hbm, ⟨41, _⟩ => ⟨S4112x8x128, .f32⟩
  | .hbm, ⟨42, _⟩ => ⟨S_, .f32⟩
  | .hbm, ⟨43, _⟩ => ⟨S4112x8, .f32⟩
  | .hbm, ⟨44, _⟩ => ⟨S8x4112, .f32⟩
  | .hbm, ⟨45, _⟩ => ⟨S_, .i32⟩
  | .hbm, ⟨46, _⟩ => ⟨S_, .f32⟩
  | .hbm, ⟨47, _⟩ => ⟨S4224x8x256, .f32⟩
  | .hbm, ⟨48, _⟩ => ⟨S4224x2048, .f32⟩
  | .hbm, ⟨49, _⟩ => ⟨S4224x2048, .bf16⟩
  | .hbm, ⟨50, _⟩ => ⟨S_, .i32⟩
  | .hbm, ⟨51, _⟩ => ⟨S_, .f32⟩
  | .hbm, ⟨52, _⟩ => ⟨S4224x8x256, .f32⟩
  | .hbm, ⟨53, _⟩ => ⟨S4224x2048, .f32⟩
  | .hbm, ⟨54, _⟩ => ⟨S4224x2048, .bf16⟩
  | .hbm, ⟨55, _⟩ => ⟨S_, .i32⟩
  | .hbm, ⟨56, _⟩ => ⟨S_, .f32⟩
  | .hbm, ⟨57, _⟩ => ⟨S4224x8x128, .f32⟩
  | .hbm, ⟨58, _⟩ => ⟨S4224x1024, .f32⟩
  | .hbm, ⟨59, _⟩ => ⟨S4224x1024, .bf16⟩
  | .hbm, ⟨60, _⟩ => ⟨S_, .i32⟩
  | .hbm, ⟨61, _⟩ => ⟨S_, .f32⟩
  | .hbm, ⟨62, _⟩ => ⟨S8x4224, .f32⟩
  | .hbm, ⟨63, _⟩ => ⟨S8x11x1x384, .f32⟩
  | .hbm, ⟨64, _⟩ => ⟨S8x11x8x384, .f32⟩
  | .hbm, ⟨65, _⟩ => ⟨S_, .i32⟩
  | .hbm, ⟨66, _⟩ => ⟨S_, .f32⟩
  | .hbm, ⟨67, _⟩ => ⟨S8x4224, .f32⟩
  | .hbm, ⟨68, _⟩ => ⟨S8x11x1x384, .f32⟩
  | .hbm, ⟨69, _⟩ => ⟨S8x11x8x384, .f32⟩
  | .hbm, ⟨70, _⟩ => ⟨S_, .i32⟩
  | .hbm, ⟨71, _⟩ => ⟨S_, .f32⟩
  | .hbm, ⟨72, _⟩ => ⟨S4224x8x128, .f32⟩
  | .hbm, ⟨73, _⟩ => ⟨S4224x1024, .f32⟩
  | .hbm, ⟨74, _⟩ => ⟨S4224x1024, .bf16⟩
  | .hbm, ⟨75, _⟩ => ⟨S4224x2048, .f32⟩
  | .hbm, ⟨76, _⟩ => ⟨S4224x2048, .f32⟩
  | .hbm, ⟨77, _⟩ => ⟨S4224x1024, .f32⟩
  | .hbm, ⟨78, _⟩ => ⟨S4224x8x256, .f32⟩
  | .hbm, ⟨79, _⟩ => ⟨S4112x8x192, .f32⟩
  | .hbm, ⟨80, _⟩ => ⟨S4224x8x256, .f32⟩
  | .hbm, ⟨81, _⟩ => ⟨S4112x8x192, .f32⟩
  | .hbm, ⟨82, _⟩ => ⟨S4224x8x128, .f32⟩
  | .hbm, ⟨83, _⟩ => ⟨S4112x8x128, .f32⟩
  | .local _ .vmem, ⟨0, _⟩ => ⟨S4224x256, .bf16⟩
  | .local _ .vmem, ⟨1, _⟩ => ⟨S4224x256, .bf16⟩
  | .local _ .vmem, ⟨2, _⟩ => ⟨S384x256, .bf16⟩
  | .local _ .vmem, ⟨3, _⟩ => ⟨S384x256, .bf16⟩
  | .local _ .vmem, ⟨4, _⟩ => ⟨S384x128, .bf16⟩
  | .local _ .vmem, ⟨5, _⟩ => ⟨S384x128, .bf16⟩
  | .local _ .vmem, ⟨6, _⟩ => ⟨S1x11x8x384, .f32⟩
  | .local _ .vmem, ⟨7, _⟩ => ⟨S1x11x8x384, .f32⟩
  | .local _ .vmem, ⟨8, _⟩ => ⟨S1x11x8x384, .f32⟩
  | .local _ .vmem, ⟨9, _⟩ => ⟨S1x11x8x384, .f32⟩
  | .local _ .vmem, ⟨10, _⟩ => ⟨S4224x128, .bf16⟩
  | .local _ .vmem, ⟨11, _⟩ => ⟨S4224x128, .bf16⟩
  | .local _ .vmem, ⟨12, _⟩ => ⟨S4224x256, .f32⟩
  | .local _ .vmem, ⟨13, _⟩ => ⟨S4224x256, .f32⟩
  | .local _ .vmem, ⟨14, _⟩ => ⟨S384x256, .f32⟩
  | .local _ .vmem, ⟨15, _⟩ => ⟨S384x256, .f32⟩
  | .local _ .vmem, ⟨16, _⟩ => ⟨S384x128, .f32⟩
  | .local _ .vmem, ⟨17, _⟩ => ⟨S384x128, .f32⟩
  | _, _ => ⟨S4112x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_call1_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_call2_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_call3_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_call4_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_call5_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_call6_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32_14 : BitVec 32 := 0#32
  let c11_i32 : BitVec 32 := 11#32
  let arg1 : BitVec 32 := BitVec.ofNat 32 (i 1).val
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v22 : BitVec 32 := Scalar.subi v21 c0_i32_14
  let c1_i32_15 : BitVec 32 := 1#32
  let v24 : BitVec 32 := Scalar.divsi v22 c1_i32_15
  let v25 : BitVec 32 := Scalar.muli v24 c1_i32_15
  let v26 : BitVec 32 := Scalar.addi c0_i32_14 v25
  let c1_i32_16 : BitVec 32 := 1#32
  ⟨c0_i32_14, v26, c1_i32_16⟩
def k0_mult1 (i : grid0.Coords) : BitVec 32 :=
  let arg1 : BitVec 32 := BitVec.ofNat 32 (i 1).val
  let c384_i32 : BitVec 32 := 384#32
  let v83 : BitVec 32 := Scalar.muli arg1 c384_i32
  v83
def k0_off1 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v85 : Index := Scalar.indexCast v84
  let c0_51 : Index := 0#32
  ![v85.toNat, 0]
def k0_off2 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v88 : Index := Scalar.indexCast v84
  let c0_52 : Index := 0#32
  ![v88.toNat, 0]
def k0_off3 (i : grid0.Coords) : Fin 4 → Nat :=
  let c0_56 : Index := 0#32
  let arg1 : BitVec 32 := BitVec.ofNat 32 (i 1).val
  let c0_i32_55 : BitVec 32 := 0#32
  let v94 : BitVec 32 := Scalar.addi arg1 c0_i32_55
  let v95 : Index := Scalar.indexCast v94
  let c0_57 : Index := 0#32
  let c0_58 : Index := 0#32
  ![0, v95.toNat, 0, 0]
@[reducible] def k0_t2_loop (i : grid0.Coords) : Scf.Loop 32 :=
  let c0_i32_14 : BitVec 32 := 0#32
  let c11_i32 : BitVec 32 := 11#32
  let arg1 : BitVec 32 := BitVec.ofNat 32 (i 1).val
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v22 : BitVec 32 := Scalar.subi v21 c0_i32_14
  let c1_i32_15 : BitVec 32 := 1#32
  let v24 : BitVec 32 := Scalar.divsi v22 c1_i32_15
  let v25 : BitVec 32 := Scalar.muli v24 c1_i32_15
  let v26 : BitVec 32 := Scalar.addi c0_i32_14 v25
  let v23 : BitVec 32 := Scalar.addi c0_i32_14 v22
  let c1_i32_17 : BitVec 32 := 1#32
  ⟨v26, v23, c1_i32_17⟩
def k0_mult2 (i : grid0.Coords) : BitVec 32 :=
  let arg1 : BitVec 32 := BitVec.ofNat 32 (i 1).val
  let c384_i32 : BitVec 32 := 384#32
  let v83 : BitVec 32 := Scalar.muli arg1 c384_i32
  v83
def k0_off4 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v85 : Index := Scalar.indexCast v84
  let c0_51 : Index := 0#32
  ![v85.toNat, 0]
def k0_off5 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v88 : Index := Scalar.indexCast v84
  let c0_52 : Index := 0#32
  ![v88.toNat, 0]
def k0_off6 (i : grid0.Coords) : Fin 4 → Nat :=
  let c0_56 : Index := 0#32
  let arg1 : BitVec 32 := BitVec.ofNat 32 (i 1).val
  let c0_i32_55 : BitVec 32 := 0#32
  let v94 : BitVec 32 := Scalar.addi arg1 c0_i32_55
  let v95 : Index := Scalar.indexCast v94
  let c0_57 : Index := 0#32
  let c0_58 : Index := 0#32
  ![0, v95.toNat, 0, 0]
@[reducible] def k0_t3_loop (i : grid0.Coords) : Scf.Loop 32 :=
  let c0_i32_20 : BitVec 32 := 0#32
  let c1_i32_18 : BitVec 32 := 1#32
  let c11_i32 : BitVec 32 := 11#32
  let arg1 : BitVec 32 := BitVec.ofNat 32 (i 1).val
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v27 : BitVec 32 := Scalar.subi c1_i32_18 v21
  let v28 : BitVec 32 := Scalar.subi v27 c0_i32_20
  let c1_i32_21 : BitVec 32 := 1#32
  let v30 : BitVec 32 := Scalar.divsi v28 c1_i32_21
  let v31 : BitVec 32 := Scalar.muli v30 c1_i32_21
  let v32 : BitVec 32 := Scalar.addi c0_i32_20 v31
  let c1_i32_22 : BitVec 32 := 1#32
  ⟨c0_i32_20, v32, c1_i32_22⟩
def k0_mult3 (i : grid0.Coords) : BitVec 32 :=
  let arg1 : BitVec 32 := BitVec.ofNat 32 (i 1).val
  let c384_i32 : BitVec 32 := 384#32
  let v83 : BitVec 32 := Scalar.muli arg1 c384_i32
  v83
def k0_off7 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v85 : Index := Scalar.indexCast v84
  let c0_51 : Index := 0#32
  ![v85.toNat, 0]
def k0_off8 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v88 : Index := Scalar.indexCast v84
  let c0_52 : Index := 0#32
  ![v88.toNat, 0]
def k0_off9 (i : grid0.Coords) (c0_i32_55 : BitVec 32) : Fin 4 → Nat :=
  let c0_56 : Index := 0#32
  let arg1 : BitVec 32 := BitVec.ofNat 32 (i 1).val
  let v94 : BitVec 32 := Scalar.addi arg1 c0_i32_55
  let v95 : Index := Scalar.indexCast v94
  let c0_57 : Index := 0#32
  let c0_58 : Index := 0#32
  ![0, v95.toNat, 0, 0]
@[reducible] def k0_t4_loop (i : grid0.Coords) : Scf.Loop 32 :=
  let c0_i32_20 : BitVec 32 := 0#32
  let c1_i32_18 : BitVec 32 := 1#32
  let c11_i32 : BitVec 32 := 11#32
  let arg1 : BitVec 32 := BitVec.ofNat 32 (i 1).val
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v27 : BitVec 32 := Scalar.subi c1_i32_18 v21
  let v28 : BitVec 32 := Scalar.subi v27 c0_i32_20
  let c1_i32_21 : BitVec 32 := 1#32
  let v30 : BitVec 32 := Scalar.divsi v28 c1_i32_21
  let v31 : BitVec 32 := Scalar.muli v30 c1_i32_21
  let v32 : BitVec 32 := Scalar.addi c0_i32_20 v31
  let v29 : BitVec 32 := Scalar.addi c0_i32_20 v28
  let c1_i32_23 : BitVec 32 := 1#32
  ⟨v32, v29, c1_i32_23⟩
def k0_mult4 (i : grid0.Coords) : BitVec 32 :=
  let arg1 : BitVec 32 := BitVec.ofNat 32 (i 1).val
  let c384_i32 : BitVec 32 := 384#32
  let v83 : BitVec 32 := Scalar.muli arg1 c384_i32
  v83
def k0_off10 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v85 : Index := Scalar.indexCast v84
  let c0_51 : Index := 0#32
  ![v85.toNat, 0]
def k0_off11 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v88 : Index := Scalar.indexCast v84
  let c0_52 : Index := 0#32
  ![v88.toNat, 0]
def k0_off12 (i : grid0.Coords) (c0_i32_55 : BitVec 32) : Fin 4 → Nat :=
  let c0_56 : Index := 0#32
  let arg1 : BitVec 32 := BitVec.ofNat 32 (i 1).val
  let v94 : BitVec 32 := Scalar.addi arg1 c0_i32_55
  let v95 : Index := Scalar.indexCast v94
  let c0_57 : Index := 0#32
  let c0_58 : Index := 0#32
  ![0, v95.toNat, 0, 0]
@[reducible] def k0_t5_loop (i : grid0.Coords) : Scf.Loop 32 :=
  let c0_i32_33 : BitVec 32 := 0#32
  let c11_i32_25 : BitVec 32 := 11#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_35 : BitVec 32 := 1#32
  ⟨c0_i32_33, v57, c1_i32_35⟩
def k0_mult5 (i : grid0.Coords) (k0_t5 : Fin (k0_t5_loop i).trips) : BitVec 32 :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c1_i32_35 : BitVec 32 := 1#32
  let arg11 : BitVec 32 := Scf.iv c0_i32_33 c1_i32_35 k0_t5
  let v83 : BitVec 32 := Scalar.muli c4_i32_51 arg11
  let v84 : BitVec 32 := Scalar.addi v34 v83
  let c384_i32 : BitVec 32 := 384#32
  let v85 : BitVec 32 := Scalar.muli v84 c384_i32
  v85
def k0_off13 (i : grid0.Coords) (k0_t5 : Fin (k0_t5_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c1_i32_35 : BitVec 32 := 1#32
  let arg11 : BitVec 32 := Scf.iv c0_i32_33 c1_i32_35 k0_t5
  let v83 : BitVec 32 := Scalar.muli c4_i32_51 arg11
  let v84 : BitVec 32 := Scalar.addi v34 v83
  let c384_i32 : BitVec 32 := 384#32
  let v85 : BitVec 32 := Scalar.muli v84 c384_i32
  let v86 : BitVec 32 := v85
  let v87 : Index := Scalar.indexCast v86
  let c0_52 : Index := 0#32
  ![v87.toNat, 0]
def k0_off14 (i : grid0.Coords) (k0_t5 : Fin (k0_t5_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c1_i32_35 : BitVec 32 := 1#32
  let arg11 : BitVec 32 := Scf.iv c0_i32_33 c1_i32_35 k0_t5
  let v83 : BitVec 32 := Scalar.muli c4_i32_51 arg11
  let v84 : BitVec 32 := Scalar.addi v34 v83
  let c384_i32 : BitVec 32 := 384#32
  let v85 : BitVec 32 := Scalar.muli v84 c384_i32
  let v86 : BitVec 32 := v85
  let v90 : Index := Scalar.indexCast v86
  let c0_53 : Index := 0#32
  ![v90.toNat, 0]
def k0_off15 (i : grid0.Coords) (k0_t5 : Fin (k0_t5_loop i).trips) (c0_i32_56 : BitVec 32) : Fin 4 → Nat :=
  let c0_57 : Index := 0#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c1_i32_35 : BitVec 32 := 1#32
  let arg11 : BitVec 32 := Scf.iv c0_i32_33 c1_i32_35 k0_t5
  let v83 : BitVec 32 := Scalar.muli c4_i32_51 arg11
  let v84 : BitVec 32 := Scalar.addi v34 v83
  let v96 : BitVec 32 := Scalar.addi v84 c0_i32_56
  let v97 : Index := Scalar.indexCast v96
  let c0_58 : Index := 0#32
  let c0_59 : Index := 0#32
  ![0, v97.toNat, 0, 0]
@[reducible] def k0_t6_loop (i : grid0.Coords) : Scf.Loop 32 :=
  let c0_i32_33 : BitVec 32 := 0#32
  let c11_i32_25 : BitVec 32 := 11#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let v54 : BitVec 32 := Scalar.addi c0_i32_33 v53
  let c1_i32_36 : BitVec 32 := 1#32
  ⟨v57, v54, c1_i32_36⟩
def k0_mult6 (i : grid0.Coords) (k0_t6 : Fin (k0_t6_loop i).trips) : BitVec 32 :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_36 : BitVec 32 := 1#32
  let arg11 : BitVec 32 := Scf.iv v57 c1_i32_36 k0_t6
  let v83 : BitVec 32 := Scalar.muli c4_i32_51 arg11
  let v84 : BitVec 32 := Scalar.addi v34 v83
  let c384_i32 : BitVec 32 := 384#32
  let v85 : BitVec 32 := Scalar.muli v84 c384_i32
  v85
def k0_off16 (i : grid0.Coords) (k0_t6 : Fin (k0_t6_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_36 : BitVec 32 := 1#32
  let arg11 : BitVec 32 := Scf.iv v57 c1_i32_36 k0_t6
  let v83 : BitVec 32 := Scalar.muli c4_i32_51 arg11
  let v84 : BitVec 32 := Scalar.addi v34 v83
  let c384_i32 : BitVec 32 := 384#32
  let v85 : BitVec 32 := Scalar.muli v84 c384_i32
  let v86 : BitVec 32 := v85
  let v87 : Index := Scalar.indexCast v86
  let c0_52 : Index := 0#32
  ![v87.toNat, 0]
def k0_off17 (i : grid0.Coords) (k0_t6 : Fin (k0_t6_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_36 : BitVec 32 := 1#32
  let arg11 : BitVec 32 := Scf.iv v57 c1_i32_36 k0_t6
  let v83 : BitVec 32 := Scalar.muli c4_i32_51 arg11
  let v84 : BitVec 32 := Scalar.addi v34 v83
  let c384_i32 : BitVec 32 := 384#32
  let v85 : BitVec 32 := Scalar.muli v84 c384_i32
  let v86 : BitVec 32 := v85
  let v90 : Index := Scalar.indexCast v86
  let c0_53 : Index := 0#32
  ![v90.toNat, 0]
def k0_off18 (i : grid0.Coords) (k0_t6 : Fin (k0_t6_loop i).trips) (c0_i32_56 : BitVec 32) : Fin 4 → Nat :=
  let c0_57 : Index := 0#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_36 : BitVec 32 := 1#32
  let arg11 : BitVec 32 := Scf.iv v57 c1_i32_36 k0_t6
  let v83 : BitVec 32 := Scalar.muli c4_i32_51 arg11
  let v84 : BitVec 32 := Scalar.addi v34 v83
  let v96 : BitVec 32 := Scalar.addi v84 c0_i32_56
  let v97 : Index := Scalar.indexCast v96
  let c0_58 : Index := 0#32
  let c0_59 : Index := 0#32
  ![0, v97.toNat, 0, 0]
@[reducible] def k0_t7_loop (i : grid0.Coords) : Scf.Loop 32 :=
  let c0_i32_47 : BitVec 32 := 0#32
  let c11_i32_38 : BitVec 32 := 11#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_49 : BitVec 32 := 1#32
  ⟨c0_i32_47, v82, c1_i32_49⟩
def k0_mult7 (i : grid0.Coords) (k0_t7 : Fin (k0_t7_loop i).trips) : BitVec 32 :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c1_i32_49 : BitVec 32 := 1#32
  let arg11 : BitVec 32 := Scf.iv c0_i32_47 c1_i32_49 k0_t7
  let v83 : BitVec 32 := Scalar.muli c2_i32_51 arg11
  let v84 : BitVec 32 := Scalar.addi v59 v83
  let c384_i32 : BitVec 32 := 384#32
  let v85 : BitVec 32 := Scalar.muli v84 c384_i32
  v85
def k0_off19 (i : grid0.Coords) (k0_t7 : Fin (k0_t7_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c1_i32_49 : BitVec 32 := 1#32
  let arg11 : BitVec 32 := Scf.iv c0_i32_47 c1_i32_49 k0_t7
  let v83 : BitVec 32 := Scalar.muli c2_i32_51 arg11
  let v84 : BitVec 32 := Scalar.addi v59 v83
  let c384_i32 : BitVec 32 := 384#32
  let v85 : BitVec 32 := Scalar.muli v84 c384_i32
  let v86 : BitVec 32 := v85
  let v87 : Index := Scalar.indexCast v86
  let c0_52 : Index := 0#32
  ![v87.toNat, 0]
def k0_off20 (i : grid0.Coords) (k0_t7 : Fin (k0_t7_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c1_i32_49 : BitVec 32 := 1#32
  let arg11 : BitVec 32 := Scf.iv c0_i32_47 c1_i32_49 k0_t7
  let v83 : BitVec 32 := Scalar.muli c2_i32_51 arg11
  let v84 : BitVec 32 := Scalar.addi v59 v83
  let c384_i32 : BitVec 32 := 384#32
  let v85 : BitVec 32 := Scalar.muli v84 c384_i32
  let v86 : BitVec 32 := v85
  let v90 : Index := Scalar.indexCast v86
  let c0_53 : Index := 0#32
  ![v90.toNat, 0]
def k0_off21 (i : grid0.Coords) (k0_t7 : Fin (k0_t7_loop i).trips) (c0_i32_56 : BitVec 32) : Fin 4 → Nat :=
  let c0_57 : Index := 0#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c1_i32_49 : BitVec 32 := 1#32
  let arg11 : BitVec 32 := Scf.iv c0_i32_47 c1_i32_49 k0_t7
  let v83 : BitVec 32 := Scalar.muli c2_i32_51 arg11
  let v84 : BitVec 32 := Scalar.addi v59 v83
  let v96 : BitVec 32 := Scalar.addi v84 c0_i32_56
  let v97 : Index := Scalar.indexCast v96
  let c0_58 : Index := 0#32
  let c0_59 : Index := 0#32
  ![0, v97.toNat, 0, 0]
@[reducible] def k0_t8_loop (i : grid0.Coords) : Scf.Loop 32 :=
  let c0_i32_47 : BitVec 32 := 0#32
  let c11_i32_38 : BitVec 32 := 11#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let v79 : BitVec 32 := Scalar.addi c0_i32_47 v78
  let c1_i32_50 : BitVec 32 := 1#32
  ⟨v82, v79, c1_i32_50⟩
def k0_mult8 (i : grid0.Coords) (k0_t8 : Fin (k0_t8_loop i).trips) : BitVec 32 :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c11_i32_38 : BitVec 32 := 11#32
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg11 : BitVec 32 := Scf.iv v82 c1_i32_50 k0_t8
  let v83 : BitVec 32 := Scalar.muli c2_i32_51 arg11
  let v84 : BitVec 32 := Scalar.addi v59 v83
  let c384_i32 : BitVec 32 := 384#32
  let v85 : BitVec 32 := Scalar.muli v84 c384_i32
  v85
def k0_off22 (i : grid0.Coords) (k0_t8 : Fin (k0_t8_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c11_i32_38 : BitVec 32 := 11#32
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg11 : BitVec 32 := Scf.iv v82 c1_i32_50 k0_t8
  let v83 : BitVec 32 := Scalar.muli c2_i32_51 arg11
  let v84 : BitVec 32 := Scalar.addi v59 v83
  let c384_i32 : BitVec 32 := 384#32
  let v85 : BitVec 32 := Scalar.muli v84 c384_i32
  let v86 : BitVec 32 := v85
  let v87 : Index := Scalar.indexCast v86
  let c0_52 : Index := 0#32
  ![v87.toNat, 0]
def k0_off23 (i : grid0.Coords) (k0_t8 : Fin (k0_t8_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c11_i32_38 : BitVec 32 := 11#32
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg11 : BitVec 32 := Scf.iv v82 c1_i32_50 k0_t8
  let v83 : BitVec 32 := Scalar.muli c2_i32_51 arg11
  let v84 : BitVec 32 := Scalar.addi v59 v83
  let c384_i32 : BitVec 32 := 384#32
  let v85 : BitVec 32 := Scalar.muli v84 c384_i32
  let v86 : BitVec 32 := v85
  let v90 : Index := Scalar.indexCast v86
  let c0_53 : Index := 0#32
  ![v90.toNat, 0]
def k0_off24 (i : grid0.Coords) (k0_t8 : Fin (k0_t8_loop i).trips) (c0_i32_56 : BitVec 32) : Fin 4 → Nat :=
  let c0_57 : Index := 0#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c11_i32_38 : BitVec 32 := 11#32
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg11 : BitVec 32 := Scf.iv v82 c1_i32_50 k0_t8
  let v83 : BitVec 32 := Scalar.muli c2_i32_51 arg11
  let v84 : BitVec 32 := Scalar.addi v59 v83
  let v96 : BitVec 32 := Scalar.addi v84 c0_i32_56
  let v97 : Index := Scalar.indexCast v96
  let c0_58 : Index := 0#32
  let c0_59 : Index := 0#32
  ![0, v97.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x11x8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x11x8x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4224x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "c2" => some (((Real.sqrt 192)⁻¹ * (Real.log 2)⁻¹ : ℝ) : EReal)
  | "scale" => some (((Real.sqrt 192)⁻¹ : ℝ) : EReal)
  | _ => none
-- ==== ReferenceIdeal.lean ====
abbrev S4112x8x192 : Shape := ⟨3, ![4112, 8, 192]⟩
abbrev S4112x8x128 : Shape := ⟨3, ![4112, 8, 128]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x4112x4112 : Shape := ⟨3, ![1, 4112, 4112]⟩
abbrev S8x4112 : Shape := ⟨2, ![8, 4112]⟩
abbrev S8x4112x1 : Shape := ⟨3, ![8, 4112, 1]⟩
abbrev S8x128x4112 : Shape := ⟨3, ![8, 128, 4112]⟩
abbrev S8x4112x192 : Shape := ⟨3, ![8, 4112, 192]⟩

abbrev nBuf : Space → Nat
  | .hbm => 91
  | .vmem => 0
  | .smem => 0
  | _ => 0

abbrev bufTy : (tb : Table) → Fin (tcTables nBuf tb) → BufTy
  | .hbm, ⟨0, _⟩ => ⟨S4112x8x192, .f32⟩
  | .hbm, ⟨1, _⟩ => ⟨S4112x8x192, .f32⟩
  | .hbm, ⟨2, _⟩ => ⟨S4112x8x128, .f32⟩
  | .hbm, ⟨3, _⟩ => ⟨S4112x8x128, .f32⟩
  | .hbm, ⟨4, _⟩ => ⟨S8x4112x4112, .f32⟩
  | .hbm, ⟨5, _⟩ => ⟨S_, .f32⟩
  | .hbm, ⟨6, _⟩ => ⟨S_, .f32⟩
  | .hbm, ⟨7, _⟩ => ⟨S8x4112x4112, .f32⟩
  | .hbm, ⟨8, _⟩ => ⟨S8x4112x4112, .f32⟩
  | .hbm, ⟨9, _⟩ => ⟨S4112, .i32⟩
  | .hbm, ⟨10, _⟩ => ⟨S1x4112, .i32⟩
  | .hbm, ⟨11, _⟩ => ⟨S4112, .i32⟩
  | .hbm, ⟨12, _⟩ => ⟨S4112x1, .i32⟩
  | .hbm, ⟨13, _⟩ => ⟨S4112x4112, .i32⟩
  | .hbm, ⟨14, _⟩ => ⟨S4112x4112, .i32⟩
  | .hbm, ⟨15, _⟩ => ⟨S4112x4112, .i1⟩
  | .hbm, ⟨16, _⟩ => ⟨S1x4112x4112, .i1⟩
  | .hbm, ⟨17, _⟩ => ⟨S_, .f32⟩
  | .hbm, ⟨18, _⟩ => ⟨S_, .f32⟩
  | .hbm, ⟨19, _⟩ => ⟨S8x4112x4112, .i1⟩
  | .hbm, ⟨20, _⟩ => ⟨S8x4112x4112, .f32⟩
  | .hbm, ⟨21, _⟩ => ⟨S8x4112x4112, .f32⟩
  | .hbm, ⟨22, _⟩ => ⟨S_, .f32⟩
  | .hbm, ⟨23, _⟩ => ⟨S8x4112x4112, .f32⟩
  | .hbm, ⟨24, _⟩ => ⟨S_, .f32⟩
  | .hbm, ⟨25, _⟩ => ⟨S8x4112, .f32⟩
  | .hbm, ⟨26, _⟩ => ⟨S8x4112x1, .f32⟩
  | .hbm, ⟨27, _⟩ => ⟨S8x4112x4112, .f32⟩
  | .hbm, ⟨28, _⟩ => ⟨S8x4112x4112, .i1⟩
  | .hbm, ⟨29, _⟩ => ⟨S8x4112x4112, .f32⟩
  | .hbm, ⟨30, _⟩ => ⟨S_, .f32⟩
  | .hbm, ⟨31, _⟩ => ⟨S8x4112, .f32⟩
  | .hbm, ⟨32, _⟩ => ⟨S_, .f32⟩
  | .hbm, ⟨33, _⟩ => ⟨S8x4112, .f32⟩
  | .hbm, ⟨34, _⟩ => ⟨S8x4112, .f32⟩
  | .hbm, ⟨35, _⟩ => ⟨S_, .f32⟩
  | .hbm, ⟨36, _⟩ => ⟨S8x4112, .f32⟩
  | .hbm, ⟨37, _⟩ => ⟨S8x4112, .i1⟩
  | .hbm, ⟨38, _⟩ => ⟨S_, .f32⟩
  | .hbm, ⟨39, _⟩ => ⟨S8x4112, .f32⟩
  | .hbm, ⟨40, _⟩ => ⟨S8x4112, .i1⟩
  | .hbm, ⟨41, _⟩ => ⟨S_, .f32⟩
  | .hbm, ⟨42, _⟩ => ⟨S8x4112, .f32⟩
  | .hbm, ⟨43, _⟩ => ⟨S_, .f32⟩
  | .hbm, ⟨44, _⟩ => ⟨S8x4112, .f32⟩
  | .hbm, ⟨45, _⟩ => ⟨S_, .f32⟩
  | .hbm, ⟨46, _⟩ => ⟨S8x4112, .f32⟩
  | .hbm, ⟨47, _⟩ => ⟨S8x4112, .f32⟩
  | .hbm, ⟨48, _⟩ => ⟨S8x4112, .f32⟩
  | .hbm, ⟨49, _⟩ => ⟨S8x4112x1, .f32⟩
  | .hbm, ⟨50, _⟩ => ⟨S8x4112x4112, .f32⟩
  | .hbm, ⟨51, _⟩ => ⟨S8x4112x4112, .f32⟩
  | .hbm, ⟨52, _⟩ => ⟨S8x4112x4112, .f32⟩
  | .hbm, ⟨53, _⟩ => ⟨S_, .f32⟩
  | .hbm, ⟨54, _⟩ => ⟨S8x4112, .f32⟩
  | .hbm, ⟨55, _⟩ => ⟨S8x4112x1, .f32⟩
  | .hbm, ⟨56, _⟩ => ⟨S8x4112x4112, .f32⟩
  | .hbm, ⟨57, _⟩ => ⟨S8x4112x4112, .f32⟩
  | .hbm, ⟨58, _⟩ => ⟨S8x4112x1, .f32⟩
  | .hbm, ⟨59, _⟩ => ⟨S_, .f32⟩
  | .hbm, ⟨60, _⟩ => ⟨S8x4112x1, .f32⟩
  | .hbm, ⟨61, _⟩ => ⟨S8x4112x1, .f32⟩
  | .hbm, ⟨62, _⟩ => ⟨S8x128x4112, .f32⟩
  | .hbm, ⟨63, _⟩ => ⟨S4112x8x128, .f32⟩
  | .hbm, ⟨64, _⟩ => ⟨S8x128x4112, .f32⟩
  | .hbm, ⟨65, _⟩ => ⟨S8x4112x4112, .f32⟩
  | .hbm, ⟨66, _⟩ => ⟨S8x128x4112, .f32⟩
  | .hbm, ⟨67, _⟩ => ⟨S4112x8x128, .f32⟩
  | .hbm, ⟨68, _⟩ => ⟨S8x4112x4112, .f32⟩
  | .hbm, ⟨69, _⟩ => ⟨S8x4112x4112, .f32⟩
  | .hbm, ⟨70, _⟩ => ⟨S8x4112x4112, .f32⟩
  | .hbm, ⟨71, _⟩ => ⟨S_, .f32⟩
  | .hbm, ⟨72, _⟩ => ⟨S8x4112, .f32⟩
  | .hbm, ⟨73, _⟩ => ⟨S8x4112x1, .f32⟩
  | .hbm, ⟨74, _⟩ => ⟨S8x4112x1, .f32⟩
  | .hbm, ⟨75, _⟩ => ⟨S8x4112x4112, .f32⟩
  | .hbm, ⟨76, _⟩ => ⟨S8x4112x4112, .f32⟩
  | .hbm, ⟨77, _⟩ => ⟨S_, .f32⟩
  | .hbm, ⟨78, _⟩ => ⟨S8x4112, .f32⟩
  | .hbm, ⟨79, _⟩ => ⟨S8x4112x4112, .f32⟩
  | .hbm, ⟨80, _⟩ => ⟨S8x4112x4112, .f32⟩
  | .hbm, ⟨81, _⟩ => ⟨S8x4112x4112, .f32⟩
  | .hbm, ⟨82, _⟩ => ⟨S_, .f32⟩
  | .hbm, ⟨83, _⟩ => ⟨S8x4112x4112, .f32⟩
  | .hbm, ⟨84, _⟩ => ⟨S8x4112x4112, .f32⟩
  | .hbm, ⟨85, _⟩ => ⟨S8x4112x4112, .f32⟩
  | .hbm, ⟨86, _⟩ => ⟨S8x4112x4112, .f32⟩
  | .hbm, ⟨87, _⟩ => ⟨S8x4112x192, .f32⟩
  | .hbm, ⟨88, _⟩ => ⟨S4112x8x192, .f32⟩
  | .hbm, ⟨89, _⟩ => ⟨S8x4112x192, .f32⟩
  | .hbm, ⟨90, _⟩ => ⟨S4112x8x192, .f32⟩
  | _, _ => ⟨S4112x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Kernel2.lean ====
abbrev S4112x8x192 : Shape := ⟨3, ![4112, 8, 192]⟩
abbrev S4112x8x128 : Shape := ⟨3, ![4112, 8, 128]⟩
abbrev S_ : Shape := ⟨0, ![]⟩
abbrev S4224x8x256 : Shape := ⟨3, ![4224, 8, 256]⟩
abbrev S4224x2048 : Shape := ⟨2, ![4224, 2048]⟩
abbrev S4224x8x128 : Shape := ⟨3, ![4224, 8, 128]⟩
abbrev S4224x1024 : Shape := ⟨2, ![4224, 1024]⟩
abbrev S8x11x8x384 : Shape := ⟨4, ![8, 11, 8, 384]⟩
abbrev S384x256 : Shape := ⟨2, ![384, 256]⟩
abbrev S4224x256 : Shape := ⟨2, ![4224, 256]⟩
abbrev S4224x128 : Shape := ⟨2, ![4224, 128]⟩
abbrev S384x128 : Shape := ⟨2, ![384, 128]⟩
abbrev S1x1x8x384 : Shape := ⟨4, ![1, 1, 8, 384]⟩
abbrev S384x1 : Shape := ⟨2, ![384, 1]⟩
abbrev S384x384 : Shape := ⟨2, ![384, 384]⟩
abbrev S384 : Shape := ⟨1, ![384]⟩
abbrev S768x256 : Shape := ⟨2, ![768, 256]⟩
abbrev S384x768 : Shape := ⟨2, ![384, 768]⟩
abbrev S768x128 : Shape := ⟨2, ![768, 128]⟩
abbrev S128x384 : Shape := ⟨2, ![128, 384]⟩
abbrev S8x384 : Shape := ⟨2, ![8, 384]⟩
abbrev S8x11x1x384 : Shape := ⟨4, ![8, 11, 1, 384]⟩
abbrev S8x11x384 : Shape := ⟨3, ![8, 11, 384]⟩
abbrev S8x4224 : Shape := ⟨2, ![8, 4224]⟩
abbrev S8x4112 : Shape := ⟨2, ![8, 4112]⟩

abbrev nBuf : Space → Nat
  | .hbm => 26
  | .vmem => 10
  | .smem => 0
  | _ => 0

abbrev bufTy : (tb : Table) → Fin (tcTables nBuf tb) → BufTy
  | .hbm, ⟨0, _⟩ => ⟨S4112x8x192, .f32⟩
  | .hbm, ⟨1, _⟩ => ⟨S4112x8x192, .f32⟩
  | .hbm, ⟨2, _⟩ => ⟨S4112x8x128, .f32⟩
  | .hbm, ⟨3, _⟩ => ⟨S_, .i32⟩
  | .hbm, ⟨4, _⟩ => ⟨S_, .f32⟩
  | .hbm, ⟨5, _⟩ => ⟨S4224x8x256, .f32⟩
  | .hbm, ⟨6, _⟩ => ⟨S4224x2048, .f32⟩
  | .hbm, ⟨7, _⟩ => ⟨S4224x2048, .bf16⟩
  | .hbm, ⟨8, _⟩ => ⟨S_, .i32⟩
  | .hbm, ⟨9, _⟩ => ⟨S_, .f32⟩
  | .hbm, ⟨10, _⟩ => ⟨S4224x8x256, .f32⟩
  | .hbm, ⟨11, _⟩ => ⟨S4224x2048, .f32⟩
  | .hbm, ⟨12, _⟩ => ⟨S4224x2048, .bf16⟩
  | .hbm, ⟨13, _⟩ => ⟨S_, .i32⟩
  | .hbm, ⟨14, _⟩ => ⟨S_, .f32⟩
  | .hbm, ⟨15, _⟩ => ⟨S4224x8x128, .f32⟩
  | .hbm, ⟨16, _⟩ => ⟨S4224x1024, .f32⟩
  | .hbm, ⟨17, _⟩ => ⟨S4224x1024, .bf16⟩
  | .hbm, ⟨18, _⟩ => ⟨S4224x1024, .f32⟩
  | .hbm, ⟨19, _⟩ => ⟨S8x11x8x384, .f32⟩
  | .hbm, ⟨20, _⟩ => ⟨S4224x8x128, .f32⟩
  | .hbm, ⟨21, _⟩ => ⟨S4112x8x128, .f32⟩
  | .hbm, ⟨22, _⟩ => ⟨S8x11x1x384, .f32⟩
  | .hbm, ⟨23, _⟩ => ⟨S8x11x384, .f32⟩
  | .hbm, ⟨24, _⟩ => ⟨S8x4224, .f32⟩
  | .hbm, ⟨25, _⟩ => ⟨S8x4112, .f32⟩
  | .local _ .vmem, ⟨0, _⟩ => ⟨S384x256, .bf16⟩
  | .local _ .vmem, ⟨1, _⟩ => ⟨S384x256, .bf16⟩
  | .local _ .vmem, ⟨2, _⟩ => ⟨S4224x256, .bf16⟩
  | .local _ .vmem, ⟨3, _⟩ => ⟨S4224x256, .bf16⟩
  | .local _ .vmem, ⟨4, _⟩ => ⟨S4224x128, .bf16⟩
  | .local _ .vmem, ⟨5, _⟩ => ⟨S4224x128, .bf16⟩
  | .local _ .vmem, ⟨6, _⟩ => ⟨S384x128, .f32⟩
  | .local _ .vmem, ⟨7, _⟩ => ⟨S384x128, .f32⟩
  | .local _ .vmem, ⟨8, _⟩ => ⟨S1x1x8x384, .f32⟩
  | .local _ .vmem, ⟨9, _⟩ => ⟨S1x1x8x384, .f32⟩
  | _, _ => ⟨S4112x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def k0_mult1 : BitVec 32 :=
  let c0_i32 : BitVec 32 := 0#32
  c0_i32
@[reducible] def k0_t1_loop (i : grid0.Coords) : Scf.Loop 32 :=
  let c0_i32_19 : BitVec 32 := 0#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v64 : BitVec 32 := Scalar.subi v63 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let c1_i32_21 : BitVec 32 := 1#32
  ⟨c0_i32_19, v68, c1_i32_21⟩
def k0_mult2 (i : grid0.Coords) (k0_t1 : Fin (k0_t1_loop i).trips) : BitVec 32 :=
  let c1_i32_62 : BitVec 32 := 1#32
  let c4_i32_61 : BitVec 32 := 4#32
  let c0_i32_19 : BitVec 32 := 0#32
  let c1_i32_21 : BitVec 32 := 1#32
  let arg7 : BitVec 32 := Scf.iv c0_i32_19 c1_i32_21 k0_t1
  let v150 : BitVec 32 := Scalar.muli c4_i32_61 arg7
  let v151 : BitVec 32 := Scalar.addi c1_i32_62 v150
  let c384_i32_63 : BitVec 32 := 384#32
  let v152 : BitVec 32 := Scalar.muli v151 c384_i32_63
  let c0_i32_64 : BitVec 32 := 0#32
  let v153 : BitVec 32 := Scalar.addi v152 c0_i32_64
  v153
def k0_mult3 (i : grid0.Coords) (k0_t1 : Fin (k0_t1_loop i).trips) : BitVec 32 :=
  let c1_i32_62 : BitVec 32 := 1#32
  let c4_i32_61 : BitVec 32 := 4#32
  let c0_i32_19 : BitVec 32 := 0#32
  let c1_i32_21 : BitVec 32 := 1#32
  let arg7 : BitVec 32 := Scf.iv c0_i32_19 c1_i32_21 k0_t1
  let v150 : BitVec 32 := Scalar.muli c4_i32_61 arg7
  let v151 : BitVec 32 := Scalar.addi c1_i32_62 v150
  let c384_i32_65 : BitVec 32 := 384#32
  let v155 : BitVec 32 := Scalar.muli v151 c384_i32_65
  let c768_i32 : BitVec 32 := 768#32
  let v156 : BitVec 32 := Scalar.addi v155 c768_i32
  v156
def k0_off1 (i : grid0.Coords) (k0_t1 : Fin (k0_t1_loop i).trips) (c0_i32_64 : BitVec 32) : Fin 2 → Nat :=
  let c1_i32_62 : BitVec 32 := 1#32
  let c4_i32_61 : BitVec 32 := 4#32
  let c0_i32_19 : BitVec 32 := 0#32
  let c1_i32_21 : BitVec 32 := 1#32
  let arg7 : BitVec 32 := Scf.iv c0_i32_19 c1_i32_21 k0_t1
  let v150 : BitVec 32 := Scalar.muli c4_i32_61 arg7
  let v151 : BitVec 32 := Scalar.addi c1_i32_62 v150
  let c384_i32_63 : BitVec 32 := 384#32
  let v152 : BitVec 32 := Scalar.muli v151 c384_i32_63
  let v153 : BitVec 32 := Scalar.addi v152 c0_i32_64
  let v154 : BitVec 32 := v153
  let v160 : Index := Scalar.indexCast v154
  let c0_68 : Index := 0#32
  ![v160.toNat, 0]
def k0_off2 (i : grid0.Coords) (k0_t1 : Fin (k0_t1_loop i).trips) (c0_i32_64 : BitVec 32) : Fin 2 → Nat :=
  let c1_i32_62 : BitVec 32 := 1#32
  let c4_i32_61 : BitVec 32 := 4#32
  let c0_i32_19 : BitVec 32 := 0#32
  let c1_i32_21 : BitVec 32 := 1#32
  let arg7 : BitVec 32 := Scf.iv c0_i32_19 c1_i32_21 k0_t1
  let v150 : BitVec 32 := Scalar.muli c4_i32_61 arg7
  let v151 : BitVec 32 := Scalar.addi c1_i32_62 v150
  let c384_i32_63 : BitVec 32 := 384#32
  let v152 : BitVec 32 := Scalar.muli v151 c384_i32_63
  let v153 : BitVec 32 := Scalar.addi v152 c0_i32_64
  let v154 : BitVec 32 := v153
  let v187 : Index := Scalar.indexCast v154
  let c0_77 : Index := 0#32
  ![v187.toNat, 0]
@[reducible] def k0_t2_loop (i : grid0.Coords) : Scf.Loop 32 :=
  let c0_i32_19 : BitVec 32 := 0#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v64 : BitVec 32 := Scalar.subi v63 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let v65 : BitVec 32 := Scalar.addi c0_i32_19 v64
  let c1_i32_22 : BitVec 32 := 1#32
  ⟨v68, v65, c1_i32_22⟩
def k0_mult4 (i : grid0.Coords) (k0_t2 : Fin (k0_t2_loop i).trips) : BitVec 32 :=
  let c1_i32_62 : BitVec 32 := 1#32
  let c4_i32_61 : BitVec 32 := 4#32
  let c0_i32_19 : BitVec 32 := 0#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v64 : BitVec 32 := Scalar.subi v63 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let c1_i32_22 : BitVec 32 := 1#32
  let arg7 : BitVec 32 := Scf.iv v68 c1_i32_22 k0_t2
  let v150 : BitVec 32 := Scalar.muli c4_i32_61 arg7
  let v151 : BitVec 32 := Scalar.addi c1_i32_62 v150
  let c384_i32_63 : BitVec 32 := 384#32
  let v152 : BitVec 32 := Scalar.muli v151 c384_i32_63
  let c0_i32_64 : BitVec 32 := 0#32
  let v153 : BitVec 32 := Scalar.addi v152 c0_i32_64
  v153
def k0_mult5 (i : grid0.Coords) (k0_t2 : Fin (k0_t2_loop i).trips) : BitVec 32 :=
  let c1_i32_62 : BitVec 32 := 1#32
  let c4_i32_61 : BitVec 32 := 4#32
  let c0_i32_19 : BitVec 32 := 0#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v64 : BitVec 32 := Scalar.subi v63 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let c1_i32_22 : BitVec 32 := 1#32
  let arg7 : BitVec 32 := Scf.iv v68 c1_i32_22 k0_t2
  let v150 : BitVec 32 := Scalar.muli c4_i32_61 arg7
  let v151 : BitVec 32 := Scalar.addi c1_i32_62 v150
  let c384_i32_65 : BitVec 32 := 384#32
  let v155 : BitVec 32 := Scalar.muli v151 c384_i32_65
  let c768_i32 : BitVec 32 := 768#32
  let v156 : BitVec 32 := Scalar.addi v155 c768_i32
  v156
def k0_off3 (i : grid0.Coords) (k0_t2 : Fin (k0_t2_loop i).trips) (c0_i32_64 : BitVec 32) : Fin 2 → Nat :=
  let c1_i32_62 : BitVec 32 := 1#32
  let c4_i32_61 : BitVec 32 := 4#32
  let c0_i32_19 : BitVec 32 := 0#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v64 : BitVec 32 := Scalar.subi v63 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let c1_i32_22 : BitVec 32 := 1#32
  let arg7 : BitVec 32 := Scf.iv v68 c1_i32_22 k0_t2
  let v150 : BitVec 32 := Scalar.muli c4_i32_61 arg7
  let v151 : BitVec 32 := Scalar.addi c1_i32_62 v150
  let c384_i32_63 : BitVec 32 := 384#32
  let v152 : BitVec 32 := Scalar.muli v151 c384_i32_63
  let v153 : BitVec 32 := Scalar.addi v152 c0_i32_64
  let v154 : BitVec 32 := v153
  let v160 : Index := Scalar.indexCast v154
  let c0_68 : Index := 0#32
  ![v160.toNat, 0]
def k0_off4 (i : grid0.Coords) (k0_t2 : Fin (k0_t2_loop i).trips) (c0_i32_64 : BitVec 32) : Fin 2 → Nat :=
  let c1_i32_62 : BitVec 32 := 1#32
  let c4_i32_61 : BitVec 32 := 4#32
  let c0_i32_19 : BitVec 32 := 0#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v64 : BitVec 32 := Scalar.subi v63 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let c1_i32_22 : BitVec 32 := 1#32
  let arg7 : BitVec 32 := Scf.iv v68 c1_i32_22 k0_t2
  let v150 : BitVec 32 := Scalar.muli c4_i32_61 arg7
  let v151 : BitVec 32 := Scalar.addi c1_i32_62 v150
  let c384_i32_63 : BitVec 32 := 384#32
  let v152 : BitVec 32 := Scalar.muli v151 c384_i32_63
  let v153 : BitVec 32 := Scalar.addi v152 c0_i32_64
  let v154 : BitVec 32 := v153
  let v187 : Index := Scalar.indexCast v154
  let c0_77 : Index := 0#32
  ![v187.toNat, 0]
@[reducible] def k0_t3_loop (i : grid0.Coords) : Scf.Loop 32 :=
  let c0_i32_32 : BitVec 32 := 0#32
  let arg1 : BitVec 32 := BitVec.ofNat 32 (i 1).val
  let c1_i32_24 : BitVec 32 := 1#32
  let c4_i32_23 : BitVec 32 := 4#32
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v92 : BitVec 32 := Scalar.subi v91 c0_i32_32
  let c1_i32_33 : BitVec 32 := 1#32
  let v94 : BitVec 32 := Scalar.divsi v92 c1_i32_33
  let v95 : BitVec 32 := Scalar.muli v94 c1_i32_33
  let v96 : BitVec 32 := Scalar.addi c0_i32_32 v95
  let c1_i32_34 : BitVec 32 := 1#32
  ⟨c0_i32_32, v96, c1_i32_34⟩
def k0_mult6 (i : grid0.Coords) (k0_t3 : Fin (k0_t3_loop i).trips) : BitVec 32 :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_61 : BitVec 32 := 2#32
  let c0_i32_32 : BitVec 32 := 0#32
  let c1_i32_34 : BitVec 32 := 1#32
  let arg7 : BitVec 32 := Scf.iv c0_i32_32 c1_i32_34 k0_t3
  let v150 : BitVec 32 := Scalar.muli c2_i32_61 arg7
  let v151 : BitVec 32 := Scalar.addi v72 v150
  let c384_i32_62 : BitVec 32 := 384#32
  let v152 : BitVec 32 := Scalar.muli v151 c384_i32_62
  let c0_i32_63 : BitVec 32 := 0#32
  let v153 : BitVec 32 := Scalar.addi v152 c0_i32_63
  v153
def k0_mult7 (i : grid0.Coords) (k0_t3 : Fin (k0_t3_loop i).trips) : BitVec 32 :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_61 : BitVec 32 := 2#32
  let c0_i32_32 : BitVec 32 := 0#32
  let c1_i32_34 : BitVec 32 := 1#32
  let arg7 : BitVec 32 := Scf.iv c0_i32_32 c1_i32_34 k0_t3
  let v150 : BitVec 32 := Scalar.muli c2_i32_61 arg7
  let v151 : BitVec 32 := Scalar.addi v72 v150
  let c384_i32_64 : BitVec 32 := 384#32
  let v155 : BitVec 32 := Scalar.muli v151 c384_i32_64
  let c384_i32_65 : BitVec 32 := 384#32
  let v156 : BitVec 32 := Scalar.addi v155 c384_i32_65
  v156
def k0_off5 (i : grid0.Coords) (k0_t3 : Fin (k0_t3_loop i).trips) (c0_i32_63 : BitVec 32) : Fin 2 → Nat :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_61 : BitVec 32 := 2#32
  let c0_i32_32 : BitVec 32 := 0#32
  let c1_i32_34 : BitVec 32 := 1#32
  let arg7 : BitVec 32 := Scf.iv c0_i32_32 c1_i32_34 k0_t3
  let v150 : BitVec 32 := Scalar.muli c2_i32_61 arg7
  let v151 : BitVec 32 := Scalar.addi v72 v150
  let c384_i32_62 : BitVec 32 := 384#32
  let v152 : BitVec 32 := Scalar.muli v151 c384_i32_62
  let v153 : BitVec 32 := Scalar.addi v152 c0_i32_63
  let v154 : BitVec 32 := v153
  let v160 : Index := Scalar.indexCast v154
  let c0_68 : Index := 0#32
  ![v160.toNat, 0]
def k0_off6 (i : grid0.Coords) (k0_t3 : Fin (k0_t3_loop i).trips) (c0_i32_63 : BitVec 32) : Fin 2 → Nat :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_61 : BitVec 32 := 2#32
  let c0_i32_32 : BitVec 32 := 0#32
  let c1_i32_34 : BitVec 32 := 1#32
  let arg7 : BitVec 32 := Scf.iv c0_i32_32 c1_i32_34 k0_t3
  let v150 : BitVec 32 := Scalar.muli c2_i32_61 arg7
  let v151 : BitVec 32 := Scalar.addi v72 v150
  let c384_i32_62 : BitVec 32 := 384#32
  let v152 : BitVec 32 := Scalar.muli v151 c384_i32_62
  let v153 : BitVec 32 := Scalar.addi v152 c0_i32_63
  let v154 : BitVec 32 := v153
  let v187 : Index := Scalar.indexCast v154
  let c0_77 : Index := 0#32
  ![v187.toNat, 0]
@[reducible] def k0_t4_loop (i : grid0.Coords) : Scf.Loop 32 :=
  let c0_i32_32 : BitVec 32 := 0#32
  let arg1 : BitVec 32 := BitVec.ofNat 32 (i 1).val
  let c1_i32_24 : BitVec 32 := 1#32
  let c4_i32_23 : BitVec 32 := 4#32
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v92 : BitVec 32 := Scalar.subi v91 c0_i32_32
  let c1_i32_33 : BitVec 32 := 1#32
  let v94 : BitVec 32 := Scalar.divsi v92 c1_i32_33
  let v95 : BitVec 32 := Scalar.muli v94 c1_i32_33
  let v96 : BitVec 32 := Scalar.addi c0_i32_32 v95
  let v93 : BitVec 32 := Scalar.addi c0_i32_32 v92
  let c1_i32_35 : BitVec 32 := 1#32
  ⟨v96, v93, c1_i32_35⟩
def k0_mult8 (i : grid0.Coords) (k0_t4 : Fin (k0_t4_loop i).trips) : BitVec 32 :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_61 : BitVec 32 := 2#32
  let c0_i32_32 : BitVec 32 := 0#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v92 : BitVec 32 := Scalar.subi v91 c0_i32_32
  let c1_i32_33 : BitVec 32 := 1#32
  let v94 : BitVec 32 := Scalar.divsi v92 c1_i32_33
  let v95 : BitVec 32 := Scalar.muli v94 c1_i32_33
  let v96 : BitVec 32 := Scalar.addi c0_i32_32 v95
  let c1_i32_35 : BitVec 32 := 1#32
  let arg7 : BitVec 32 := Scf.iv v96 c1_i32_35 k0_t4
  let v150 : BitVec 32 := Scalar.muli c2_i32_61 arg7
  let v151 : BitVec 32 := Scalar.addi v72 v150
  let c384_i32_62 : BitVec 32 := 384#32
  let v152 : BitVec 32 := Scalar.muli v151 c384_i32_62
  let c0_i32_63 : BitVec 32 := 0#32
  let v153 : BitVec 32 := Scalar.addi v152 c0_i32_63
  v153
def k0_mult9 (i : grid0.Coords) (k0_t4 : Fin (k0_t4_loop i).trips) : BitVec 32 :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_61 : BitVec 32 := 2#32
  let c0_i32_32 : BitVec 32 := 0#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v92 : BitVec 32 := Scalar.subi v91 c0_i32_32
  let c1_i32_33 : BitVec 32 := 1#32
  let v94 : BitVec 32 := Scalar.divsi v92 c1_i32_33
  let v95 : BitVec 32 := Scalar.muli v94 c1_i32_33
  let v96 : BitVec 32 := Scalar.addi c0_i32_32 v95
  let c1_i32_35 : BitVec 32 := 1#32
  let arg7 : BitVec 32 := Scf.iv v96 c1_i32_35 k0_t4
  let v150 : BitVec 32 := Scalar.muli c2_i32_61 arg7
  let v151 : BitVec 32 := Scalar.addi v72 v150
  let c384_i32_64 : BitVec 32 := 384#32
  let v155 : BitVec 32 := Scalar.muli v151 c384_i32_64
  let c384_i32_65 : BitVec 32 := 384#32
  let v156 : BitVec 32 := Scalar.addi v155 c384_i32_65
  v156
def k0_off7 (i : grid0.Coords) (k0_t4 : Fin (k0_t4_loop i).trips) (c0_i32_63 : BitVec 32) : Fin 2 → Nat :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_61 : BitVec 32 := 2#32
  let c0_i32_32 : BitVec 32 := 0#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v92 : BitVec 32 := Scalar.subi v91 c0_i32_32
  let c1_i32_33 : BitVec 32 := 1#32
  let v94 : BitVec 32 := Scalar.divsi v92 c1_i32_33
  let v95 : BitVec 32 := Scalar.muli v94 c1_i32_33
  let v96 : BitVec 32 := Scalar.addi c0_i32_32 v95
  let c1_i32_35 : BitVec 32 := 1#32
  let arg7 : BitVec 32 := Scf.iv v96 c1_i32_35 k0_t4
  let v150 : BitVec 32 := Scalar.muli c2_i32_61 arg7
  let v151 : BitVec 32 := Scalar.addi v72 v150
  let c384_i32_62 : BitVec 32 := 384#32
  let v152 : BitVec 32 := Scalar.muli v151 c384_i32_62
  let v153 : BitVec 32 := Scalar.addi v152 c0_i32_63
  let v154 : BitVec 32 := v153
  let v160 : Index := Scalar.indexCast v154
  let c0_68 : Index := 0#32
  ![v160.toNat, 0]
def k0_off8 (i : grid0.Coords) (k0_t4 : Fin (k0_t4_loop i).trips) (c0_i32_63 : BitVec 32) : Fin 2 → Nat :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_61 : BitVec 32 := 2#32
  let c0_i32_32 : BitVec 32 := 0#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v92 : BitVec 32 := Scalar.subi v91 c0_i32_32
  let c1_i32_33 : BitVec 32 := 1#32
  let v94 : BitVec 32 := Scalar.divsi v92 c1_i32_33
  let v95 : BitVec 32 := Scalar.muli v94 c1_i32_33
  let v96 : BitVec 32 := Scalar.addi c0_i32_32 v95
  let c1_i32_35 : BitVec 32 := 1#32
  let arg7 : BitVec 32 := Scf.iv v96 c1_i32_35 k0_t4
  let v150 : BitVec 32 := Scalar.muli c2_i32_61 arg7
  let v151 : BitVec 32 := Scalar.addi v72 v150
  let c384_i32_62 : BitVec 32 := 384#32
  let v152 : BitVec 32 := Scalar.muli v151 c384_i32_62
  let v153 : BitVec 32 := Scalar.addi v152 c0_i32_63
  let v154 : BitVec 32 := v153
  let v187 : Index := Scalar.indexCast v154
  let c0_77 : Index := 0#32
  ![v187.toNat, 0]
@[reducible] def k0_t5_loop (i : grid0.Coords) : Scf.Loop 32 :=
  let c0_i32_45 : BitVec 32 := 0#32
  let arg1 : BitVec 32 := BitVec.ofNat 32 (i 1).val
  let c1_i32_24 : BitVec 32 := 1#32
  let c4_i32_23 : BitVec 32 := 4#32
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_36 : BitVec 32 := 2#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v99 : BitVec 32 := Scalar.muli c2_i32_36 v91
  let v100 : BitVec 32 := Scalar.addi v72 v99
  let v101 : BitVec 32 := Scalar.subi arg1 v100
  let c0_i32_37 : BitVec 32 := 0#32
  let v102 : BitVec 32 := Scalar.maxsi v101 c0_i32_37
  let c0_i32_39 : BitVec 32 := 0#32
  let v104 : BitVec 1 := Scalar.cmpi .sgt v102 c0_i32_39
  let v105 : BitVec 32 := Scalar.extui v104
  let c0_i32_40 : BitVec 32 := 0#32
  let v106 : BitVec 1 := Scalar.cmpi .slt v102 c0_i32_40
  let v107 : BitVec 32 := Scalar.extui v106
  let v108 : BitVec 32 := Scalar.subi v105 v107
  let c1_i32_38 : BitVec 32 := 1#32
  let c0_i32_41 : BitVec 32 := 0#32
  let v109 : BitVec 1 := Scalar.cmpi .sgt c1_i32_38 c0_i32_41
  let v110 : BitVec 32 := Scalar.extui v109
  let c0_i32_42 : BitVec 32 := 0#32
  let v111 : BitVec 1 := Scalar.cmpi .slt c1_i32_38 c0_i32_42
  let v112 : BitVec 32 := Scalar.extui v111
  let v113 : BitVec 32 := Scalar.subi v110 v112
  let v114 : BitVec 1 := Scalar.cmpi .ne v108 v113
  let v115 : BitVec 32 := Scalar.remsi v102 c1_i32_38
  let c0_i32_43 : BitVec 32 := 0#32
  let v116 : BitVec 1 := Scalar.cmpi .ne v115 c0_i32_43
  let v117 : BitVec 1 := Scalar.andi v114 v116
  let v103 : BitVec 32 := Scalar.divsi v102 c1_i32_38
  let c1_i32_44 : BitVec 32 := 1#32
  let v118 : BitVec 32 := Scalar.subi v103 c1_i32_44
  let v119 : BitVec 32 := Scalar.select v117 v118 v103
  let v120 : BitVec 32 := Scalar.subi v119 c0_i32_45
  let c1_i32_46 : BitVec 32 := 1#32
  let v122 : BitVec 32 := Scalar.divsi v120 c1_i32_46
  let v123 : BitVec 32 := Scalar.muli v122 c1_i32_46
  let v124 : BitVec 32 := Scalar.addi c0_i32_45 v123
  let c1_i32_47 : BitVec 32 := 1#32
  ⟨c0_i32_45, v124, c1_i32_47⟩
def k0_mult10 (i : grid0.Coords) (k0_t5 : Fin (k0_t5_loop i).trips) : BitVec 32 :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_36 : BitVec 32 := 2#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v99 : BitVec 32 := Scalar.muli c2_i32_36 v91
  let v100 : BitVec 32 := Scalar.addi v72 v99
  let c1_i32_61 : BitVec 32 := 1#32
  let c0_i32_45 : BitVec 32 := 0#32
  let c1_i32_47 : BitVec 32 := 1#32
  let arg7 : BitVec 32 := Scf.iv c0_i32_45 c1_i32_47 k0_t5
  let v150 : BitVec 32 := Scalar.muli c1_i32_61 arg7
  let v151 : BitVec 32 := Scalar.addi v100 v150
  let c384_i32_62 : BitVec 32 := 384#32
  let v152 : BitVec 32 := Scalar.muli v151 c384_i32_62
  let c0_i32_63 : BitVec 32 := 0#32
  let v153 : BitVec 32 := Scalar.addi v152 c0_i32_63
  v153
def k0_off9 (i : grid0.Coords) (k0_t5 : Fin (k0_t5_loop i).trips) : Fin 2 → Nat :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_36 : BitVec 32 := 2#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v99 : BitVec 32 := Scalar.muli c2_i32_36 v91
  let v100 : BitVec 32 := Scalar.addi v72 v99
  let c1_i32_61 : BitVec 32 := 1#32
  let c0_i32_45 : BitVec 32 := 0#32
  let c1_i32_47 : BitVec 32 := 1#32
  let arg7 : BitVec 32 := Scf.iv c0_i32_45 c1_i32_47 k0_t5
  let v150 : BitVec 32 := Scalar.muli c1_i32_61 arg7
  let v151 : BitVec 32 := Scalar.addi v100 v150
  let c384_i32_62 : BitVec 32 := 384#32
  let v152 : BitVec 32 := Scalar.muli v151 c384_i32_62
  let c0_i32_63 : BitVec 32 := 0#32
  let v153 : BitVec 32 := Scalar.addi v152 c0_i32_63
  let v154 : BitVec 32 := v153
  let v157 : Index := Scalar.indexCast v154
  let c0_66 : Index := 0#32
  ![v157.toNat, 0]
def k0_off10 (i : grid0.Coords) (k0_t5 : Fin (k0_t5_loop i).trips) : Fin 2 → Nat :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_36 : BitVec 32 := 2#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v99 : BitVec 32 := Scalar.muli c2_i32_36 v91
  let v100 : BitVec 32 := Scalar.addi v72 v99
  let c1_i32_61 : BitVec 32 := 1#32
  let c0_i32_45 : BitVec 32 := 0#32
  let c1_i32_47 : BitVec 32 := 1#32
  let arg7 : BitVec 32 := Scf.iv c0_i32_45 c1_i32_47 k0_t5
  let v150 : BitVec 32 := Scalar.muli c1_i32_61 arg7
  let v151 : BitVec 32 := Scalar.addi v100 v150
  let c384_i32_62 : BitVec 32 := 384#32
  let v152 : BitVec 32 := Scalar.muli v151 c384_i32_62
  let c0_i32_63 : BitVec 32 := 0#32
  let v153 : BitVec 32 := Scalar.addi v152 c0_i32_63
  let v154 : BitVec 32 := v153
  let v178 : Index := Scalar.indexCast v154
  let c0_71 : Index := 0#32
  ![v178.toNat, 0]
@[reducible] def k0_t6_loop (i : grid0.Coords) : Scf.Loop 32 :=
  let c0_i32_45 : BitVec 32 := 0#32
  let arg1 : BitVec 32 := BitVec.ofNat 32 (i 1).val
  let c1_i32_24 : BitVec 32 := 1#32
  let c4_i32_23 : BitVec 32 := 4#32
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_36 : BitVec 32 := 2#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v99 : BitVec 32 := Scalar.muli c2_i32_36 v91
  let v100 : BitVec 32 := Scalar.addi v72 v99
  let v101 : BitVec 32 := Scalar.subi arg1 v100
  let c0_i32_37 : BitVec 32 := 0#32
  let v102 : BitVec 32 := Scalar.maxsi v101 c0_i32_37
  let c0_i32_39 : BitVec 32 := 0#32
  let v104 : BitVec 1 := Scalar.cmpi .sgt v102 c0_i32_39
  let v105 : BitVec 32 := Scalar.extui v104
  let c0_i32_40 : BitVec 32 := 0#32
  let v106 : BitVec 1 := Scalar.cmpi .slt v102 c0_i32_40
  let v107 : BitVec 32 := Scalar.extui v106
  let v108 : BitVec 32 := Scalar.subi v105 v107
  let c1_i32_38 : BitVec 32 := 1#32
  let c0_i32_41 : BitVec 32 := 0#32
  let v109 : BitVec 1 := Scalar.cmpi .sgt c1_i32_38 c0_i32_41
  let v110 : BitVec 32 := Scalar.extui v109
  let c0_i32_42 : BitVec 32 := 0#32
  let v111 : BitVec 1 := Scalar.cmpi .slt c1_i32_38 c0_i32_42
  let v112 : BitVec 32 := Scalar.extui v111
  let v113 : BitVec 32 := Scalar.subi v110 v112
  let v114 : BitVec 1 := Scalar.cmpi .ne v108 v113
  let v115 : BitVec 32 := Scalar.remsi v102 c1_i32_38
  let c0_i32_43 : BitVec 32 := 0#32
  let v116 : BitVec 1 := Scalar.cmpi .ne v115 c0_i32_43
  let v117 : BitVec 1 := Scalar.andi v114 v116
  let v103 : BitVec 32 := Scalar.divsi v102 c1_i32_38
  let c1_i32_44 : BitVec 32 := 1#32
  let v118 : BitVec 32 := Scalar.subi v103 c1_i32_44
  let v119 : BitVec 32 := Scalar.select v117 v118 v103
  let v120 : BitVec 32 := Scalar.subi v119 c0_i32_45
  let c1_i32_46 : BitVec 32 := 1#32
  let v122 : BitVec 32 := Scalar.divsi v120 c1_i32_46
  let v123 : BitVec 32 := Scalar.muli v122 c1_i32_46
  let v124 : BitVec 32 := Scalar.addi c0_i32_45 v123
  let v121 : BitVec 32 := Scalar.addi c0_i32_45 v120
  let c1_i32_48 : BitVec 32 := 1#32
  ⟨v124, v121, c1_i32_48⟩
def k0_mult11 (i : grid0.Coords) (k0_t6 : Fin (k0_t6_loop i).trips) : BitVec 32 :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_36 : BitVec 32 := 2#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v99 : BitVec 32 := Scalar.muli c2_i32_36 v91
  let v100 : BitVec 32 := Scalar.addi v72 v99
  let c1_i32_61 : BitVec 32 := 1#32
  let c0_i32_45 : BitVec 32 := 0#32
  let v101 : BitVec 32 := Scalar.subi arg1 v100
  let c0_i32_37 : BitVec 32 := 0#32
  let v102 : BitVec 32 := Scalar.maxsi v101 c0_i32_37
  let c0_i32_39 : BitVec 32 := 0#32
  let v104 : BitVec 1 := Scalar.cmpi .sgt v102 c0_i32_39
  let v105 : BitVec 32 := Scalar.extui v104
  let c0_i32_40 : BitVec 32 := 0#32
  let v106 : BitVec 1 := Scalar.cmpi .slt v102 c0_i32_40
  let v107 : BitVec 32 := Scalar.extui v106
  let v108 : BitVec 32 := Scalar.subi v105 v107
  let c1_i32_38 : BitVec 32 := 1#32
  let c0_i32_41 : BitVec 32 := 0#32
  let v109 : BitVec 1 := Scalar.cmpi .sgt c1_i32_38 c0_i32_41
  let v110 : BitVec 32 := Scalar.extui v109
  let c0_i32_42 : BitVec 32 := 0#32
  let v111 : BitVec 1 := Scalar.cmpi .slt c1_i32_38 c0_i32_42
  let v112 : BitVec 32 := Scalar.extui v111
  let v113 : BitVec 32 := Scalar.subi v110 v112
  let v114 : BitVec 1 := Scalar.cmpi .ne v108 v113
  let v115 : BitVec 32 := Scalar.remsi v102 c1_i32_38
  let c0_i32_43 : BitVec 32 := 0#32
  let v116 : BitVec 1 := Scalar.cmpi .ne v115 c0_i32_43
  let v117 : BitVec 1 := Scalar.andi v114 v116
  let v103 : BitVec 32 := Scalar.divsi v102 c1_i32_38
  let c1_i32_44 : BitVec 32 := 1#32
  let v118 : BitVec 32 := Scalar.subi v103 c1_i32_44
  let v119 : BitVec 32 := Scalar.select v117 v118 v103
  let v120 : BitVec 32 := Scalar.subi v119 c0_i32_45
  let c1_i32_46 : BitVec 32 := 1#32
  let v122 : BitVec 32 := Scalar.divsi v120 c1_i32_46
  let v123 : BitVec 32 := Scalar.muli v122 c1_i32_46
  let v124 : BitVec 32 := Scalar.addi c0_i32_45 v123
  let c1_i32_48 : BitVec 32 := 1#32
  let arg7 : BitVec 32 := Scf.iv v124 c1_i32_48 k0_t6
  let v150 : BitVec 32 := Scalar.muli c1_i32_61 arg7
  let v151 : BitVec 32 := Scalar.addi v100 v150
  let c384_i32_62 : BitVec 32 := 384#32
  let v152 : BitVec 32 := Scalar.muli v151 c384_i32_62
  let c0_i32_63 : BitVec 32 := 0#32
  let v153 : BitVec 32 := Scalar.addi v152 c0_i32_63
  v153
def k0_off11 (i : grid0.Coords) (k0_t6 : Fin (k0_t6_loop i).trips) : Fin 2 → Nat :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_36 : BitVec 32 := 2#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v99 : BitVec 32 := Scalar.muli c2_i32_36 v91
  let v100 : BitVec 32 := Scalar.addi v72 v99
  let c1_i32_61 : BitVec 32 := 1#32
  let c0_i32_45 : BitVec 32 := 0#32
  let v101 : BitVec 32 := Scalar.subi arg1 v100
  let c0_i32_37 : BitVec 32 := 0#32
  let v102 : BitVec 32 := Scalar.maxsi v101 c0_i32_37
  let c0_i32_39 : BitVec 32 := 0#32
  let v104 : BitVec 1 := Scalar.cmpi .sgt v102 c0_i32_39
  let v105 : BitVec 32 := Scalar.extui v104
  let c0_i32_40 : BitVec 32 := 0#32
  let v106 : BitVec 1 := Scalar.cmpi .slt v102 c0_i32_40
  let v107 : BitVec 32 := Scalar.extui v106
  let v108 : BitVec 32 := Scalar.subi v105 v107
  let c1_i32_38 : BitVec 32 := 1#32
  let c0_i32_41 : BitVec 32 := 0#32
  let v109 : BitVec 1 := Scalar.cmpi .sgt c1_i32_38 c0_i32_41
  let v110 : BitVec 32 := Scalar.extui v109
  let c0_i32_42 : BitVec 32 := 0#32
  let v111 : BitVec 1 := Scalar.cmpi .slt c1_i32_38 c0_i32_42
  let v112 : BitVec 32 := Scalar.extui v111
  let v113 : BitVec 32 := Scalar.subi v110 v112
  let v114 : BitVec 1 := Scalar.cmpi .ne v108 v113
  let v115 : BitVec 32 := Scalar.remsi v102 c1_i32_38
  let c0_i32_43 : BitVec 32 := 0#32
  let v116 : BitVec 1 := Scalar.cmpi .ne v115 c0_i32_43
  let v117 : BitVec 1 := Scalar.andi v114 v116
  let v103 : BitVec 32 := Scalar.divsi v102 c1_i32_38
  let c1_i32_44 : BitVec 32 := 1#32
  let v118 : BitVec 32 := Scalar.subi v103 c1_i32_44
  let v119 : BitVec 32 := Scalar.select v117 v118 v103
  let v120 : BitVec 32 := Scalar.subi v119 c0_i32_45
  let c1_i32_46 : BitVec 32 := 1#32
  let v122 : BitVec 32 := Scalar.divsi v120 c1_i32_46
  let v123 : BitVec 32 := Scalar.muli v122 c1_i32_46
  let v124 : BitVec 32 := Scalar.addi c0_i32_45 v123
  let c1_i32_48 : BitVec 32 := 1#32
  let arg7 : BitVec 32 := Scf.iv v124 c1_i32_48 k0_t6
  let v150 : BitVec 32 := Scalar.muli c1_i32_61 arg7
  let v151 : BitVec 32 := Scalar.addi v100 v150
  let c384_i32_62 : BitVec 32 := 384#32
  let v152 : BitVec 32 := Scalar.muli v151 c384_i32_62
  let c0_i32_63 : BitVec 32 := 0#32
  let v153 : BitVec 32 := Scalar.addi v152 c0_i32_63
  let v154 : BitVec 32 := v153
  let v157 : Index := Scalar.indexCast v154
  let c0_66 : Index := 0#32
  ![v157.toNat, 0]
def k0_off12 (i : grid0.Coords) (k0_t6 : Fin (k0_t6_loop i).trips) : Fin 2 → Nat :=
  let c1_i32_24 : BitVec 32 := 1#32
  let c4_i32_23 : BitVec 32 := 4#32
  let arg1 : BitVec 32 := BitVec.ofNat 32 (i 1).val
  let c1_i32 : BitVec 32 := 1#32
  let v45 : BitVec 32 := Scalar.subi arg1 c1_i32
  let c0_i32_12 : BitVec 32 := 0#32
  let v46 : BitVec 32 := Scalar.maxsi v45 c0_i32_12
  let c0_i32_13 : BitVec 32 := 0#32
  let v48 : BitVec 1 := Scalar.cmpi .sgt v46 c0_i32_13
  let v49 : BitVec 32 := Scalar.extui v48
  let c0_i32_14 : BitVec 32 := 0#32
  let v50 : BitVec 1 := Scalar.cmpi .slt v46 c0_i32_14
  let v51 : BitVec 32 := Scalar.extui v50
  let v52 : BitVec 32 := Scalar.subi v49 v51
  let c4_i32 : BitVec 32 := 4#32
  let c0_i32_15 : BitVec 32 := 0#32
  let v53 : BitVec 1 := Scalar.cmpi .sgt c4_i32 c0_i32_15
  let v54 : BitVec 32 := Scalar.extui v53
  let c0_i32_16 : BitVec 32 := 0#32
  let v55 : BitVec 1 := Scalar.cmpi .slt c4_i32 c0_i32_16
  let v56 : BitVec 32 := Scalar.extui v55
  let v57 : BitVec 32 := Scalar.subi v54 v56
  let v58 : BitVec 1 := Scalar.cmpi .ne v52 v57
  let v59 : BitVec 32 := Scalar.remsi v46 c4_i32
  let c0_i32_17 : BitVec 32 := 0#32
  let v60 : BitVec 1 := Scalar.cmpi .ne v59 c0_i32_17
  let v61 : BitVec 1 := Scalar.andi v58 v60
  let v47 : BitVec 32 := Scalar.divsi v46 c4_i32
  let c1_i32_18 : BitVec 32 := 1#32
  let v62 : BitVec 32 := Scalar.subi v47 c1_i32_18
  let v63 : BitVec 32 := Scalar.select v61 v62 v47
  let v71 : BitVec 32 := Scalar.muli c4_i32_23 v63
  let v72 : BitVec 32 := Scalar.addi c1_i32_24 v71
  let c2_i32_36 : BitVec 32 := 2#32
  let v73 : BitVec 32 := Scalar.subi arg1 v72
  let c0_i32_25 : BitVec 32 := 0#32
  let v74 : BitVec 32 := Scalar.maxsi v73 c0_i32_25
  let c0_i32_26 : BitVec 32 := 0#32
  let v76 : BitVec 1 := Scalar.cmpi .sgt v74 c0_i32_26
  let v77 : BitVec 32 := Scalar.extui v76
  let c0_i32_27 : BitVec 32 := 0#32
  let v78 : BitVec 1 := Scalar.cmpi .slt v74 c0_i32_27
  let v79 : BitVec 32 := Scalar.extui v78
  let v80 : BitVec 32 := Scalar.subi v77 v79
  let c2_i32 : BitVec 32 := 2#32
  let c0_i32_28 : BitVec 32 := 0#32
  let v81 : BitVec 1 := Scalar.cmpi .sgt c2_i32 c0_i32_28
  let v82 : BitVec 32 := Scalar.extui v81
  let c0_i32_29 : BitVec 32 := 0#32
  let v83 : BitVec 1 := Scalar.cmpi .slt c2_i32 c0_i32_29
  let v84 : BitVec 32 := Scalar.extui v83
  let v85 : BitVec 32 := Scalar.subi v82 v84
  let v86 : BitVec 1 := Scalar.cmpi .ne v80 v85
  let v87 : BitVec 32 := Scalar.remsi v74 c2_i32
  let c0_i32_30 : BitVec 32 := 0#32
  let v88 : BitVec 1 := Scalar.cmpi .ne v87 c0_i32_30
  let v89 : BitVec 1 := Scalar.andi v86 v88
  let v75 : BitVec 32 := Scalar.divsi v74 c2_i32
  let c1_i32_31 : BitVec 32 := 1#32
  let v90 : BitVec 32 := Scalar.subi v75 c1_i32_31
  let v91 : BitVec 32 := Scalar.select v89 v90 v75
  let v99 : BitVec 32 := Scalar.muli c2_i32_36 v91
  let v100 : BitVec 32 := Scalar.addi v72 v99
  let c1_i32_61 : BitVec 32 := 1#32
  let c0_i32_45 : BitVec 32 := 0#32
  let v101 : BitVec 32 := Scalar.subi arg1 v100
  let c0_i32_37 : BitVec 32 := 0#32
  let v102 : BitVec 32 := Scalar.maxsi v101 c0_i32_37
  let c0_i32_39 : BitVec 32 := 0#32
  let v104 : BitVec 1 := Scalar.cmpi .sgt v102 c0_i32_39
  let v105 : BitVec 32 := Scalar.extui v104
  let c0_i32_40 : BitVec 32 := 0#32
  let v106 : BitVec 1 := Scalar.cmpi .slt v102 c0_i32_40
  let v107 : BitVec 32 := Scalar.extui v106
  let v108 : BitVec 32 := Scalar.subi v105 v107
  let c1_i32_38 : BitVec 32 := 1#32
  let c0_i32_41 : BitVec 32 := 0#32
  let v109 : BitVec 1 := Scalar.cmpi .sgt c1_i32_38 c0_i32_41
  let v110 : BitVec 32 := Scalar.extui v109
  let c0_i32_42 : BitVec 32 := 0#32
  let v111 : BitVec 1 := Scalar.cmpi .slt c1_i32_38 c0_i32_42
  let v112 : BitVec 32 := Scalar.extui v111
  let v113 : BitVec 32 := Scalar.subi v110 v112
  let v114 : BitVec 1 := Scalar.cmpi .ne v108 v113
  let v115 : BitVec 32 := Scalar.remsi v102 c1_i32_38
  let c0_i32_43 : BitVec 32 := 0#32
  let v116 : BitVec 1 := Scalar.cmpi .ne v115 c0_i32_43
  let v117 : BitVec 1 := Scalar.andi v114 v116
  let v103 : BitVec 32 := Scalar.divsi v102 c1_i32_38
  let c1_i32_44 : BitVec 32 := 1#32
  let v118 : BitVec 32 := Scalar.subi v103 c1_i32_44
  let v119 : BitVec 32 := Scalar.select v117 v118 v103
  let v120 : BitVec 32 := Scalar.subi v119 c0_i32_45
  let c1_i32_46 : BitVec 32 := 1#32
  let v122 : BitVec 32 := Scalar.divsi v120 c1_i32_46
  let v123 : BitVec 32 := Scalar.muli v122 c1_i32_46
  let v124 : BitVec 32 := Scalar.addi c0_i32_45 v123
  let c1_i32_48 : BitVec 32 := 1#32
  let arg7 : BitVec 32 := Scf.iv v124 c1_i32_48 k0_t6
  let v150 : BitVec 32 := Scalar.muli c1_i32_61 arg7
  let v151 : BitVec 32 := Scalar.addi v100 v150
  let c384_i32_62 : BitVec 32 := 384#32
  let v152 : BitVec 32 := Scalar.muli v151 c384_i32_62
  let c0_i32_63 : BitVec 32 := 0#32
  let v153 : BitVec 32 := Scalar.addi v152 c0_i32_63
  let v154 : BitVec 32 := v153
  let v178 : Index := Scalar.indexCast v154
  let c0_71 : Index := 0#32
  ![v178.toNat, 0]
@[reducible] def k0_t7_loop (i : grid0.Coords) : Scf.Loop 32 :=
  let arg1 : BitVec 32 := BitVec.ofNat 32 (i 1).val
  let c1_i32_49 : BitVec 32 := 1#32
  let v127 : BitVec 32 := Scalar.maxsi arg1 c1_i32_49
  let c1_i32_50 : BitVec 32 := 1#32
  let v128 : BitVec 32 := Scalar.addi arg1 c1_i32_50
  let v129 : BitVec 32 := Scalar.subi v128 v127
  let c1_i32_51 : BitVec 32 := 1#32
  let v131 : BitVec 32 := Scalar.divsi v129 c1_i32_51
  let v132 : BitVec 32 := Scalar.muli v131 c1_i32_51
  let v133 : BitVec 32 := Scalar.addi v127 v132
  let c1_i32_52 : BitVec 32 := 1#32
  ⟨v127, v133, c1_i32_52⟩
def k0_mult12 (i : grid0.Coords) (k0_t7 : Fin (k0_t7_loop i).trips) : BitVec 32 :=
  let arg1 : BitVec 32 := BitVec.ofNat 32 (i 1).val
  let c1_i32_49 : BitVec 32 := 1#32
  let v127 : BitVec 32 := Scalar.maxsi arg1 c1_i32_49
  let c1_i32_52 : BitVec 32 := 1#32
  let arg7 : BitVec 32 := Scf.iv v127 c1_i32_52 k0_t7
  let c384_i32_61 : BitVec 32 := 384#32
  let v150 : BitVec 32 := Scalar.muli arg7 c384_i32_61
  let c0_i32_62 : BitVec 32 := 0#32
  let v151 : BitVec 32 := Scalar.addi v150 c0_i32_62
  v151
def k0_off13 (i : grid0.Coords) (k0_t7 : Fin (k0_t7_loop i).trips) : Fin 2 → Nat :=
  let arg1 : BitVec 32 := BitVec.ofNat 32 (i 1).val
  let c1_i32_49 : BitVec 32 := 1#32
  let v127 : BitVec 32 := Scalar.maxsi arg1 c1_i32_49
  let c1_i32_52 : BitVec 32 := 1#32
  let arg7 : BitVec 32 := Scf.iv v127 c1_i32_52 k0_t7
  let c384_i32_61 : BitVec 32 := 384#32
  let v150 : BitVec 32 := Scalar.muli arg7 c384_i32_61
  let c0_i32_62 : BitVec 32 := 0#32
  let v151 : BitVec 32 := Scalar.addi v150 c0_i32_62
  let v152 : BitVec 32 := v151
  let v155 : Index := Scalar.indexCast v152
  let c0_65 : Index := 0#32
  ![v155.toNat, 0]
def k0_off14 (i : grid0.Coords) (k0_t7 : Fin (k0_t7_loop i).trips) : Fin 2 → Nat :=
  let arg1 : BitVec 32 := BitVec.ofNat 32 (i 1).val
  let c1_i32_49 : BitVec 32 := 1#32
  let v127 : BitVec 32 := Scalar.maxsi arg1 c1_i32_49
  let c1_i32_52 : BitVec 32 := 1#32
  let arg7 : BitVec 32 := Scf.iv v127 c1_i32_52 k0_t7
  let c384_i32_61 : BitVec 32 := 384#32
  let v150 : BitVec 32 := Scalar.muli arg7 c384_i32_61
  let c0_i32_62 : BitVec 32 := 0#32
  let v151 : BitVec 32 := Scalar.addi v150 c0_i32_62
  let v152 : BitVec 32 := v151
  let v190 : Index := Scalar.indexCast v152
  let c0_74 : Index := 0#32
  ![v190.toNat, 0]
@[reducible] def k0_t8_loop (i : grid0.Coords) : Scf.Loop 32 :=
  let arg1 : BitVec 32 := BitVec.ofNat 32 (i 1).val
  let c1_i32_49 : BitVec 32 := 1#32
  let v127 : BitVec 32 := Scalar.maxsi arg1 c1_i32_49
  let c1_i32_50 : BitVec 32 := 1#32
  let v128 : BitVec 32 := Scalar.addi arg1 c1_i32_50
  let v129 : BitVec 32 := Scalar.subi v128 v127
  let c1_i32_51 : BitVec 32 := 1#32
  let v131 : BitVec 32 := Scalar.divsi v129 c1_i32_51
  let v132 : BitVec 32 := Scalar.muli v131 c1_i32_51
  let v133 : BitVec 32 := Scalar.addi v127 v132
  let v130 : BitVec 32 := Scalar.addi v127 v129
  let c1_i32_53 : BitVec 32 := 1#32
  ⟨v133, v130, c1_i32_53⟩
def k0_mult13 (i : grid0.Coords) (k0_t8 : Fin (k0_t8_loop i).trips) : BitVec 32 :=
  let arg1 : BitVec 32 := BitVec.ofNat 32 (i 1).val
  let c1_i32_49 : BitVec 32 := 1#32
  let v127 : BitVec 32 := Scalar.maxsi arg1 c1_i32_49
  let c1_i32_50 : BitVec 32 := 1#32
  let v128 : BitVec 32 := Scalar.addi arg1 c1_i32_50
  let v129 : BitVec 32 := Scalar.subi v128 v127
  let c1_i32_51 : BitVec 32 := 1#32
  let v131 : BitVec 32 := Scalar.divsi v129 c1_i32_51
  let v132 : BitVec 32 := Scalar.muli v131 c1_i32_51
  let v133 : BitVec 32 := Scalar.addi v127 v132
  let c1_i32_53 : BitVec 32 := 1#32
  let arg7 : BitVec 32 := Scf.iv v133 c1_i32_53 k0_t8
  let c384_i32_61 : BitVec 32 := 384#32
  let v150 : BitVec 32 := Scalar.muli arg7 c384_i32_61
  let c0_i32_62 : BitVec 32 := 0#32
  let v151 : BitVec 32 := Scalar.addi v150 c0_i32_62
  v151
def k0_off15 (i : grid0.Coords) (k0_t8 : Fin (k0_t8_loop i).trips) : Fin 2 → Nat :=
  let arg1 : BitVec 32 := BitVec.ofNat 32 (i 1).val
  let c1_i32_49 : BitVec 32 := 1#32
  let v127 : BitVec 32 := Scalar.maxsi arg1 c1_i32_49
  let c1_i32_50 : BitVec 32 := 1#32
  let v128 : BitVec 32 := Scalar.addi arg1 c1_i32_50
  let v129 : BitVec 32 := Scalar.subi v128 v127
  let c1_i32_51 : BitVec 32 := 1#32
  let v131 : BitVec 32 := Scalar.divsi v129 c1_i32_51
  let v132 : BitVec 32 := Scalar.muli v131 c1_i32_51
  let v133 : BitVec 32 := Scalar.addi v127 v132
  let c1_i32_53 : BitVec 32 := 1#32
  let arg7 : BitVec 32 := Scf.iv v133 c1_i32_53 k0_t8
  let c384_i32_61 : BitVec 32 := 384#32
  let v150 : BitVec 32 := Scalar.muli arg7 c384_i32_61
  let c0_i32_62 : BitVec 32 := 0#32
  let v151 : BitVec 32 := Scalar.addi v150 c0_i32_62
  let v152 : BitVec 32 := v151
  let v155 : Index := Scalar.indexCast v152
  let c0_65 : Index := 0#32
  ![v155.toNat, 0]
def k0_off16 (i : grid0.Coords) (k0_t8 : Fin (k0_t8_loop i).trips) : Fin 2 → Nat :=
  let arg1 : BitVec 32 := BitVec.ofNat 32 (i 1).val
  let c1_i32_49 : BitVec 32 := 1#32
  let v127 : BitVec 32 := Scalar.maxsi arg1 c1_i32_49
  let c1_i32_50 : BitVec 32 := 1#32
  let v128 : BitVec 32 := Scalar.addi arg1 c1_i32_50
  let v129 : BitVec 32 := Scalar.subi v128 v127
  let c1_i32_51 : BitVec 32 := 1#32
  let v131 : BitVec 32 := Scalar.divsi v129 c1_i32_51
  let v132 : BitVec 32 := Scalar.muli v131 c1_i32_51
  let v133 : BitVec 32 := Scalar.addi v127 v132
  let c1_i32_53 : BitVec 32 := 1#32
  let arg7 : BitVec 32 := Scf.iv v133 c1_i32_53 k0_t8
  let c384_i32_61 : BitVec 32 := 384#32
  let v150 : BitVec 32 := Scalar.muli arg7 c384_i32_61
  let c0_i32_62 : BitVec 32 := 0#32
  let v151 : BitVec 32 := Scalar.addi v150 c0_i32_62
  let v152 : BitVec 32 := v151
  let v190 : Index := Scalar.indexCast v152
  let c0_74 : Index := 0#32
  ![v190.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "c2" => some (((Real.sqrt 192)⁻¹ * (Real.log 2)⁻¹ : ℝ) : EReal)
  | "log2e" => some (((Real.log 2)⁻¹ : ℝ) : EReal)
  | "mask" => some ⊥
  | _ => none
-- ==== Reference2Ideal.lean ====
abbrev S4112x8x192 : Shape := ⟨3, ![4112, 8, 192]⟩
abbrev S4112x8x128 : Shape := ⟨3, ![4112, 8, 128]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x4112x4112 : Shape := ⟨3, ![1, 4112, 4112]⟩
abbrev S8x4112 : Shape := ⟨2, ![8, 4112]⟩
abbrev S8x4112x1 : Shape := ⟨3, ![8, 4112, 1]⟩
abbrev S8x128x4112 : Shape := ⟨3, ![8, 128, 4112]⟩
abbrev S4112x8 : Shape := ⟨2, ![4112, 8]⟩
abbrev S4112x8x1 : Shape := ⟨3, ![4112, 8, 1]⟩

abbrev nBuf : Space → Nat
  | .hbm => 41
  | .vmem => 0
  | .smem => 0
  | _ => 0

abbrev bufTy : (tb : Table) → Fin (tcTables nBuf tb) → BufTy
  | .hbm, ⟨0, _⟩ => ⟨S4112x8x192, .f32⟩
  | .hbm, ⟨1, _⟩ => ⟨S4112x8x192, .f32⟩
  | .hbm, ⟨2, _⟩ => ⟨S4112x8x128, .f32⟩
  | .hbm, ⟨3, _⟩ => ⟨S8x4112x4112, .f32⟩
  | .hbm, ⟨4, _⟩ => ⟨S_, .f32⟩
  | .hbm, ⟨5, _⟩ => ⟨S_, .f32⟩
  | .hbm, ⟨6, _⟩ => ⟨S8x4112x4112, .f32⟩
  | .hbm, ⟨7, _⟩ => ⟨S8x4112x4112, .f32⟩
  | .hbm, ⟨8, _⟩ => ⟨S4112, .i32⟩
  | .hbm, ⟨9, _⟩ => ⟨S1x4112, .i32⟩
  | .hbm, ⟨10, _⟩ => ⟨S4112, .i32⟩
  | .hbm, ⟨11, _⟩ => ⟨S4112x1, .i32⟩
  | .hbm, ⟨12, _⟩ => ⟨S4112x4112, .i32⟩
  | .hbm, ⟨13, _⟩ => ⟨S4112x4112, .i32⟩
  | .hbm, ⟨14, _⟩ => ⟨S4112x4112, .i1⟩
  | .hbm, ⟨15, _⟩ => ⟨S1x4112x4112, .i1⟩
  | .hbm, ⟨16, _⟩ => ⟨S_, .f32⟩
  | .hbm, ⟨17, _⟩ => ⟨S_, .f32⟩
  | .hbm, ⟨18, _⟩ => ⟨S8x4112x4112, .i1⟩
  | .hbm, ⟨19, _⟩ => ⟨S8x4112x4112, .f32⟩
  | .hbm, ⟨20, _⟩ => ⟨S8x4112x4112, .f32⟩
  | .hbm, ⟨21, _⟩ => ⟨S_, .f32⟩
  | .hbm, ⟨22, _⟩ => ⟨S8x4112, .f32⟩
  | .hbm, ⟨23, _⟩ => ⟨S8x4112x1, .f32⟩
  | .hbm, ⟨24, _⟩ => ⟨S8x4112x4112, .f32⟩
  | .hbm, ⟨25, _⟩ => ⟨S8x4112x4112, .f32⟩
  | .hbm, ⟨26, _⟩ => ⟨S8x4112x4112, .f32⟩
  | .hbm, ⟨27, _⟩ => ⟨S_, .f32⟩
  | .hbm, ⟨28, _⟩ => ⟨S8x4112, .f32⟩
  | .hbm, ⟨29, _⟩ => ⟨S8x128x4112, .f32⟩
  | .hbm, ⟨30, _⟩ => ⟨S4112x8x128, .f32⟩
  | .hbm, ⟨31, _⟩ => ⟨S4112x8, .f32⟩
  | .hbm, ⟨32, _⟩ => ⟨S4112x8x1, .f32⟩
  | .hbm, ⟨33, _⟩ => ⟨S4112x8x128, .f32⟩
  | .hbm, ⟨34, _⟩ => ⟨S4112x8x128, .f32⟩
  | .hbm, ⟨35, _⟩ => ⟨S8x4112, .f32⟩
  | .hbm, ⟨36, _⟩ => ⟨S8x4112, .f32⟩
  | .hbm, ⟨37, _⟩ => ⟨S_, .f32⟩
  | .hbm, ⟨38, _⟩ => ⟨S_, .f32⟩
  | .hbm, ⟨39, _⟩ => ⟨S8x4112, .f32⟩
  | .hbm, ⟨40, _⟩ => ⟨S8x4112, .f32⟩
  | _, _ => ⟨S4112x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel3.lean ====
abbrev S4224x1024 : Shape := ⟨2, ![4224, 1024]⟩
abbrev S1x1024 : Shape := ⟨2, ![1, 1024]⟩
abbrev S1024x2048 : Shape := ⟨2, ![1024, 2048]⟩
abbrev S384x1024 : Shape := ⟨2, ![384, 1024]⟩
abbrev S384x2048 : Shape := ⟨2, ![384, 2048]⟩
abbrev S384 : Shape := ⟨1, ![384]⟩
abbrev S384x1 : Shape := ⟨2, ![384, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x2048, .bf16⟩
  | .hbm, ⟨3, _⟩ => ⟨S4224x1024, .bf16⟩
  | .hbm, ⟨4, _⟩ => ⟨S4224x1024, .bf16⟩
  | .hbm, ⟨5, _⟩ => ⟨S4224x1024, .f32⟩
  | .hbm, ⟨6, _⟩ => ⟨S4224x1024, .f32⟩
  | .hbm, ⟨7, _⟩ => ⟨S1024x2048, .f32⟩
  | .hbm, ⟨8, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x2048, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S1024x2048, .f32⟩
  | .local _ .vmem, ⟨13, _⟩ => ⟨S1x1024, .f32⟩
  | .local _ .vmem, ⟨14, _⟩ => ⟨S384x2048, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4224x1024 : Shape := ⟨2, ![4224, 1024]⟩
abbrev S1x1024 : Shape := ⟨2, ![1, 1024]⟩
abbrev S1024x2048 : Shape := ⟨2, ![1024, 2048]⟩
abbrev S_ : Shape := ⟨0, ![]⟩
abbrev S4224 : Shape := ⟨1, ![4224]⟩
abbrev S4224x1 : Shape := ⟨2, ![4224, 1]⟩
abbrev S4224x2048 : Shape := ⟨2, ![4224, 2048]⟩
abbrev S2048x1024 : Shape := ⟨2, ![2048, 1024]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x2048, .bf16⟩
  | .hbm, ⟨3, _⟩ => ⟨S4224x1024, .bf16⟩
  | .hbm, ⟨4, _⟩ => ⟨S4224x1024, .bf16⟩
  | .hbm, ⟨5, _⟩ => ⟨S4224x1024, .f32⟩
  | .hbm, ⟨6, _⟩ => ⟨S1024x2048, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S4224x2048, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x2048, .f32⟩
  | .hbm, ⟨32, _⟩ => ⟨S2048x1024, .f32⟩
  | .hbm, ⟨33, _⟩ => ⟨S1024x2048, .f32⟩
  | .hbm, ⟨34, _⟩ => ⟨S4224x1024, .f32⟩
  | .hbm, ⟨35, _⟩ => ⟨S4224x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S_, .f32⟩
  | .hbm, ⟨43, _⟩ => ⟨S4224, .f32⟩
  | .hbm, ⟨44, _⟩ => ⟨S4224x1, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x1, .f32⟩
  | .hbm, ⟨49, _⟩ => ⟨S_, .f32⟩
  | .hbm, ⟨50, _⟩ => ⟨S4224x1, .f32⟩
  | .hbm, ⟨51, _⟩ => ⟨S4224x1, .f32⟩
  | .hbm, ⟨52, _⟩ => ⟨S_, .f32⟩
  | .hbm, ⟨53, _⟩ => ⟨S4224, .f32⟩
  | .hbm, ⟨54, _⟩ => ⟨S4224x1024, .f32⟩
  | .hbm, ⟨55, _⟩ => ⟨S4224x1024, .f32⟩
  | .hbm, ⟨56, _⟩ => ⟨S4224x1024, .f32⟩
  | .hbm, ⟨57, _⟩ => ⟨S4224x1024, .f32⟩
  | .hbm, ⟨58, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel4.lean ====
abbrev S4224x1024 : Shape := ⟨2, ![4224, 1024]⟩
abbrev S1024x1024 : Shape := ⟨2, ![1024, 1024]⟩
abbrev S1x1024 : Shape := ⟨2, ![1, 1024]⟩
abbrev S1024x2048 : Shape := ⟨2, ![1024, 2048]⟩
abbrev S384x1024 : Shape := ⟨2, ![384, 1024]⟩
abbrev S384 : Shape := ⟨1, ![384]⟩
abbrev S384x1 : Shape := ⟨2, ![384, 1]⟩
abbrev S384x2048 : Shape := ⟨2, ![384, 2048]⟩

abbrev nBuf : Space → Nat
  | .hbm => 9
  | .vmem => 15
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024x1024, .bf16⟩
  | .hbm, ⟨3, _⟩ => ⟨S4224x1024, .f32⟩
  | .hbm, ⟨4, _⟩ => ⟨S1x1024, .f32⟩
  | .hbm, ⟨5, _⟩ => ⟨S1024x2048, .bf16⟩
  | .hbm, ⟨6, _⟩ => ⟨S4224x1024, .f32⟩
  | .hbm, ⟨7, _⟩ => ⟨S4224x1024, .f32⟩
  | .hbm, ⟨8, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | .local _ .vmem, ⟨7, _⟩ => ⟨S1x1024, .f32⟩
  | .local _ .vmem, ⟨8, _⟩ => ⟨S1024x2048, .bf16⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4224x1024 : Shape := ⟨2, ![4224, 1024]⟩
abbrev S1024x1024 : Shape := ⟨2, ![1024, 1024]⟩
abbrev S1x1024 : Shape := ⟨2, ![1, 1024]⟩
abbrev S1024x2048 : Shape := ⟨2, ![1024, 2048]⟩
abbrev S_ : Shape := ⟨0, ![]⟩
abbrev S4224 : Shape := ⟨1, ![4224]⟩
abbrev S4224x1 : Shape := ⟨2, ![4224, 1]⟩
abbrev S4224x2048 : Shape := ⟨2, ![4224, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024x1024, .bf16⟩
  | .hbm, ⟨3, _⟩ => ⟨S4224x1024, .f32⟩
  | .hbm, ⟨4, _⟩ => ⟨S1x1024, .f32⟩
  | .hbm, ⟨5, _⟩ => ⟨S1024x2048, .bf16⟩
  | .hbm, ⟨6, _⟩ => ⟨S4224x1024, .f32⟩
  | .hbm, ⟨7, _⟩ => ⟨S4224x1024, .f32⟩
  | .hbm, ⟨8, _⟩ => ⟨S_, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S1024x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S_, .f32⟩
  | .hbm, ⟨21, _⟩ => ⟨S4224, .f32⟩
  | .hbm, ⟨22, _⟩ => ⟨S4224x1, .f32⟩
  | .hbm, ⟨23, _⟩ => ⟨S_, .f32⟩
  | .hbm, ⟨24, _⟩ => ⟨S4224x1, .f32⟩
  | .hbm, ⟨25, _⟩ => ⟨S4224x1, .f32⟩
  | .hbm, ⟨26, _⟩ => ⟨S_, .f32⟩
  | .hbm, ⟨27, _⟩ => ⟨S4224x1, .f32⟩
  | .hbm, ⟨28, _⟩ => ⟨S4224x1, .f32⟩
  | .hbm, ⟨29, _⟩ => ⟨S4224x1, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S1024x2048, .f32⟩
  | .hbm, ⟨35, _⟩ => ⟨S4224x2048, .f32⟩
  | .hbm, ⟨36, _⟩ => ⟨S4224x1024, .f32⟩
  | .hbm, ⟨37, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel5.lean ====
abbrev S4224x1024 : Shape := ⟨2, ![4224, 1024]⟩
abbrev S1x1024 : Shape := ⟨2, ![1, 1024]⟩
abbrev S1792x1024 : Shape := ⟨2, ![1792, 1024]⟩
abbrev S4224x384 : Shape := ⟨2, ![4224, 384]⟩
abbrev S4224x256 : Shape := ⟨2, ![4224, 256]⟩
abbrev S4224x128 : Shape := ⟨2, ![4224, 128]⟩
abbrev S384x1024 : Shape := ⟨2, ![384, 1024]⟩
abbrev S384x384 : Shape := ⟨2, ![384, 384]⟩
abbrev S384x256 : Shape := ⟨2, ![384, 256]⟩
abbrev S384x128 : Shape := ⟨2, ![384, 128]⟩
abbrev S384x1792 : Shape := ⟨2, ![384, 1792]⟩
abbrev S384 : Shape := ⟨1, ![384]⟩
abbrev S384x1 : Shape := ⟨2, ![384, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1792x1024, .bf16⟩
  | .hbm, ⟨3, _⟩ => ⟨S4224x384, .bf16⟩
  | .hbm, ⟨4, _⟩ => ⟨S4224x256, .bf16⟩
  | .hbm, ⟨5, _⟩ => ⟨S4224x128, .bf16⟩
  | .hbm, ⟨6, _⟩ => ⟨S4224x1024, .bf16⟩
  | .hbm, ⟨7, _⟩ => ⟨S4224x1024, .f32⟩
  | .hbm, ⟨8, _⟩ => ⟨S4224x1024, .f32⟩
  | .hbm, ⟨9, _⟩ => ⟨S1792x1024, .f32⟩
  | .hbm, ⟨10, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1792x1024, .bf16⟩
  | .local _ .vmem, ⟨4, _⟩ => ⟨S384x384, .bf16⟩
  | .local _ .vmem, ⟨5, _⟩ => ⟨S384x384, .bf16⟩
  | .local _ .vmem, ⟨6, _⟩ => ⟨S384x256, .bf16⟩
  | .local _ .vmem, ⟨7, _⟩ => ⟨S384x256, .bf16⟩
  | .local _ .vmem, ⟨8, _⟩ => ⟨S384x128, .bf16⟩
  | .local _ .vmem, ⟨9, _⟩ => ⟨S384x128, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | .local _ .vmem, ⟨15, _⟩ => ⟨S384x1024, .f32⟩
  | .local _ .vmem, ⟨16, _⟩ => ⟨S1792x1024, .f32⟩
  | .local _ .vmem, ⟨17, _⟩ => ⟨S1x1024, .f32⟩
  | .local _ .vmem, ⟨18, _⟩ => ⟨S384x1792, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1792x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S4224x1024 : Shape := ⟨2, ![4224, 1024]⟩
abbrev S1x1024 : Shape := ⟨2, ![1, 1024]⟩
abbrev S1792x1024 : Shape := ⟨2, ![1792, 1024]⟩
abbrev S4224x384 : Shape := ⟨2, ![4224, 384]⟩
abbrev S4224x256 : Shape := ⟨2, ![4224, 256]⟩
abbrev S4224x128 : Shape := ⟨2, ![4224, 128]⟩
abbrev S_ : Shape := ⟨0, ![]⟩
abbrev S4224 : Shape := ⟨1, ![4224]⟩
abbrev S4224x1 : Shape := ⟨2, ![4224, 1]⟩
abbrev S1024x1792 : Shape := ⟨2, ![1024, 1792]⟩
abbrev S4224x1792 : Shape := ⟨2, ![4224, 1792]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1792x1024, .bf16⟩
  | .hbm, ⟨3, _⟩ => ⟨S4224x384, .bf16⟩
  | .hbm, ⟨4, _⟩ => ⟨S4224x256, .bf16⟩
  | .hbm, ⟨5, _⟩ => ⟨S4224x128, .bf16⟩
  | .hbm, ⟨6, _⟩ => ⟨S4224x1024, .bf16⟩
  | .hbm, ⟨7, _⟩ => ⟨S4224x1024, .f32⟩
  | .hbm, ⟨8, _⟩ => ⟨S4224x384, .f32⟩
  | .hbm, ⟨9, _⟩ => ⟨S4224x256, .f32⟩
  | .hbm, ⟨10, _⟩ => ⟨S4224x128, .f32⟩
  | .hbm, ⟨11, _⟩ => ⟨S4224x1024, .f32⟩
  | .hbm, ⟨12, _⟩ => ⟨S1792x1024, .f32⟩
  | .hbm, ⟨13, _⟩ => ⟨S4224x1024, .f32⟩
  | .hbm, ⟨14, _⟩ => ⟨S_, .f32⟩
  | .hbm, ⟨15, _⟩ => ⟨S4224, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S4224x1, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S1024x1792, .f32⟩
  | .hbm, ⟨33, _⟩ => ⟨S4224x1792, .f32⟩
  | .hbm, ⟨34, _⟩ => ⟨S4224x384, .f32⟩
  | .hbm, ⟨35, _⟩ => ⟨S4224x256, .f32⟩
  | .hbm, ⟨36, _⟩ => ⟨S4224x128, .f32⟩
  | .hbm, ⟨37, _⟩ => ⟨S4224x1024, .f32⟩
  | .hbm, ⟨38, _⟩ => ⟨S4224x1792, .f32⟩
  | .hbm, ⟨39, _⟩ => ⟨S1792x1024, .f32⟩
  | .hbm, ⟨40, _⟩ => ⟨S1024x1792, .f32⟩
  | .hbm, ⟨41, _⟩ => ⟨S4224x1024, .f32⟩
  | .hbm, ⟨42, _⟩ => ⟨S1792x1024, .f32⟩
  | .hbm, ⟨43, _⟩ => ⟨S4224x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S4224, .f32⟩
  | .hbm, ⟨52, _⟩ => ⟨S4224x1, .f32⟩
  | .hbm, ⟨53, _⟩ => ⟨S4224x1024, .f32⟩
  | .hbm, ⟨54, _⟩ => ⟨S4224x1024, .f32⟩
  | .hbm, ⟨55, _⟩ => ⟨S4224x1024, .f32⟩
  | .hbm, ⟨56, _⟩ => ⟨S4224x1, .f32⟩
  | .hbm, ⟨57, _⟩ => ⟨S_, .f32⟩
  | .hbm, ⟨58, _⟩ => ⟨S4224x1, .f32⟩
  | .hbm, ⟨59, _⟩ => ⟨S4224x1, .f32⟩
  | .hbm, ⟨60, _⟩ => ⟨S_, .f32⟩
  | .hbm, ⟨61, _⟩ => ⟨S4224, .f32⟩
  | .hbm, ⟨62, _⟩ => ⟨S4224x1024, .f32⟩
  | .hbm, ⟨63, _⟩ => ⟨S4224x1024, .f32⟩
  | .hbm, ⟨64, _⟩ => ⟨S4224x1024, .f32⟩
  | .hbm, ⟨65, _⟩ => ⟨S4224x1024, .f32⟩
  | .hbm, ⟨66, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Proof.Basics.lean ====
/- The frame of the reference and the ledger of the idealized kernel. -/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The reference has no semaphores, and its run leaves the four arguments as they were. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The two named constants have in the table the reals they stand for. -/
theorem ledger : Cert.preserves_Kernel_KernelIdeal :=
  ⟨IdealRules.named_const.statement Cert.KernelIdeal.κ "c2" .f32 0x3DD53B95#32
      (((Real.sqrt 192)⁻¹ * (Real.log 2)⁻¹ : ℝ) : EReal) rfl,
    IdealRules.named_const.statement Cert.KernelIdeal.κ "scale" .f32 0x3D93CD3A#32 (((Real.sqrt 192)⁻¹ : ℝ) : EReal) rfl⟩

end Cert.Proof

end
-- ==== Proof.Pay.lean ====
/- The payloads of the kernel's body at real arguments, element by element. -/
module

public import proofs.«01_k».proof.Proof.Gen.KernelIdeal.Skeleton
public import Idealize.ShloMosaic.Lib.Pointwise

@[expose] public section

set_option maxRecDepth 16384

noncomputable section

namespace Cert.KernelIdeal.Pay

open Idealize.ShloMosaic Cert.KernelIdeal Cert.KernelIdeal.Gen

/-- The real the constant "c2" stands for. -/
def c2 : ℝ := (Real.sqrt 192)⁻¹ * (Real.log 2)⁻¹

/-- The real the constant "scale" stands for. -/
def sc : ℝ := (Real.sqrt 192)⁻¹

theorem named_c2 : Named.named (F := Ideal) κ "c2" (φ := .f32) 0x3DD53B95#32 = ((c2 : ℝ) : EReal) :=
  IdealRules.named_const.ideal_named_scalar _ _ _ _ rfl

theorem named_sc : Named.named (F := Ideal) κ "scale" (φ := .f32) 0x3D93CD3A#32 = ((sc : ℝ) : EReal) :=
  IdealRules.named_const.ideal_named_scalar _ _ _ _ rfl

theorem coe_sum {ι : Type} (s : Finset ι) (f : ι → ℝ) : ((∑ e ∈ s, f e : ℝ) : EReal) = ∑ e ∈ s, (f e : EReal) := by
  classical
  induction s using Finset.induction_on with
  | empty => simp
  | insert a s ha ih => rw [Finset.sum_insert ha, Finset.sum_insert ha, EReal.coe_add, ih]

/-- A sum of products of reals, taken in the extended reals. -/
theorem coe_dot {n : ℕ} (a b : Fin n → ℝ) : (∑ e, ((a e : ℝ) : EReal) * ((b e : ℝ) : EReal)) = ((∑ e, a e * b e : ℝ) : EReal) := by
  rw [coe_sum]; exact Finset.sum_congr rfl fun e _ => (EReal.coe_mul _ _).symm

/-- What one grid point works on, in the reals: the key block's number and its keys and values, and by row number the queries,
    the output's gradient, the rows' base-2 logarithms and the rows' products. -/
structure Pt where
  jb : ℕ
  K : Fin 384 → Fin 256 → ℝ
  V : Fin 384 → Fin 128 → ℝ
  Q : ℕ → Fin 256 → ℝ
  O : ℕ → Fin 128 → ℝ
  L : ℕ → ℝ
  D : ℕ → ℝ

namespace Pt

variable (p : Pt)

/-- The weight of key `x` of the block in query row `i`, without the mask. -/
def S (x : Fin 384) (i : ℕ) : ℝ := Real.rpow 2 ((∑ e, p.K x e * p.Q i e) * c2 - p.L i)

/-- The weight with the mask, which the block's own rows carry. -/
def P (x : Fin 384) (i : ℕ) : ℝ :=
  if i < 384 * p.jb + 384 then (if 384 * p.jb + x.val ≤ i ∧ 112 ≤ 384 * p.jb + x.val then p.S x i else 0) else p.S x i

/-- The gradient of the weight's logarithm, scaled. -/
def G (x : Fin 384) (i : ℕ) : ℝ := p.P x i * ((∑ d, p.V x d * p.O i d) - p.D i) * sc

end Pt

variable (p : Pt) (r : ℕ)

theorem exp2_real (a : ℝ) : FloatOps.exp2 (F := Ideal) (φ := .f32) ((a : ℝ) : EReal) = ((Real.rpow 2 a : ℝ) : EReal) := rfl

theorem weight_real (x : Fin 384) (i : ℕ) (a : Fin 256 → EReal) (b : Fin 256 → EReal) (l : EReal)
    (ha : ∀ e, a e = (p.K x e : EReal)) (hb : ∀ e, b e = (p.Q i e : EReal)) (hl : l = (p.L i : EReal)) :
    FloatOps.exp2 (F := Ideal) (φ := .f32) ((∑ e, a e * b e) * Named.named (F := Ideal) κ "c2" (φ := .f32) 0x3DD53B95#32 - l)
      = ((p.S x i : ℝ) : EReal) := by
  simp only [ha, hb, hl, named_c2]
  rw [coe_dot, ← EReal.coe_mul, ← EReal.coe_sub, exp2_real]
  rfl

theorem grad_real (x : Fin 384) (i : ℕ) (w : EReal) (a : Fin 128 → EReal) (b : Fin 128 → EReal) (l : EReal)
    (hw : w = (p.P x i : EReal))
    (ha : ∀ e, a e = (p.V x e : EReal)) (hb : ∀ e, b e = (p.O i e : EReal)) (hl : l = (p.D i : EReal)) :
    w * ((∑ e, a e * b e) - l) * Named.named (F := Ideal) κ "scale" (φ := .f32) 0x3D93CD3A#32 = ((p.G x i : ℝ) : EReal) := by
  simp only [ha, hb, hl, hw, named_sc]
  rw [coe_dot, ← EReal.coe_sub, ← EReal.coe_mul, ← EReal.coe_mul]
  rfl

/-- The mask's condition on 32-bit words is the one on numbers. -/
theorem mask_word (jb : ℕ) (hj : jb < 11) (x y : Fin 384) :
    IntOp.andi (IntOp.cmpi CmpIPredicate.sle (IntOp.addi (Scalar.muli (BitVec.ofNat 32 jb) 384#32) (BitVec.ofNat 32 x.val))
        (IntOp.addi (Scalar.muli (BitVec.ofNat 32 jb) 384#32) (BitVec.ofNat 32 y.val)))
      (IntOp.cmpi CmpIPredicate.sge (IntOp.addi (Scalar.muli (BitVec.ofNat 32 jb) 384#32) (BitVec.ofNat 32 x.val)) 112#32)
      = if 384 * jb + x.val ≤ 384 * jb + y.val ∧ 112 ≤ 384 * jb + x.val then 1#1 else 0#1 := by
  have hm : Scalar.muli (BitVec.ofNat 32 jb) 384#32 = BitVec.ofNat 32 (384 * jb) := by
    show BitVec.ofNat 32 jb * 384#32 = _
    rw [← BitVec.ofNat_mul, Nat.mul_comm]
  have ha : ∀ z : Fin 384, IntOp.addi (BitVec.ofNat 32 (384 * jb)) (BitVec.ofNat 32 z.val) = BitVec.ofNat 32 (384 * jb + z.val) := by
    intro z
    show _ + _ = _
    rw [← BitVec.ofNat_add]
  have hi : ∀ n : ℕ, n < 5000 → (BitVec.ofNat 32 n).toInt = n := by
    intro n hn
    rw [BitVec.toInt_eq_toNat_cond, BitVec.toNat_ofNat, Nat.mod_eq_of_lt (by omega), if_pos (by omega)]
  have hx := x.isLt
  have hy := y.isLt
  rw [hm, ha, ha]
  have e1 : IntOp.cmpi CmpIPredicate.sle (BitVec.ofNat 32 (384 * jb + x.val)) (BitVec.ofNat 32 (384 * jb + y.val))
      = BitVec.ofBool (decide (384 * jb + x.val ≤ 384 * jb + y.val)) := by
    show BitVec.ofBool (BitVec.sle _ _) = _
    rw [BitVec.sle, hi _ (by omega), hi _ (by omega)]
    congr 1
    simp only [decide_eq_decide]; omega
  have e2 : IntOp.cmpi CmpIPredicate.sge (BitVec.ofNat 32 (384 * jb + x.val)) 112#32
      = BitVec.ofBool (decide (112 ≤ 384 * jb + x.val)) := by
    show BitVec.ofBool (BitVec.sle _ _) = _
    rw [BitVec.sle, show (112#32 : BitVec 32) = BitVec.ofNat 32 112 from rfl, hi 112 (by omega), hi _ (by omega)]
    congr 1
    simp only [decide_eq_decide]; omega
  rw [e1, e2]
  by_cases h1 : 384 * jb + x.val ≤ 384 * jb + y.val <;> by_cases h2 : 112 ≤ 384 * jb + x.val <;> simp only [h1, h2] <;> rfl

theorem select_mask (c : Prop) [Decidable c] (a b : EReal) :
    Scalar.select (if c then 1#1 else 0#1) a b = if c then a else b := by
  by_cases h : c <;> simp only [h, if_true, if_false] <;> rfl

/-! ## The weights -/

/-- Four blocks of rows behind the diagonal. -/
theorem pay31_real (hr : 384 * p.jb + 384 ≤ r) {v4 : FVec Ideal S384x256 .bf16} {v88 : Vec Ideal S1536x256 .bf16} {l0 l1 l2 l3 : Vec Ideal S1x1x8x384 .f32}
    (hk : ∀ x e, v4 (ix2 x e) = (p.K x e : EReal)) (hq : ∀ (y : Fin 1536) e, v88 (ix2 y e) = (p.Q (r + y.val) e : EReal))
    (h0 : ∀ y : Fin 384, l0 (ix4 0 0 0 y) = (p.L (r + y.val) : EReal)) (h1 : ∀ y : Fin 384, l1 (ix4 0 0 0 y) = (p.L (r + (384 + y.val)) : EReal))
    (h2 : ∀ y : Fin 384, l2 (ix4 0 0 0 y) = (p.L (r + (768 + y.val)) : EReal)) (h3 : ∀ y : Fin 384, l3 (ix4 0 0 0 y) = (p.L (r + (1152 + y.val)) : EReal))
    (x : Fin 384) (y : Fin 1536) : k0_pay31 v4 v88 l0 l1 l2 l3 (ix2 x y) = ((p.P x (r + y.val) : ℝ) : EReal) := by
  have hP : p.P x (r + y.val) = p.S x (r + y.val) := by rw [Pt.P, if_neg (by omega)]
  rw [hP]
  pointwise [k0_pay31, k0_pay29]
  refine weight_real p x _ _ _ _ (hk x) (hq y) ?_
  have hy := y.isLt
  by_cases a : y.val < 384
  · simp only [a, ↓reduceDIte]; exact h0 _
  by_cases b : y.val - 384 < 384
  · simp only [a, b, ↓reduceDIte]; rw [h1]; congr 2; simp only; omega
  by_cases c : y.val - 384 - 384 < 384
  · simp only [a, b, c, ↓reduceDIte]; rw [h2]; congr 2; simp only; omega
  · simp only [a, b, c, ↓reduceDIte]; rw [h3]; congr 2; simp only; omega

/-- Two blocks of rows behind the diagonal. -/
theorem pay41_real (hr : 384 * p.jb + 384 ≤ r) {v4 : FVec Ideal S384x256 .bf16} {v88 : Vec Ideal S768x256 .bf16} {l0 l1 : Vec Ideal S1x1x8x384 .f32}
    (hk : ∀ x e, v4 (ix2 x e) = (p.K x e : EReal)) (hq : ∀ (y : Fin 768) e, v88 (ix2 y e) = (p.Q (r + y.val) e : EReal))
    (h0 : ∀ y : Fin 384, l0 (ix4 0 0 0 y) = (p.L (r + y.val) : EReal)) (h1 : ∀ y : Fin 384, l1 (ix4 0 0 0 y) = (p.L (r + (384 + y.val)) : EReal))
    (x : Fin 384) (y : Fin 768) : k0_pay41 v4 v88 l0 l1 (ix2 x y) = ((p.P x (r + y.val) : ℝ) : EReal) := by
  have hP : p.P x (r + y.val) = p.S x (r + y.val) := by rw [Pt.P, if_neg (by omega)]
  rw [hP]
  pointwise [k0_pay41, k0_pay39]
  refine weight_real p x _ _ _ _ (hk x) (hq y) ?_
  have hy := y.isLt
  by_cases a : y.val < 384
  · simp only [a, ↓reduceDIte]; exact h0 _
  · simp only [a, ↓reduceDIte]; rw [h1]; congr 2; simp only; omega

/-- The diagonal block. -/
theorem pay9_real (hj : p.jb < 11) {v4 : FVec Ideal S384x256 .bf16} {v86 : Vec Ideal S384x256 .bf16} {l0 : Vec Ideal S1x1x8x384 .f32}
    (hk : ∀ x e, v4 (ix2 x e) = (p.K x e : EReal)) (hq : ∀ (y : Fin 384) e, v86 (ix2 y e) = (p.Q (384 * p.jb + y.val) e : EReal))
    (h0 : ∀ y : Fin 384, l0 (ix4 0 0 0 y) = (p.L (384 * p.jb + y.val) : EReal))
    (x y : Fin 384) : k0_pay9 (BitVec.ofNat 32 p.jb) v4 v86 l0 (ix2 x y) = ((p.P x (384 * p.jb + y.val) : ℝ) : EReal) := by
  have hy := y.isLt
  rw [Pt.P, if_pos (by omega)]
  pointwise [k0_pay9, k0_pay7]
  rw [mask_word p.jb hj, select_mask, weight_real p x _ _ _ _ (hk x) (hq y) (h0 y)]
  split_ifs <;> rfl

/-- The diagonal block and the one behind it. -/
theorem pay17_real (hj : p.jb < 11) {v4 : FVec Ideal S384x256 .bf16} {v86 : Vec Ideal S768x256 .bf16} {l0 l1 : Vec Ideal S1x1x8x384 .f32}
    (hk : ∀ x e, v4 (ix2 x e) = (p.K x e : EReal)) (hq : ∀ (y : Fin 768) e, v86 (ix2 y e) = (p.Q (384 * p.jb + y.val) e : EReal))
    (h0 : ∀ y : Fin 384, l0 (ix4 0 0 0 y) = (p.L (384 * p.jb + y.val) : EReal))
    (h1 : ∀ y : Fin 384, l1 (ix4 0 0 0 y) = (p.L (384 * p.jb + (384 + y.val)) : EReal))
    (x : Fin 384) (y : Fin 768) : k0_pay17 (BitVec.ofNat 32 p.jb) v4 v86 l0 l1 (ix2 x y) = ((p.P x (384 * p.jb + y.val) : ℝ) : EReal) := by
  have hy := y.isLt
  by_cases a : y.val < 384
  · rw [Pt.P, if_pos (by omega)]
    pointwise [k0_pay17, k0_pay15]
    simp only [a, ↓reduceDIte]
    have := mask_word p.jb hj x ⟨y.val, a⟩
    simp only at this
    rw [this, select_mask, weight_real p x _ _ _ _ (hk x) (hq y) (h0 ⟨y.val, a⟩)]
    split_ifs <;> rfl
  · rw [Pt.P, if_neg (by omega)]
    pointwise [k0_pay17, k0_pay15]
    simp only [a, ↓reduceDIte]
    have e : (⟨384 + (y.val - 384), by omega⟩ : Fin 768) = y := Fin.ext (by simp only; omega)
    refine weight_real p x _ _ _ _ (hk x) (fun e' => ?_) ?_
    · rw [e]; exact hq y e'
    · rw [h1]; congr 2; simp only; omega

end Cert.KernelIdeal.Pay

end
-- ==== Proof.Pay2.lean ====
/- The payloads that accumulate, at real arguments. -/
module

public import proofs.«01_k».proof.Proof.Pay

@[expose] public section

set_option maxRecDepth 16384

noncomputable section

namespace Cert.KernelIdeal.Pay

open Idealize.ShloMosaic Cert.KernelIdeal Cert.KernelIdeal.Gen

/-- A sum over the rows of a tile is one over their numbers. -/
theorem sum_rows (n r : ℕ) (f : ℕ → ℝ) : ∑ y : Fin n, f (r + y.val) = ∑ i ∈ Finset.Ico r (r + n), f i := by
  rw [Finset.sum_Ico_eq_sum_range, Nat.add_sub_cancel_left, Finset.sum_range]

theorem acc_real (n r : ℕ) (f g : ℕ → ℝ) (old : EReal) (A : ℝ) (w u : Fin n → EReal) (h : old = (A : EReal))
    (hw : ∀ y, w y = (f (r + y.val) : EReal)) (hu : ∀ y, u y = (g (r + y.val) : EReal)) :
    old + ∑ y, w y * u y = ((A + ∑ i ∈ Finset.Ico r (r + n), f i * g i : ℝ) : EReal) := by
  simp only [h, hw, hu]
  rw [coe_dot, ← EReal.coe_add, ← sum_rows n r fun i => f i * g i]

theorem acc_keys (f g : Fin 384 → ℝ) (old : EReal) (A : ℝ) (w u : Fin 384 → EReal) (h : old = (A : EReal))
    (hw : ∀ y, w y = (f y : EReal)) (hu : ∀ y, u y = (g y : EReal)) :
    old + ∑ y, w y * u y = ((A + ∑ x, f x * g x : ℝ) : EReal) := by
  simp only [h, hw, hu]
  rw [coe_dot, ← EReal.coe_add]

variable (p : Pt) (r : ℕ)

/-! ## The values' gradient -/

theorem pay32_real {v92 : FVec Ideal S1536x128 .bf16} {v119 : FVec Ideal S384x1536 .f32} {v120 : Vec Ideal S384x128 .f32} {A : Fin 384 → Fin 128 → ℝ}
    (ho : ∀ (y : Fin 1536) d, v92 (ix2 y d) = (p.O (r + y.val) d : EReal)) (hp : ∀ x (y : Fin 1536), v119 (ix2 x y) = (p.P x (r + y.val) : EReal))
    (hA : ∀ x d, v120 (ix2 x d) = (A x d : EReal)) (x : Fin 384) (d : Fin 128) :
    k0_pay32 v92 v119 v120 (ix2 x d) = ((A x d + ∑ i ∈ Finset.Ico r (r + 1536), p.P x i * p.O i d : ℝ) : EReal) := by
  pointwise [k0_pay32]
  exact acc_real 1536 r (p.P x) (fun i => p.O i d) _ _ _ _ (hA x d) (hp x) (fun y => ho y d)

theorem pay42_real {v4 : FVec Ideal S384x256 .bf16} {v88 : Vec Ideal S768x256 .bf16} {v91 : Vec Ideal S768x128 .bf16} {l0 l1 : Vec Ideal S1x1x8x384 .f32}
    {v110 : Vec Ideal S384x128 .f32} {A : Fin 384 → Fin 128 → ℝ}
    (ho : ∀ (y : Fin 768) d, v91 (ix2 y d) = (p.O (r + y.val) d : EReal)) (hp : ∀ x (y : Fin 768), k0_pay41 v4 v88 l0 l1 (ix2 x y) = (p.P x (r + y.val) : EReal))
    (hA : ∀ x d, v110 (ix2 x d) = (A x d : EReal)) (x : Fin 384) (d : Fin 128) :
    k0_pay42 v4 v88 v91 l0 l1 v110 (ix2 x d) = ((A x d + ∑ i ∈ Finset.Ico r (r + 768), p.P x i * p.O i d : ℝ) : EReal) := by
  pointwise [k0_pay42, k0_pay40]
  exact acc_real 768 r (p.P x) (fun i => p.O i d) _ _ _ _ (hA x d) (hp x) (fun y => ho y d)

theorem pay18_real {v90 : FVec Ideal S768x128 .bf16} {v124 : FVec Ideal S384x768 .f32} {v125 : Vec Ideal S384x128 .f32} {A : Fin 384 → Fin 128 → ℝ}
    (ho : ∀ (y : Fin 768) d, v90 (ix2 y d) = (p.O (r + y.val) d : EReal)) (hp : ∀ x (y : Fin 768), v124 (ix2 x y) = (p.P x (r + y.val) : EReal))
    (hA : ∀ x d, v125 (ix2 x d) = (A x d : EReal)) (x : Fin 384) (d : Fin 128) :
    k0_pay18 v90 v124 v125 (ix2 x d) = ((A x d + ∑ i ∈ Finset.Ico r (r + 768), p.P x i * p.O i d : ℝ) : EReal) := by
  pointwise [k0_pay18]
  exact acc_real 768 r (p.P x) (fun i => p.O i d) _ _ _ _ (hA x d) (hp x) (fun y => ho y d)

theorem pay10_real {a : BitVec 32} {v4 : FVec Ideal S384x256 .bf16} {v86 : Vec Ideal S384x256 .bf16} {v89 : Vec Ideal S384x128 .bf16} {l0 : Vec Ideal S1x1x8x384 .f32}
    {v116 : Vec Ideal S384x128 .f32} {A : Fin 384 → Fin 128 → ℝ}
    (ho : ∀ (y : Fin 384) d, v89 (ix2 y d) = (p.O (r + y.val) d : EReal)) (hp : ∀ x (y : Fin 384), k0_pay9 a v4 v86 l0 (ix2 x y) = (p.P x (r + y.val) : EReal))
    (hA : ∀ x d, v116 (ix2 x d) = (A x d : EReal)) (x : Fin 384) (d : Fin 128) :
    k0_pay10 a v4 v86 v89 l0 v116 (ix2 x d) = ((A x d + ∑ i ∈ Finset.Ico r (r + 384), p.P x i * p.O i d : ℝ) : EReal) := by
  pointwise [k0_pay10, k0_pay8]
  exact acc_real 384 r (p.P x) (fun i => p.O i d) _ _ _ _ (hA x d) (hp x) (fun y => ho y d)

/-! ## The gradient of the logarithms -/

theorem pay33_real {v6 : FVec Ideal S384x128 .bf16} {v92 : FVec Ideal S1536x128 .bf16} {v119 : FVec Ideal S384x1536 .f32} {d0 d1 d2 d3 : Vec Ideal S1x1x8x384 .f32}
    (hv : ∀ x d, v6 (ix2 x d) = (p.V x d : EReal)) (ho : ∀ (y : Fin 1536) d, v92 (ix2 y d) = (p.O (r + y.val) d : EReal))
    (hp : ∀ x (y : Fin 1536), v119 (ix2 x y) = (p.P x (r + y.val) : EReal))
    (h0 : ∀ y : Fin 384, d0 (ix4 0 0 0 y) = (p.D (r + y.val) : EReal)) (h1 : ∀ y : Fin 384, d1 (ix4 0 0 0 y) = (p.D (r + (384 + y.val)) : EReal))
    (h2 : ∀ y : Fin 384, d2 (ix4 0 0 0 y) = (p.D (r + (768 + y.val)) : EReal)) (h3 : ∀ y : Fin 384, d3 (ix4 0 0 0 y) = (p.D (r + (1152 + y.val)) : EReal))
    (x : Fin 384) (y : Fin 1536) : k0_pay33 v6 v92 v119 d0 d1 d2 d3 (ix2 x y) = ((p.G x (r + y.val) : ℝ) : EReal) := by
  pointwise [k0_pay33]
  refine grad_real p x _ _ _ _ _ (hp x y) (hv x) (ho y) ?_
  have hy := y.isLt
  by_cases a : y.val < 384
  · simp only [a, ↓reduceDIte]; exact h0 _
  by_cases b : y.val - 384 < 384
  · simp only [a, b, ↓reduceDIte]; rw [h1]; congr 2; simp only; omega
  by_cases c : y.val - 384 - 384 < 384
  · simp only [a, b, c, ↓reduceDIte]; rw [h2]; congr 2; simp only; omega
  · simp only [a, b, c, ↓reduceDIte]; rw [h3]; congr 2; simp only; omega

theorem pay43_real {v6 : FVec Ideal S384x128 .bf16} {v91 : Vec Ideal S768x128 .bf16} (hv : ∀ x d, v6 (ix2 x d) = (p.V x d : EReal))
    (ho : ∀ (y : Fin 768) d, v91 (ix2 y d) = (p.O (r + y.val) d : EReal)) (x : Fin 384) (y : Fin 768) :
    k0_pay43 v6 v91 (ix2 x y) = ∑ d, ((p.V x d : ℝ) : EReal) * ((p.O (r + y.val) d : ℝ) : EReal) := by
  pointwise [k0_pay43, k0_pay40]
  exact Finset.sum_congr rfl fun d _ => by rw [hv, ho]

theorem pay1_real {v109 v116 : FVec Ideal S384x768 .f32} {d0 d1 : Vec Ideal S1x1x8x384 .f32}
    (hp : ∀ x (y : Fin 768), v109 (ix2 x y) = (p.P x (r + y.val) : EReal))
    (hd : ∀ x (y : Fin 768), v116 (ix2 x y) = ∑ d, ((p.V x d : ℝ) : EReal) * ((p.O (r + y.val) d : ℝ) : EReal))
    (h0 : ∀ y : Fin 384, d0 (ix4 0 0 0 y) = (p.D (r + y.val) : EReal)) (h1 : ∀ y : Fin 384, d1 (ix4 0 0 0 y) = (p.D (r + (384 + y.val)) : EReal))
    (x : Fin 384) (y : Fin 768) : k0_pay1 v109 v116 d0 d1 (ix2 x y) = ((p.G x (r + y.val) : ℝ) : EReal) := by
  pointwise [k0_pay1]
  rw [hd]
  refine grad_real p x _ _ _ _ _ (hp x y) (fun _ => rfl) (fun _ => rfl) ?_
  have hy := y.isLt
  by_cases a : y.val < 384
  · simp only [a, ↓reduceDIte]; exact h0 _
  · simp only [a, ↓reduceDIte]; rw [h1]; congr 2; simp only; omega

theorem pay19_real {v6 : FVec Ideal S384x128 .bf16} {v90 : FVec Ideal S768x128 .bf16} {v124 : FVec Ideal S384x768 .f32} {d0 d1 : Vec Ideal S1x1x8x384 .f32}
    (hv : ∀ x d, v6 (ix2 x d) = (p.V x d : EReal)) (ho : ∀ (y : Fin 768) d, v90 (ix2 y d) = (p.O (r + y.val) d : EReal))
    (hp : ∀ x (y : Fin 768), v124 (ix2 x y) = (p.P x (r + y.val) : EReal))
    (h0 : ∀ y : Fin 384, d0 (ix4 0 0 0 y) = (p.D (r + y.val) : EReal)) (h1 : ∀ y : Fin 384, d1 (ix4 0 0 0 y) = (p.D (r + (384 + y.val)) : EReal))
    (x : Fin 384) (y : Fin 768) : k0_pay19 v6 v90 v124 d0 d1 (ix2 x y) = ((p.G x (r + y.val) : ℝ) : EReal) := by
  pointwise [k0_pay19]
  refine grad_real p x _ _ _ _ _ (hp x y) (hv x) (ho y) ?_
  have hy := y.isLt
  by_cases a : y.val < 384
  · simp only [a, ↓reduceDIte]; exact h0 _
  · simp only [a, ↓reduceDIte]; rw [h1]; congr 2; simp only; omega

theorem pay54_real {v5 : Vec Ideal S384x128 .bf16} {v90 : FVec Ideal S384x128 .bf16} {v115 z : FVec Ideal S384x384 .f32} {d0 : Vec Ideal S1x1x8x384 .f32}
    (hv : ∀ x d, v5 (ix2 x d) = (p.V x d : EReal)) (ho : ∀ (y : Fin 384) d, v90 (ix2 y d) = (p.O (r + y.val) d : EReal))
    (hp : ∀ x (y : Fin 384), v115 (ix2 x y) = (p.P x (r + y.val) : EReal)) (hz : ∀ x y, z (ix2 x y) = 0)
    (h0 : ∀ y : Fin 384, d0 (ix4 0 0 0 y) = (p.D (r + y.val) : EReal))
    (x y : Fin 384) : k0_pay54 v5 v90 v115 z d0 (ix2 x y) = ((p.G x (r + y.val) : ℝ) : EReal) := by
  pointwise [k0_pay54, k0_pay51]
  rw [hz, zero_add]
  exact grad_real p x _ _ _ _ _ (hp x y) (hv x) (ho y) (h0 y)

/-! ## The keys' gradient -/

theorem pay60_real {v89 : FVec Ideal S1536x256 .bf16} {v153 : FVec Ideal S384x1536 .bf16} {v154 : Vec Ideal S384x256 .f32} {A : Fin 384 → Fin 256 → ℝ}
    (hq : ∀ (y : Fin 1536) e, v89 (ix2 y e) = (p.Q (r + y.val) e : EReal)) (hg : ∀ x (y : Fin 1536), v153 (ix2 x y) = (p.G x (r + y.val) : EReal))
    (hA : ∀ x e, v154 (ix2 x e) = (A x e : EReal)) (x : Fin 384) (e : Fin 256) :
    k0_pay60 v89 v153 v154 (ix2 x e) = ((A x e + ∑ i ∈ Finset.Ico r (r + 1536), p.G x i * p.Q i e : ℝ) : EReal) := by
  pointwise [k0_pay60]
  exact acc_real 1536 r (p.G x) (fun i => p.Q i e) _ _ _ _ (hA x e) (hg x) (fun y => hq y e)

theorem pay2_real {v89 : FVec Ideal S768x256 .bf16} {v109 v116 : FVec Ideal S384x768 .f32} {d0 d1 : Vec Ideal S1x1x8x384 .f32} {v134 : Vec Ideal S384x256 .f32}
    {A : Fin 384 → Fin 256 → ℝ} (hq : ∀ (y : Fin 768) e, v89 (ix2 y e) = (p.Q (r + y.val) e : EReal))
    (hg : ∀ x (y : Fin 768), k0_pay1 v109 v116 d0 d1 (ix2 x y) = (p.G x (r + y.val) : EReal))
    (hA : ∀ x e, v134 (ix2 x e) = (A x e : EReal)) (x : Fin 384) (e : Fin 256) :
    k0_pay2 v89 v109 v116 d0 d1 v134 (ix2 x e) = ((A x e + ∑ i ∈ Finset.Ico r (r + 768), p.G x i * p.Q i e : ℝ) : EReal) := by
  pointwise [k0_pay2]
  exact acc_real 768 r (p.G x) (fun i => p.Q i e) _ _ _ _ (hA x e) (hg x) (fun y => hq y e)

theorem pay20_real {v6 : FVec Ideal S384x128 .bf16} {v87 : FVec Ideal S768x256 .bf16} {v90 : FVec Ideal S768x128 .bf16} {v124 : FVec Ideal S384x768 .f32}
    {d0 d1 : Vec Ideal S1x1x8x384 .f32} {v149 : Vec Ideal S384x256 .f32}
    {A : Fin 384 → Fin 256 → ℝ} (hq : ∀ (y : Fin 768) e, v87 (ix2 y e) = (p.Q (r + y.val) e : EReal))
    (hg : ∀ x (y : Fin 768), k0_pay19 v6 v90 v124 d0 d1 (ix2 x y) = (p.G x (r + y.val) : EReal))
    (hA : ∀ x e, v149 (ix2 x e) = (A x e : EReal)) (x : Fin 384) (e : Fin 256) :
    k0_pay20 v6 v87 v90 v124 d0 d1 v149 (ix2 x e) = ((A x e + ∑ i ∈ Finset.Ico r (r + 768), p.G x i * p.Q i e : ℝ) : EReal) := by
  pointwise [k0_pay20]
  exact acc_real 768 r (p.G x) (fun i => p.Q i e) _ _ _ _ (hA x e) (hg x) (fun y => hq y e)

theorem pay55_real {v5 : Vec Ideal S384x128 .bf16} {v87 : FVec Ideal S384x256 .bf16} {v90 : FVec Ideal S384x128 .bf16} {v115 z : FVec Ideal S384x384 .f32}
    {d0 : Vec Ideal S1x1x8x384 .f32} {v134 : Vec Ideal S384x256 .f32}
    {A : Fin 384 → Fin 256 → ℝ} (hq : ∀ (y : Fin 384) e, v87 (ix2 y e) = (p.Q (r + y.val) e : EReal))
    (hg : ∀ x (y : Fin 384), k0_pay54 v5 v90 v115 z d0 (ix2 x y) = (p.G x (r + y.val) : EReal))
    (hA : ∀ x e, v134 (ix2 x e) = (A x e : EReal)) (x : Fin 384) (e : Fin 256) :
    k0_pay55 v5 v87 v90 v115 z d0 v134 (ix2 x e) = ((A x e + ∑ i ∈ Finset.Ico r (r + 384), p.G x i * p.Q i e : ℝ) : EReal) := by
  pointwise [k0_pay55]
  exact acc_real 384 r (p.G x) (fun i => p.Q i e) _ _ _ _ (hA x e) (hg x) (fun y => hq y e)

/-! ## The queries' gradient -/

theorem pay61_real {v4 : FVec Ideal S384x256 .bf16} {v153 : FVec Ideal S384x1536 .bf16} {v160 : Vec Ideal S1536x256 .f32} {A : ℕ → Fin 256 → ℝ}
    (hk : ∀ x e, v4 (ix2 x e) = (p.K x e : EReal)) (hg : ∀ x (y : Fin 1536), v153 (ix2 x y) = (p.G x (r + y.val) : EReal))
    (hA : ∀ (y : Fin 1536) e, v160 (ix2 y e) = (A (r + y.val) e : EReal)) (y : Fin 1536) (e : Fin 256) :
    k0_pay61 v4 v153 v160 (ix2 y e) = ((A (r + y.val) e + ∑ x, p.G x (r + y.val) * p.K x e : ℝ) : EReal) := by
  pointwise [k0_pay61]
  exact acc_keys (fun x => p.G x (r + y.val)) (fun x => p.K x e) _ _ _ _ (hA y e) (fun x => hg x y) (fun x => hk x e)

theorem pay3_real {v4 : FVec Ideal S384x256 .bf16} {v109 v116 : FVec Ideal S384x768 .f32} {d0 d1 : Vec Ideal S1x1x8x384 .f32} {v140 : Vec Ideal S768x256 .f32}
    {A : ℕ → Fin 256 → ℝ} (hk : ∀ x e, v4 (ix2 x e) = (p.K x e : EReal))
    (hg : ∀ x (y : Fin 768), k0_pay1 v109 v116 d0 d1 (ix2 x y) = (p.G x (r + y.val) : EReal))
    (hA : ∀ (y : Fin 768) e, v140 (ix2 y e) = (A (r + y.val) e : EReal)) (y : Fin 768) (e : Fin 256) :
    k0_pay3 v4 v109 v116 d0 d1 v140 (ix2 y e) = ((A (r + y.val) e + ∑ x, p.G x (r + y.val) * p.K x e : ℝ) : EReal) := by
  pointwise [k0_pay3]
  exact acc_keys (fun x => p.G x (r + y.val)) (fun x => p.K x e) _ _ _ _ (hA y e) (fun x => hg x y) (fun x => hk x e)

theorem pay21_real {v4 : FVec Ideal S384x256 .bf16} {v6 : FVec Ideal S384x128 .bf16} {v90 : FVec Ideal S768x128 .bf16} {v124 : FVec Ideal S384x768 .f32}
    {d0 d1 : Vec Ideal S1x1x8x384 .f32} {v155 : Vec Ideal S768x256 .f32}
    {A : ℕ → Fin 256 → ℝ} (hk : ∀ x e, v4 (ix2 x e) = (p.K x e : EReal))
    (hg : ∀ x (y : Fin 768), k0_pay19 v6 v90 v124 d0 d1 (ix2 x y) = (p.G x (r + y.val) : EReal))
    (hA : ∀ (y : Fin 768) e, v155 (ix2 y e) = (A (r + y.val) e : EReal)) (y : Fin 768) (e : Fin 256) :
    k0_pay21 v4 v6 v90 v124 d0 d1 v155 (ix2 y e) = ((A (r + y.val) e + ∑ x, p.G x (r + y.val) * p.K x e : ℝ) : EReal) := by
  pointwise [k0_pay21]
  exact acc_keys (fun x => p.G x (r + y.val)) (fun x => p.K x e) _ _ _ _ (hA y e) (fun x => hg x y) (fun x => hk x e)

theorem pay56_real {v3 : Vec Ideal S384x256 .bf16} {v5 : Vec Ideal S384x128 .bf16} {v90 : FVec Ideal S384x128 .bf16} {v115 z : FVec Ideal S384x384 .f32}
    {d0 : Vec Ideal S1x1x8x384 .f32} {v140 : Vec Ideal S384x256 .f32}
    {A : ℕ → Fin 256 → ℝ} (hk : ∀ x e, v3 (ix2 x e) = (p.K x e : EReal))
    (hg : ∀ x (y : Fin 384), k0_pay54 v5 v90 v115 z d0 (ix2 x y) = (p.G x (r + y.val) : EReal))
    (hA : ∀ (y : Fin 384) e, v140 (ix2 y e) = (A (r + y.val) e : EReal)) (y : Fin 384) (e : Fin 256) :
    k0_pay56 v3 v5 v90 v115 z d0 v140 (ix2 y e) = ((A (r + y.val) e + ∑ x, p.G x (r + y.val) * p.K x e : ℝ) : EReal) := by
  pointwise [k0_pay56, k0_pay50]
  exact acc_keys (fun x => p.G x (r + y.val)) (fun x => p.K x e) _ _ _ _ (hA y e) (fun x => hg x y) (fun x => hk x e)

end Cert.KernelIdeal.Pay

end
-- ==== Proof.Rows.lean ====
/- Loads and stores of whole rows of a buffer, and the sums that the body accumulates, extended by a few rows. -/
module

public import proofs.«01_k».proof.Proof.Pay2
public import Idealize.ShloMosaic.Lib.WritesUnit
public import Idealize.ShloMosaic.Lib.VecWindow

@[expose] public section

set_option maxRecDepth 16384

noncomputable section

namespace Cert.KernelIdeal.Rows

open Idealize.ShloMosaic Cert.KernelIdeal.Pay

section Access

variable {sig' : RefSig} {κ : Kind} {sp : Space} {t : EltTy} {Val : EltTy → Type}

/-- A load of whole rows: row `y` of what is loaded is row `o + y`. -/
theorem load_rows {m n h o : ℕ} (v : View sig' κ sp ⟨2, ![m, n]⟩ t) (f : v.ty.Contents Val) {off : Fin 2 → ℕ}
    (inb : ∀ a, off a + (![h, n] : Fin 2 → ℕ) a ≤ (⟨2, ![m, n]⟩ : Shape).size a) (ho : off = ![o, 0]) (y : Fin h) (e : Fin n) (hm : o + y.val < m) :
    v.readAt Val (Rect.unit (s := ⟨2, ![m, n]⟩) off ![h, n] inb).toLoadRect f (ix2 y e) = v.read Val f (ix2 ⟨o + y.val, hm⟩ e) := by
  subst ho
  refine congrArg (v.read Val f) (funext fun a => Fin.ext ?_)
  fin_cases a
  · show o + 1 * y.val = o + y.val
    omega
  · show 0 + 1 * e.val = e.val
    omega

/-- A load of one block of a row vector kept in blocks of `8 × 384`, all of whose rows are alike: its first row. -/
theorem load_block {b m : ℕ} (v : View sig' κ sp ⟨4, ![1, m, 8, 384]⟩ t) (f : v.ty.Contents Val) {off : Fin 4 → ℕ}
    (inb : ∀ a, off a + (![1, 1, 8, 384] : Fin 4 → ℕ) a ≤ (⟨4, ![1, m, 8, 384]⟩ : Shape).size a) (ho : off = ![0, b, 0, 0]) (y : Fin 384) (hb : b < m) :
    v.readAt Val (Rect.unit (s := ⟨4, ![1, m, 8, 384]⟩) off ![1, 1, 8, 384] inb).toLoadRect f (ix4 (0 : Fin 1) (0 : Fin 1) (0 : Fin 8) y)
      = v.read Val f (ix4 (0 : Fin 1) ⟨b, hb⟩ (0 : Fin 8) y) := by
  subst ho
  refine congrArg (v.read Val f) (funext fun a => Fin.ext ?_)
  fin_cases a
  · rfl
  · show b + 1 * 0 = b
    omega
  · rfl
  · show 0 + 1 * y.val = y.val
    omega

/-- A store of whole rows: the rows stored, the others as they were. -/
theorem store_rows {m n h o : ℕ} (v : View sig' κ sp ⟨2, ![m, n]⟩ t) (f : v.ty.Contents Val) {off : Fin 2 → ℕ}
    (inb : ∀ a, off a + (![h, n] : Fin 2 → ℕ) a ≤ (⟨2, ![m, n]⟩ : Shape).size a) (ho : off = ![o, 0])
    (w : (⟨2, ![h, n]⟩ : Shape).Idx → Val t) (r : Fin m) (e : Fin n) (B : Val t)
    (hin : ∀ hr : o ≤ r.val ∧ r.val < o + h, w (ix2 ⟨r.val - o, by omega⟩ e) = B) (hout : ¬ (o ≤ r.val ∧ r.val < o + h) → v.read Val f (ix2 r e) = B) :
    v.read Val (v.writes Val f [⟨Rect.unit (s := ⟨2, ![m, n]⟩) off ![h, n] inb, w⟩]) (ix2 r e) = B := by
  by_cases hr : o ≤ r.val ∧ r.val < o + h
  · rw [← hin hr]
    refine View.read_writes_cons_rows_of_mem v f inb w [] (ix2 r e) (ix2 ⟨r.val - o, by omega⟩ e) ho ?_ rfl
    show r.val = o + (r.val - o)
    omega
  · rw [← hout hr]
    exact View.read_writes_cons_rows_of_not_mem v f inb w [] (ix2 r e) ho (W := h) rfl (by
      show r.val < o ∨ o + h ≤ r.val
      omega)

end Access

/-! ## What a grid point accumulates -/

variable (p : Pt)

/-- The first row of the grid point's diagonal block. -/
def lo : ℕ := 384 * p.jb

/-- The values' gradient from the rows before `hi`. -/
def aV (hi : ℕ) (x : Fin 384) (d : Fin 128) : ℝ := ∑ i ∈ Finset.Ico (lo p) hi, p.P x i * p.O i d

/-- The keys' gradient from the rows before `hi`. -/
def aK (hi : ℕ) (x : Fin 384) (e : Fin 256) : ℝ := ∑ i ∈ Finset.Ico (lo p) hi, p.G x i * p.Q i e

/-- The queries' gradient, the rows before `hi` having had this point's keys added to what `A` had before. -/
def aQ (A : ℕ → Fin 256 → ℝ) (hi : ℕ) (i : ℕ) (e : Fin 256) : ℝ :=
  if lo p ≤ i ∧ i < hi then A i e + ∑ x, p.G x i * p.K x e else A i e

theorem aV_ext {hi : ℕ} (h : ℕ) (hlo : lo p ≤ hi) (x : Fin 384) (d : Fin 128) :
    aV p hi x d + ∑ i ∈ Finset.Ico hi (hi + h), p.P x i * p.O i d = aV p (hi + h) x d :=
  Finset.sum_Ico_consecutive _ hlo (Nat.le_add_right _ _)

theorem aK_ext {hi : ℕ} (h : ℕ) (hlo : lo p ≤ hi) (x : Fin 384) (e : Fin 256) :
    aK p hi x e + ∑ i ∈ Finset.Ico hi (hi + h), p.G x i * p.Q i e = aK p (hi + h) x e :=
  Finset.sum_Ico_consecutive _ hlo (Nat.le_add_right _ _)

theorem aQ_in {A : ℕ → Fin 256 → ℝ} {hi h i : ℕ} (hlo : lo p ≤ hi) (hr : hi ≤ i ∧ i < hi + h) (e : Fin 256) :
    aQ p A hi i e + ∑ x, p.G x i * p.K x e = aQ p A (hi + h) i e := by
  unfold aQ
  rw [if_neg (by omega), if_pos (by omega)]

theorem aQ_out {A : ℕ → Fin 256 → ℝ} {hi h i : ℕ} (hr : ¬ (hi ≤ i ∧ i < hi + h)) (e : Fin 256) :
    aQ p A hi i e = aQ p A (hi + h) i e := by
  unfold aQ
  by_cases c : lo p ≤ i ∧ i < hi
  · rw [if_pos c, if_pos (by omega)]
  · rw [if_neg c, if_neg (by omega)]

end Cert.KernelIdeal.Rows

end
-- ==== Proof.Offs.lean ====
/- Where each step of the kernel's body reads and writes, and how many steps each of its loops takes: the block numbers as numbers. -/
module

public import proofs.«01_k».proof.Proof.Gen.KernelIdeal.Loops

@[expose] public section

set_option maxRecDepth 16384

noncomputable section

namespace Cert.KernelIdeal.Offs

open Idealize.ShloMosaic Cert.KernelIdeal Cert.KernelIdeal.Gen

/-- The column tile that a point of the grid works on. -/
def jj (i : grid0.Coords) : ℕ := (i 1).val

theorem jj_lt (i : grid0.Coords) : jj i < 11 := (i 1).isLt

/-- Is the number of row blocks at and below the diagonal odd? Then the diagonal step is of one block, else of two. -/
def odd (j : ℕ) : ℕ := (11 - j) % 2

/-- The first block below the diagonal step. -/
def st5 (j : ℕ) : ℕ := j + 2 - odd j

/-- How many steps of four blocks follow. -/
def n5 (j : ℕ) : ℕ := (11 - st5 j) / 4

/-- The first block below these. -/
def st7 (j : ℕ) : ℕ := st5 j + 4 * n5 j

/-- How many steps of two blocks follow. -/
def n7 (j : ℕ) : ℕ := (11 - st7 j) / 2

theorem trips1 (i : grid0.Coords) : (k0_t1_loop i).trips = odd (jj i) := by
  have hj := jj_lt i
  unfold jj at *
  unfold k0_t1_loop
  generalize (i 1).val = j at *
  interval_cases j <;> rfl

theorem trips2 (i : grid0.Coords) : (k0_t2_loop i).trips = 0 := by
  have hj := jj_lt i
  unfold jj at *
  unfold k0_t2_loop
  generalize (i 1).val = j at *
  interval_cases j <;> rfl

theorem trips3 (i : grid0.Coords) : (k0_t3_loop i).trips = 1 - odd (jj i) := by
  have hj := jj_lt i
  unfold jj at *
  unfold k0_t3_loop
  generalize (i 1).val = j at *
  interval_cases j <;> rfl

theorem trips4 (i : grid0.Coords) : (k0_t4_loop i).trips = 0 := by
  have hj := jj_lt i
  unfold jj at *
  unfold k0_t4_loop
  generalize (i 1).val = j at *
  interval_cases j <;> rfl

theorem trips5 (i : grid0.Coords) : (k0_t5_loop i).trips = n5 (jj i) := by
  have hj := jj_lt i
  unfold jj at *
  unfold k0_t5_loop
  generalize (i 1).val = j at *
  interval_cases j <;> rfl

theorem trips6 (i : grid0.Coords) : (k0_t6_loop i).trips = 0 := by
  have hj := jj_lt i
  unfold jj at *
  unfold k0_t6_loop
  generalize (i 1).val = j at *
  interval_cases j <;> rfl

theorem trips7 (i : grid0.Coords) : (k0_t7_loop i).trips = n7 (jj i) := by
  have hj := jj_lt i
  unfold jj at *
  unfold k0_t7_loop
  generalize (i 1).val = j at *
  interval_cases j <;> rfl

theorem trips8 (i : grid0.Coords) : (k0_t8_loop i).trips = 0 := by
  have hj := jj_lt i
  unfold jj at *
  unfold k0_t8_loop
  generalize (i 1).val = j at *
  interval_cases j <;> rfl

theorem n5_le (j : ℕ) : n5 j ≤ 2 := by unfold n5 st5 odd; omega

theorem n7_le (j : ℕ) : n7 j ≤ 1 := by unfold n7 st7 n5 st5 odd; omega

/-! ## Row offsets -/

theorem off1 (i : grid0.Coords) : k0_off1 i = ![384 * jj i, 0] := by
  have hj := jj_lt i
  unfold jj at *
  unfold k0_off1
  generalize (i 1).val = j at *
  interval_cases j <;> rfl

theorem off2 (i : grid0.Coords) : k0_off2 i = ![384 * jj i, 0] := by
  have hj := jj_lt i
  unfold jj at *
  unfold k0_off2
  generalize (i 1).val = j at *
  interval_cases j <;> rfl

theorem off3 (i : grid0.Coords) : k0_off3 i = ![0, jj i, 0, 0] := by
  have hj := jj_lt i
  unfold jj at *
  unfold k0_off3
  generalize (i 1).val = j at *
  interval_cases j <;> rfl

theorem off7 (i : grid0.Coords) : k0_off7 i = ![384 * jj i, 0] := by
  have hj := jj_lt i
  unfold jj at *
  unfold k0_off7
  generalize (i 1).val = j at *
  interval_cases j <;> rfl

theorem off8 (i : grid0.Coords) : k0_off8 i = ![384 * jj i, 0] := by
  have hj := jj_lt i
  unfold jj at *
  unfold k0_off8
  generalize (i 1).val = j at *
  interval_cases j <;> rfl

theorem off9 (i : grid0.Coords) (r : ℕ) (hr : r < 2) : k0_off9 i (BitVec.ofNat 32 r) = ![0, jj i + r, 0, 0] := by
  have hj := jj_lt i
  unfold jj at *
  unfold k0_off9
  generalize (i 1).val = j at *
  interval_cases r <;> interval_cases j <;> rfl

theorem off13 (i : grid0.Coords) (k : Fin (k0_t5_loop i).trips) : k0_off13 i k = ![384 * (st5 (jj i) + 4 * k.val), 0] := by
  have hj := jj_lt i
  have hk : k.val < 2 := lt_of_lt_of_le k.isLt ((trips5 i).trans_le (n5_le (jj i)))
  unfold jj at *
  unfold k0_off13
  generalize k.val = t at *
  clear k
  generalize (i 1).val = j at *
  interval_cases t <;> interval_cases j <;> rfl

theorem off14 (i : grid0.Coords) (k : Fin (k0_t5_loop i).trips) : k0_off14 i k = ![384 * (st5 (jj i) + 4 * k.val), 0] := by
  have hj := jj_lt i
  have hk : k.val < 2 := lt_of_lt_of_le k.isLt ((trips5 i).trans_le (n5_le (jj i)))
  unfold jj at *
  unfold k0_off14
  generalize k.val = t at *
  clear k
  generalize (i 1).val = j at *
  interval_cases t <;> interval_cases j <;> rfl

theorem off15 (i : grid0.Coords) (k : Fin (k0_t5_loop i).trips) (r : ℕ) (hr : r < 4) :
    k0_off15 i k (BitVec.ofNat 32 r) = ![0, st5 (jj i) + 4 * k.val + r, 0, 0] := by
  have hj := jj_lt i
  have hk : k.val < 2 := lt_of_lt_of_le k.isLt ((trips5 i).trans_le (n5_le (jj i)))
  unfold jj at *
  unfold k0_off15
  generalize k.val = t at *
  clear k
  generalize (i 1).val = j at *
  interval_cases r <;> interval_cases t <;> interval_cases j <;> rfl

theorem off19 (i : grid0.Coords) (k : Fin (k0_t7_loop i).trips) : k0_off19 i k = ![384 * (st7 (jj i) + 2 * k.val), 0] := by
  have hj := jj_lt i
  have hk : k.val < 1 := lt_of_lt_of_le k.isLt ((trips7 i).trans_le (n7_le (jj i)))
  unfold jj at *
  unfold k0_off19
  generalize k.val = t at *
  clear k
  generalize (i 1).val = j at *
  interval_cases t <;> interval_cases j <;> rfl

theorem off20 (i : grid0.Coords) (k : Fin (k0_t7_loop i).trips) : k0_off20 i k = ![384 * (st7 (jj i) + 2 * k.val), 0] := by
  have hj := jj_lt i
  have hk : k.val < 1 := lt_of_lt_of_le k.isLt ((trips7 i).trans_le (n7_le (jj i)))
  unfold jj at *
  unfold k0_off20
  generalize k.val = t at *
  clear k
  generalize (i 1).val = j at *
  interval_cases t <;> interval_cases j <;> rfl

theorem off21 (i : grid0.Coords) (k : Fin (k0_t7_loop i).trips) (r : ℕ) (hr : r < 2) :
    k0_off21 i k (BitVec.ofNat 32 r) = ![0, st7 (jj i) + 2 * k.val + r, 0, 0] := by
  have hj := jj_lt i
  have hk : k.val < 1 := lt_of_lt_of_le k.isLt ((trips7 i).trans_le (n7_le (jj i)))
  unfold jj at *
  unfold k0_off21
  generalize k.val = t at *
  clear k
  generalize (i 1).val = j at *
  interval_cases r <;> interval_cases t <;> interval_cases j <;> rfl

end Cert.KernelIdeal.Offs

end
-- ==== Proof.Trip.lean ====
/- One step of each of the body's loops: what it adds to the three gradients that the body accumulates. -/
module

public import proofs.«01_k».proof.Proof.Rows
public import proofs.«01_k».proof.Proof.Offs

@[expose] public section

set_option maxRecDepth 16384

noncomputable section

namespace Cert.KernelIdeal.Trip

open Idealize.ShloMosaic Cert.KernelIdeal Cert.KernelIdeal.Gen Cert.KernelIdeal.Pay Cert.KernelIdeal.Offs Cert.KernelIdeal.Rows

/-- What a grid point reads: the queries, the rows' logarithms, the rows' products and the output's gradient are the point's. -/
structure Env (p : Pt) (x2 : Vec Ideal S4224x256 .bf16) (x5 x6 : Vec Ideal S1x11x8x384 .f32) (x7 : Vec Ideal S4224x128 .bf16) : Prop where
  q : ∀ (r : Fin 4224) (e : Fin 256), x2 (ix2 r e) = (p.Q r.val e : EReal)
  l : ∀ (b : Fin 11) (y : Fin 384), x5 (ix4 (0 : Fin 1) b (0 : Fin 8) y) = (p.L (384 * b.val + y.val) : EReal)
  d : ∀ (b : Fin 11) (y : Fin 384), x6 (ix4 (0 : Fin 1) b (0 : Fin 8) y) = (p.D (384 * b.val + y.val) : EReal)
  o : ∀ (r : Fin 4224) (e : Fin 128), x7 (ix2 r e) = (p.O r.val e : EReal)

/-- The three gradients once the rows before `hi` are done. -/
structure Inv (p : Pt) (A : ℕ → Fin 256 → ℝ) (hi : ℕ) (y8 : Vec Ideal S4224x256 .f32) (y9 : Vec Ideal S384x256 .f32) (y10 : Vec Ideal S384x128 .f32) : Prop where
  q : ∀ (r : Fin 4224) (e : Fin 256), y8 (ix2 r e) = (aQ p A hi r.val e : EReal)
  k : ∀ (x : Fin 384) (e : Fin 256), y9 (ix2 x e) = (aK p hi x e : EReal)
  v : ∀ (x : Fin 384) (d : Fin 128), y10 (ix2 x d) = (aV p hi x d : EReal)

section Loads

variable {sig' : RefSig} {κ : Kind} {sp : Space} {t : EltTy} {Val : EltTy → Type} {b : ℕ}

/-- A load of `h` rows of a table. -/
theorem ld_rows {n h : ℕ} (v : View sig' κ sp ⟨2, ![4224, n]⟩ t) (f : v.ty.Contents Val) (T : ℕ → Fin n → Val t)
    (hT : ∀ (r : Fin 4224) (e : Fin n), v.read Val f (ix2 r e) = T r.val e) (hb : 384 * b + h ≤ 4224) {off : Fin 2 → ℕ} (ho : off = ![384 * b, 0])
    (inb : ∀ a, off a + (![h, n] : Fin 2 → ℕ) a ≤ (⟨2, ![4224, n]⟩ : Shape).size a) (y : Fin h) (e : Fin n) :
    v.readAt Val (Rect.unit (s := ⟨2, ![4224, n]⟩) off ![h, n] inb).toLoadRect f (ix2 y e) = T (384 * b + y.val) e := by
  have hy := y.isLt
  rw [load_rows v f inb ho y e (by omega)]
  exact hT _ _

/-- A load of one block of a row vector. -/
theorem ld_block (v : View sig' κ sp ⟨4, ![1, 11, 8, 384]⟩ t) (f : v.ty.Contents Val) (T : ℕ → Val t)
    (hT : ∀ (b : Fin 11) (y : Fin 384), v.read Val f (ix4 (0 : Fin 1) b (0 : Fin 8) y) = T (384 * b.val + y.val)) {r : ℕ} (c : ℕ) (hc : c = 384 * r) (hb : b + r < 11)
    {off : Fin 4 → ℕ} (ho : off = ![0, b + r, 0, 0])
    (inb : ∀ a, off a + (![1, 1, 8, 384] : Fin 4 → ℕ) a ≤ (⟨4, ![1, 11, 8, 384]⟩ : Shape).size a) (y : Fin 384) :
    v.readAt Val (Rect.unit (s := ⟨4, ![1, 11, 8, 384]⟩) off ![1, 1, 8, 384] inb).toLoadRect f (ix4 (0 : Fin 1) (0 : Fin 1) (0 : Fin 8) y) = T (384 * b + (c + y.val)) := by
  rw [load_block v f inb ho y hb, hT]
  congr 1
  simp only
  omega

/-- The first of them. -/
theorem ld_block0 (v : View sig' κ sp ⟨4, ![1, 11, 8, 384]⟩ t) (f : v.ty.Contents Val) (T : ℕ → Val t)
    (hT : ∀ (b : Fin 11) (y : Fin 384), v.read Val f (ix4 (0 : Fin 1) b (0 : Fin 8) y) = T (384 * b.val + y.val)) (hb : b < 11)
    {off : Fin 4 → ℕ} (ho : off = ![0, b, 0, 0])
    (inb : ∀ a, off a + (![1, 1, 8, 384] : Fin 4 → ℕ) a ≤ (⟨4, ![1, 11, 8, 384]⟩ : Shape).size a) (y : Fin 384) :
    v.readAt Val (Rect.unit (s := ⟨4, ![1, 11, 8, 384]⟩) off ![1, 1, 8, 384] inb).toLoadRect f (ix4 (0 : Fin 1) (0 : Fin 1) (0 : Fin 8) y) = T (384 * b + y.val) := by
  rw [load_block v f inb ho y hb, hT]

end Loads

section Stores

variable {sig' : RefSig} {κ : Kind} {sp : Space} {b h : ℕ} {p : Pt} {A : ℕ → Fin 256 → ℝ}
  {u8 : View sig' κ sp S4224x256 .f32} {f8 : u8.ty.Contents (Elt Ideal)} {u9 : View sig' κ sp S384x256 .f32} {f9 : u9.ty.Contents (Elt Ideal)}
  {u10 : View sig' κ sp S384x128 .f32} {f10 : u10.ty.Contents (Elt Ideal)}

theorem Inv.ldQ (H : Inv p A (384 * b) (u8.read (Elt Ideal) f8) (u9.read (Elt Ideal) f9) (u10.read (Elt Ideal) f10)) (hb : 384 * b + h ≤ 4224)
    {off : Fin 2 → ℕ} (ho : off = ![384 * b, 0]) (inb : ∀ a, off a + (![h, 256] : Fin 2 → ℕ) a ≤ S4224x256.size a) (y : Fin h) (e : Fin 256) :
    u8.readAt (Elt Ideal) (Rect.unit (s := S4224x256) off ![h, 256] inb).toLoadRect f8 (ix2 y e) = (aQ p A (384 * b) (384 * b + y.val) e : EReal) :=
  ld_rows u8 f8 (fun r e => ((aQ p A (384 * b) r e : ℝ) : EReal)) H.q hb ho inb y e

theorem Inv.ldK {hi : ℕ} (H : Inv p A hi (u8.read (Elt Ideal) f8) (u9.read (Elt Ideal) f9) (u10.read (Elt Ideal) f10))
    (inb : ∀ a, (![0, 0] : Fin 2 → ℕ) a + (![384, 256] : Fin 2 → ℕ) a ≤ S384x256.size a) (x : Fin 384) (e : Fin 256) :
    u9.readAt (Elt Ideal) (Rect.unit (s := S384x256) ![0, 0] ![384, 256] inb).toLoadRect f9 (ix2 x e) = (aK p hi x e : EReal) :=
  (congrFun (View.readAt_full u9 f9 inb) _).trans (H.k x e)

theorem Inv.ldV {hi : ℕ} (H : Inv p A hi (u8.read (Elt Ideal) f8) (u9.read (Elt Ideal) f9) (u10.read (Elt Ideal) f10))
    (inb : ∀ a, (![0, 0] : Fin 2 → ℕ) a + (![384, 128] : Fin 2 → ℕ) a ≤ S384x128.size a) (x : Fin 384) (d : Fin 128) :
    u10.readAt (Elt Ideal) (Rect.unit (s := S384x128) ![0, 0] ![384, 128] inb).toLoadRect f10 (ix2 x d) = (aV p hi x d : EReal) :=
  (congrFun (View.readAt_full u10 f10 inb) _).trans (H.v x d)

/-- The three stores of a step over `h` rows. -/
theorem Inv.step (H : Inv p A (384 * b) (u8.read (Elt Ideal) f8) (u9.read (Elt Ideal) f9) (u10.read (Elt Ideal) f10)) (hlo : lo p ≤ 384 * b)
    {off : Fin 2 → ℕ} (ho : off = ![384 * b, 0]) (i8 : ∀ a, off a + (![h, 256] : Fin 2 → ℕ) a ≤ S4224x256.size a)
    (i9 : ∀ a, (![0, 0] : Fin 2 → ℕ) a + (![384, 256] : Fin 2 → ℕ) a ≤ S384x256.size a) (i10 : ∀ a, (![0, 0] : Fin 2 → ℕ) a + (![384, 128] : Fin 2 → ℕ) a ≤ S384x128.size a)
    {w8 : (⟨2, ![h, 256]⟩ : Shape).Idx → EReal} {w9 : S384x256.Idx → EReal} {w10 : S384x128.Idx → EReal}
    (h8 : ∀ (y : Fin h) e, w8 (ix2 y e) = ((aQ p A (384 * b) (384 * b + y.val) e + ∑ x, p.G x (384 * b + y.val) * p.K x e : ℝ) : EReal))
    (h9 : ∀ x e, w9 (ix2 x e) = ((aK p (384 * b) x e + ∑ i ∈ Finset.Ico (384 * b) (384 * b + h), p.G x i * p.Q i e : ℝ) : EReal))
    (h10 : ∀ x d, w10 (ix2 x d) = ((aV p (384 * b) x d + ∑ i ∈ Finset.Ico (384 * b) (384 * b + h), p.P x i * p.O i d : ℝ) : EReal)) :
    Inv p A (384 * b + h) (u8.read (Elt Ideal) (u8.writes (Elt Ideal) f8 [⟨Rect.unit (s := S4224x256) off ![h, 256] i8, w8⟩]))
      (u9.read (Elt Ideal) (u9.writes (Elt Ideal) f9 [⟨Rect.unit (s := S384x256) ![0, 0] ![384, 256] i9, w9⟩]))
      (u10.read (Elt Ideal) (u10.writes (Elt Ideal) f10 [⟨Rect.unit (s := S384x128) ![0, 0] ![384, 128] i10, w10⟩])) := by
  refine ⟨fun r e => ?_, fun x e => ?_, fun x d => ?_⟩
  · refine store_rows u8 f8 i8 ho w8 r e _ (fun hr => ?_) (fun hr => ?_)
    · rw [← aQ_in p hlo hr]
      have e1 : 384 * b + (r.val - 384 * b) = r.val := by omega
      refine (h8 ⟨r.val - 384 * b, by omega⟩ e).trans ?_
      simp only [e1]
    · exact (H.q r e).trans (by rw [aQ_out p hr])
  · refine Eq.trans (congrFun (View.read_writes_full u9 f9 _ _ _) _) ?_
    rw [← aK_ext p h hlo]
    exact h9 x e
  · refine Eq.trans (congrFun (View.read_writes_full u10 f10 _ _ _) _) ?_
    rw [← aV_ext p h hlo]
    exact h10 x d

end Stores

variable (𝒱 : Variants) (c : Dev nD) (bd : Option 𝒱.V) (i : grid0.Coords) (arg2 : Memref sig .tc .vmem S4224x256 .bf16) (harg2 : arg2.IsWhole)
  (arg3 : Memref sig .tc .vmem S384x256 .bf16) (harg3 : arg3.IsWhole) (arg4 : Memref sig .tc .vmem S384x128 .bf16) (harg4 : arg4.IsWhole)
  (arg5 : Memref sig .tc .vmem S1x11x8x384 .f32) (harg5 : arg5.IsWhole) (arg6 : Memref sig .tc .vmem S1x11x8x384 .f32) (harg6 : arg6.IsWhole)
  (arg7 : Memref sig .tc .vmem S4224x128 .bf16) (harg7 : arg7.IsWhole) (arg8 : Memref sig .tc .vmem S4224x256 .f32) (harg8 : arg8.IsWhole)
  (arg9 : Memref sig .tc .vmem S384x256 .f32) (harg9 : arg9.IsWhole) (arg10 : Memref sig .tc .vmem S384x128 .f32) (harg10 : arg10.IsWhole)
  (v4 : FVec Ideal S384x256 .bf16) (v6 : FVec Ideal S384x128 .bf16) (v21 v27 v34 v59 : BitVec 32)
  (X2 : BufTy.Contents (Elt Ideal) arg2.view.ty) (X5 : BufTy.Contents (Elt Ideal) arg5.view.ty) (X6 : BufTy.Contents (Elt Ideal) arg6.view.ty)
  (X7 : BufTy.Contents (Elt Ideal) arg7.view.ty)
  (f8 : BufTy.Contents (Elt Ideal) arg8.view.ty) (f9 : BufTy.Contents (Elt Ideal) arg9.view.ty) (f10 : BufTy.Contents (Elt Ideal) arg10.view.ty)
  (p : Pt) (A : ℕ → Fin 256 → ℝ)

/-- The diagonal step of one block. -/
theorem t1_step (hjb : p.jb = jj i) (E : Env p (arg2.view.read (Elt Ideal) X2) (arg5.view.read (Elt Ideal) X5) (arg6.view.read (Elt Ideal) X6) (arg7.view.read (Elt Ideal) X7))
    (hk : ∀ x e, v4 (ix2 x e) = (p.K x e : EReal)) (hv : ∀ x d, v6 (ix2 x d) = (p.V x d : EReal)) (k : Fin (k0_t1_loop i).trips)
    (H : Inv p A (384 * (jj i)) (arg8.view.read (Elt Ideal) f8) (arg9.view.read (Elt Ideal) f9) (arg10.view.read (Elt Ideal) f10)) :
    Inv p A (384 * (jj i) + 384)
      (arg8.view.read (Elt Ideal) (arg8.view.writes (Elt Ideal) f8 (tripL_k0_t1 (F := Ideal) 𝒱 c bd i arg2 harg2 arg3 harg3 arg4 harg4 arg5 harg5 arg6 harg6 arg7 harg7 arg8 harg8 arg9 harg9 arg10 harg10 (BitVec.ofNat 32 p.jb) v4 v6 X2 X5 X6 X7 k f8 f9 f10).1))
      (arg9.view.read (Elt Ideal) (arg9.view.writes (Elt Ideal) f9 (tripL_k0_t1 (F := Ideal) 𝒱 c bd i arg2 harg2 arg3 harg3 arg4 harg4 arg5 harg5 arg6 harg6 arg7 harg7 arg8 harg8 arg9 harg9 arg10 harg10 (BitVec.ofNat 32 p.jb) v4 v6 X2 X5 X6 X7 k f8 f9 f10).2.1))
      (arg10.view.read (Elt Ideal) (arg10.view.writes (Elt Ideal) f10 (tripL_k0_t1 (F := Ideal) 𝒱 c bd i arg2 harg2 arg3 harg3 arg4 harg4 arg5 harg5 arg6 harg6 arg7 harg7 arg8 harg8 arg9 harg9 arg10 harg10 (BitVec.ofNat 32 p.jb) v4 v6 X2 X5 X6 X7 k f8 f9 f10).2.2)) := by
  have hoq := off1 i
  have hoo := off2 i
  have hob0 := off3 i
  have hj := jj_lt i
  have hr2 : jj i + 1 ≤ 11 := by omega
  generalize hb : jj i = b at *
  have hlo : lo p ≤ 384 * b := by unfold lo; omega
  have hh : 384 * b + 384 ≤ 4224 := by omega
  have hq := @ld_rows _ _ _ _ _ b _ 384 arg2.view X2 (fun r e => ((p.Q r e : ℝ) : EReal)) E.q hh _ hoq
  have hO := @ld_rows _ _ _ _ _ b _ 384 arg7.view X7 (fun r e => ((p.O r e : ℝ) : EReal)) E.o hh _ hoo
  have hl0 := ld_block0 (b := b) arg5.view X5 (fun i => ((p.L i : ℝ) : EReal)) E.l (by omega) hob0
  have hd0 := ld_block0 (b := b) arg6.view X6 (fun i => ((p.D i : ℝ) : EReal)) E.d (by omega) hob0
  have hjb' : p.jb < 11 := by omega
  have hk' : ∀ x e, k0_pay50 (F := Ideal) v4 (ix2 x e) = (p.K x e : EReal) := fun x e => by
    pointwise [k0_pay50]
    exact hk x e
  have hP0 : ∀ i1 i2 (x y : Fin 384), k0_pay9 (BitVec.ofNat 32 p.jb) (k0_pay50 v4) (arg2.view.readAt (Elt Ideal) (Rect.unit (s := S4224x256) (k0_off1 i) ![384, 256] i1).toLoadRect X2)
      (arg5.view.readAt (Elt Ideal) (Rect.unit (s := S1x11x8x384) (k0_off3 i) ![1, 1, 8, 384] i2).toLoadRect X5) (ix2 x y)
      = (p.P x (384 * b + y.val) : EReal) := fun i1 i2 x y => by
    subst hjb
    exact pay9_real p hjb' hk' (hq i1) (hl0 i2) x y
  have hP : ∀ x (y : Fin 384), trip_k0_t1.sl.r_2 i arg2 arg5 (BitVec.ofNat 32 p.jb) v4 X2 X5 (ix2 x y) = (p.P x (384 * b + y.val) : EReal) := fun x y => by
    unfold trip_k0_t1.sl.r_2
    exact hP0 _ _ x y
  have hO' : ∀ (y : Fin 384) e, trip_k0_t1.sl.r_1 i arg7 X7 (ix2 y e) = (p.O (384 * b + y.val) e : EReal) := fun y e => by
    unfold trip_k0_t1.sl.r_1
    pointwise [k0_pay8]
    exact hO _ y e
  have hQ' : ∀ (y : Fin 384) e, trip_k0_t1.sl.r i arg2 X2 (ix2 y e) = (p.Q (384 * b + y.val) e : EReal) := fun y e => by
    unfold trip_k0_t1.sl.r
    pointwise [k0_pay7]
    exact hq _ y e
  have hz : ∀ x y, (trip_k0_t1.sl.cst_67 (F := Ideal)) (ix2 x y) = 0 := fun x y => by
    unfold trip_k0_t1.sl.cst_67
    pointwise []
  have hG := fun i1 => pay54_real p (384 * b) hv hO' hP hz (hd0 i1)
  unfold tripL_k0_t1 trip_k0_t1
  exact H.step hlo hoq _ _ _ (pay56_real p (384 * b) hk (hG _) (H.ldQ hh hoq _))
    (pay55_real p (384 * b) hQ' (hG _) (H.ldK _))
    (pay10_real p (384 * b) (hO _) (hP0 _ _) (H.ldV _))

/-- The diagonal step of two blocks. -/
theorem t3_step (hjb : p.jb = jj i) (E : Env p (arg2.view.read (Elt Ideal) X2) (arg5.view.read (Elt Ideal) X5) (arg6.view.read (Elt Ideal) X6) (arg7.view.read (Elt Ideal) X7))
    (hk : ∀ x e, v4 (ix2 x e) = (p.K x e : EReal)) (hv : ∀ x d, v6 (ix2 x d) = (p.V x d : EReal)) (k : Fin (k0_t3_loop i).trips)
    (H : Inv p A (384 * (jj i)) (arg8.view.read (Elt Ideal) f8) (arg9.view.read (Elt Ideal) f9) (arg10.view.read (Elt Ideal) f10)) :
    Inv p A (384 * (jj i) + 768)
      (arg8.view.read (Elt Ideal) (arg8.view.writes (Elt Ideal) f8 (tripL_k0_t3 (F := Ideal) 𝒱 c bd i arg2 harg2 arg3 harg3 arg4 harg4 arg5 harg5 arg6 harg6 arg7 harg7 arg8 harg8 arg9 harg9 arg10 harg10 (BitVec.ofNat 32 p.jb) v4 v6 v21 v27 X2 X5 X6 X7 k f8 f9 f10).1))
      (arg9.view.read (Elt Ideal) (arg9.view.writes (Elt Ideal) f9 (tripL_k0_t3 (F := Ideal) 𝒱 c bd i arg2 harg2 arg3 harg3 arg4 harg4 arg5 harg5 arg6 harg6 arg7 harg7 arg8 harg8 arg9 harg9 arg10 harg10 (BitVec.ofNat 32 p.jb) v4 v6 v21 v27 X2 X5 X6 X7 k f8 f9 f10).2.1))
      (arg10.view.read (Elt Ideal) (arg10.view.writes (Elt Ideal) f10 (tripL_k0_t3 (F := Ideal) 𝒱 c bd i arg2 harg2 arg3 harg3 arg4 harg4 arg5 harg5 arg6 harg6 arg7 harg7 arg8 harg8 arg9 harg9 arg10 harg10 (BitVec.ofNat 32 p.jb) v4 v6 v21 v27 X2 X5 X6 X7 k f8 f9 f10).2.2)) := by
  have hoq := off7 i
  have hoo := off8 i
  have hob0 := off9 i 0 (by omega)
  have hob1 := off9 i 1 (by omega)
  have hj := jj_lt i
  have hkl : k.val < 1 - odd (jj i) := lt_of_lt_of_eq k.isLt (trips3 i)
  have hr2 : jj i + 2 ≤ 11 := by unfold odd at hkl; omega
  generalize hb : jj i = b at *
  have hlo : lo p ≤ 384 * b := by unfold lo; omega
  have hh : 384 * b + 768 ≤ 4224 := by omega
  have hq := @ld_rows _ _ _ _ _ b _ 768 arg2.view X2 (fun r e => ((p.Q r e : ℝ) : EReal)) E.q hh _ hoq
  have hO := @ld_rows _ _ _ _ _ b _ 768 arg7.view X7 (fun r e => ((p.O r e : ℝ) : EReal)) E.o hh _ hoo
  have hl0 := ld_block0 (b := b) arg5.view X5 (fun i => ((p.L i : ℝ) : EReal)) E.l (by omega) hob0
  have hd0 := ld_block0 (b := b) arg6.view X6 (fun i => ((p.D i : ℝ) : EReal)) E.d (by omega) hob0
  have hl1 := ld_block (b := b) arg5.view X5 (fun i => ((p.L i : ℝ) : EReal)) E.l 384 rfl (by omega) hob1
  have hd1 := ld_block (b := b) arg6.view X6 (fun i => ((p.D i : ℝ) : EReal)) E.d 384 rfl (by omega) hob1
  have hjb' : p.jb < 11 := by omega
  have hP : ∀ x (y : Fin 768), trip_k0_t3.sl.r_2 i arg2 arg5 (BitVec.ofNat 32 p.jb) v4 X2 X5 k (ix2 x y) = (p.P x (384 * b + y.val) : EReal) := fun x y => by
    unfold trip_k0_t3.sl.r_2
    subst hjb
    exact pay17_real p hjb' hk (hq _) (hl0 _) (hl1 _) x y
  have hO' : ∀ (y : Fin 768) e, trip_k0_t3.sl.r_1 i arg7 X7 k (ix2 y e) = (p.O (384 * b + y.val) e : EReal) := fun y e => by
    unfold trip_k0_t3.sl.r_1
    pointwise [k0_pay16]
    exact hO _ y e
  have hQ' : ∀ (y : Fin 768) e, trip_k0_t3.sl.r i arg2 X2 k (ix2 y e) = (p.Q (384 * b + y.val) e : EReal) := fun y e => by
    unfold trip_k0_t3.sl.r
    pointwise [k0_pay15]
    exact hq _ y e
  have hG := fun i1 i2 => pay19_real p (384 * b) hv hO' hP (hd0 i1) (hd1 i2)
  unfold tripL_k0_t3 trip_k0_t3
  exact H.step hlo hoq _ _ _ (pay21_real p (384 * b) hk (hG _ _) (H.ldQ hh hoq _))
    (pay20_real p (384 * b) hQ' (hG _ _) (H.ldK _))
    (pay18_real p (384 * b) hO' hP (H.ldV _))

/-- A step of four blocks below the diagonal. -/
theorem t5_step (hjb : p.jb = jj i) (E : Env p (arg2.view.read (Elt Ideal) X2) (arg5.view.read (Elt Ideal) X5) (arg6.view.read (Elt Ideal) X6) (arg7.view.read (Elt Ideal) X7))
    (hk : ∀ x e, v4 (ix2 x e) = (p.K x e : EReal)) (hv : ∀ x d, v6 (ix2 x d) = (p.V x d : EReal)) (k : Fin (k0_t5_loop i).trips)
    (H : Inv p A (384 * (st5 (jj i) + 4 * k.val)) (arg8.view.read (Elt Ideal) f8) (arg9.view.read (Elt Ideal) f9) (arg10.view.read (Elt Ideal) f10)) :
    Inv p A (384 * (st5 (jj i) + 4 * k.val) + 1536)
      (arg8.view.read (Elt Ideal) (arg8.view.writes (Elt Ideal) f8 (tripL_k0_t5 (F := Ideal) 𝒱 c bd i arg2 harg2 arg3 harg3 arg4 harg4 arg5 harg5 arg6 harg6 arg7 harg7 arg8 harg8 arg9 harg9 arg10 harg10 (BitVec.ofNat 32 p.jb) v4 v6 v21 v27 v34 X2 X5 X6 X7 k f8 f9 f10).1))
      (arg9.view.read (Elt Ideal) (arg9.view.writes (Elt Ideal) f9 (tripL_k0_t5 (F := Ideal) 𝒱 c bd i arg2 harg2 arg3 harg3 arg4 harg4 arg5 harg5 arg6 harg6 arg7 harg7 arg8 harg8 arg9 harg9 arg10 harg10 (BitVec.ofNat 32 p.jb) v4 v6 v21 v27 v34 X2 X5 X6 X7 k f8 f9 f10).2.1))
      (arg10.view.read (Elt Ideal) (arg10.view.writes (Elt Ideal) f10 (tripL_k0_t5 (F := Ideal) 𝒱 c bd i arg2 harg2 arg3 harg3 arg4 harg4 arg5 harg5 arg6 harg6 arg7 harg7 arg8 harg8 arg9 harg9 arg10 harg10 (BitVec.ofNat 32 p.jb) v4 v6 v21 v27 v34 X2 X5 X6 X7 k f8 f9 f10).2.2)) := by
  have hoq := off13 i k
  have hoo := off14 i k
  have hob0 := off15 i k 0 (by omega)
  have hob1 := off15 i k 1 (by omega)
  have hob2 := off15 i k 2 (by omega)
  have hob3 := off15 i k 3 (by omega)
  have hj := jj_lt i
  have hkl : k.val < n5 (jj i) := lt_of_lt_of_eq k.isLt (trips5 i)
  have hr1 : jj i + 1 ≤ st5 (jj i) + 4 * k.val := by unfold st5 odd; omega
  have hr2 : st5 (jj i) + 4 * k.val + 4 ≤ 11 := by unfold n5 at hkl; omega
  generalize hb : st5 (jj i) + 4 * k.val = b at *
  have hlo : lo p ≤ 384 * b := by unfold lo; omega
  have hh : 384 * b + 1536 ≤ 4224 := by omega
  have hq := @ld_rows _ _ _ _ _ b _ 1536 arg2.view X2 (fun r e => ((p.Q r e : ℝ) : EReal)) E.q hh _ hoq
  have hO := @ld_rows _ _ _ _ _ b _ 1536 arg7.view X7 (fun r e => ((p.O r e : ℝ) : EReal)) E.o hh _ hoo
  have hl0 := ld_block0 (b := b) arg5.view X5 (fun i => ((p.L i : ℝ) : EReal)) E.l (by omega) hob0
  have hd0 := ld_block0 (b := b) arg6.view X6 (fun i => ((p.D i : ℝ) : EReal)) E.d (by omega) hob0
  have hl1 := ld_block (b := b) arg5.view X5 (fun i => ((p.L i : ℝ) : EReal)) E.l 384 rfl (by omega) hob1
  have hd1 := ld_block (b := b) arg6.view X6 (fun i => ((p.D i : ℝ) : EReal)) E.d 384 rfl (by omega) hob1
  have hl2 := ld_block (b := b) arg5.view X5 (fun i => ((p.L i : ℝ) : EReal)) E.l 768 rfl (by omega) hob2
  have hd2 := ld_block (b := b) arg6.view X6 (fun i => ((p.D i : ℝ) : EReal)) E.d 768 rfl (by omega) hob2
  have hl3 := ld_block (b := b) arg5.view X5 (fun i => ((p.L i : ℝ) : EReal)) E.l 1152 rfl (by omega) hob3
  have hd3 := ld_block (b := b) arg6.view X6 (fun i => ((p.D i : ℝ) : EReal)) E.d 1152 rfl (by omega) hob3
  have hP : ∀ x (y : Fin 1536), trip_k0_t5.sl.r_2 i arg2 arg5 v4 X2 X5 k (ix2 x y) = (p.P x (384 * b + y.val) : EReal) := fun x y => by
    unfold trip_k0_t5.sl.r_2
    exact pay31_real p (384 * b) (by unfold lo at hlo; omega) hk (hq _) (hl0 _) (hl1 _) (hl2 _) (hl3 _) x y
  have hO' : ∀ (y : Fin 1536) e, trip_k0_t5.sl.r_1 i arg7 X7 k (ix2 y e) = (p.O (384 * b + y.val) e : EReal) := fun y e => by
    unfold trip_k0_t5.sl.r_1
    pointwise [k0_pay30]
    exact hO _ y e
  have hQ' : ∀ (y : Fin 1536) e, trip_k0_t5.sl.r i arg2 X2 k (ix2 y e) = (p.Q (384 * b + y.val) e : EReal) := fun y e => by
    unfold trip_k0_t5.sl.r
    pointwise [k0_pay29]
    exact hq _ y e
  have hG : ∀ x (y : Fin 1536), trip_k0_t5.sl.r_3 i arg2 arg5 arg6 arg7 v4 v6 X2 X5 X6 X7 k (ix2 x y) = (p.G x (384 * b + y.val) : EReal) := fun x y => by
    unfold trip_k0_t5.sl.r_3
    exact pay33_real p (384 * b) hv hO' hP (hd0 _) (hd1 _) (hd2 _) (hd3 _) x y
  unfold tripL_k0_t5 trip_k0_t5
  exact H.step hlo hoq _ _ _ (pay61_real p (384 * b) hk hG (H.ldQ hh hoq _))
    (pay60_real p (384 * b) hQ' hG (H.ldK _))
    (pay32_real p (384 * b) hO' hP (H.ldV _))

/-- A step of two blocks below the diagonal. -/
theorem t7_step (hjb : p.jb = jj i) (E : Env p (arg2.view.read (Elt Ideal) X2) (arg5.view.read (Elt Ideal) X5) (arg6.view.read (Elt Ideal) X6) (arg7.view.read (Elt Ideal) X7))
    (hk : ∀ x e, v4 (ix2 x e) = (p.K x e : EReal)) (hv : ∀ x d, v6 (ix2 x d) = (p.V x d : EReal)) (k : Fin (k0_t7_loop i).trips)
    (H : Inv p A (384 * (st7 (jj i) + 2 * k.val)) (arg8.view.read (Elt Ideal) f8) (arg9.view.read (Elt Ideal) f9) (arg10.view.read (Elt Ideal) f10)) :
    Inv p A (384 * (st7 (jj i) + 2 * k.val) + 768)
      (arg8.view.read (Elt Ideal) (arg8.view.writes (Elt Ideal) f8 (tripL_k0_t7 (F := Ideal) 𝒱 c bd i arg2 harg2 arg3 harg3 arg4 harg4 arg5 harg5 arg6 harg6 arg7 harg7 arg8 harg8 arg9 harg9 arg10 harg10  v4 v6 v59 X2 X5 X6 X7 k f8 f9 f10).1))
      (arg9.view.read (Elt Ideal) (arg9.view.writes (Elt Ideal) f9 (tripL_k0_t7 (F := Ideal) 𝒱 c bd i arg2 harg2 arg3 harg3 arg4 harg4 arg5 harg5 arg6 harg6 arg7 harg7 arg8 harg8 arg9 harg9 arg10 harg10  v4 v6 v59 X2 X5 X6 X7 k f8 f9 f10).2.1))
      (arg10.view.read (Elt Ideal) (arg10.view.writes (Elt Ideal) f10 (tripL_k0_t7 (F := Ideal) 𝒱 c bd i arg2 harg2 arg3 harg3 arg4 harg4 arg5 harg5 arg6 harg6 arg7 harg7 arg8 harg8 arg9 harg9 arg10 harg10  v4 v6 v59 X2 X5 X6 X7 k f8 f9 f10).2.2)) := by
  have hoq := off19 i k
  have hoo := off20 i k
  have hob0 := off21 i k 0 (by omega)
  have hob1 := off21 i k 1 (by omega)
  have hj := jj_lt i
  have hkl : k.val < n7 (jj i) := lt_of_lt_of_eq k.isLt (trips7 i)
  have hr1 : jj i + 1 ≤ st7 (jj i) + 2 * k.val := by unfold st7 st5 odd; omega
  have hr2 : st7 (jj i) + 2 * k.val + 2 ≤ 11 := by unfold n7 at hkl; omega
  generalize hb : st7 (jj i) + 2 * k.val = b at *
  have hlo : lo p ≤ 384 * b := by unfold lo; omega
  have hh : 384 * b + 768 ≤ 4224 := by omega
  have hq := @ld_rows _ _ _ _ _ b _ 768 arg2.view X2 (fun r e => ((p.Q r e : ℝ) : EReal)) E.q hh _ hoq
  have hO := @ld_rows _ _ _ _ _ b _ 768 arg7.view X7 (fun r e => ((p.O r e : ℝ) : EReal)) E.o hh _ hoo
  have hl0 := ld_block0 (b := b) arg5.view X5 (fun i => ((p.L i : ℝ) : EReal)) E.l (by omega) hob0
  have hd0 := ld_block0 (b := b) arg6.view X6 (fun i => ((p.D i : ℝ) : EReal)) E.d (by omega) hob0
  have hl1 := ld_block (b := b) arg5.view X5 (fun i => ((p.L i : ℝ) : EReal)) E.l 384 rfl (by omega) hob1
  have hd1 := ld_block (b := b) arg6.view X6 (fun i => ((p.D i : ℝ) : EReal)) E.d 384 rfl (by omega) hob1
  have hP0 : ∀ i1 i2 i3 x (y : Fin 768), k0_pay41 v4 (arg2.view.readAt (Elt Ideal) (Rect.unit (s := S4224x256) (k0_off19 i k) ![768, 256] i1).toLoadRect X2)
      (arg5.view.readAt (Elt Ideal) (Rect.unit (s := S1x11x8x384) (k0_off21 i k 0#32) ![1, 1, 8, 384] i2).toLoadRect X5)
      (arg5.view.readAt (Elt Ideal) (Rect.unit (s := S1x11x8x384) (k0_off21 i k 1#32) ![1, 1, 8, 384] i3).toLoadRect X5) (ix2 x y)
      = (p.P x (384 * b + y.val) : EReal) := fun i1 i2 i3 x y =>
    pay41_real p (384 * b) (by unfold lo at hlo; omega) hk (hq i1) (hl0 i2) (hl1 i3) x y
  have hP : ∀ x (y : Fin 768), trip_k0_t7.sl.r_1 i arg2 arg5 v4 X2 X5 k (ix2 x y) = (p.P x (384 * b + y.val) : EReal) := fun x y => by
    unfold trip_k0_t7.sl.r_1
    exact hP0 _ _ _ x y
  have hD : ∀ x (y : Fin 768), trip_k0_t7.sl.r_2 i arg7 v6 X7 k (ix2 x y) = ∑ d, ((p.V x d : ℝ) : EReal) * ((p.O (384 * b + y.val) d : ℝ) : EReal) := fun x y => by
    unfold trip_k0_t7.sl.r_2
    exact pay43_real p (384 * b) hv (hO _) x y
  have hQ' : ∀ (y : Fin 768) e, trip_k0_t7.sl.r i arg2 X2 k (ix2 y e) = (p.Q (384 * b + y.val) e : EReal) := fun y e => by
    unfold trip_k0_t7.sl.r
    pointwise [k0_pay39]
    exact hq _ y e
  have hG := fun i1 i2 => pay1_real p (384 * b) hP hD (hd0 i1) (hd1 i2)
  unfold tripL_k0_t7 trip_k0_t7
  exact H.step hlo hoq _ _ _ (pay3_real p (384 * b) hk (hG _ _) (H.ldQ hh hoq _))
    (pay2_real p (384 * b) hQ' (hG _ _) (H.ldK _))
    (pay42_real p (384 * b) (hO _) (hP0 _ _ _) (H.ldV _))

end Cert.KernelIdeal.Trip

end
-- ==== Proof.Loop.lean ====
/- The body's loops: each extends the three gradients over the rows of its steps. -/
module

public import proofs.«01_k».proof.Proof.Trip

@[expose] public section

set_option maxRecDepth 16384

noncomputable section

namespace Cert.KernelIdeal.Loop

open Idealize.ShloMosaic Cert.KernelIdeal Cert.KernelIdeal.Gen Cert.KernelIdeal.Pay Cert.KernelIdeal.Offs Cert.KernelIdeal.Rows Cert.KernelIdeal.Trip

/-- The pieces written to the three buffers. -/
abbrev Lists : Type := List (View.Piece (Elt Ideal) S4224x256 .f32) × List (View.Piece (Elt Ideal) S384x256 .f32) × List (View.Piece (Elt Ideal) S384x128 .f32)

section Iterate

variable {sig' : RefSig} {κ : Kind} {sp : Space} {p : Pt} {A : ℕ → Fin 256 → ℝ}
  {u8 : View sig' κ sp S4224x256 .f32} {u9 : View sig' κ sp S384x256 .f32} {u10 : View sig' κ sp S384x128 .f32}

/-- The three gradients over the rows before `hi`, in buffers that pieces were written to. -/
def Acc (p : Pt) (A : ℕ → Fin 256 → ℝ) (hi : ℕ) (u8 : View sig' κ sp S4224x256 .f32) (u9 : View sig' κ sp S384x256 .f32) (u10 : View sig' κ sp S384x128 .f32)
    (f8 : u8.ty.Contents (Elt Ideal)) (f9 : u9.ty.Contents (Elt Ideal)) (f10 : u10.ty.Contents (Elt Ideal)) (l8 : List (View.Piece (Elt Ideal) S4224x256 .f32))
    (l9 : List (View.Piece (Elt Ideal) S384x256 .f32)) (l10 : List (View.Piece (Elt Ideal) S384x128 .f32)) : Prop :=
  Inv p A hi (u8.read (Elt Ideal) (u8.writes (Elt Ideal) f8 l8)) (u9.read (Elt Ideal) (u9.writes (Elt Ideal) f9 l9)) (u10.read (Elt Ideal) (u10.writes (Elt Ideal) f10 l10))

/-- A loop whose step `k` takes the rows from `row k` to `row (k + 1)` takes those from `row 0` to `row n` in its first `n` steps. -/
theorem iterate {N : ℕ} (row : ℕ → ℕ) (G8 : u8.ty.Contents (Elt Ideal)) (G9 : u9.ty.Contents (Elt Ideal)) (G10 : u10.ty.Contents (Elt Ideal)) (pb : ℕ → Lists)
    (T : Fin N → u8.ty.Contents (Elt Ideal) → u9.ty.Contents (Elt Ideal) → u10.ty.Contents (Elt Ideal) → Lists) (h0 : pb 0 = ([], [], []))
    (hs : ∀ k : Fin N, pb (k.val + 1) =
      ((T k (u8.writes (Elt Ideal) G8 (pb k.val).1) (u9.writes (Elt Ideal) G9 (pb k.val).2.1) (u10.writes (Elt Ideal) G10 (pb k.val).2.2)).1 ++ (pb k.val).1,
        (T k (u8.writes (Elt Ideal) G8 (pb k.val).1) (u9.writes (Elt Ideal) G9 (pb k.val).2.1) (u10.writes (Elt Ideal) G10 (pb k.val).2.2)).2.1 ++ (pb k.val).2.1,
        (T k (u8.writes (Elt Ideal) G8 (pb k.val).1) (u9.writes (Elt Ideal) G9 (pb k.val).2.1) (u10.writes (Elt Ideal) G10 (pb k.val).2.2)).2.2 ++ (pb k.val).2.2))
    (step : ∀ (k : Fin N) f8 f9 f10, Inv p A (row k.val) (u8.read (Elt Ideal) f8) (u9.read (Elt Ideal) f9) (u10.read (Elt Ideal) f10) →
      Inv p A (row (k.val + 1)) (u8.read (Elt Ideal) (u8.writes (Elt Ideal) f8 (T k f8 f9 f10).1)) (u9.read (Elt Ideal) (u9.writes (Elt Ideal) f9 (T k f8 f9 f10).2.1))
        (u10.read (Elt Ideal) (u10.writes (Elt Ideal) f10 (T k f8 f9 f10).2.2)))
    (H : Inv p A (row 0) (u8.read (Elt Ideal) G8) (u9.read (Elt Ideal) G9) (u10.read (Elt Ideal) G10)) (n : ℕ) (hn : n ≤ N) :
    Inv p A (row n) (u8.read (Elt Ideal) (u8.writes (Elt Ideal) G8 (pb n).1)) (u9.read (Elt Ideal) (u9.writes (Elt Ideal) G9 (pb n).2.1))
      (u10.read (Elt Ideal) (u10.writes (Elt Ideal) G10 (pb n).2.2)) := by
  induction n with
  | zero => rw [h0]; exact H
  | succ n ih =>
    have h := step ⟨n, hn⟩ _ _ _ (ih (Nat.le_of_succ_le hn))
    rw [hs ⟨n, hn⟩, View.writes_append, View.writes_append, View.writes_append]
    exact h

/-- The same, the pieces put before those already written. -/
theorem iterate_append {N : ℕ} (row : ℕ → ℕ) (f8 : u8.ty.Contents (Elt Ideal)) (f9 : u9.ty.Contents (Elt Ideal)) (f10 : u10.ty.Contents (Elt Ideal)) (l : Lists) (pb : ℕ → Lists)
    (T : Fin N → u8.ty.Contents (Elt Ideal) → u9.ty.Contents (Elt Ideal) → u10.ty.Contents (Elt Ideal) → Lists) (h0 : pb 0 = ([], [], []))
    (hs : ∀ k : Fin N, pb (k.val + 1) =
      ((T k (u8.writes (Elt Ideal) (u8.writes (Elt Ideal) f8 l.1) (pb k.val).1) (u9.writes (Elt Ideal) (u9.writes (Elt Ideal) f9 l.2.1) (pb k.val).2.1)
          (u10.writes (Elt Ideal) (u10.writes (Elt Ideal) f10 l.2.2) (pb k.val).2.2)).1 ++ (pb k.val).1,
        (T k (u8.writes (Elt Ideal) (u8.writes (Elt Ideal) f8 l.1) (pb k.val).1) (u9.writes (Elt Ideal) (u9.writes (Elt Ideal) f9 l.2.1) (pb k.val).2.1)
          (u10.writes (Elt Ideal) (u10.writes (Elt Ideal) f10 l.2.2) (pb k.val).2.2)).2.1 ++ (pb k.val).2.1,
        (T k (u8.writes (Elt Ideal) (u8.writes (Elt Ideal) f8 l.1) (pb k.val).1) (u9.writes (Elt Ideal) (u9.writes (Elt Ideal) f9 l.2.1) (pb k.val).2.1)
          (u10.writes (Elt Ideal) (u10.writes (Elt Ideal) f10 l.2.2) (pb k.val).2.2)).2.2 ++ (pb k.val).2.2))
    (step : ∀ (k : Fin N) f8 f9 f10, Inv p A (row k.val) (u8.read (Elt Ideal) f8) (u9.read (Elt Ideal) f9) (u10.read (Elt Ideal) f10) →
      Inv p A (row (k.val + 1)) (u8.read (Elt Ideal) (u8.writes (Elt Ideal) f8 (T k f8 f9 f10).1)) (u9.read (Elt Ideal) (u9.writes (Elt Ideal) f9 (T k f8 f9 f10).2.1))
        (u10.read (Elt Ideal) (u10.writes (Elt Ideal) f10 (T k f8 f9 f10).2.2)))
    {r r' : ℕ} (hr : r = row 0) (H : Acc p A r u8 u9 u10 f8 f9 f10 l.1 l.2.1 l.2.2) {n : ℕ} (hn : n = N) (hr' : r' = row N) :
    Acc p A r' u8 u9 u10 f8 f9 f10 ((pb n).1 ++ l.1) ((pb n).2.1 ++ l.2.1) ((pb n).2.2 ++ l.2.2) := by
  subst hr hn hr'
  unfold Acc
  rw [View.writes_append, View.writes_append, View.writes_append]
  exact iterate row _ _ _ pb T h0 hs step H n le_rfl

end Iterate

variable (𝒱 : Variants) (c : Dev nD) (bd : Option 𝒱.V) (i : grid0.Coords) (arg2 : Memref sig .tc .vmem S4224x256 .bf16) (harg2 : arg2.IsWhole)
  (arg3 : Memref sig .tc .vmem S384x256 .bf16) (harg3 : arg3.IsWhole) (arg4 : Memref sig .tc .vmem S384x128 .bf16) (harg4 : arg4.IsWhole)
  (arg5 : Memref sig .tc .vmem S1x11x8x384 .f32) (harg5 : arg5.IsWhole) (arg6 : Memref sig .tc .vmem S1x11x8x384 .f32) (harg6 : arg6.IsWhole)
  (arg7 : Memref sig .tc .vmem S4224x128 .bf16) (harg7 : arg7.IsWhole) (arg8 : Memref sig .tc .vmem S4224x256 .f32) (harg8 : arg8.IsWhole)
  (arg9 : Memref sig .tc .vmem S384x256 .f32) (harg9 : arg9.IsWhole) (arg10 : Memref sig .tc .vmem S384x128 .f32) (harg10 : arg10.IsWhole)
  (v4 : FVec Ideal S384x256 .bf16) (v6 : FVec Ideal S384x128 .bf16) (k3 : Vec Ideal S384x256 .bf16) (k5 : Vec Ideal S384x128 .bf16) (a1 v21 v26 v27 v32 v34 v57 v59 v82 : BitVec 32)
  (X2 : BufTy.Contents (Elt Ideal) arg2.view.ty) (X5 : BufTy.Contents (Elt Ideal) arg5.view.ty) (X6 : BufTy.Contents (Elt Ideal) arg6.view.ty)
  (X7 : BufTy.Contents (Elt Ideal) arg7.view.ty)
  (f8 : BufTy.Contents (Elt Ideal) arg8.view.ty) (f9 : BufTy.Contents (Elt Ideal) arg9.view.ty) (f10 : BufTy.Contents (Elt Ideal) arg10.view.ty)
  (l8 : List (View.Piece (Elt Ideal) S4224x256 .f32)) (l9 : List (View.Piece (Elt Ideal) S384x256 .f32)) (l10 : List (View.Piece (Elt Ideal) S384x128 .f32))
  (p : Pt) (A : ℕ → Fin 256 → ℝ)

/-- The diagonal step of one block. -/
theorem loop1 (hjb : p.jb = jj i) (ha : a1 = BitVec.ofNat 32 p.jb) (E : Env p (arg2.view.read (Elt Ideal) X2) (arg5.view.read (Elt Ideal) X5) (arg6.view.read (Elt Ideal) X6) (arg7.view.read (Elt Ideal) X7))
    (hk : ∀ x e, k3 (ix2 x e) = (p.K x e : EReal)) (hv : ∀ x d, k5 (ix2 x d) = (p.V x d : EReal)) {n : ℕ} (hn : n = (k0_t1_loop i).trips)
    (H : Acc p A (384 * jj i) arg8.view arg9.view arg10.view f8 f9 f10 l8 l9 l10) :
    Acc p A (384 * (jj i + odd (jj i))) arg8.view arg9.view arg10.view f8 f9 f10
      ((pb_k0_t1 (F := Ideal) 𝒱 c bd i arg2 harg2 arg3 harg3 arg4 harg4 arg5 harg5 arg6 harg6 arg7 harg7 arg8 harg8 arg9 harg9 arg10 harg10
        a1 k3 k5 X2 X5 X6 X7 (arg8.view.writes (Elt Ideal) f8 l8) (arg9.view.writes (Elt Ideal) f9 l9) (arg10.view.writes (Elt Ideal) f10 l10) n).1 ++ l8)
      ((pb_k0_t1 (F := Ideal) 𝒱 c bd i arg2 harg2 arg3 harg3 arg4 harg4 arg5 harg5 arg6 harg6 arg7 harg7 arg8 harg8 arg9 harg9 arg10 harg10
        a1 k3 k5 X2 X5 X6 X7 (arg8.view.writes (Elt Ideal) f8 l8) (arg9.view.writes (Elt Ideal) f9 l9) (arg10.view.writes (Elt Ideal) f10 l10) n).2.1 ++ l9)
      ((pb_k0_t1 (F := Ideal) 𝒱 c bd i arg2 harg2 arg3 harg3 arg4 harg4 arg5 harg5 arg6 harg6 arg7 harg7 arg8 harg8 arg9 harg9 arg10 harg10
        a1 k3 k5 X2 X5 X6 X7 (arg8.view.writes (Elt Ideal) f8 l8) (arg9.view.writes (Elt Ideal) f9 l9) (arg10.view.writes (Elt Ideal) f10 l10) n).2.2 ++ l10) := by
  subst ha
  exact iterate_append (p := p) (A := A) (fun k => 384 * (jj i + k)) f8 f9 f10 (l8, l9, l10) _ _ rfl
    (pb_k0_t1_succ (F := Ideal) 𝒱 c bd i arg2 harg2 arg3 harg3 arg4 harg4 arg5 harg5 arg6 harg6 arg7 harg7 arg8 harg8 arg9 harg9 arg10 harg10
      (BitVec.ofNat 32 p.jb) k3 k5 X2 X5 X6 X7 (arg8.view.writes (Elt Ideal) f8 l8) (arg9.view.writes (Elt Ideal) f9 l9) (arg10.view.writes (Elt Ideal) f10 l10))
    (fun k f8 f9 f10 h => by
      simp only at h ⊢
      have hk1 : k.val < odd (jj i) := lt_of_lt_of_eq k.isLt (trips1 i)
      have hk0 : k.val = 0 := by unfold odd at hk1; omega
      rw [hk0] at h
      rw [hk0, show 384 * (jj i + (0 + 1)) = 384 * jj i + 384 by omega]
      exact t1_step 𝒱 c bd i arg2 harg2 arg3 harg3 arg4 harg4 arg5 harg5 arg6 harg6 arg7 harg7 arg8 harg8 arg9 harg9 arg10 harg10 k3 k5
        X2 X5 X6 X7 f8 f9 f10 p A hjb E hk hv k h) (by simp) H hn (by simp only [trips1 i])

/-- The same where nothing was written to the query gradient's buffer before. -/
theorem loop1_nil (hjb : p.jb = jj i) (ha : a1 = BitVec.ofNat 32 p.jb) (E : Env p (arg2.view.read (Elt Ideal) X2) (arg5.view.read (Elt Ideal) X5) (arg6.view.read (Elt Ideal) X6) (arg7.view.read (Elt Ideal) X7))
    (hk : ∀ x e, k3 (ix2 x e) = (p.K x e : EReal)) (hv : ∀ x d, k5 (ix2 x d) = (p.V x d : EReal)) {n : ℕ} (hn : n = (k0_t1_loop i).trips)
    (H : Acc p A (384 * jj i) arg8.view arg9.view arg10.view f8 f9 f10 [] l9 l10) :
    Acc p A (384 * (jj i + odd (jj i))) arg8.view arg9.view arg10.view f8 f9 f10
      ((pb_k0_t1 (F := Ideal) 𝒱 c bd i arg2 harg2 arg3 harg3 arg4 harg4 arg5 harg5 arg6 harg6 arg7 harg7 arg8 harg8 arg9 harg9 arg10 harg10
        a1 k3 k5 X2 X5 X6 X7 f8 (arg9.view.writes (Elt Ideal) f9 l9) (arg10.view.writes (Elt Ideal) f10 l10) n).1)
      ((pb_k0_t1 (F := Ideal) 𝒱 c bd i arg2 harg2 arg3 harg3 arg4 harg4 arg5 harg5 arg6 harg6 arg7 harg7 arg8 harg8 arg9 harg9 arg10 harg10
        a1 k3 k5 X2 X5 X6 X7 f8 (arg9.view.writes (Elt Ideal) f9 l9) (arg10.view.writes (Elt Ideal) f10 l10) n).2.1 ++ l9)
      ((pb_k0_t1 (F := Ideal) 𝒱 c bd i arg2 harg2 arg3 harg3 arg4 harg4 arg5 harg5 arg6 harg6 arg7 harg7 arg8 harg8 arg9 harg9 arg10 harg10
        a1 k3 k5 X2 X5 X6 X7 f8 (arg9.view.writes (Elt Ideal) f9 l9) (arg10.view.writes (Elt Ideal) f10 l10) n).2.2 ++ l10) := by
  have h := loop1 𝒱 c bd i arg2 harg2 arg3 harg3 arg4 harg4 arg5 harg5 arg6 harg6 arg7 harg7 arg8 harg8 arg9 harg9 arg10 harg10 k3 k5 a1 X2 X5 X6 X7 f8 f9 f10 [] l9 l10 p A hjb ha E hk hv hn H
  rw [List.append_nil] at h
  exact h

/-- A loop of no steps. -/
theorem loop2 {n : ℕ} (hn : n = (k0_t2_loop i).trips) {r : ℕ} (H : Acc p A r arg8.view arg9.view arg10.view f8 f9 f10 l8 l9 l10) :
    Acc p A r arg8.view arg9.view arg10.view f8 f9 f10
      ((pb_k0_t2 (F := Ideal) 𝒱 c bd i arg2 harg2 arg3 harg3 arg4 harg4 arg5 harg5 arg6 harg6 arg7 harg7 arg8 harg8 arg9 harg9 arg10 harg10
        a1 k3 k5 v26 X2 X5 X6 X7 (arg8.view.writes (Elt Ideal) f8 l8) (arg9.view.writes (Elt Ideal) f9 l9) (arg10.view.writes (Elt Ideal) f10 l10) n).1 ++ l8)
      ((pb_k0_t2 (F := Ideal) 𝒱 c bd i arg2 harg2 arg3 harg3 arg4 harg4 arg5 harg5 arg6 harg6 arg7 harg7 arg8 harg8 arg9 harg9 arg10 harg10
        a1 k3 k5 v26 X2 X5 X6 X7 (arg8.view.writes (Elt Ideal) f8 l8) (arg9.view.writes (Elt Ideal) f9 l9) (arg10.view.writes (Elt Ideal) f10 l10) n).2.1 ++ l9)
      ((pb_k0_t2 (F := Ideal) 𝒱 c bd i arg2 harg2 arg3 harg3 arg4 harg4 arg5 harg5 arg6 harg6 arg7 harg7 arg8 harg8 arg9 harg9 arg10 harg10
        a1 k3 k5 v26 X2 X5 X6 X7 (arg8.view.writes (Elt Ideal) f8 l8) (arg9.view.writes (Elt Ideal) f9 l9) (arg10.view.writes (Elt Ideal) f10 l10) n).2.2 ++ l10) := by
  rw [trips2 i] at hn
  subst hn
  exact H

/-- The diagonal step of two blocks. -/
theorem loop3 (hjb : p.jb = jj i) (ha : a1 = BitVec.ofNat 32 p.jb) (E : Env p (arg2.view.read (Elt Ideal) X2) (arg5.view.read (Elt Ideal) X5) (arg6.view.read (Elt Ideal) X6) (arg7.view.read (Elt Ideal) X7))
    (hk : ∀ x e, v4 (ix2 x e) = (p.K x e : EReal)) (hv : ∀ x d, v6 (ix2 x d) = (p.V x d : EReal)) {n : ℕ} (hn : n = (k0_t3_loop i).trips)
    (H : Acc p A (384 * (jj i + odd (jj i))) arg8.view arg9.view arg10.view f8 f9 f10 l8 l9 l10) :
    Acc p A (384 * st5 (jj i)) arg8.view arg9.view arg10.view f8 f9 f10
      ((pb_k0_t3 (F := Ideal) 𝒱 c bd i arg2 harg2 arg3 harg3 arg4 harg4 arg5 harg5 arg6 harg6 arg7 harg7 arg8 harg8 arg9 harg9 arg10 harg10
        a1 v4 v6 v21 v27 X2 X5 X6 X7 (arg8.view.writes (Elt Ideal) f8 l8) (arg9.view.writes (Elt Ideal) f9 l9) (arg10.view.writes (Elt Ideal) f10 l10) n).1 ++ l8)
      ((pb_k0_t3 (F := Ideal) 𝒱 c bd i arg2 harg2 arg3 harg3 arg4 harg4 arg5 harg5 arg6 harg6 arg7 harg7 arg8 harg8 arg9 harg9 arg10 harg10
        a1 v4 v6 v21 v27 X2 X5 X6 X7 (arg8.view.writes (Elt Ideal) f8 l8) (arg9.view.writes (Elt Ideal) f9 l9) (arg10.view.writes (Elt Ideal) f10 l10) n).2.1 ++ l9)
      ((pb_k0_t3 (F := Ideal) 𝒱 c bd i arg2 harg2 arg3 harg3 arg4 harg4 arg5 harg5 arg6 harg6 arg7 harg7 arg8 harg8 arg9 harg9 arg10 harg10
        a1 v4 v6 v21 v27 X2 X5 X6 X7 (arg8.view.writes (Elt Ideal) f8 l8) (arg9.view.writes (Elt Ideal) f9 l9) (arg10.view.writes (Elt Ideal) f10 l10) n).2.2 ++ l10) := by
  subst ha
  exact iterate_append (p := p) (A := A) (fun k => 384 * (jj i + odd (jj i) + 2 * k)) f8 f9 f10 (l8, l9, l10) _ _ rfl
    (pb_k0_t3_succ (F := Ideal) 𝒱 c bd i arg2 harg2 arg3 harg3 arg4 harg4 arg5 harg5 arg6 harg6 arg7 harg7 arg8 harg8 arg9 harg9 arg10 harg10
      (BitVec.ofNat 32 p.jb) v4 v6 v21 v27 X2 X5 X6 X7 (arg8.view.writes (Elt Ideal) f8 l8) (arg9.view.writes (Elt Ideal) f9 l9) (arg10.view.writes (Elt Ideal) f10 l10))
    (fun k f8 f9 f10 h => by
      simp only at h ⊢
      have hk1 : k.val < 1 - odd (jj i) := lt_of_lt_of_eq k.isLt (trips3 i)
      have hk0 : k.val = 0 := by omega
      have ho : odd (jj i) = 0 := by omega
      rw [hk0, ho] at h
      rw [hk0, ho, show 384 * (jj i + 0 + 2 * (0 + 1)) = 384 * jj i + 768 by omega]
      exact t3_step 𝒱 c bd i arg2 harg2 arg3 harg3 arg4 harg4 arg5 harg5 arg6 harg6 arg7 harg7 arg8 harg8 arg9 harg9 arg10 harg10 v4 v6 v21 v27
        X2 X5 X6 X7 f8 f9 f10 p A hjb E hk hv k h) (by simp) H hn (by
      have := jj_lt i
      simp only [trips3 i]
      unfold st5 odd
      omega)

/-- A loop of no steps. -/
theorem loop4 {n : ℕ} (hn : n = (k0_t4_loop i).trips) {r : ℕ} (H : Acc p A r arg8.view arg9.view arg10.view f8 f9 f10 l8 l9 l10) :
    Acc p A r arg8.view arg9.view arg10.view f8 f9 f10
      ((pb_k0_t4 (F := Ideal) 𝒱 c bd i arg2 harg2 arg3 harg3 arg4 harg4 arg5 harg5 arg6 harg6 arg7 harg7 arg8 harg8 arg9 harg9 arg10 harg10
        a1 v4 v6 v21 v27 v32 X2 X5 X6 X7 (arg8.view.writes (Elt Ideal) f8 l8) (arg9.view.writes (Elt Ideal) f9 l9) (arg10.view.writes (Elt Ideal) f10 l10) n).1 ++ l8)
      ((pb_k0_t4 (F := Ideal) 𝒱 c bd i arg2 harg2 arg3 harg3 arg4 harg4 arg5 harg5 arg6 harg6 arg7 harg7 arg8 harg8 arg9 harg9 arg10 harg10
        a1 v4 v6 v21 v27 v32 X2 X5 X6 X7 (arg8.view.writes (Elt Ideal) f8 l8) (arg9.view.writes (Elt Ideal) f9 l9) (arg10.view.writes (Elt Ideal) f10 l10) n).2.1 ++ l9)
      ((pb_k0_t4 (F := Ideal) 𝒱 c bd i arg2 harg2 arg3 harg3 arg4 harg4 arg5 harg5 arg6 harg6 arg7 harg7 arg8 harg8 arg9 harg9 arg10 harg10
        a1 v4 v6 v21 v27 v32 X2 X5 X6 X7 (arg8.view.writes (Elt Ideal) f8 l8) (arg9.view.writes (Elt Ideal) f9 l9) (arg10.view.writes (Elt Ideal) f10 l10) n).2.2 ++ l10) := by
  rw [trips4 i] at hn
  subst hn
  exact H

/-- The steps of four blocks. -/
theorem loop5 (hjb : p.jb = jj i) (ha : a1 = BitVec.ofNat 32 p.jb) (E : Env p (arg2.view.read (Elt Ideal) X2) (arg5.view.read (Elt Ideal) X5) (arg6.view.read (Elt Ideal) X6) (arg7.view.read (Elt Ideal) X7))
    (hk : ∀ x e, v4 (ix2 x e) = (p.K x e : EReal)) (hv : ∀ x d, v6 (ix2 x d) = (p.V x d : EReal)) {n : ℕ} (hn : n = (k0_t5_loop i).trips)
    (H : Acc p A (384 * st5 (jj i)) arg8.view arg9.view arg10.view f8 f9 f10 l8 l9 l10) :
    Acc p A (384 * st7 (jj i)) arg8.view arg9.view arg10.view f8 f9 f10
      ((pb_k0_t5 (F := Ideal) 𝒱 c bd i arg2 harg2 arg3 harg3 arg4 harg4 arg5 harg5 arg6 harg6 arg7 harg7 arg8 harg8 arg9 harg9 arg10 harg10
        a1 v4 v6 v21 v27 v34 X2 X5 X6 X7 (arg8.view.writes (Elt Ideal) f8 l8) (arg9.view.writes (Elt Ideal) f9 l9) (arg10.view.writes (Elt Ideal) f10 l10) n).1 ++ l8)
      ((pb_k0_t5 (F := Ideal) 𝒱 c bd i arg2 harg2 arg3 harg3 arg4 harg4 arg5 harg5 arg6 harg6 arg7 harg7 arg8 harg8 arg9 harg9 arg10 harg10
        a1 v4 v6 v21 v27 v34 X2 X5 X6 X7 (arg8.view.writes (Elt Ideal) f8 l8) (arg9.view.writes (Elt Ideal) f9 l9) (arg10.view.writes (Elt Ideal) f10 l10) n).2.1 ++ l9)
      ((pb_k0_t5 (F := Ideal) 𝒱 c bd i arg2 harg2 arg3 harg3 arg4 harg4 arg5 harg5 arg6 harg6 arg7 harg7 arg8 harg8 arg9 harg9 arg10 harg10
        a1 v4 v6 v21 v27 v34 X2 X5 X6 X7 (arg8.view.writes (Elt Ideal) f8 l8) (arg9.view.writes (Elt Ideal) f9 l9) (arg10.view.writes (Elt Ideal) f10 l10) n).2.2 ++ l10) := by
  subst ha
  exact iterate_append (p := p) (A := A) (fun k => 384 * (st5 (jj i) + 4 * k)) f8 f9 f10 (l8, l9, l10) _ _ rfl
    (pb_k0_t5_succ (F := Ideal) 𝒱 c bd i arg2 harg2 arg3 harg3 arg4 harg4 arg5 harg5 arg6 harg6 arg7 harg7 arg8 harg8 arg9 harg9 arg10 harg10
      (BitVec.ofNat 32 p.jb) v4 v6 v21 v27 v34 X2 X5 X6 X7 (arg8.view.writes (Elt Ideal) f8 l8) (arg9.view.writes (Elt Ideal) f9 l9) (arg10.view.writes (Elt Ideal) f10 l10))
    (fun k f8 f9 f10 h => by
      simp only at h ⊢
      rw [show 384 * (st5 (jj i) + 4 * (k.val + 1)) = 384 * (st5 (jj i) + 4 * k.val) + 1536 by omega]
      exact t5_step 𝒱 c bd i arg2 harg2 arg3 harg3 arg4 harg4 arg5 harg5 arg6 harg6 arg7 harg7 arg8 harg8 arg9 harg9 arg10 harg10 v4 v6 v21 v27 v34
        X2 X5 X6 X7 f8 f9 f10 p A hjb E hk hv k h) (by simp) H hn (by simp only [trips5 i]; rfl)

/-- A loop of no steps. -/
theorem loop6 {n : ℕ} (hn : n = (k0_t6_loop i).trips) {r : ℕ} (H : Acc p A r arg8.view arg9.view arg10.view f8 f9 f10 l8 l9 l10) :
    Acc p A r arg8.view arg9.view arg10.view f8 f9 f10
      ((pb_k0_t6 (F := Ideal) 𝒱 c bd i arg2 harg2 arg3 harg3 arg4 harg4 arg5 harg5 arg6 harg6 arg7 harg7 arg8 harg8 arg9 harg9 arg10 harg10
        a1 v4 v6 v21 v27 v34 v57 X2 X5 X6 X7 (arg8.view.writes (Elt Ideal) f8 l8) (arg9.view.writes (Elt Ideal) f9 l9) (arg10.view.writes (Elt Ideal) f10 l10) n).1 ++ l8)
      ((pb_k0_t6 (F := Ideal) 𝒱 c bd i arg2 harg2 arg3 harg3 arg4 harg4 arg5 harg5 arg6 harg6 arg7 harg7 arg8 harg8 arg9 harg9 arg10 harg10
        a1 v4 v6 v21 v27 v34 v57 X2 X5 X6 X7 (arg8.view.writes (Elt Ideal) f8 l8) (arg9.view.writes (Elt Ideal) f9 l9) (arg10.view.writes (Elt Ideal) f10 l10) n).2.1 ++ l9)
      ((pb_k0_t6 (F := Ideal) 𝒱 c bd i arg2 harg2 arg3 harg3 arg4 harg4 arg5 harg5 arg6 harg6 arg7 harg7 arg8 harg8 arg9 harg9 arg10 harg10
        a1 v4 v6 v21 v27 v34 v57 X2 X5 X6 X7 (arg8.view.writes (Elt Ideal) f8 l8) (arg9.view.writes (Elt Ideal) f9 l9) (arg10.view.writes (Elt Ideal) f10 l10) n).2.2 ++ l10) := by
  rw [trips6 i] at hn
  subst hn
  exact H

/-- The steps of two blocks. -/
theorem loop7 (hjb : p.jb = jj i) (E : Env p (arg2.view.read (Elt Ideal) X2) (arg5.view.read (Elt Ideal) X5) (arg6.view.read (Elt Ideal) X6) (arg7.view.read (Elt Ideal) X7))
    (hk : ∀ x e, v4 (ix2 x e) = (p.K x e : EReal)) (hv : ∀ x d, v6 (ix2 x d) = (p.V x d : EReal)) {n : ℕ} (hn : n = (k0_t7_loop i).trips)
    (H : Acc p A (384 * st7 (jj i)) arg8.view arg9.view arg10.view f8 f9 f10 l8 l9 l10) :
    Acc p A (4224) arg8.view arg9.view arg10.view f8 f9 f10
      ((pb_k0_t7 (F := Ideal) 𝒱 c bd i arg2 harg2 arg3 harg3 arg4 harg4 arg5 harg5 arg6 harg6 arg7 harg7 arg8 harg8 arg9 harg9 arg10 harg10
        v4 v6 v59 X2 X5 X6 X7 (arg8.view.writes (Elt Ideal) f8 l8) (arg9.view.writes (Elt Ideal) f9 l9) (arg10.view.writes (Elt Ideal) f10 l10) n).1 ++ l8)
      ((pb_k0_t7 (F := Ideal) 𝒱 c bd i arg2 harg2 arg3 harg3 arg4 harg4 arg5 harg5 arg6 harg6 arg7 harg7 arg8 harg8 arg9 harg9 arg10 harg10
        v4 v6 v59 X2 X5 X6 X7 (arg8.view.writes (Elt Ideal) f8 l8) (arg9.view.writes (Elt Ideal) f9 l9) (arg10.view.writes (Elt Ideal) f10 l10) n).2.1 ++ l9)
      ((pb_k0_t7 (F := Ideal) 𝒱 c bd i arg2 harg2 arg3 harg3 arg4 harg4 arg5 harg5 arg6 harg6 arg7 harg7 arg8 harg8 arg9 harg9 arg10 harg10
        v4 v6 v59 X2 X5 X6 X7 (arg8.view.writes (Elt Ideal) f8 l8) (arg9.view.writes (Elt Ideal) f9 l9) (arg10.view.writes (Elt Ideal) f10 l10) n).2.2 ++ l10) := by
  exact iterate_append (p := p) (A := A) (fun k => 384 * (st7 (jj i) + 2 * k)) f8 f9 f10 (l8, l9, l10) _ _ rfl
    (pb_k0_t7_succ (F := Ideal) 𝒱 c bd i arg2 harg2 arg3 harg3 arg4 harg4 arg5 harg5 arg6 harg6 arg7 harg7 arg8 harg8 arg9 harg9 arg10 harg10
      v4 v6 v59 X2 X5 X6 X7 (arg8.view.writes (Elt Ideal) f8 l8) (arg9.view.writes (Elt Ideal) f9 l9) (arg10.view.writes (Elt Ideal) f10 l10))
    (fun k f8 f9 f10 h => by
      simp only at h ⊢
      rw [show 384 * (st7 (jj i) + 2 * (k.val + 1)) = 384 * (st7 (jj i) + 2 * k.val) + 768 by omega]
      exact t7_step 𝒱 c bd i arg2 harg2 arg3 harg3 arg4 harg4 arg5 harg5 arg6 harg6 arg7 harg7 arg8 harg8 arg9 harg9 arg10 harg10 v4 v6 v59
        X2 X5 X6 X7 f8 f9 f10 p A hjb E hk hv k h) (by simp) H hn (by
      have := jj_lt i
      simp only [trips7 i]
      unfold n7 st7 n5 st5 odd
      omega)

/-- A loop of no steps. -/
theorem loop8 {n : ℕ} (hn : n = (k0_t8_loop i).trips) {r : ℕ} (H : Acc p A r arg8.view arg9.view arg10.view f8 f9 f10 l8 l9 l10) :
    Acc p A r arg8.view arg9.view arg10.view f8 f9 f10
      ((pb_k0_t8 (F := Ideal) 𝒱 c bd i arg2 harg2 arg3 harg3 arg4 harg4 arg5 harg5 arg6 harg6 arg7 harg7 arg8 harg8 arg9 harg9 arg10 harg10
        v4 v6 v59 v82 X2 X5 X6 X7 (arg8.view.writes (Elt Ideal) f8 l8) (arg9.view.writes (Elt Ideal) f9 l9) (arg10.view.writes (Elt Ideal) f10 l10) n).1 ++ l8)
      ((pb_k0_t8 (F := Ideal) 𝒱 c bd i arg2 harg2 arg3 harg3 arg4 harg4 arg5 harg5 arg6 harg6 arg7 harg7 arg8 harg8 arg9 harg9 arg10 harg10
        v4 v6 v59 v82 X2 X5 X6 X7 (arg8.view.writes (Elt Ideal) f8 l8) (arg9.view.writes (Elt Ideal) f9 l9) (arg10.view.writes (Elt Ideal) f10 l10) n).2.1 ++ l9)
      ((pb_k0_t8 (F := Ideal) 𝒱 c bd i arg2 harg2 arg3 harg3 arg4 harg4 arg5 harg5 arg6 harg6 arg7 harg7 arg8 harg8 arg9 harg9 arg10 harg10
        v4 v6 v59 v82 X2 X5 X6 X7 (arg8.view.writes (Elt Ideal) f8 l8) (arg9.view.writes (Elt Ideal) f9 l9) (arg10.view.writes (Elt Ideal) f10 l10) n).2.2 ++ l10) := by
  rw [trips8 i] at hn
  subst hn
  exact H

end Cert.KernelIdeal.Loop

end
-- ==== Proof.Case.lean ====
/- What the body leaves in the three outputs' buffers at a grid point: the gradients of the point's column tile, over all the rows at and below it. -/
module

public import proofs.«01_k».proof.Proof.Loop
public import proofs.«01_k».proof.Proof.Gen.KernelIdeal.Frame

@[expose] public section

set_option maxRecDepth 16384

noncomputable section

namespace Cert.KernelIdeal.Case

open Idealize.ShloMosaic Cert.KernelIdeal Cert.KernelIdeal.Gen Cert.KernelIdeal.Pay Cert.KernelIdeal.Offs Cert.KernelIdeal.Rows Cert.KernelIdeal.Trip Cert.KernelIdeal.Loop

theorem zero49 (j : S4224x256.Idx) : k0_pay49 (F := Ideal) j = ((0 : ℝ) : EReal) := by
  pointwise [k0_pay49]
  exact EReal.coe_zero.symm

theorem zero52 (j : S384x256.Idx) : k0_pay52 (F := Ideal) j = ((0 : ℝ) : EReal) := by
  pointwise [k0_pay52]
  exact EReal.coe_zero.symm

theorem zero53 (j : S384x128.Idx) : k0_pay53 (F := Ideal) j = ((0 : ℝ) : EReal) := by
  pointwise [k0_pay53]
  exact EReal.coe_zero.symm

/-- Before the first row nothing is added yet. -/
theorem entry {p : Pt} {A : ℕ → Fin 256 → ℝ} {h : ℕ} (hh : h = lo p) {y8 : Vec Ideal S4224x256 .f32} {y9 : Vec Ideal S384x256 .f32} {y10 : Vec Ideal S384x128 .f32}
    (h8 : ∀ (r : Fin 4224) (e : Fin 256), y8 (ix2 r e) = (A r.val e : EReal)) (h9 : ∀ j, y9 j = ((0 : ℝ) : EReal)) (h10 : ∀ j, y10 j = ((0 : ℝ) : EReal)) : Inv p A h y8 y9 y10 := by
  subst hh
  refine ⟨fun r e => ?_, fun x e => ?_, fun x d => ?_⟩
  · rw [h8, aQ, if_neg (by omega)]
  · rw [h9, aK, Finset.Ico_self, Finset.sum_empty]
  · rw [h10, aV, Finset.Ico_self, Finset.sum_empty]

variable (c : Dev nD) (i : grid0.Coords) (arg2 : Memref sig .tc .vmem S4224x256 .bf16) (harg2 : arg2.IsWhole)
  (arg3 : Memref sig .tc .vmem S384x256 .bf16) (harg3 : arg3.IsWhole) (arg4 : Memref sig .tc .vmem S384x128 .bf16) (harg4 : arg4.IsWhole)
  (arg5 : Memref sig .tc .vmem S1x11x8x384 .f32) (harg5 : arg5.IsWhole) (arg6 : Memref sig .tc .vmem S1x11x8x384 .f32) (harg6 : arg6.IsWhole)
  (arg7 : Memref sig .tc .vmem S4224x128 .bf16) (harg7 : arg7.IsWhole) (arg8 : Memref sig .tc .vmem S4224x256 .f32) (harg8 : arg8.IsWhole)
  (arg9 : Memref sig .tc .vmem S384x256 .f32) (harg9 : arg9.IsWhole) (arg10 : Memref sig .tc .vmem S384x128 .f32) (harg10 : arg10.IsWhole)
  (x0 : Vec Ideal S4224x256 .bf16) (x1 : Vec Ideal S384x256 .bf16) (x2 : Vec Ideal S384x128 .bf16) (x3 : Vec Ideal S1x11x8x384 .f32) (x4 : Vec Ideal S1x11x8x384 .f32)
  (x5 : Vec Ideal S4224x128 .bf16) (p : Pt)

/-- The point's keys and values as the body casts them. -/
theorem keys (hk : ∀ x e, x1 (ix2 x e) = (p.K x e : EReal)) (inb : ∀ a, (![0, 0] : Fin 2 → ℕ) a + (![384, 256] : Fin 2 → ℕ) a ≤ S384x256.size a) (x : Fin 384) (e : Fin 256) :
    arg3.view.readAt (Elt Ideal) (Rect.unit (s := S384x256) ![0, 0] ![384, 256] inb).toLoadRect (harg3.unread x1) (ix2 x e) = (p.K x e : EReal) := by
  refine (congrFun (View.readAt_full arg3.view (harg3.unread x1) inb) _).trans ?_
  rw [harg3.read_unread]
  exact hk x e

theorem vals (hv : ∀ x d, x2 (ix2 x d) = (p.V x d : EReal)) (inb : ∀ a, (![0, 0] : Fin 2 → ℕ) a + (![384, 128] : Fin 2 → ℕ) a ≤ S384x128.size a) (x : Fin 384) (d : Fin 128) :
    arg4.view.readAt (Elt Ideal) (Rect.unit (s := S384x128) ![0, 0] ![384, 128] inb).toLoadRect (harg4.unread x2) (ix2 x d) = (p.V x d : EReal) := by
  refine (congrFun (View.readAt_full arg4.view (harg4.unread x2) inb) _).trans ?_
  rw [harg4.read_unread]
  exact hv x d

set_option maxHeartbeats 20000000 in
/-- A head's first point, whose query gradient starts from zero. -/
theorem acc_A (hc0 : cond0_0 i) (hjb : p.jb = jj i) (E : Env p x0 x3 x4 x5) (hk : ∀ x e, x1 (ix2 x e) = (p.K x e : EReal)) (hv : ∀ x d, x2 (ix2 x d) = (p.V x d : EReal)) :
    Acc p (fun _ _ => 0) 4224 arg8.view arg9.view arg10.view arg8.view.junk arg9.view.junk arg10.view.junk
      (kernelRun0_A c i arg2 harg2 arg3 harg3 arg4 harg4 arg5 harg5 arg6 harg6 arg7 harg7 arg8 harg8 arg9 harg9 arg10 harg10 hc0 x0 x1 x2 x3 x4 x5).1
      (kernelRun0_A c i arg2 harg2 arg3 harg3 arg4 harg4 arg5 harg5 arg6 harg6 arg7 harg7 arg8 harg8 arg9 harg9 arg10 harg10 hc0 x0 x1 x2 x3 x4 x5).2.1
      (kernelRun0_A c i arg2 harg2 arg3 harg3 arg4 harg4 arg5 harg5 arg6 harg6 arg7 harg7 arg8 harg8 arg9 harg9 arg10 harg10 hc0 x0 x1 x2 x3 x4 x5).2.2.1 := by
  have E' : Env p (arg2.view.read (Elt Ideal) (harg2.unread x0)) (arg5.view.read (Elt Ideal) (harg5.unread x3)) (arg6.view.read (Elt Ideal) (harg6.unread x4))
      (arg7.view.read (Elt Ideal) (harg7.unread x5)) := by
    rw [harg2.read_unread, harg5.read_unread, harg6.read_unread, harg7.read_unread]; exact E
  have ha : BitVec.ofNat 32 (i 1).val = BitVec.ofNat 32 p.jb := by rw [hjb]; rfl
  have hK := keys arg3 harg3 x1 p hk
  have hV := vals arg4 harg4 x2 p hv
  have hk' : ∀ x e, kernelRun0_A.sl.r (F := Ideal) c arg3 harg3 x1 (ix2 x e) = (p.K x e : EReal) := fun x e => by
    unfold kernelRun0_A.sl.r
    pointwise [k0_pay50]
    exact hK _ x e
  have hv' : ∀ x d, kernelRun0_A.sl.r_1 (F := Ideal) c arg4 harg4 x2 (ix2 x d) = (p.V x d : EReal) := fun x d => by
    unfold kernelRun0_A.sl.r_1
    pointwise [k0_pay51]
    exact hV _ x d
  unfold kernelRun0_A
  dsimp only
  refine loop8 (hn := rfl) (H := ?_) ..
  refine loop7 (hn := rfl) (hjb := hjb) (E := E') (hk := hk') (hv := hv') (H := ?_) ..
  refine loop6 (hn := rfl) (H := ?_) ..
  refine loop5 (hn := rfl) (hjb := hjb) (ha := ha) (E := E') (hk := hk') (hv := hv') (H := ?_) ..
  refine loop4 (hn := rfl) (H := ?_) ..
  refine loop3 (hn := rfl) (hjb := hjb) (ha := ha) (E := E') (hk := hk') (hv := hv') (H := ?_) ..
  refine loop2 (hn := rfl) (H := ?_) ..
  refine loop1 (hn := rfl) (hjb := hjb) (ha := ha) (E := E') (hk := fun x e => hK _ x e) (hv := fun x d => hV _ x d) (H := ?_) ..
  refine entry (by rw [lo, hjb]) (fun r e => ?_) (fun j => ?_) (fun j => ?_)
  · exact (congrFun (View.read_writes_full _ _ _ _ _) _).trans (zero49 _)
  · exact (congrFun (View.read_writes_full _ _ _ _ _) _).trans (zero52 _)
  · exact (congrFun (View.read_writes_full _ _ _ _ _) _).trans (zero53 _)

set_option maxHeartbeats 20000000 in
/-- Any other point, which adds to what the point before left. -/
theorem acc_B (hc0 : ¬cond0_0 i) (A : ℕ → Fin 256 → ℝ) (xo6 : Vec Ideal S4224x256 .f32) (hA : ∀ (r : Fin 4224) (e : Fin 256), xo6 (ix2 r e) = (A r.val e : EReal)) (hjb : p.jb = jj i) (E : Env p x0 x3 x4 x5) (hk : ∀ x e, x1 (ix2 x e) = (p.K x e : EReal)) (hv : ∀ x d, x2 (ix2 x d) = (p.V x d : EReal)) :
    Acc p A 4224 arg8.view arg9.view arg10.view (harg8.unread xo6) arg9.view.junk arg10.view.junk
      (kernelRun0_B c i arg2 harg2 arg3 harg3 arg4 harg4 arg5 harg5 arg6 harg6 arg7 harg7 arg8 harg8 arg9 harg9 arg10 harg10 hc0 x0 x1 x2 x3 x4 x5 xo6).1
      (kernelRun0_B c i arg2 harg2 arg3 harg3 arg4 harg4 arg5 harg5 arg6 harg6 arg7 harg7 arg8 harg8 arg9 harg9 arg10 harg10 hc0 x0 x1 x2 x3 x4 x5 xo6).2.1
      (kernelRun0_B c i arg2 harg2 arg3 harg3 arg4 harg4 arg5 harg5 arg6 harg6 arg7 harg7 arg8 harg8 arg9 harg9 arg10 harg10 hc0 x0 x1 x2 x3 x4 x5 xo6).2.2.1 := by
  have E' : Env p (arg2.view.read (Elt Ideal) (harg2.unread x0)) (arg5.view.read (Elt Ideal) (harg5.unread x3)) (arg6.view.read (Elt Ideal) (harg6.unread x4))
      (arg7.view.read (Elt Ideal) (harg7.unread x5)) := by
    rw [harg2.read_unread, harg5.read_unread, harg6.read_unread, harg7.read_unread]; exact E
  have ha : BitVec.ofNat 32 (i 1).val = BitVec.ofNat 32 p.jb := by rw [hjb]; rfl
  have hK := keys arg3 harg3 x1 p hk
  have hV := vals arg4 harg4 x2 p hv
  have hk' : ∀ x e, kernelRun0_B.sl.r (F := Ideal) c arg3 harg3 x1 (ix2 x e) = (p.K x e : EReal) := fun x e => by
    unfold kernelRun0_B.sl.r
    pointwise [k0_pay50]
    exact hK _ x e
  have hv' : ∀ x d, kernelRun0_B.sl.r_1 (F := Ideal) c arg4 harg4 x2 (ix2 x d) = (p.V x d : EReal) := fun x d => by
    unfold kernelRun0_B.sl.r_1
    pointwise [k0_pay51]
    exact hV _ x d
  unfold kernelRun0_B
  dsimp only
  refine loop8 (hn := rfl) (H := ?_) ..
  refine loop7 (hn := rfl) (hjb := hjb) (E := E') (hk := hk') (hv := hv') (H := ?_) ..
  refine loop6 (hn := rfl) (H := ?_) ..
  refine loop5 (hn := rfl) (hjb := hjb) (ha := ha) (E := E') (hk := hk') (hv := hv') (H := ?_) ..
  refine loop4 (hn := rfl) (H := ?_) ..
  refine loop3 (hn := rfl) (hjb := hjb) (ha := ha) (E := E') (hk := hk') (hv := hv') (H := ?_) ..
  refine loop2 (hn := rfl) (H := ?_) ..
  refine loop1_nil (hn := rfl) (hjb := hjb) (ha := ha) (E := E') (hk := fun x e => hK _ x e) (hv := fun x d => hV _ x d) (H := ?_) ..
  refine entry (by rw [lo, hjb]) (fun r e => ?_) (fun j => ?_) (fun j => ?_)
  · refine Eq.trans (congrFun (harg8.read_unread xo6) _) (hA r e)
  · exact (congrFun (View.read_writes_full _ _ _ _ _) _).trans (zero52 _)
  · exact (congrFun (View.read_writes_full _ _ _ _ _) _).trans (zero53 _)

/-- The same of the buffers' contents. -/
theorem case_A (hc0 : cond0_0 i) (hjb : p.jb = jj i) (E : Env p x0 x3 x4 x5) (hk : ∀ x e, x1 (ix2 x e) = (p.K x e : EReal)) (hv : ∀ x d, x2 (ix2 x d) = (p.V x d : EReal)) :
    Inv p (fun _ _ => 0) 4224
      (out0_A_6 c i arg2 harg2 arg3 harg3 arg4 harg4 arg5 harg5 arg6 harg6 arg7 harg7 arg8 harg8 arg9 harg9 arg10 harg10 hc0 x0 x1 x2 x3 x4 x5)
      (out0_A_7 c i arg2 harg2 arg3 harg3 arg4 harg4 arg5 harg5 arg6 harg6 arg7 harg7 arg8 harg8 arg9 harg9 arg10 harg10 hc0 x0 x1 x2 x3 x4 x5)
      (out0_A_8 c i arg2 harg2 arg3 harg3 arg4 harg4 arg5 harg5 arg6 harg6 arg7 harg7 arg8 harg8 arg9 harg9 arg10 harg10 hc0 x0 x1 x2 x3 x4 x5) := by
  have h := acc_A c i arg2 harg2 arg3 harg3 arg4 harg4 arg5 harg5 arg6 harg6 arg7 harg7 arg8 harg8 arg9 harg9 arg10 harg10 x0 x1 x2 x3 x4 x5 p hc0 hjb E hk hv
  unfold Loop.Acc at h
  unfold out0_A_6 out0_A_7 out0_A_8
  rw [View.read_writes_of_cover VO0_6 _ arg8.view arg8.view.junk _ (cover0_A_6 c i arg2 harg2 arg3 harg3 arg4 harg4 arg5 harg5 arg6 harg6 arg7 harg7 arg8 harg8 arg9 harg9 arg10 harg10 hc0 x0 x1 x2 x3 x4 x5),
    View.read_writes_of_cover VO0_7 _ arg9.view arg9.view.junk _ (cover0_A_7 c i arg2 harg2 arg3 harg3 arg4 harg4 arg5 harg5 arg6 harg6 arg7 harg7 arg8 harg8 arg9 harg9 arg10 harg10 hc0 x0 x1 x2 x3 x4 x5),
    View.read_writes_of_cover VO0_8 _ arg10.view arg10.view.junk _ (cover0_A_8 c i arg2 harg2 arg3 harg3 arg4 harg4 arg5 harg5 arg6 harg6 arg7 harg7 arg8 harg8 arg9 harg9 arg10 harg10 hc0 x0 x1 x2 x3 x4 x5)]
  exact h

theorem case_B (hc0 : ¬cond0_0 i) (A : ℕ → Fin 256 → ℝ) (xo6 : Vec Ideal S4224x256 .f32) (hA : ∀ (r : Fin 4224) (e : Fin 256), xo6 (ix2 r e) = (A r.val e : EReal))
    (hjb : p.jb = jj i) (E : Env p x0 x3 x4 x5) (hk : ∀ x e, x1 (ix2 x e) = (p.K x e : EReal)) (hv : ∀ x d, x2 (ix2 x d) = (p.V x d : EReal)) :
    Inv p A 4224
      (out0_B_6 c i arg2 harg2 arg3 harg3 arg4 harg4 arg5 harg5 arg6 harg6 arg7 harg7 arg8 harg8 arg9 harg9 arg10 harg10 hc0 x0 x1 x2 x3 x4 x5 xo6)
      (out0_B_7 c i arg2 harg2 arg3 harg3 arg4 harg4 arg5 harg5 arg6 harg6 arg7 harg7 arg8 harg8 arg9 harg9 arg10 harg10 hc0 x0 x1 x2 x3 x4 x5 xo6)
      (out0_B_8 c i arg2 harg2 arg3 harg3 arg4 harg4 arg5 harg5 arg6 harg6 arg7 harg7 arg8 harg8 arg9 harg9 arg10 harg10 hc0 x0 x1 x2 x3 x4 x5 xo6) := by
  have h := acc_B c i arg2 harg2 arg3 harg3 arg4 harg4 arg5 harg5 arg6 harg6 arg7 harg7 arg8 harg8 arg9 harg9 arg10 harg10 x0 x1 x2 x3 x4 x5 p hc0 A xo6 hA hjb E hk hv
  unfold Loop.Acc at h
  unfold out0_B_6 out0_B_7 out0_B_8
  rw [View.read_writes_of_cover VO0_7 _ arg9.view arg9.view.junk _ (cover0_B_7 c i arg2 harg2 arg3 harg3 arg4 harg4 arg5 harg5 arg6 harg6 arg7 harg7 arg8 harg8 arg9 harg9 arg10 harg10 hc0 x0 x1 x2 x3 x4 x5 xo6),
    View.read_writes_of_cover VO0_8 _ arg10.view arg10.view.junk _ (cover0_B_8 c i arg2 harg2 arg3 harg3 arg4 harg4 arg5 harg5 arg6 harg6 arg7 harg7 arg8 harg8 arg9 harg9 arg10 harg10 hc0 x0 x1 x2 x3 x4 x5 xo6)]
  exact h

end Cert.KernelIdeal.Case

end
-- ==== Proof.Chain.lean ====
/- The three outputs' buffers over a head's points: each point's key tile gives its rows of the keys' and the values' gradients, and the
   queries' gradient grows tile by tile. -/
module

public import proofs.«01_k».proof.Proof.Case
public import Idealize.ShloMosaic.Lib.Decide

@[expose] public section

set_option maxRecDepth 16384

noncomputable section

namespace Cert.KernelIdeal.Chain

open Idealize.ShloMosaic Cert.KernelIdeal Cert.KernelIdeal.Gen Cert.KernelIdeal.Pay Cert.KernelIdeal.Offs Cert.KernelIdeal.Rows Cert.KernelIdeal.Trip

/-- One head's rows as the pipeline finds them, in the reals and by row number. -/
structure Head where
  Q : ℕ → Fin 256 → ℝ
  K : ℕ → Fin 256 → ℝ
  V : ℕ → Fin 128 → ℝ
  O : ℕ → Fin 128 → ℝ
  L : ℕ → ℝ
  D : ℕ → ℝ

namespace Head

variable (H : Head)

/-- What the point of key tile `j` works on. -/
def pt (j : ℕ) : Pt where
  jb := j
  K x e := H.K (384 * j + x.val) e
  V x d := H.V (384 * j + x.val) d
  Q := H.Q
  O := H.O
  L := H.L
  D := H.D

/-- The queries' gradient over the first `j` key tiles. -/
def dq : ℕ → ℕ → Fin 256 → ℝ
  | 0 => fun _ _ => 0
  | j + 1 => aQ (H.pt j) (dq j) 4224

end Head

variable (m : (ℓ : Loc nD τ sig) → Buf (Elt Ideal) ℓ) (c : Dev nD)

/-- The pipeline's input arrays hold the heads' rows. -/
structure Holds (H : ℕ → Head) : Prop where
  q : ∀ (h : Fin 8) (r : Fin 4224) (e : Fin 256), V m c main_v34 (ix2 r (⟨256 * h.val + e.val, by omega⟩ : Fin 2048)) = ((H h.val).Q r.val e : EReal)
  k : ∀ (h : Fin 8) (r : Fin 4224) (e : Fin 256), V m c main_v37 (ix2 r (⟨256 * h.val + e.val, by omega⟩ : Fin 2048)) = ((H h.val).K r.val e : EReal)
  v : ∀ (h : Fin 8) (r : Fin 4224) (d : Fin 128), V m c main_v40 (ix2 r (⟨128 * h.val + d.val, by omega⟩ : Fin 1024)) = ((H h.val).V r.val d : EReal)
  l : ∀ (h : Fin 8) (b : Fin 11) (s : Fin 8) (y : Fin 384), V m c main_v43 (ix4 h b s y) = ((H h.val).L (384 * b.val + y.val) : EReal)
  d : ∀ (h : Fin 8) (b : Fin 11) (s : Fin 8) (y : Fin 384), V m c main_v46 (ix4 h b s y) = ((H h.val).D (384 * b.val + y.val) : EReal)
  o : ∀ (h : Fin 8) (r : Fin 4224) (d : Fin 128), V m c main_v49 (ix2 r (⟨128 * h.val + d.val, by omega⟩ : Fin 1024)) = ((H h.val).O r.val d : EReal)

theorem lt88 (t : Fin cfg0.N) : t.val < 88 := lt_of_lt_of_eq t.isLt N_0

theorem ix0 (t : Fin cfg0.N) : (cfg0.win 0).index t 0 = 0 ∧ (cfg0.win 0).index t 1 = t.val / 11 := by
  revert t; decide +kernel
theorem ix1' (t : Fin cfg0.N) : (cfg0.win 1).index t 0 = t.val % 11 ∧ (cfg0.win 1).index t 1 = t.val / 11 := by
  revert t; decide +kernel
theorem ix2' (t : Fin cfg0.N) : (cfg0.win 2).index t 0 = t.val % 11 ∧ (cfg0.win 2).index t 1 = t.val / 11 := by
  revert t; decide +kernel
theorem ix3' (t : Fin cfg0.N) : (cfg0.win 3).index t 0 = t.val / 11 ∧ (cfg0.win 3).index t 1 = 0 ∧ (cfg0.win 3).index t 2 = 0 ∧ (cfg0.win 3).index t 3 = 0 := by
  revert t; decide +kernel
theorem ix4' (t : Fin cfg0.N) : (cfg0.win 4).index t 0 = t.val / 11 ∧ (cfg0.win 4).index t 1 = 0 ∧ (cfg0.win 4).index t 2 = 0 ∧ (cfg0.win 4).index t 3 = 0 := by
  revert t; decide +kernel
theorem ix5' (t : Fin cfg0.N) : (cfg0.win 5).index t 0 = 0 ∧ (cfg0.win 5).index t 1 = t.val / 11 := by
  revert t; decide +kernel
theorem jj_coords (t : Fin cfg0.N) : jj (grid0.coords t) = t.val % 11 := by
  revert t; decide +kernel

variable {m c} {H : ℕ → Head}

set_option maxHeartbeats 4000000 in
theorem env (W : Holds m c H) (t : Fin cfg0.N) :
    Env ((H (t.val / 11)).pt (t.val % 11)) (iblk m c 0 t) (iblk m c 3 t) (iblk m c 4 t) (iblk m c 5 t) := by
  have h88 := lt88 t
  have hh : t.val / 11 < 8 := by omega
  refine ⟨fun r e => ?_, fun b y => ?_, fun b y => ?_, fun r e => ?_⟩
  · refine Eq.trans (congrArg (V m c main_v34) (funext fun a => Fin.ext ?_)) (W.q ⟨t.val / 11, hh⟩ r e)
    refine (Pipeline.Window.rect_emb_val (cfg0.win 0) t (ix2 r e) a).trans ?_
    fin_cases a
    · show (cfg0.win 0).index t 0 * 4224 + r.val = r.val
      rw [(ix0 t).1]; omega
    · show (cfg0.win 0).index t 1 * 256 + e.val = 256 * (t.val / 11) + e.val
      rw [(ix0 t).2]; omega
  · refine Eq.trans (congrArg (V m c main_v43) (funext fun a => Fin.ext ?_)) (W.l ⟨t.val / 11, hh⟩ b 0 y)
    refine (Pipeline.Window.rect_emb_val (cfg0.win 3) t (ix4 (0 : Fin 1) b (0 : Fin 8) y) a).trans ?_
    obtain ⟨h0, h1, h2, h3⟩ := ix3' t
    fin_cases a
    · show (cfg0.win 3).index t 0 * 1 + 0 = t.val / 11
      rw [h0]; omega
    · show (cfg0.win 3).index t 1 * 11 + b.val = b.val
      rw [h1]; omega
    · show (cfg0.win 3).index t 2 * 8 + 0 = 0
      rw [h2]
    · show (cfg0.win 3).index t 3 * 384 + y.val = y.val
      rw [h3]; omega
  · refine Eq.trans (congrArg (V m c main_v46) (funext fun a => Fin.ext ?_)) (W.d ⟨t.val / 11, hh⟩ b 0 y)
    refine (Pipeline.Window.rect_emb_val (cfg0.win 4) t (ix4 (0 : Fin 1) b (0 : Fin 8) y) a).trans ?_
    obtain ⟨h0, h1, h2, h3⟩ := ix4' t
    fin_cases a
    · show (cfg0.win 4).index t 0 * 1 + 0 = t.val / 11
      rw [h0]; omega
    · show (cfg0.win 4).index t 1 * 11 + b.val = b.val
      rw [h1]; omega
    · show (cfg0.win 4).index t 2 * 8 + 0 = 0
      rw [h2]
    · show (cfg0.win 4).index t 3 * 384 + y.val = y.val
      rw [h3]; omega
  · refine Eq.trans (congrArg (V m c main_v49) (funext fun a => Fin.ext ?_)) (W.o ⟨t.val / 11, hh⟩ r e)
    refine (Pipeline.Window.rect_emb_val (cfg0.win 5) t (ix2 r e) a).trans ?_
    fin_cases a
    · show (cfg0.win 5).index t 0 * 4224 + r.val = r.val
      rw [(ix5' t).1]; omega
    · show (cfg0.win 5).index t 1 * 128 + e.val = 128 * (t.val / 11) + e.val
      rw [(ix5' t).2]; omega

theorem keys (W : Holds m c H) (t : Fin cfg0.N) (x : Fin 384) (e : Fin 256) :
    iblk m c 1 t (ix2 x e) = (((H (t.val / 11)).pt (t.val % 11)).K x e : EReal) := by
  have h88 := lt88 t
  refine Eq.trans (congrArg (V m c main_v37) (funext fun a => Fin.ext ?_)) (W.k ⟨t.val / 11, by omega⟩ ⟨384 * (t.val % 11) + x.val, by omega⟩ e)
  refine (Pipeline.Window.rect_emb_val (cfg0.win 1) t (ix2 x e) a).trans ?_
  fin_cases a
  · show (cfg0.win 1).index t 0 * 384 + x.val = 384 * (t.val % 11) + x.val
    rw [(ix1' t).1]; omega
  · show (cfg0.win 1).index t 1 * 256 + e.val = 256 * (t.val / 11) + e.val
    rw [(ix1' t).2]; omega

theorem vals (W : Holds m c H) (t : Fin cfg0.N) (x : Fin 384) (d : Fin 128) :
    iblk m c 2 t (ix2 x d) = (((H (t.val / 11)).pt (t.val % 11)).V x d : EReal) := by
  have h88 := lt88 t
  refine Eq.trans (congrArg (V m c main_v40) (funext fun a => Fin.ext ?_)) (W.v ⟨t.val / 11, by omega⟩ ⟨384 * (t.val % 11) + x.val, by omega⟩ d)
  refine (Pipeline.Window.rect_emb_val (cfg0.win 2) t (ix2 x d) a).trans ?_
  fin_cases a
  · show (cfg0.win 2).index t 0 * 384 + x.val = 384 * (t.val % 11) + x.val
    rw [(ix2' t).1]; omega
  · show (cfg0.win 2).index t 1 * 128 + d.val = 128 * (t.val / 11) + d.val
    rw [(ix2' t).2]; omega

/-- What a point leaves, given what the point before it left. -/
theorem step (W : Holds m c H) (t : Fin cfg0.N)
    (ih : ∀ h0 : ¬t.val % 11 = 0, ∀ (r : Fin 4224) (e : Fin 256),
      (outsAt0 m c (t.val - 1) (Nat.lt_of_le_of_lt (Nat.sub_le _ _) t.isLt)).1 (ix2 r e) = ((H (t.val / 11)).dq (t.val % 11) r.val e : EReal)) :
    Inv ((H (t.val / 11)).pt (t.val % 11)) ((H (t.val / 11)).dq (t.val % 11)) 4224
      (outsAt0 m c t.val t.isLt).1 (outsAt0 m c t.val t.isLt).2.1 (outsAt0 m c t.val t.isLt).2.2 := by
  by_cases h0 : t.val % 11 = 0
  · rw [outsAt0_A m c t h0]
    have e0 : (H (t.val / 11)).dq (t.val % 11) = fun _ _ => 0 := by rw [h0]; rfl
    rw [e0]
    exact Case.case_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) _ ((hcond0_0 t).mpr h0) (jj_coords t).symm (env W t) (keys W t) (vals W t)
  · rw [outsAt0_B m c t h0]
    exact Case.case_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) _ (fun h => h0 ((hcond0_0 t).mp h)) _ _ (ih h0) (jj_coords t).symm (env W t) (keys W t) (vals W t)

/-- What every point leaves. -/
theorem outs (W : Holds m c H) : ∀ (n : ℕ) (hn : n < cfg0.N),
    Inv ((H (n / 11)).pt (n % 11)) ((H (n / 11)).dq (n % 11)) 4224 (outsAt0 m c n hn).1 (outsAt0 m c n hn).2.1 (outsAt0 m c n hn).2.2 := by
  intro n
  induction n with
  | zero => exact fun hn => step W ⟨0, hn⟩ fun h0 => absurd rfl h0
  | succ n ih =>
    intro hn
    refine step W ⟨n + 1, hn⟩ fun h0 r e => ?_
    have h0' : ¬ (n + 1) % 11 = 0 := h0
    have h := (ih (by omega)).q r e
    show (outsAt0 m c n _).1 (ix2 r e) = ((H ((n + 1) / 11)).dq ((n + 1) % 11) r.val e : EReal)
    rw [show (n + 1) / 11 = n / 11 by omega, show (n + 1) % 11 = n % 11 + 1 by omega]
    exact h

end Cert.KernelIdeal.Chain

end
-- ==== Proof.Arrays.lean ====
/- The three result arrays after the run. -/
module

public import proofs.«01_k».proof.Proof.Chain
public import Idealize.ShloMosaic.Lib.Pipeline.ValueKit.Geometry

@[expose] public section

set_option maxRecDepth 16384

noncomputable section

namespace Cert.KernelIdeal.Arrays

open Idealize.ShloMosaic Idealize.ShloMosaic.Pipeline Cert.KernelIdeal Cert.KernelIdeal.Gen Cert.KernelIdeal.Pay Cert.KernelIdeal.Rows Cert.KernelIdeal.Trip Cert.KernelIdeal.Chain

/-- The queries' gradient, all heads side by side. -/
def dqA (H : ℕ → Head) (i : S4224x2048.Idx) : EReal := ((H ((i 1).val / 256)).dq 11 (i 0).val ⟨(i 1).val % 256, Nat.mod_lt _ (by decide)⟩ : ℝ)

/-- The keys' gradient, all heads side by side. -/
def dkA (H : ℕ → Head) (i : S4224x2048.Idx) : EReal :=
  (aK ((H ((i 1).val / 256)).pt ((i 0).val / 384)) 4224 ⟨(i 0).val % 384, Nat.mod_lt _ (by decide)⟩ ⟨(i 1).val % 256, Nat.mod_lt _ (by decide)⟩ : ℝ)

/-- The values' gradient, all heads side by side. -/
def dvA (H : ℕ → Head) (i : S4224x1024.Idx) : EReal :=
  (aV ((H ((i 1).val / 128)).pt ((i 0).val / 384)) 4224 ⟨(i 0).val % 384, Nat.mod_lt _ (by decide)⟩ ⟨(i 1).val % 128, Nat.mod_lt _ (by decide)⟩ : ℝ)

theorem ix6' (t : Fin cfg0.N) : (cfg0.win 6).index t 0 = 0 ∧ (cfg0.win 6).index t 1 = t.val / 11 := by
  revert t; decide +kernel
theorem ix7' (t : Fin cfg0.N) : (cfg0.win 7).index t 0 = t.val % 11 ∧ (cfg0.win 7).index t 1 = t.val / 11 := by
  revert t; decide +kernel
theorem ix8' (t : Fin cfg0.N) : (cfg0.win 8).index t 0 = t.val % 11 ∧ (cfg0.win 8).index t 1 = t.val / 11 := by
  revert t; decide +kernel

variable {m : (ℓ : Loc nD τ sig) → Buf (Elt Ideal) ℓ} {c : Dev nD} {H : ℕ → Head}

theorem dqA_at (h : ℕ) (r : Fin 4224) (e : Fin 256) (i : S4224x2048.Idx) (h0 : (i 0).val = r.val) (h1 : (i 1).val = 256 * h + e.val) :
    dqA H i = ((H h).dq 11 r.val e : ℝ) := by
  unfold dqA
  simp only [h0, h1]
  simp only [show (256 * h + e.val) / 256 = h by omega, show (256 * h + e.val) % 256 = e.val by omega]

theorem dkA_at (h j : ℕ) (x : Fin 384) (e : Fin 256) (i : S4224x2048.Idx) (h0 : (i 0).val = 384 * j + x.val) (h1 : (i 1).val = 256 * h + e.val) :
    dkA H i = (aK ((H h).pt j) 4224 x e : ℝ) := by
  unfold dkA
  simp only [h0, h1]
  simp only [show (256 * h + e.val) / 256 = h by omega, show (256 * h + e.val) % 256 = e.val by omega,
    show (384 * j + x.val) / 384 = j by omega, show (384 * j + x.val) % 384 = x.val by omega]

theorem dvA_at (h j : ℕ) (x : Fin 384) (d : Fin 128) (i : S4224x1024.Idx) (h0 : (i 0).val = 384 * j + x.val) (h1 : (i 1).val = 128 * h + d.val) :
    dvA H i = (aV ((H h).pt j) 4224 x d : ℝ) := by
  unfold dvA
  simp only [h0, h1]
  simp only [show (128 * h + d.val) / 128 = h by omega, show (128 * h + d.val) % 128 = d.val by omega,
    show (384 * j + x.val) / 384 = j by omega, show (384 * j + x.val) % 384 = x.val by omega]

theorem arr6 (W : Holds m c H) : (dats m 0 c).arrAt 6 cfg0.N = dqA H := by
  refine (dats m 0 c).arrAt_eq_of_covers 6 _ (by decide +kernel) fun t hf y => ?_
  have h88 := lt88 t
  have ht : t.val % 11 = 10 := (flush0_6 t).mp hf
  rw [after0_6]
  have h := (outs W t.val t.isLt).q
  rw [ht] at h
  obtain ⟨i0, i1⟩ := ix6' t
  refine Eq.trans (congrArg (outsAt0 m c t.val t.isLt).1 (eq_ix2 ((cfg0.win 6).xinj (cfg0.grid.coords t) y))) ?_
  refine Eq.trans (h (y 0) (y 1)) (dqA_at (t.val / 11) (y 0) (y 1) _ ?_ ?_).symm
  · refine (Window.rect_emb_val (cfg0.win 6) t y 0).trans ?_
    rw [i0]; show 0 * 4224 + _ = _; omega
  · refine (Window.rect_emb_val (cfg0.win 6) t y 1).trans ?_
    rw [i1]; show t.val / 11 * 256 + _ = _; omega

theorem arr7 (W : Holds m c H) : (dats m 0 c).arrAt 7 cfg0.N = dkA H := by
  refine (dats m 0 c).arrAt_eq_of_covers 7 _ (by decide +kernel) fun t hf y => ?_
  rw [after0_7]
  have h := (outs W t.val t.isLt).k
  obtain ⟨i0, i1⟩ := ix7' t
  refine Eq.trans (congrArg (outsAt0 m c t.val t.isLt).2.1 (eq_ix2 ((cfg0.win 7).xinj (cfg0.grid.coords t) y))) ?_
  refine Eq.trans (h (y 0) (y 1)) (dkA_at (t.val / 11) (t.val % 11) (y 0) (y 1) _ ?_ ?_).symm
  · refine (Window.rect_emb_val (cfg0.win 7) t y 0).trans ?_
    rw [i0]; show t.val % 11 * 384 + _ = _; omega
  · refine (Window.rect_emb_val (cfg0.win 7) t y 1).trans ?_
    rw [i1]; show t.val / 11 * 256 + _ = _; omega

theorem arr8 (W : Holds m c H) : (dats m 0 c).arrAt 8 cfg0.N = dvA H := by
  refine (dats m 0 c).arrAt_eq_of_covers 8 _ (by decide +kernel) fun t hf y => ?_
  rw [after0_8]
  have h := (outs W t.val t.isLt).v
  obtain ⟨i0, i1⟩ := ix8' t
  refine Eq.trans (congrArg (outsAt0 m c t.val t.isLt).2.2 (eq_ix2 ((cfg0.win 8).xinj (cfg0.grid.coords t) y))) ?_
  refine Eq.trans (h (y 0) (y 1)) (dvA_at (t.val / 11) (t.val % 11) (y 0) (y 1) _ ?_ ?_).symm
  · refine (Window.rect_emb_val (cfg0.win 8) t y 0).trans ?_
    rw [i0]; show t.val % 11 * 384 + _ = _; omega
  · refine (Window.rect_emb_val (cfg0.win 8) t y 1).trans ?_
    rw [i1]; show t.val / 11 * 128 + _ = _; omega

/-! ## The lines after the region -/

theorem arr_inj : Function.Injective (Pipeline.arrRef spec0) := by decide

theorem left6 (W : Holds m c H) : Pipeline.withArrays spec0 c (V0 m c) (fun w => (dats m 0 c).arrAt w cfg0.N) (Proc.devRef .tc main_v50_0) = dqA H :=
  (Pipeline.withArrays_arr spec0 arr_inj c (V0 m c) (fun w => (dats m 0 c).arrAt w cfg0.N) 6).trans (arr6 W)

theorem left7 (W : Holds m c H) : Pipeline.withArrays spec0 c (V0 m c) (fun w => (dats m 0 c).arrAt w cfg0.N) (Proc.devRef .tc main_v50_1) = dkA H :=
  (Pipeline.withArrays_arr spec0 arr_inj c (V0 m c) (fun w => (dats m 0 c).arrAt w cfg0.N) 7).trans (arr7 W)

theorem left8 (W : Holds m c H) : Pipeline.withArrays spec0 c (V0 m c) (fun w => (dats m 0 c).arrAt w cfg0.N) (Proc.devRef .tc main_v50_2) = dvA H :=
  (Pipeline.withArrays_arr spec0 arr_inj c (V0 m c) (fun w => (dats m 0 c).arrAt w cfg0.N) 8).trans (arr8 W)

/-- The queries' gradient as the program returns it. -/
theorem tail_q (W : Holds m c H) (r : Fin 4112) (h : Fin 8) (e : Fin 192) :
    Pipeline.afterTail₀ cfgs (dats m) 0 (V0 m) [hostOps1] c main_v52 (ix3 r h e) = ((((H h.val).dq 11 (112 + r.val) ⟨e.val, by omega⟩ : ℝ) : EReal)) := by
  unfold Pipeline.afterTail₀
  simp only [hostOps1, List.flatten_cons, List.flatten_nil, List.append_nil]
  after_results
  generalize hA : Pipeline.withArrays _ _ _ _ _ = A
  obtain rfl : A = dqA H := hA.symm.trans (left6 W)
  pointwise []
  refine dqA_at h.val ⟨112 + r.val, by omega⟩ ⟨e.val, by omega⟩ _ ?_ ?_
  · rfl
  · show h.val * 256 + e.val = 256 * h.val + e.val
    omega

/-- The keys' gradient as the program returns it. -/
theorem tail_k (W : Holds m c H) (r : Fin 4112) (h : Fin 8) (e : Fin 192) :
    Pipeline.afterTail₀ cfgs (dats m) 0 (V0 m) [hostOps1] c main_v54 (ix3 r h e)
      = ((aK ((H h.val).pt ((112 + r.val) / 384)) 4224 ⟨(112 + r.val) % 384, Nat.mod_lt _ (by decide)⟩ ⟨e.val, by omega⟩ : ℝ) : EReal) := by
  unfold Pipeline.afterTail₀
  simp only [hostOps1, List.flatten_cons, List.flatten_nil, List.append_nil]
  after_results
  generalize hA : Pipeline.withArrays _ _ _ _ _ = A
  obtain rfl : A = dkA H := hA.symm.trans (left7 W)
  pointwise []
  refine dkA_at h.val ((112 + r.val) / 384) ⟨(112 + r.val) % 384, Nat.mod_lt _ (by decide)⟩ ⟨e.val, by omega⟩ _ ?_ ?_
  · show 112 + r.val = 384 * ((112 + r.val) / 384) + (112 + r.val) % 384
    omega
  · show h.val * 256 + e.val = 256 * h.val + e.val
    omega

/-- The values' gradient as the program returns it. -/
theorem tail_v (W : Holds m c H) (r : Fin 4112) (h : Fin 8) (d : Fin 128) :
    Pipeline.afterTail₀ cfgs (dats m) 0 (V0 m) [hostOps1] c main_v56 (ix3 r h d)
      = ((aV ((H h.val).pt ((112 + r.val) / 384)) 4224 ⟨(112 + r.val) % 384, Nat.mod_lt _ (by decide)⟩ d : ℝ) : EReal) := by
  unfold Pipeline.afterTail₀
  simp only [hostOps1, List.flatten_cons, List.flatten_nil, List.append_nil]
  after_results
  generalize hA : Pipeline.withArrays _ _ _ _ _ = A
  obtain rfl : A = dvA H := hA.symm.trans (left8 W)
  pointwise []
  refine dvA_at h.val ((112 + r.val) / 384) ⟨(112 + r.val) % 384, Nat.mod_lt _ (by decide)⟩ d _ ?_ ?_
  · show 112 + r.val = 384 * ((112 + r.val) / 384) + (112 + r.val) % 384
    omega
  · show h.val * 128 + d.val = 128 * h.val + d.val
    omega

end Cert.KernelIdeal.Arrays

end
-- ==== Proof.Real.lean ====
/- The attention's gradients in the reals, and that the kernel's tiles add up to them. -/
module

public import proofs.«01_k».proof.Proof.Chain

@[expose] public section

set_option maxRecDepth 16384

noncomputable section

namespace Cert.Att

open Idealize.ShloMosaic Cert.KernelIdeal.Pay Cert.KernelIdeal.Rows Cert.KernelIdeal.Chain

/-- The arguments in the reals, by row, head and column. -/
structure Args where
  q : Fin 4112 → Fin 8 → Fin 192 → ℝ
  k : Fin 4112 → Fin 8 → Fin 192 → ℝ
  v : Fin 4112 → Fin 8 → Fin 128 → ℝ
  o : Fin 4112 → Fin 8 → Fin 128 → ℝ

namespace Args

variable (A : Args) (h : Fin 8)

/-- The score of key `k` for query `i`. -/
def S (i k : Fin 4112) : ℝ := (∑ e, A.q i h e * A.k k h e) / Real.sqrt 192

/-- Its exponential, if the query may see the key. -/
def E (i k : Fin 4112) : ℝ := if k ≤ i then Real.exp (A.S h i k) else 0

/-- The sum of the exponentials. -/
def Z (i : Fin 4112) : ℝ := ∑ k, A.E h i k

/-- The weight of key `k` for query `i`. -/
def P (i k : Fin 4112) : ℝ := A.E h i k / A.Z h i

/-- The weight's gradient. -/
def T (i k : Fin 4112) : ℝ := ∑ d, A.o i h d * A.v k h d

/-- The query's mean of them. -/
def R (i : Fin 4112) : ℝ := ∑ k, A.P h i k * A.T h i k

/-- The score's gradient. -/
def G (i k : Fin 4112) : ℝ := A.P h i k * (A.T h i k - A.R h i) / Real.sqrt 192

def dq (i : Fin 4112) (e : Fin 192) : ℝ := ∑ k, A.G h i k * A.k k h e
def dk (k : Fin 4112) (e : Fin 192) : ℝ := ∑ i, A.G h i k * A.q i h e
def dv (k : Fin 4112) (d : Fin 128) : ℝ := ∑ i, A.P h i k * A.o i h d

theorem E_nonneg (i k : Fin 4112) : 0 ≤ A.E h i k := by
  unfold E; split
  · exact (Real.exp_pos _).le
  · exact le_refl _

theorem Z_pos (i : Fin 4112) : 0 < A.Z h i :=
  Finset.sum_pos' (fun k _ => A.E_nonneg h i k) ⟨i, Finset.mem_univ _, by unfold E; rw [if_pos (le_refl _)]; exact Real.exp_pos _⟩

/-! ## The rows as the pipeline finds them -/

/-- Rows with 112 rows of zeros in front and columns of zeros behind. -/
def pad {a b : ℕ} (f : Fin 4112 → Fin a → ℝ) (n : ℕ) (e : Fin b) : ℝ := if hn : 112 ≤ n ∧ n < 4224 ∧ e.val < a then f ⟨n - 112, by omega⟩ ⟨e.val, hn.2.2⟩ else 0

/-- A row vector with 112 zeros in front. -/
def pad1 (f : Fin 4112 → ℝ) (n : ℕ) : ℝ := if hn : 112 ≤ n ∧ n < 4224 then f ⟨n - 112, by omega⟩ else 0

theorem pad_row {a b : ℕ} (f : Fin 4112 → Fin a → ℝ) (i : Fin 4112) (e : Fin a) (e' : Fin b) (he : e'.val = e.val) : pad f (112 + i.val) e' = f i e := by
  unfold pad
  rw [dif_pos ⟨by omega, by omega, by omega⟩]
  congr 1
  · exact Fin.ext (by show 112 + i.val - 112 = i.val; omega)
  · exact Fin.ext he

theorem pad_low {a b : ℕ} (f : Fin 4112 → Fin a → ℝ) (n : ℕ) (hn : n < 112) (e : Fin b) : pad f n e = 0 := by
  unfold pad; rw [dif_neg (by omega)]

theorem pad1_row (f : Fin 4112 → ℝ) (i : Fin 4112) : pad1 f (112 + i.val) = f i := by
  unfold pad1
  rw [dif_pos ⟨by omega, by omega⟩]
  congr 1
  exact Fin.ext (by show 112 + i.val - 112 = i.val; omega)

/-- One head's rows. -/
def head (h : Fin 8) : Head where
  Q := pad fun i => A.q i h
  K := pad fun i => A.k i h
  V := pad fun i => A.v i h
  O := pad fun i => A.o i h
  L := pad1 fun i => Real.log (A.Z h i) / Real.log 2
  D := pad1 fun i => A.R h i

theorem Q_row (i : Fin 4112) (e : Fin 192) (e' : Fin 256) (he : e'.val = e.val) : (A.head h).Q (112 + i.val) e' = A.q i h e := pad_row (fun i => A.q i h) i e e' he
theorem K_row (i : Fin 4112) (e : Fin 192) (e' : Fin 256) (he : e'.val = e.val) : (A.head h).K (112 + i.val) e' = A.k i h e := pad_row (fun i => A.k i h) i e e' he
theorem V_row (i : Fin 4112) (d : Fin 128) : (A.head h).V (112 + i.val) d = A.v i h d := pad_row (fun i => A.v i h) i d d rfl
theorem O_row (i : Fin 4112) (d : Fin 128) : (A.head h).O (112 + i.val) d = A.o i h d := pad_row (fun i => A.o i h) i d d rfl
theorem Q_low (n : ℕ) (hn : n < 112) (e : Fin 256) : (A.head h).Q n e = 0 := pad_low (fun i => A.q i h) n hn e
theorem K_low (n : ℕ) (hn : n < 112) (e : Fin 256) : (A.head h).K n e = 0 := pad_low (fun i => A.k i h) n hn e
theorem O_low (n : ℕ) (hn : n < 112) (d : Fin 128) : (A.head h).O n d = 0 := pad_low (fun i => A.o i h) n hn d
theorem L_row (i : Fin 4112) : (A.head h).L (112 + i.val) = Real.log (A.Z h i) / Real.log 2 := pad1_row (fun i => Real.log (A.Z h i) / Real.log 2) i
theorem D_row (i : Fin 4112) : (A.head h).D (112 + i.val) = A.R h i := pad1_row (fun i => A.R h i) i

theorem K_wide (n : ℕ) (e : Fin 256) (he : 192 ≤ e.val) : (A.head h).K n e = 0 := by
  show pad (fun i => A.k i h) n e = 0
  unfold pad
  rw [dif_neg (by omega)]

/-- All of them, by head number. -/
def heads (n : ℕ) : Head := if hn : n < 8 then A.head ⟨n, hn⟩ else A.head 0

theorem heads_val (h : Fin 8) : A.heads h.val = A.head h := by unfold heads; rw [dif_pos h.isLt]

/-- A sum over padded columns is the sum over the columns. -/
theorem sum_pad {a b : ℕ} (hab : a ≤ b) (F : Fin b → ℝ) (G : Fin a → ℝ) (hF : ∀ e : Fin a, F (Fin.castLE hab e) = G e) (h0 : ∀ e : Fin b, a ≤ e.val → F e = 0) :
    ∑ e, F e = ∑ e, G e := by
  obtain ⟨c, rfl⟩ := Nat.exists_eq_add_of_le hab
  rw [Fin.sum_univ_add, Finset.sum_eq_zero (s := Finset.univ) (f := fun i => F (Fin.natAdd a i)) (fun i _ => h0 _ (by simp)), add_zero]
  exact Finset.sum_congr rfl fun e _ => hF e

theorem dot_qk (i k : Fin 4112) : (∑ e, (A.head h).K (112 + k.val) e * (A.head h).Q (112 + i.val) e) = Real.sqrt 192 * A.S h i k := by
  have hs : Real.sqrt 192 ≠ 0 := by positivity
  unfold S
  rw [mul_div_cancel₀ _ hs]
  refine sum_pad (by decide) _ _ (fun e => ?_) (fun e he => ?_)
  · rw [mul_comm]
    exact congrArg₂ _ (A.Q_row h i e _ rfl) (A.K_row h k e _ rfl)
  · rw [K_wide A h _ e he, zero_mul]

theorem dot_vo (i k : Fin 4112) : (∑ d, (A.head h).V (112 + k.val) d * (A.head h).O (112 + i.val) d) = A.T h i k := by
  unfold T
  refine Finset.sum_congr rfl fun d _ => ?_
  rw [mul_comm]
  exact congrArg₂ _ (A.O_row h i d) (A.V_row h k d)

theorem S_real (j : ℕ) (x : Fin 384) (i k : Fin 4112) (hk : 384 * j + x.val = 112 + k.val) :
    ((A.head h).pt j).S x (112 + i.val) = Real.exp (A.S h i k) / A.Z h i := by
  have hs : Real.sqrt 192 ≠ 0 := by positivity
  have hl : Real.log 2 ≠ 0 := (Real.log_pos (by norm_num)).ne'
  show Real.rpow 2 ((∑ e, (A.head h).K (384 * j + x.val) e * (A.head h).Q (112 + i.val) e) * c2 - (A.head h).L (112 + i.val)) = _
  rw [hk, dot_qk, L_row]
  rw [Real.rpow_eq_pow, Real.rpow_def_of_pos (by norm_num), show Real.log 2 * (Real.sqrt 192 * A.S h i k * c2 - Real.log (A.Z h i) / Real.log 2) = A.S h i k - Real.log (A.Z h i) by
    unfold c2; field_simp, Real.exp_sub, Real.exp_log (A.Z_pos h i)]

theorem P_real (j : ℕ) (x : Fin 384) (i k : Fin 4112) (hk : 384 * j + x.val = 112 + k.val) (hj : 384 * j ≤ 112 + i.val) :
    ((A.head h).pt j).P x (112 + i.val) = A.P h i k := by
  have hx := x.isLt
  unfold Pt.P
  rw [S_real A h j x i k hk]
  show (if 112 + i.val < 384 * j + 384 then (if 384 * j + x.val ≤ 112 + i.val ∧ 112 ≤ 384 * j + x.val then _ else 0) else _) = _
  unfold P E
  by_cases hki : k ≤ i
  · have : k.val ≤ i.val := hki
    rw [if_pos hki]
    split
    · rw [if_pos ⟨by omega, by omega⟩]
    · rfl
  · have : ¬ k.val ≤ i.val := hki
    rw [if_neg hki, if_pos (by omega), if_neg (by omega), zero_div]

theorem P_above (j : ℕ) (x : Fin 384) (i k : Fin 4112) (hk : 384 * j + x.val = 112 + k.val) (hj : ¬ 384 * j ≤ 112 + i.val) : A.P h i k = 0 := by
  unfold P E
  rw [if_neg (fun hki : k ≤ i => by have : k.val ≤ i.val := hki; omega), zero_div]

theorem G_real (j : ℕ) (x : Fin 384) (i k : Fin 4112) (hk : 384 * j + x.val = 112 + k.val) (hj : 384 * j ≤ 112 + i.val) :
    ((A.head h).pt j).G x (112 + i.val) = A.G h i k := by
  unfold Pt.G
  rw [P_real A h j x i k hk hj]
  show A.P h i k * ((∑ d, (A.head h).V (384 * j + x.val) d * (A.head h).O (112 + i.val) d) - (A.head h).D (112 + i.val)) * sc = _
  rw [hk, dot_vo, D_row]
  unfold G sc
  rw [div_eq_mul_inv]

theorem G_above (j : ℕ) (x : Fin 384) (i k : Fin 4112) (hk : 384 * j + x.val = 112 + k.val) (hj : ¬ 384 * j ≤ 112 + i.val) : A.G h i k = 0 := by
  unfold G
  rw [P_above A h j x i k hk hj, zero_mul, zero_div]

/-- A sum over the rows from `lo` on of what the rows of zeros do not add to. -/
theorem sum_rows (lo : ℕ) (F : ℕ → ℝ) (G : Fin 4112 → ℝ) (hlo : lo ≤ 4224) (h0 : ∀ n < 112, F n = 0) (hin : ∀ i : Fin 4112, lo ≤ 112 + i.val → F (112 + i.val) = G i)
    (hout : ∀ i : Fin 4112, ¬ lo ≤ 112 + i.val → G i = 0) : ∑ n ∈ Finset.Ico lo 4224, F n = ∑ i, G i := by
  have e1 : ∑ n ∈ Finset.Ico lo 4224, F n = ∑ n ∈ Finset.range 4224, if lo ≤ n then F n else 0 := by
    rw [← Finset.sum_filter]
    refine Finset.sum_congr (Finset.ext fun n => ?_) fun _ _ => rfl
    simp only [Finset.mem_Ico, Finset.mem_filter, Finset.mem_range]
    omega
  rw [e1, show 4224 = 112 + 4112 from rfl, Finset.sum_range_add, Finset.sum_eq_zero (s := Finset.range 112) fun n hn => by
    rw [h0 n (Finset.mem_range.mp hn)]; split <;> rfl, zero_add, Finset.sum_range]
  refine Finset.sum_congr rfl fun i _ => ?_
  by_cases hi : lo ≤ 112 + i.val
  · rw [if_pos hi, hin i hi]
  · rw [if_neg hi, hout i hi]

theorem tile (r : Fin 4112) : 384 * ((112 + r.val) / 384) + (112 + r.val) % 384 = 112 + r.val := by omega

theorem aV_real (k : Fin 4112) (d : Fin 128) :
    aV ((A.head h).pt ((112 + k.val) / 384)) 4224 ⟨(112 + k.val) % 384, Nat.mod_lt _ (by decide)⟩ d = A.dv h k d := by
  refine sum_rows _ _ _ ?_ (fun n hn => ?_) (fun i hi => ?_) (fun i hi => ?_)
  · show 384 * ((112 + k.val) / 384) ≤ 4224
    omega
  · show _ * (A.head h).O n d = 0
    rw [O_low A h n hn, mul_zero]
  · exact congrArg₂ _ (P_real A h _ _ i k (tile k) hi) (A.O_row h i d)
  · rw [P_above A h _ ⟨(112 + k.val) % 384, Nat.mod_lt _ (by decide)⟩ i k (tile k) hi, zero_mul]

theorem aK_real (k : Fin 4112) (e : Fin 192) (e' : Fin 256) (he : e'.val = e.val) :
    aK ((A.head h).pt ((112 + k.val) / 384)) 4224 ⟨(112 + k.val) % 384, Nat.mod_lt _ (by decide)⟩ e' = A.dk h k e := by
  refine sum_rows _ _ _ ?_ (fun n hn => ?_) (fun i hi => ?_) (fun i hi => ?_)
  · show 384 * ((112 + k.val) / 384) ≤ 4224
    omega
  · show _ * (A.head h).Q n e' = 0
    rw [Q_low A h n hn, mul_zero]
  · exact congrArg₂ _ (G_real A h _ _ i k (tile k) hi) (A.Q_row h i e _ he)
  · rw [G_above A h _ ⟨(112 + k.val) % 384, Nat.mod_lt _ (by decide)⟩ i k (tile k) hi, zero_mul]

/-- The queries' gradient over the first `n` tiles, as one sum over their keys. -/
theorem dq_sum (H : Head) (i : ℕ) (hi : i < 4224) (e : Fin 256) (n : ℕ) (F : ℕ → ℝ)
    (hF : ∀ j (x : Fin 384), F (384 * j + x.val) = if 384 * j ≤ i then (H.pt j).G x i * H.K (384 * j + x.val) e else 0) :
    H.dq n i e = ∑ m ∈ Finset.range (384 * n), F m := by
  induction n with
  | zero => rfl
  | succ n ih =>
    rw [Nat.mul_succ, Finset.sum_range_add, ← ih, Finset.sum_range]
    simp only [hF]
    show aQ (H.pt n) (H.dq n) 4224 i e = _
    unfold aQ
    show (if 384 * n ≤ i ∧ i < 4224 then _ else _) = _
    by_cases hn : 384 * n ≤ i
    · simp only [if_pos hn, if_pos (And.intro hn hi)]; rfl
    · rw [if_neg (by omega)]; simp only [if_neg hn, Finset.sum_const_zero, add_zero]

theorem dq_real (i : Fin 4112) (e : Fin 192) (e' : Fin 256) (he : e'.val = e.val) : (A.head h).dq 11 (112 + i.val) e' = A.dq h i e := by
  rw [dq_sum (A.head h) (112 + i.val) (by omega) e' 11 (fun n => if hn : 112 ≤ n ∧ n < 4224 then A.G h i ⟨n - 112, by omega⟩ * A.k ⟨n - 112, by omega⟩ h e else 0) fun j x => ?_]
  · rw [show 384 * 11 = 4224 from rfl, Finset.range_eq_Ico]
    refine sum_rows 0 _ _ (by omega) (fun n hn => dif_neg (by omega)) (fun k _ => ?_) (fun k hk => absurd (Nat.zero_le _) hk)
    rw [dif_pos ⟨by omega, by omega⟩]
    simp only [show 112 + k.val - 112 = k.val by omega]
  · by_cases hn : 112 ≤ 384 * j + x.val ∧ 384 * j + x.val < 4224
    · obtain ⟨k, hk⟩ : ∃ k : Fin 4112, 384 * j + x.val = 112 + k.val := ⟨⟨384 * j + x.val - 112, by omega⟩, by show _ = 112 + (_ - 112); omega⟩
      have hK : (A.head h).K (384 * j + x.val) e' = A.k k h e := by rw [hk, K_row A h k e e' he]
      rw [dif_pos hn, hK]
      simp only [show 384 * j + x.val - 112 = k.val by omega]
      by_cases hj : 384 * j ≤ 112 + i.val
      · rw [if_pos hj, G_real A h j x i k hk hj]
      · rw [if_neg hj, G_above A h j x i k hk hj, zero_mul]
    · rw [dif_neg hn]
      by_cases hl : 384 * j + x.val < 112
      · rw [K_low A h _ hl, mul_zero, ite_self]
      · rw [if_neg (by omega)]

end Args

end Cert.Att

end
-- ==== Proof.Softmax.lean ====
/- The masked scores' maximum, exponentials and sums over the extended reals: what both programs compute from the scores. -/
module

public import proofs.«01_k».proof.Proof.Real
public import Idealize.ShloMosaic.Lib.Pointwise
public import Idealize.ShloMosaic.PureOps.Ideal.Laws

@[expose] public section

set_option maxRecDepth 16384

noncomputable section

namespace Cert.Att

open Idealize.ShloMosaic

/-- Arrays that hold the arguments. -/
structure Args.Held (A : Args) (x0 x1 : FVec Ideal ⟨3, ![4112, 8, 192]⟩ .f32) (x2 x3 : FVec Ideal ⟨3, ![4112, 8, 128]⟩ .f32) : Prop where
  q : ∀ i h e, x0 (ix3 i h e) = (A.q i h e : EReal)
  k : ∀ i h e, x1 (ix3 i h e) = (A.k i h e : EReal)
  v : ∀ i h d, x2 (ix3 i h d) = (A.v i h d : EReal)
  o : ∀ i h d, x3 (ix3 i h d) = (A.o i h d : EReal)

theorem bot_word : Ideal.ofBits .f32 0xFF800000#32 = (⊥ : EReal) := by
  simp [Ideal.ofBits, Ideal.ieee]

theorem root_word : Ideal.sqrt (Ideal.ofBits .f32 0x43400000#32) = ((Real.sqrt 192 : ℝ) : EReal) := by
  rw [show Ideal.ofBits .f32 0x43400000#32 = ((192 : ℝ) : EReal) by simp [Ideal.ofBits, Ideal.ieee, -EReal.coe_mul]; norm_num]
  rw [Ideal.sqrt_coe, if_neg (by norm_num)]

theorem log_two_word : Ideal.log (Ideal.ofBits .f32 0x40000000#32) = ((Real.log 2 : ℝ) : EReal) := by
  rw [show Ideal.ofBits .f32 0x40000000#32 = ((2 : ℝ) : EReal) by simp [Ideal.ofBits, Ideal.ieee, -EReal.coe_mul]; norm_num]
  rw [Ideal.log_coe, if_neg (by norm_num)]

theorem sees (k i : Fin 4112) : IntOp.cmpi CmpIPredicate.sle (BitVec.ofNat 32 k.val) (BitVec.ofNat 32 i.val) = if k ≤ i then 1#1 else 0#1 := by
  have hi : ∀ n : ℕ, n < 5000 → (BitVec.ofNat 32 n).toInt = n := by
    intro n hn
    rw [BitVec.toInt_eq_toNat_cond, BitVec.toNat_ofNat, Nat.mod_eq_of_lt (by omega), if_pos (by omega)]
  show BitVec.ofBool (BitVec.sle _ _) = _
  rw [BitVec.sle, hi _ (by omega), hi _ (by omega)]
  by_cases h : k ≤ i
  · rw [if_pos h, decide_eq_true (by have : k.val ≤ i.val := h; omega)]; rfl
  · rw [if_neg h, decide_eq_false (by have : ¬ k.val ≤ i.val := h; omega)]; rfl

theorem select_sees {α : Type} (k i : Fin 4112) (a b : α) :
    Scalar.select (IntOp.cmpi CmpIPredicate.sle (BitVec.ofNat 32 k.val) (BitVec.ofNat 32 i.val)) a b = if k ≤ i then a else b := by
  rw [sees]; split <;> rfl

/-- The greatest of finitely many reals, some of them missing, is a real if one is not. -/
theorem fold_max_real {ι : Type} (s : Finset ι) (f : ι → EReal) (i : ι) (hi : i ∈ s) (hb : f i ≠ ⊥) (ht : ∀ i ∈ s, f i ≠ ⊤) : ∃ r : ℝ, s.sup f = (r : EReal) := by
  refine ⟨(s.sup f).toReal, (EReal.coe_toReal ?_ ?_).symm⟩
  · refine ne_of_lt ((Finset.sup_lt_iff bot_lt_top).mpr fun j hj => lt_of_le_of_ne le_top (ht j hj))
  · exact ne_of_gt (lt_of_lt_of_le (bot_lt_iff_ne_bot.mpr hb) (Finset.le_sup (f := f) hi))

/-- The rows' maxima are reals. -/
theorem max_real (A : Args) (x : FVec Ideal ⟨3, ![8, 4112, 4112]⟩ .f32) (hx : ∀ h i k, x (ix3 h i k) = if k ≤ i then ((A.S h i k : ℝ) : EReal) else ⊥)
    (hr : (⟨3, ![8, 4112, 4112]⟩ : Shape).ReducesTo [2] ⟨2, ![8, 4112]⟩) (hu : 0 < (⟨0, ![]⟩ : Shape).numel) :
    ∃ M : Fin 8 → Fin 4112 → ℝ, ∀ h i, Host.reduce (FloatOps.maximumf (F := Ideal)) x (constant ⟨0, ![]⟩ .f32 0xFF800000#32) hr hu (ix2 h i) = ((M h i : ℝ) : EReal) := by
  have key : ∀ h i, ∃ r : ℝ, Host.reduce (FloatOps.maximumf (F := Ideal)) x (constant ⟨0, ![]⟩ .f32 0xFF800000#32) hr hu (ix2 h i) = (r : EReal) := by
    intro h i
    have hd : (⟨3, ![8, 4112, 4112]⟩ : Shape).Reduces [2] ⟨2, ![8, 4112]⟩ := by decide
    have hl : ∀ k : Fin 4112, hd.lift (ix2 h i) k = ix3 h i k := by
      intro k; funext a; fin_cases a <;> rfl
    rw [Host.reduce_eq_fold_single _ _ _ hr hd]
    have hf : ∀ k : Fin 4112, (x ∘ hd.lift (ix2 h i)) k = if k ≤ i then ((A.S h i k : ℝ) : EReal) else ⊥ := fun k => by
      show x (hd.lift (ix2 h i) k) = _
      rw [hl, hx]
    obtain ⟨r, hr'⟩ := fold_max_real Finset.univ (x ∘ hd.lift (ix2 h i)) i (Finset.mem_univ _) (by rw [hf, if_pos (le_refl _)]; exact EReal.coe_ne_bot _)
      (fun k _ => by refine ne_of_eq_of_ne (hf k) ?_; split; exacts [EReal.coe_ne_top _, bot_ne_top])
    refine ⟨r, Eq.trans ?_ hr'⟩
    rw [show constant (F := Ideal) ⟨0, ![]⟩ .f32 0xFF800000#32 (Shape.Idx.first hu) = (⊥ : EReal) from bot_word]
    rfl
  choose M hM using key
  exact ⟨M, hM⟩

/-! ## The exponentials and their sums, shifted by any real -/

namespace Args

variable (A : Args) (h : Fin 8) (i k : Fin 4112) (M : ℝ)

/-- The sum of the shifted exponentials. -/
def Y : ℝ := A.Z h i * Real.exp (-M)

theorem Y_pos : 0 < A.Y h i M := mul_pos (A.Z_pos h i) (Real.exp_pos _)

theorem exp_shift : Ideal.exp ((if k ≤ i then ((A.S h i k : ℝ) : EReal) else ⊥) - (M : EReal)) = ((A.E h i k * Real.exp (-M) : ℝ) : EReal) := by
  unfold E
  by_cases hk : k ≤ i
  · rw [if_pos hk, if_pos hk, ← EReal.coe_sub, Ideal.exp_coe, sub_eq_add_neg, Real.exp_add]
  · rw [if_neg hk, if_neg hk, zero_mul, EReal.bot_sub]; rfl

theorem sum_shift : (∑ k, ((A.E h i k * Real.exp (-M) : ℝ) : EReal)) = ((A.Y h i M : ℝ) : EReal) := by
  rw [← Cert.KernelIdeal.Pay.coe_sum]
  unfold Y Z
  rw [Finset.sum_mul]

theorem div_shift : Ideal.div ((A.E h i k * Real.exp (-M) : ℝ) : EReal) ((A.Y h i M : ℝ) : EReal) = ((A.P h i k : ℝ) : EReal) := by
  have := (A.Z_pos h i).ne'
  have := (Real.exp_pos (-M)).ne'
  rw [Ideal.div_coe (A.Y_pos h i M).ne', ← EReal.coe_mul]
  congr 1
  unfold Y P
  field_simp

theorem log_shift : Ideal.div ((M : EReal) + Ideal.log ((A.Y h i M : ℝ) : EReal)) ((Real.log 2 : ℝ) : EReal) = ((Real.log (A.Z h i) / Real.log 2 : ℝ) : EReal) := by
  rw [Ideal.log_coe, if_neg (not_le.mpr (A.Y_pos h i M)), Ideal.div_coe (Real.log_pos (by norm_num)).ne', ← EReal.coe_add, ← EReal.coe_mul]
  congr 1
  unfold Y
  rw [Real.log_mul (A.Z_pos h i).ne' (Real.exp_pos _).ne', Real.log_exp]
  ring

theorem mean_shift : (∑ k, ((A.T h i k : ℝ) : EReal) * Ideal.div ((1 : ℝ) : EReal) (((A.Y h i M : ℝ) : EReal) * ((A.Y h i M : ℝ) : EReal)) * ((A.E h i k * Real.exp (-M) : ℝ) : EReal))
    = ((A.R h i / A.Y h i M : ℝ) : EReal) := by
  have hZ := (A.Z_pos h i).ne'
  have hE := (Real.exp_pos (-M)).ne'
  have hY := (A.Y_pos h i M).ne'
  simp only [← EReal.coe_mul, Ideal.div_coe (mul_ne_zero hY hY), ← Cert.KernelIdeal.Pay.coe_sum]
  congr 1
  unfold R
  rw [Finset.sum_div]
  refine Finset.sum_congr rfl fun k _ => ?_
  unfold Y P
  field_simp

theorem grad_shift (z : EReal) (hz : z = ((0 : ℝ) : EReal)) :
    Ideal.div (if k ≤ i then (Ideal.div ((A.T h i k : ℝ) : EReal) ((A.Y h i M : ℝ) : EReal) + -((A.R h i / A.Y h i M : ℝ) : EReal)) * ((A.E h i k * Real.exp (-M) : ℝ) : EReal) else z)
      ((Real.sqrt 192 : ℝ) : EReal) = ((A.G h i k : ℝ) : EReal) := by
  have hZ := (A.Z_pos h i).ne'
  have hE := (Real.exp_pos (-M)).ne'
  have hY := (A.Y_pos h i M).ne'
  have hs : Real.sqrt 192 ≠ 0 := by positivity
  rw [Ideal.div_coe hs, Ideal.div_coe hY, hz]
  unfold G P
  split
  · rw [← EReal.coe_neg, ← EReal.coe_mul, ← EReal.coe_add, ← EReal.coe_mul, ← EReal.coe_mul]
    congr 1
    unfold Y
    field_simp
    ring
  · next hk =>
    rw [← EReal.coe_mul, show A.E h i k = 0 by unfold E; rw [if_neg hk], zero_div, zero_mul, zero_mul, zero_div]

/-- The rows' products with the attention's values are the means of the weights' gradients. -/
theorem R_eq : (∑ d, (∑ k, A.v k h d * A.P h i k) * A.o i h d) = A.R h i := by
  unfold R T
  simp only [Finset.sum_mul, Finset.mul_sum]
  rw [Finset.sum_comm]
  exact Finset.sum_congr rfl fun k _ => Finset.sum_congr rfl fun d _ => by ring

end Args

end Cert.Att

end
-- ==== Proof.HostLines.lean ====
/- The host lines before the region: the arrays that the pipeline reads hold the heads' rows. -/
module

public import proofs.«01_k».proof.Proof.Softmax
public import Idealize.ShloMosaic.Lib.StableHlo.ReadAt

@[expose] public section

set_option maxRecDepth 16384

noncomputable section

namespace Cert.KernelIdeal.HostLines

open Idealize.ShloMosaic Cert.KernelIdeal Cert.KernelIdeal.Gen Cert.Att

variable (m : (ℓ : Loc nD τ sig) → Buf (Elt Ideal) ℓ) (c : Dev nD)

/-! ## Each line as a function of the buffers before it -/

theorem line13 : V m c main_v13 = (Host.reduce FloatOps.maximumf (V m c main_v12 : FVec Ideal S8x4112x4112 .f32) (constant S_ .f32 0xFF800000#32) reducesTo_S8x4112x4112_S8x4112_d2 h_S_ : FVec Ideal S8x4112 .f32) := by
  unfold_abbrev_sides
  after_reads_simp

theorem line17 : V m c main_v17 = (Host.exp (subf (V m c main_v12) (broadcastInDim S8x4112x4112 ![0, 1, 2] bcast_S8x4112x1_S8x4112x4112_0_1_2
    (broadcastInDim S8x4112x1 ![0, 1] bcast_S8x4112_S8x4112x1_0_1 (V m c main_v13)))) : FVec Ideal S8x4112x4112 .f32) := by
  unfold_abbrev_sides
  after_reads_simp

theorem line18 : V m c main_v18 = (Host.reduceAdd (V m c main_v17 : FVec Ideal S8x4112x4112 .f32) (constant S_ .f32 0x00000000#32) reducesTo_S8x4112x4112_S8x4112_d2 h_S_ : FVec Ideal S8x4112 .f32) := by
  unfold_abbrev_sides
  after_reads_simp

theorem line23 : V m c main_v23 = (Host.divf (addf (V m c main_v13) (Host.log (V m c main_v18)))
    (broadcastInDim S8x4112 ![] bcast_S_S8x4112 (Host.log (constant S_ .f32 0x40000000#32))) : FVec Ideal S8x4112 .f32) := by
  unfold_abbrev_sides
  after_reads_simp

theorem line26 : V m c main_v26 = (Host.divf (V m c main_v17) (broadcastInDim S8x4112x4112 ![0, 1, 2] bcast_S8x4112x1_S8x4112x4112_0_1_2
    (broadcastInDim S8x4112x1 ![0, 1] bcast_S8x4112_S8x4112x1_0_1 (V m c main_v18))) : FVec Ideal S8x4112x4112 .f32) := by
  unfold_abbrev_sides
  after_reads_simp

theorem line31 : V m c main_v31 = (transpose S8x4112 [1, 0] (Host.reduceAdd (mulf (transpose S4112x8x128 [2, 0, 1]
    (Host.dotGeneral (φ₁ := .f32) (φ₂ := .f32) dot_S4112x8x128_S8x4112x4112_S8x128x4112_0_2_2_1_1_0 none (m (c, Proc.devRef .tc main_arg2) : FVec Ideal S4112x8x128 .f32) (V m c main_v26 : FVec Ideal S8x4112x4112 .f32)) transposes_S8x128x4112_S4112x8x128_2_0_1)
    (m (c, Proc.devRef .tc main_arg3))) (constant S_ .f32 0x00000000#32) reducesTo_S4112x8x128_S4112x8_d2 h_S_) transposes_S4112x8_S8x4112_1_0 : FVec Ideal S8x4112 .f32) := by
  unfold_abbrev_sides
  after_reads_simp
  try rfl

theorem line43 : V m c main_v43 = (broadcastInDim S8x11x8x384 ![0, 1, 2, 3] bcast_S8x11x1x384_S8x11x8x384_0_1_2_3 (shapeCast S8x11x1x384
    (pad S8x4224 ![0, 112] ![0, 0] ![0, 0] (V m c main_v23) (sitofp .f32 (constantI S_ 32 0#32)) pads_S8x4112_S8x4224_000_11200 h_S_) shapeCasts_S8x4224_S8x11x1x384) : FVec Ideal S8x11x8x384 .f32) := by
  unfold_abbrev_sides
  after_reads_simp
  try rfl

theorem line46 : V m c main_v46 = (broadcastInDim S8x11x8x384 ![0, 1, 2, 3] bcast_S8x11x1x384_S8x11x8x384_0_1_2_3 (shapeCast S8x11x1x384
    (pad S8x4224 ![0, 112] ![0, 0] ![0, 0] (V m c main_v31) (sitofp .f32 (constantI S_ 32 0#32)) pads_S8x4112_S8x4224_000_11200 h_S_) shapeCasts_S8x4224_S8x11x1x384) : FVec Ideal S8x11x8x384 .f32) := by
  unfold_abbrev_sides
  after_reads_simp
  try rfl

/-! ## Their elements -/

variable {m c} {A : Args}

/-- The argument arrays hold the arguments. -/
abbrev Given (m : (ℓ : Loc nD τ sig) → Buf (Elt Ideal) ℓ) (c : Dev nD) (A : Args) : Prop :=
  A.Held (m (c, Proc.devRef .tc main_arg0)) (m (c, Proc.devRef .tc main_arg1)) (m (c, Proc.devRef .tc main_arg2)) (m (c, Proc.devRef .tc main_arg3))

theorem zero_word : (FloatOps.sitofp (F := Ideal) FTy.f32 0#32 : EReal) = ((0 : ℝ) : EReal) := by
  show (((0#32 : BitVec 32).toInt : ℝ) : EReal) = _
  norm_num

theorem dite_coe {p q : Prop} [Decidable p] [Decidable q] (hpq : p ↔ q) (a : p → EReal) (b : q → ℝ) (hab : ∀ hp hq, a hp = (b hq : EReal)) :
    dite p a (fun _ => ((0 : ℝ) : EReal)) = ((dite q b (fun _ => 0) : ℝ) : EReal) := by
  by_cases hq : q
  · rw [dif_pos hq, dif_pos (hpq.mpr hq), hab _ hq]
  · rw [dif_neg hq, dif_neg (fun hp => hq (hpq.mp hp))]

theorem at34 (W : Given m c A) (h : Fin 8) (r : Fin 4224) (e : Fin 256) :
    V m c main_v34 (ix2 r (⟨256 * h.val + e.val, by omega⟩ : Fin 2048)) = ((A.heads h.val).Q r.val e : EReal) := by
  rw [Args.heads_val]
  unfold_abbrev_sides
  after_reads_at
  rw [zero_word]
  refine dite_coe (by omega) _ _ fun hp hq => (W.q _ _ _).trans ?_
  congr 2 <;> exact Fin.ext (by dsimp only; omega)

theorem at37 (W : Given m c A) (h : Fin 8) (r : Fin 4224) (e : Fin 256) :
    V m c main_v37 (ix2 r (⟨256 * h.val + e.val, by omega⟩ : Fin 2048)) = ((A.heads h.val).K r.val e : EReal) := by
  rw [Args.heads_val]
  unfold_abbrev_sides
  after_reads_at
  rw [zero_word]
  refine dite_coe (by omega) _ _ fun hp hq => (W.k _ _ _).trans ?_
  congr 2 <;> exact Fin.ext (by dsimp only; omega)

theorem at40 (W : Given m c A) (h : Fin 8) (r : Fin 4224) (e : Fin 128) :
    V m c main_v40 (ix2 r (⟨128 * h.val + e.val, by omega⟩ : Fin 1024)) = ((A.heads h.val).V r.val e : EReal) := by
  rw [Args.heads_val]
  unfold_abbrev_sides
  after_reads_at
  rw [zero_word]
  refine dite_coe (by omega) _ _ fun hp hq => (W.v _ _ _).trans ?_
  congr 2 <;> exact Fin.ext (by dsimp only; omega)

theorem at49 (W : Given m c A) (h : Fin 8) (r : Fin 4224) (e : Fin 128) :
    V m c main_v49 (ix2 r (⟨128 * h.val + e.val, by omega⟩ : Fin 1024)) = ((A.heads h.val).O r.val e : EReal) := by
  rw [Args.heads_val]
  unfold_abbrev_sides
  after_reads_at
  rw [zero_word]
  refine dite_coe (by omega) _ _ fun hp hq => (W.o _ _ _).trans ?_
  congr 2 <;> exact Fin.ext (by dsimp only; omega)

theorem at12 (W : Given m c A) (h : Fin 8) (i k : Fin 4112) : V m c main_v12 (ix3 h i k) = if k ≤ i then ((A.S h i k : ℝ) : EReal) else ⊥ := by
  unfold_abbrev_sides
  after_reads_at
  simp only [W.q, W.k]
  rw [select_sees, root_word, Cert.KernelIdeal.Pay.coe_dot, Ideal.div_coe (by positivity), ← EReal.coe_mul, mul_one_div]
  split
  · rfl
  · exact bot_word

/-- The rows' maxima. -/
theorem at13 (W : Given m c A) : ∃ M : Fin 8 → Fin 4112 → ℝ, ∀ h i, V m c main_v13 (ix2 h i) = ((M h i : ℝ) : EReal) := by
  rw [line13]
  exact max_real A _ (at12 W) _ _

variable {M : Fin 8 → Fin 4112 → ℝ}

theorem at17 (W : Given m c A) (hM : ∀ h i, V m c main_v13 (ix2 h i) = ((M h i : ℝ) : EReal)) (h : Fin 8) (i k : Fin 4112) :
    V m c main_v17 (ix3 h i k) = ((A.E h i k * Real.exp (-M h i) : ℝ) : EReal) := by
  have h12 := at12 W h i k
  have h13 := hM h i
  rw [line17]
  generalize V m c main_v12 = x at h12 ⊢
  generalize V m c main_v13 = y at h13 ⊢
  pointwise []
  rw [h12, h13]
  exact A.exp_shift h i k (M h i)

theorem at18 (W : Given m c A) (hM : ∀ h i, V m c main_v13 (ix2 h i) = ((M h i : ℝ) : EReal)) (h : Fin 8) (i : Fin 4112) :
    V m c main_v18 (ix2 h i) = ((A.Y h i (M h i) : ℝ) : EReal) := by
  have h17 := at17 W hM h i
  rw [line18]
  generalize V m c main_v17 = x at h17 ⊢
  pointwise []
  simp only [h17]
  exact A.sum_shift h i (M h i)

theorem at26 (W : Given m c A) (h : Fin 8) (i k : Fin 4112) : V m c main_v26 (ix3 h i k) = ((A.P h i k : ℝ) : EReal) := by
  obtain ⟨M, hM⟩ := at13 W
  have h17 := at17 W hM h i k
  have h18 := at18 W hM h i
  rw [line26]
  generalize V m c main_v17 = x at h17 ⊢
  generalize V m c main_v18 = y at h18 ⊢
  pointwise []
  rw [h17, h18]
  exact A.div_shift h i k (M h i)

theorem log_at (x y : FVec Ideal S8x4112 .f32) (h : Fin 8) (i : Fin 4112) (a b : EReal) (hx : x (ix2 h i) = a) (hy : y (ix2 h i) = b) :
    (Host.divf (addf x (Host.log y)) (broadcastInDim S8x4112 ![] bcast_S_S8x4112 (Host.log (constant S_ .f32 0x40000000#32))) : FVec Ideal S8x4112 .f32) (ix2 h i)
      = Ideal.div (a + Ideal.log b) ((Real.log 2 : ℝ) : EReal) := by
  rw [← log_two_word, ← hx, ← hy]
  rfl

theorem at23 (W : Given m c A) (h : Fin 8) (i : Fin 4112) : V m c main_v23 (ix2 h i) = ((Real.log (A.Z h i) / Real.log 2 : ℝ) : EReal) := by
  obtain ⟨M, hM⟩ := at13 W
  rw [line23]
  exact (log_at _ _ h i _ _ (hM h i) (at18 W hM h i)).trans (A.log_shift h i (M h i))

theorem at31 (W : Given m c A) (h : Fin 8) (i : Fin 4112) : V m c main_v31 (ix2 h i) = ((A.R h i : ℝ) : EReal) := by
  have h26 := at26 W h i
  rw [line31]
  generalize V m c main_v26 = x at h26 ⊢
  pointwise []
  simp only [h26, W.v, W.o, Cert.KernelIdeal.Pay.coe_dot]
  congr 1
  exact A.R_eq h i

theorem pad_at (x : FVec Ideal S8x4112 .f32) (h : Fin 8) (f : Fin 4112 → ℝ) (hx : ∀ i, x (ix2 h i) = (f i : EReal)) (b : Fin 11) (s : Fin 8) (y : Fin 384) :
    (broadcastInDim S8x11x8x384 ![0, 1, 2, 3] bcast_S8x11x1x384_S8x11x8x384_0_1_2_3 (shapeCast S8x11x1x384
      (pad S8x4224 ![0, 112] ![0, 0] ![0, 0] x (sitofp .f32 (constantI S_ 32 0#32)) pads_S8x4112_S8x4224_000_11200 h_S_) shapeCasts_S8x4224_S8x11x1x384) : FVec Ideal S8x11x8x384 .f32) (ix4 h b s y)
      = ((Args.pad1 f (384 * b.val + y.val) : ℝ) : EReal) := by
  pointwise []
  rw [zero_word]
  refine dite_coe (by omega) _ _ fun hp hq => (hx _).trans ?_
  congr 2 <;> exact Fin.ext (by dsimp only; omega)

theorem at43 (W : Given m c A) (h : Fin 8) (b : Fin 11) (s : Fin 8) (y : Fin 384) :
    V m c main_v43 (ix4 h b s y) = ((A.heads h.val).L (384 * b.val + y.val) : EReal) := by
  rw [Args.heads_val, line43]
  exact pad_at _ h _ (at23 W h) b s y

theorem at46 (W : Given m c A) (h : Fin 8) (b : Fin 11) (s : Fin 8) (y : Fin 384) :
    V m c main_v46 (ix4 h b s y) = ((A.heads h.val).D (384 * b.val + y.val) : EReal) := by
  rw [Args.heads_val, line46]
  exact pad_at _ h _ (at31 W h) b s y

/-- The arrays that the pipeline reads hold the heads' rows. -/
theorem holds (W : Given m c A) : Chain.Holds m c A.heads where
  q := at34 W
  k := at37 W
  v := at40 W
  l := at43 W
  d := at46 W
  o := at49 W

end Cert.KernelIdeal.HostLines

end
-- ==== Proof.Ref.lean ====
/- The reference's three results are the attention's gradients in the reals. -/
module

public import proofs.«01_k».proof.Proof.Softmax
public import proofs.«01_k».proof.Proof.Gen.ReferenceIdeal.Read
public import Idealize.ShloMosaic.Lib.StableHlo.ReadAt

@[expose] public section

set_option maxRecDepth 16384

noncomputable section

namespace Cert.ReferenceIdeal.Ref

open Idealize.ShloMosaic Cert.ReferenceIdeal Cert.ReferenceIdeal.Gen Cert.ReferenceIdeal.Read Cert.Att Cert.KernelIdeal.Pay

theorem zero_bits : Ideal.ofBits .f32 0x00000000#32 = ((0 : ℝ) : EReal) := by
  simp [Ideal.ofBits, Ideal.ieee]

theorem one_bits : Ideal.ofBits .f32 0x3F800000#32 = ((1 : ℝ) : EReal) := by
  simp [Ideal.ofBits, Ideal.ieee, -EReal.coe_mul]; norm_num

variable {A : Args} {x0 x1 : FVec Ideal S4112x8x192 .f32} {x2 x3 : FVec Ideal S4112x8x128 .f32}

theorem at12 (W : A.Held x0 x1 x2 x3) (h : Fin 8) (i k : Fin 4112) :
    val_main_v12_0 (F := Ideal) x0 x1 (ix3 h i k) = if k ≤ i then ((A.S h i k : ℝ) : EReal) else ⊥ := by
  unfold val_main_v12_0 val_main_v12_1 val_main_v11 val_main_v10 val_main_v9 val_main_v8 val_main_v7 val_main_v6 val_main_v5 val_main_v4 val_main_v3 val_main_v2
    val_main_v1 val_main_v0 val_main_cst val_main_call0_v2 val_main_call0_v0 val_main_cst_0
  pointwise []
  simp only [W.q, W.k]
  rw [select_sees, root_word, coe_dot, Ideal.div_coe (by positivity), ← EReal.coe_mul, mul_one_div]
  split
  · rfl
  · exact bot_word

theorem at13 (W : A.Held x0 x1 x2 x3) : ∃ M : Fin 8 → Fin 4112 → ℝ, ∀ h i, val_main_v13 (F := Ideal) x0 x1 (ix2 h i) = ((M h i : ℝ) : EReal) := by
  have h12 := at12 W
  unfold val_main_v13 val_main_cst_1
  generalize val_main_v12_0 (F := Ideal) x0 x1 = x at h12 ⊢
  exact max_real A x h12 _ _

variable {M : Fin 8 → Fin 4112 → ℝ}

theorem at20 (hM : ∀ h i, val_main_v13 (F := Ideal) x0 x1 (ix2 h i) = ((M h i : ℝ) : EReal)) (h : Fin 8) (i : Fin 4112) :
    val_main_v20 (F := Ideal) x0 x1 (ix2 h i) = ((M h i : ℝ) : EReal) := by
  rw [val_main_v20_apply, hM, val_main_v19_apply, val_main_cst_3_apply]
  exact (congrArg (fun z : EReal => max z ((M h i : ℝ) : EReal)) bot_word).trans (max_eq_right bot_le)

theorem at33 (W : A.Held x0 x1 x2 x3) (hM : ∀ h i, val_main_v13 (F := Ideal) x0 x1 (ix2 h i) = ((M h i : ℝ) : EReal)) (h : Fin 8) (i k : Fin 4112) :
    val_main_v33 (F := Ideal) x0 x1 (ix3 h i k) = ((A.E h i k * Real.exp (-M h i) : ℝ) : EReal) := by
  have h12 := at12 W h i k
  have h20 := at20 (x0 := x0) (x1 := x1) hM h i
  unfold val_main_v33 val_main_v32 val_main_v31 val_main_v30
  generalize val_main_v12_0 (F := Ideal) x0 x1 = x at h12 ⊢
  generalize val_main_v20 (F := Ideal) x0 x1 = y at h20 ⊢
  pointwise []
  rw [h12, h20]
  exact A.exp_shift h i k (M h i)

theorem at34 (W : A.Held x0 x1 x2 x3) (hM : ∀ h i, val_main_v13 (F := Ideal) x0 x1 (ix2 h i) = ((M h i : ℝ) : EReal)) (h : Fin 8) (i : Fin 4112) :
    val_main_v34 (F := Ideal) x0 x1 (ix2 h i) = ((A.Y h i (M h i) : ℝ) : EReal) := by
  have h33 := at33 W hM h i
  unfold val_main_v34 val_main_cst_9
  generalize val_main_v33 (F := Ideal) x0 x1 = x at h33 ⊢
  pointwise []
  simp only [h33]
  exact A.sum_shift h i (M h i)

theorem at37 (W : A.Held x0 x1 x2 x3) (h : Fin 8) (i k : Fin 4112) :
    val_main_v37 (F := Ideal) x0 x1 (ix3 h i k) = ((A.P h i k : ℝ) : EReal) := by
  obtain ⟨M, hM⟩ := at13 W
  have h33 := at33 W hM h i k
  have h34 := at34 W hM h i
  unfold val_main_v37 val_main_v36 val_main_v35
  generalize val_main_v33 (F := Ideal) x0 x1 = x at h33 ⊢
  generalize val_main_v34 (F := Ideal) x0 x1 = y at h34 ⊢
  pointwise []
  rw [h33, h34]
  exact A.div_shift h i k (M h i)

theorem at44 (W : A.Held x0 x1 x2 x3) (h : Fin 8) (i k : Fin 4112) : val_main_v44 (F := Ideal) x2 x3 (ix3 h i k) = ((A.T h i k : ℝ) : EReal) := by
  unfold val_main_v44 val_main_v43
  pointwise []
  simp only [W.v, W.o, coe_dot]
  rfl

/-- The values' gradient. -/
theorem at46 (W : A.Held x0 x1 x2 x3) (k : Fin 4112) (h : Fin 8) (d : Fin 128) : val_main_v46 (F := Ideal) x0 x1 x3 (ix3 k h d) = ((A.dv h k d : ℝ) : EReal) := by
  have h37 := fun i => at37 W h i k
  unfold val_main_v46 val_main_v45 val_main_v43
  generalize val_main_v37 (F := Ideal) x0 x1 = x at h37 ⊢
  pointwise []
  simp only [W.o, h37, coe_dot]
  congr 1
  exact Finset.sum_congr rfl fun i _ => mul_comm _ _

theorem at50 (W : A.Held x0 x1 x2 x3) (hM : ∀ h i, val_main_v13 (F := Ideal) x0 x1 (ix2 h i) = ((M h i : ℝ) : EReal)) (h : Fin 8) (i : Fin 4112) :
    val_main_v50 (F := Ideal) x0 x1 x2 x3 (ix2 h i) = ((A.R h i / A.Y h i (M h i) : ℝ) : EReal) := by
  have h33 := at33 W hM h i
  have h34 := at34 W hM h i
  have h44 := at44 W h i
  unfold val_main_v50 val_main_cst_11 val_main_v49 val_main_v48 val_main_v47 val_main_v40 val_main_v39 val_main_cst_10 val_main_v38 val_main_v35
  generalize val_main_v33 (F := Ideal) x0 x1 = x at h33 ⊢
  generalize val_main_v34 (F := Ideal) x0 x1 = y at h34 ⊢
  generalize val_main_v44 (F := Ideal) x2 x3 = z at h44 ⊢
  pointwise []
  simp only [h33, h34, h44, one_bits]
  exact A.mean_shift h i (M h i)

theorem at61 (W : A.Held x0 x1 x2 x3) (h : Fin 8) (i k : Fin 4112) : val_main_v61 (F := Ideal) x0 x1 x2 x3 (ix3 h i k) = ((A.G h i k : ℝ) : EReal) := by
  obtain ⟨M, hM⟩ := at13 W
  have h33 := at33 W hM h i k
  have h34 := at34 W hM h i
  have h44 := at44 W h i k
  have h50 := at50 W hM h i
  unfold val_main_v61 val_main_v60 val_main_v59 val_main_v58 val_main_v57 val_main_v56 val_main_v55 val_main_cst_12 val_main_v54 val_main_v53 val_main_v52 val_main_v51
    val_main_v35 val_main_call1_v0 val_main_call1_cst val_main_v1 val_main_cst
    val_main_v12_1 val_main_v11 val_main_v10 val_main_v9 val_main_v8 val_main_v7 val_main_v6 val_main_v5 val_main_v4
  generalize val_main_v33 (F := Ideal) x0 x1 = x at h33 ⊢
  generalize val_main_v34 (F := Ideal) x0 x1 = y at h34 ⊢
  generalize val_main_v44 (F := Ideal) x2 x3 = z at h44 ⊢
  generalize val_main_v50 (F := Ideal) x0 x1 x2 x3 = u at h50 ⊢
  pointwise []
  simp only [h33, h34, h44, h50]
  rw [select_sees, root_word, Finset.sum_const, Finset.card_univ, Fintype.card_fin, one_nsmul]
  exact A.grad_shift h i k (M h i) 0 rfl

/-- The queries' gradient. -/
theorem at65 (W : A.Held x0 x1 x2 x3) (i : Fin 4112) (h : Fin 8) (e : Fin 192) : val_main_v65 (F := Ideal) x0 x1 x2 x3 (ix3 i h e) = ((A.dq h i e : ℝ) : EReal) := by
  have h61 := at61 W h i
  unfold val_main_v65 val_main_v64
  generalize val_main_v61 (F := Ideal) x0 x1 x2 x3 = x at h61 ⊢
  pointwise []
  simp only [W.k, h61, coe_dot]
  rfl

/-- The keys' gradient. -/
theorem at63 (W : A.Held x0 x1 x2 x3) (k : Fin 4112) (h : Fin 8) (e : Fin 192) : val_main_v63 (F := Ideal) x0 x1 x2 x3 (ix3 k h e) = ((A.dk h k e : ℝ) : EReal) := by
  have h61 := fun i => at61 W h i k
  unfold val_main_v63 val_main_v62
  generalize val_main_v61 (F := Ideal) x0 x1 x2 x3 = x at h61 ⊢
  pointwise []
  simp only [W.q, h61, coe_dot]
  rfl

end Cert.ReferenceIdeal.Ref

end
-- ==== Proof.Finite.lean ====
/- What the precondition says: the arguments are reals. -/
module

public import proofs.«01_k».proof.Defs
public import proofs.«01_k».proof.Proof.Softmax
public import proofs.«01_k».proof.Proof.Gen.Pre_finite
public import Idealize.ShloMosaic.Lib.ReduceAll

@[expose] public section

set_option maxRecDepth 16384

noncomputable section

namespace Cert.Pre_finite.Reals

open Idealize.ShloMosaic Cert.Pre_finite Cert.Att

theorem top_word : Ideal.ofBits .f32 0x7F800000#32 = (⊤ : EReal) := by
  simp [Ideal.ofBits, Ideal.ieee]

instance : Subsingleton S_.Idx := ⟨fun _ _ => funext fun k => k.elim0⟩

/-- Extended real words between the infinities are reals. -/
theorem real_word (x : EReal) (h : IntOp.andi (Ideal.cmp .ogt x (⊥ : EReal)) (Ideal.cmp .olt x (⊤ : EReal)) = 1#1) : x = ((x.toReal : ℝ) : EReal) := by
  obtain ⟨h0, h1⟩ := IntOp.andi_eq_one.1 h
  refine (EReal.coe_toReal ?_ ?_).symm
  · rintro rfl
    exact absurd h1 (by simp [Ideal.cmp])
  · rintro rfl
    exact absurd h0 (by simp [Ideal.cmp])

/-- An array all of whose elements are between the infinities holds reals. -/
theorem real_all {s : Shape} {axes : List (Fin s.rank)} (x : FVec Ideal s .f32) (hb : S_.BroadcastsInDim s ![]) (init : IVec S_ 1) (hr : s.ReducesTo axes S_) (hu : 0 < S_.numel)
    (e : Host.reduce IntOp.andi (andi (cmpf .ogt x (broadcastInDim s ![] hb (constant S_ .f32 0xFF800000#32))) (cmpf .olt x (broadcastInDim s ![] hb (constant S_ .f32 0x7F800000#32))))
      init hr hu (fun k => k.elim0) = 1#1) (i : s.Idx) : x i = (((x i : EReal).toReal : ℝ) : EReal) := by
  have hi := Host.reduce_andi_all _ _ _ _ _ e i
  refine real_word (x i) ?_
  rw [← bot_word, ← top_word]
  exact hi

/-- The precondition's arrays hold real arguments. -/
theorem held [Facts] (x0 x1 : FVec Ideal S4112x8x192 .f32) (x2 x3 : FVec Ideal S4112x8x128 .f32) (h : fn (F := Ideal) x0 x1 x2 x3 = fun _ => 1#1) :
    ∃ A : Args, A.Held x0 x1 x2 x3 := by
  have e : fn (F := Ideal) x0 x1 x2 x3 (fun k => k.elim0) = 1#1 := by rw [h]
  dsimp only [fn, fn_part1] at e
  obtain ⟨e, e3⟩ := IntOp.andi_eq_one.1 e
  obtain ⟨e, e2⟩ := IntOp.andi_eq_one.1 e
  obtain ⟨e0, e1⟩ := IntOp.andi_eq_one.1 e
  exact ⟨⟨fun i h e => (x0 (ix3 i h e) : EReal).toReal, fun i h e => (x1 (ix3 i h e) : EReal).toReal, fun i h e => (x2 (ix3 i h e) : EReal).toReal, fun i h e => (x3 (ix3 i h e) : EReal).toReal⟩,
    ⟨fun i h e => real_all x0 _ _ _ _ e0 _, fun i h e => real_all x1 _ _ _ _ e1 _, fun i h e => real_all x2 _ _ _ _ e2 _, fun i h e => real_all x3 _ _ _ _ e3 _⟩⟩

end Cert.Pre_finite.Reals

end
-- ==== Proof.Value.lean ====
/- The kernel's results are the reference's. -/
module

public import proofs.«01_k».proof.Proof.Arrays
public import proofs.«01_k».proof.Proof.HostLines
public import proofs.«01_k».proof.Proof.Ref
public import proofs.«01_k».proof.Proof.Finite

@[expose] public section

set_option maxRecDepth 16384

noncomputable section

namespace Cert.Proof

open Idealize.ShloMosaic Idealize.ShloMosaic.TcCoe Idealize.SL.Sem Cert.KernelIdeal Cert.KernelIdeal.Gen Cert.Att

variable {m : (ℓ : Loc nD τ sig) → Buf (Elt Ideal) ℓ} {c : Dev nD} {A : Args}
  {x0 x1 : FVec Ideal S4112x8x192 .f32} {x2 x3 : FVec Ideal S4112x8x128 .f32}

theorem eq_of_at {a b d : ℕ} (x y : FVec Ideal ⟨3, ![a, b, d]⟩ .f32) (h : ∀ i j k, x (ix3 i j k) = y (ix3 i j k)) : x = y := by
  funext i
  have hi : i = ix3 (i 0) (i 1) (i 2) := by funext k; fin_cases k <;> rfl
  rw [hi]
  exact h _ _ _

theorem same_q (W : HostLines.Given m c A) (W' : A.Held x0 x1 x2 x3) :
    (Cert.ReferenceIdeal.Read.val_main_v65 (F := Ideal) x0 x1 x2 x3 : FVec Ideal S4112x8x192 .f32) = Pipeline.afterTail₀ cfgs (dats m) 0 (V0 m) [hostOps1] c main_v52 :=
  eq_of_at _ _ fun i h e => (Cert.ReferenceIdeal.Ref.at65 W' i h e).trans
    ((Arrays.tail_q (HostLines.holds W) i h e).trans (by rw [Args.heads_val, A.dq_real h i e _ rfl])).symm

theorem same_k (W : HostLines.Given m c A) (W' : A.Held x0 x1 x2 x3) :
    (Cert.ReferenceIdeal.Read.val_main_v63 (F := Ideal) x0 x1 x2 x3 : FVec Ideal S4112x8x192 .f32) = Pipeline.afterTail₀ cfgs (dats m) 0 (V0 m) [hostOps1] c main_v54 :=
  eq_of_at _ _ fun i h e => (Cert.ReferenceIdeal.Ref.at63 W' i h e).trans
    ((Arrays.tail_k (HostLines.holds W) i h e).trans (by rw [Args.heads_val, A.aK_real h i e _ rfl])).symm

theorem same_v (W : HostLines.Given m c A) (W' : A.Held x0 x1 x2 x3) :
    (Cert.ReferenceIdeal.Read.val_main_v46 (F := Ideal) x0 x1 x3 : FVec Ideal S4112x8x128 .f32) = Pipeline.afterTail₀ cfgs (dats m) 0 (V0 m) [hostOps1] c main_v56 :=
  eq_of_at _ _ fun i h d => (Cert.ReferenceIdeal.Ref.at46 W' i h d).trans
    ((Arrays.tail_v (HostLines.holds W) i h d).trans (by rw [Args.heads_val, A.aV_real h i d])).symm

/-- The run of the idealized kernel: its three results and its unchanged arguments. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v52) = Pipeline.afterTail₀ cfgs (dats m) 0 (V0 m) [hostOps1] c main_v52
      ∧ r.2.mem ((c.tc : Thread nD τ).loc main_v54) = Pipeline.afterTail₀ cfgs (dats m) 0 (V0 m) [hostOps1] c main_v54
      ∧ r.2.mem ((c.tc : Thread nD τ).loc main_v56) = Pipeline.afterTail₀ cfgs (dats m) 0 (V0 m) [hostOps1] c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2 main_v52 (Pipeline.mem_restRefs_of main_v52 (by decide) (by decide)),
      (h.1 c).2 main_v54 (Pipeline.mem_restRefs_of main_v54 (by decide) (by decide)),
      (h.1 c).2 main_v56 (Pipeline.mem_restRefs_of main_v56 (by decide) (by decide)), h.2 c⟩)
    (θ_run_and (run_main m ρ) (unchanged m ρ))

theorem value : Cert.algebraic_KernelIdeal_ReferenceIdeal_pre_finite := by
  intro m ρ m' ρ' hpre hagree
  refine ⟨_, _, _, run_kernel m ρ, ?_⟩
  refine (θ_run Cert.ReferenceIdeal.defs _ _).mono (fun _ h c => ?_) (Cert.ReferenceIdeal.Value.run (F := Ideal) m' ρ')
  obtain ⟨h0, h1, h2, ha⟩ := h c
  obtain ⟨A, W⟩ := Cert.Pre_finite.Reals.held _ _ _ _ (hpre c)
  obtain ⟨g0, g1, g2, g3⟩ := hagree c
  refine ⟨h0.trans ?_, h1.trans ?_, h2.trans ?_, ha⟩
  · rw [Cert.ReferenceIdeal.Read.val_main_v65_eq, g0, g1, g2, g3]
    exact same_q W W
  · rw [Cert.ReferenceIdeal.Read.val_main_v63_eq, g0, g1, g2, g3]
    exact same_k W W
  · rw [Cert.ReferenceIdeal.Read.val_main_v46_eq, g0, g1, g3]
    exact same_v W W

end Cert.Proof

end
-- ==== Proof.Online.lean ====
/- A row of softmax attention taken block by block: the running maximum, the sum of the weights and the weighted sum. -/
module

public import proofs.«01_k».proof.Proof.Pay

@[expose] public section

noncomputable section

namespace Cert.Fwd

open Idealize.ShloMosaic

abbrev e2 (x : EReal) : EReal := Ideal.exp2 x

theorem e2_bot : e2 ⊥ = 0 := rfl
theorem e2_coe (r : ℝ) : e2 (r : EReal) = (Real.rpow 2 r : ℝ) := rfl

/-- A weight is a real that is not negative. -/
theorem e2_real {a m : EReal} (h : a ≤ m) : ∃ r : ℝ, 0 ≤ r ∧ e2 (a - m) = (r : EReal) := by
  induction m with
  | bot => exact ⟨0, le_refl _, by rw [le_bot_iff.mp h]; rfl⟩
  | top => exact ⟨0, le_refl _, by rw [sub_eq_add_neg, EReal.neg_top, EReal.add_bot]; rfl⟩
  | coe m =>
    induction a with
    | bot => exact ⟨0, le_refl _, by rw [sub_eq_add_neg, EReal.bot_add]; rfl⟩
    | top => exact absurd h (not_le.mpr (EReal.coe_lt_top m))
    | coe a => exact ⟨Real.rpow 2 (a - m), Real.rpow_nonneg (by norm_num) _, by rw [← EReal.coe_sub]; rfl⟩

/-- Weights against one maximum become weights against a larger one. -/
theorem e2_shift {a m m' : EReal} (h : a ≤ m) (h' : m ≤ m') : e2 (m - m') * e2 (a - m) = e2 (a - m') := by
  induction a with
  | bot => rw [sub_eq_add_neg ⊥ m, sub_eq_add_neg ⊥ m', EReal.bot_add, EReal.bot_add, e2_bot, mul_zero]
  | top =>
    obtain rfl := top_le_iff.mp h
    obtain rfl := top_le_iff.mp h'
    show e2 (⊤ - ⊤) * e2 (⊤ - ⊤) = e2 (⊤ - ⊤)
    rw [sub_eq_add_neg ⊤ ⊤, EReal.neg_top, EReal.add_bot, e2_bot, mul_zero]
  | coe a =>
    induction m' with
    | bot => exact absurd (h.trans h') (not_le.mpr (EReal.bot_lt_coe a))
    | top => rw [sub_eq_add_neg m ⊤, sub_eq_add_neg (a : EReal) ⊤, EReal.neg_top, EReal.add_bot, EReal.add_bot, e2_bot, zero_mul]
    | coe m' =>
      induction m with
      | bot => exact absurd h (not_le.mpr (EReal.bot_lt_coe a))
      | top => exact absurd h' (not_le.mpr (EReal.coe_lt_top m'))
      | coe m =>
        rw [← EReal.coe_sub, ← EReal.coe_sub, ← EReal.coe_sub, e2_coe, e2_coe, e2_coe, ← EReal.coe_mul]
        congr 1
        show (2 : ℝ) ^ (m - m') * (2 : ℝ) ^ (a - m) = (2 : ℝ) ^ (a - m')
        rw [← Real.rpow_add (by norm_num)]
        congr 1
        ring

theorem coe_mul_add (r : ℝ) (hr : 0 ≤ r) (x y : EReal) : (r : EReal) * (x + y) = r * x + r * y :=
  EReal.left_distrib_of_nonneg_of_ne_top (EReal.coe_nonneg.mpr hr) (EReal.coe_ne_top r) x y

theorem coe_mul_sum {ι : Type} (r : ℝ) (hr : 0 ≤ r) (s : Finset ι) (f : ι → EReal) : (r : EReal) * ∑ k ∈ s, f k = ∑ k ∈ s, (r : EReal) * f k := by
  classical
  induction s using Finset.induction_on with
  | empty => rw [Finset.sum_empty, Finset.sum_empty, mul_zero]
  | insert a s ha ih => rw [Finset.sum_insert ha, Finset.sum_insert ha, coe_mul_add r hr, ih]

/-- `m`, `l` and `a` are the largest score, the sum of the weights and the weighted sum of the columns below `n`. -/
def Sofar (σ v : ℕ → EReal) (n : ℕ) (m l a : EReal) : Prop :=
  m = (Finset.range n).sup σ ∧ l = ∑ k ∈ Finset.range n, e2 (σ k - m) ∧ a = ∑ k ∈ Finset.range n, e2 (σ k - m) * v k

theorem sofar_zero (σ v : ℕ → EReal) : Sofar σ v 0 ⊥ 0 0 := ⟨by simp, by simp, by simp⟩

theorem sup_range_add (σ : ℕ → EReal) (n w : ℕ) : (Finset.range (n + w)).sup σ = max ((Finset.range n).sup σ) (Finset.univ.sup fun x : Fin w => σ (n + x.val)) := by
  refine le_antisymm (Finset.sup_le fun k hk => ?_) (max_le (Finset.sup_mono (Finset.range_mono (Nat.le_add_right n w))) (Finset.sup_le fun x _ => Finset.le_sup (f := σ) (Finset.mem_range.mpr (by omega))))
  have hk' := Finset.mem_range.mp hk
  rcases Nat.lt_or_ge k n with h | h
  · exact le_max_of_le_left (Finset.le_sup (f := σ) (Finset.mem_range.mpr h))
  · have e : σ k = (fun x : Fin w => σ (n + x.val)) ⟨k - n, by omega⟩ := congrArg σ (by show k = n + (k - n); omega)
    rw [e]
    exact le_max_of_le_right (Finset.le_sup (f := fun x : Fin w => σ (n + x.val)) (Finset.mem_univ _))

/-- One block of `w` columns more. -/
theorem Sofar.step {σ v : ℕ → EReal} {n w : ℕ} {m l a m' l' a' : EReal} (H : Sofar σ v n m l a)
    (hm : m' = max m (Finset.univ.sup fun x : Fin w => σ (n + x.val)))
    (hl : l' = e2 (m - m') * l + ∑ x : Fin w, e2 (σ (n + x.val) - m'))
    (ha : a' = e2 (m - m') * a + ∑ x : Fin w, e2 (σ (n + x.val) - m') * v (n + x.val)) : Sofar σ v (n + w) m' l' a' := by
  obtain ⟨h1, h2, h3⟩ := H
  have hle : m ≤ m' := hm ▸ le_max_left _ _
  have hk : ∀ k ∈ Finset.range n, e2 (m - m') * e2 (σ k - m) = e2 (σ k - m') := fun k hk => e2_shift (h1 ▸ Finset.le_sup hk) hle
  obtain ⟨r, hr, er⟩ := e2_real hle
  refine ⟨by rw [sup_range_add, ← h1, ← hm], ?_, ?_⟩
  · rw [Finset.sum_range_add, hl, h2, er, coe_mul_sum r hr, ← er, Finset.sum_congr rfl hk]
    exact congrArg _ (Finset.sum_range (fun x => e2 (σ (n + x) - m'))).symm
  · rw [Finset.sum_range_add, ha, h3, er, coe_mul_sum r hr, ← er, Finset.sum_congr rfl fun k hk' => by rw [← mul_assoc, hk k hk']]
    exact congrArg _ (Finset.sum_range (fun x => e2 (σ (n + x) - m') * v (n + x))).symm

/-- Columns the row does not see change nothing. -/
theorem Sofar.mono {σ v : ℕ → EReal} {n n' : ℕ} {m l a : EReal} (H : Sofar σ v n m l a) (hn : n ≤ n') (h : ∀ k, n ≤ k → σ k = ⊥) : Sofar σ v n' m l a := by
  obtain ⟨w, rfl⟩ := Nat.exists_eq_add_of_le hn
  obtain ⟨h1, h2, h3⟩ := H
  have hz : ∀ k, e2 (σ (n + k) - m) = 0 := fun k => by rw [h _ (Nat.le_add_right n k), sub_eq_add_neg, EReal.bot_add, e2_bot]
  refine ⟨?_, ?_, ?_⟩
  · rw [sup_range_add, ← h1, show (fun x : Fin w => σ (n + x.val)) = fun _ => ⊥ from funext fun x => h _ (Nat.le_add_right n _), Finset.sup_bot]
    exact (max_eq_left bot_le).symm
  · rw [Finset.sum_range_add, ← h2, Finset.sum_eq_zero fun k _ => hz k, add_zero]
  · rw [Finset.sum_range_add, ← h3, Finset.sum_eq_zero fun k _ => by rw [hz k, zero_mul], add_zero]

/-- The same of a row whose first `n` columns are not seen, in the natural base. -/
theorem Sofar.natural {σ v : ℕ → EReal} {n N : ℕ} {m l a : EReal} (H : Sofar σ v (n + N) m l a) (h : ∀ k, k < n → σ k = ⊥)
    (τ : Fin N → EReal) (hτ : ∀ k : Fin N, τ k = σ (n + k.val) * (Real.log 2 : ℝ)) :
    Finset.univ.sup τ = m * (Real.log 2 : ℝ) ∧ ∑ k, Ideal.exp (τ k - Finset.univ.sup τ) = l ∧ ∑ k : Fin N, Ideal.exp (τ k - Finset.univ.sup τ) * v (n + k.val) = a := by
  have hlog : 0 < Real.log 2 := Real.log_pos (by norm_num)
  have hlow : ∀ k ∈ Finset.range n, e2 (σ k - m) = 0 := fun k hk => by rw [h k (Finset.mem_range.mp hk), sub_eq_add_neg, EReal.bot_add, e2_bot]
  obtain ⟨h1, h2, h3⟩ := H
  have hmono : Monotone fun x : EReal => x * (Real.log 2 : ℝ) := fun x y hxy => mul_le_mul_of_nonneg_right hxy (EReal.coe_nonneg.mpr hlog.le)
  have hM : Finset.univ.sup τ = m * (Real.log 2 : ℝ) := by
    have hs : (Finset.univ.sup fun k : Fin N => σ (n + k.val)) = m := by
      rw [h1, sup_range_add, show (Finset.range n).sup σ = ⊥ from (Finset.sup_congr rfl fun k hk => h k (Finset.mem_range.mp hk)).trans (Finset.sup_bot _)]
      exact (max_eq_right bot_le).symm
    have hc := Finset.comp_sup_eq_sup_comp_of_is_total (s := Finset.univ) (f := fun k : Fin N => σ (n + k.val)) (fun x : EReal => x * (Real.log 2 : ℝ)) hmono (EReal.bot_mul_coe_of_pos hlog)
    exact ((congrArg _ (funext hτ : τ = _)).trans hc.symm).trans (congrArg (fun x : EReal => x * (Real.log 2 : ℝ)) hs)
  have he : ∀ k : Fin N, Ideal.exp (τ k - Finset.univ.sup τ) = e2 (σ (n + k.val) - m) := by
    intro k
    have hle : σ (n + k.val) ≤ m := h1 ▸ Finset.le_sup (f := σ) (Finset.mem_range.mpr (by omega))
    rw [hM, hτ]
    generalize σ (n + k.val) = x at hle ⊢
    induction m with
    | bot => rw [le_bot_iff.mp hle, EReal.bot_mul_coe_of_pos hlog]; rfl
    | top => rw [EReal.top_mul_coe_of_pos hlog, sub_eq_add_neg, sub_eq_add_neg, EReal.neg_top, EReal.add_bot, EReal.add_bot]; rfl
    | coe m =>
      induction x with
      | bot => rw [EReal.bot_mul_coe_of_pos hlog, sub_eq_add_neg, sub_eq_add_neg, EReal.bot_add, EReal.bot_add]; rfl
      | top => exact absurd hle (not_le.mpr (EReal.coe_lt_top m))
      | coe x =>
        rw [← EReal.coe_mul, ← EReal.coe_mul, ← EReal.coe_sub, ← EReal.coe_sub, e2_coe]
        show ((Real.exp _ : ℝ) : EReal) = _
        congr 1
        show Real.exp _ = (2 : ℝ) ^ (x - m)
        rw [Real.rpow_def_of_pos (by norm_num)]
        congr 1
        ring
  refine ⟨hM, ?_, ?_⟩
  · rw [h2, Finset.sum_range_add, Finset.sum_eq_zero hlow, zero_add, Finset.sum_range]
    exact Finset.sum_congr rfl fun k _ => he k
  · have hz : ∑ k ∈ Finset.range n, e2 (σ k - m) * v k = 0 := Finset.sum_eq_zero fun k hk => by rw [hlow k hk, zero_mul]
    rw [h3, Finset.sum_range_add, hz, zero_add, Finset.sum_range]
    exact Finset.sum_congr rfl fun k _ => by rw [he k]

/-- The logarithm of the sum of exponentials, from the natural base to base two. -/
theorem lse_base (m y : EReal) : (m * (Real.log 2 : ℝ) + y) * ((Real.log 2)⁻¹ : ℝ) = m + y * ((Real.log 2)⁻¹ : ℝ) := by
  have hlog : 0 < Real.log 2 := Real.log_pos (by norm_num)
  rw [mul_comm _ (((Real.log 2)⁻¹ : ℝ) : EReal), coe_mul_add _ (inv_nonneg.mpr hlog.le), mul_comm _ y, mul_comm _ (m * _), mul_assoc, ← EReal.coe_mul,
    mul_inv_cancel₀ hlog.ne', EReal.coe_one, mul_one]

/-- The scores against the reference's: one constant for the root and the change of base. -/
theorem score_base (x : EReal) : x * (((Real.sqrt 192)⁻¹ * (Real.log 2)⁻¹ : ℝ) : EReal) * (Real.log 2 : ℝ) = x * ((Real.sqrt 192)⁻¹ : ℝ) := by
  have hlog : 0 < Real.log 2 := Real.log_pos (by norm_num)
  rw [mul_assoc, ← EReal.coe_mul, mul_assoc, inv_mul_cancel₀ hlog.ne', mul_one]

end Cert.Fwd
-- ==== Proof.Step2.lean ====
/- One block of the forward kernel's columns: the body's update of the running maximum, the sum of the weights and the weighted sum. -/
module

public import proofs.«01_k».proof.Proof.Online
public import proofs.«01_k».proof.Proof.Gen.Kernel2Ideal.Skeleton

@[expose] public section

set_option maxRecDepth 16384

noncomputable section

namespace Cert.Kernel2Ideal.Step

open Idealize.ShloMosaic Cert.Kernel2Ideal Cert.Kernel2Ideal.Gen Cert.Fwd

/-- The real the constant "c2" stands for. -/
def c2 : ℝ := (Real.sqrt 192)⁻¹ * (Real.log 2)⁻¹

theorem named_c2 : Named.named (F := Ideal) κ "c2" (φ := .f32) 0x3DD53B95#32 = ((c2 : ℝ) : EReal) :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

theorem named_log2e : Named.named (F := Ideal) κ "log2e" (φ := .f32) 0x3FB8AA3B#32 = (((Real.log 2)⁻¹ : ℝ) : EReal) :=
  IdealRules.named_const.ideal_named_scalar _ _ _ _ rfl

theorem bot_word : Ideal.ofBits .f32 0xFF800000#32 = (⊥ : EReal) := by
  simp [Ideal.ofBits, Ideal.ieee]

/-- One head's queries, keys and values, by row and column. -/
structure Head where
  Q : ℕ → Fin 256 → EReal
  K : ℕ → Fin 256 → EReal
  V : ℕ → Fin 128 → EReal

/-- The score of key `k` for query `i`, without the mask. -/
def Head.s (H : Head) (i k : ℕ) : EReal := (∑ e, H.Q i e * H.K k e) * ((c2 : ℝ) : EReal)

/-- The score with the mask. -/
def Head.σ (H : Head) (i k : ℕ) : EReal := if k ≤ i ∧ 112 ≤ k then H.s i k else ⊥

/-- The three running values of row block `i` once the columns before `n` are done. -/
def Carry (H : Head) (i n : ℕ) (m l : FVec Ideal S384x1 .f32) (a : FVec Ideal S384x128 .f32) : Prop :=
  ∀ (r : Fin 384) (d : Fin 128), Sofar (H.σ (384 * i + r.val)) (fun k => H.V k d) n (m (ix2 r (0 : Fin 1))) (l (ix2 r (0 : Fin 1))) (a (ix2 r d))

theorem fold_max {w : ℕ} (f : Fin w → EReal) : (Finset.univ : Finset (Fin w)).fold max ⊥ f = Finset.univ.sup f := rfl

section W384

def nm (s : FVec Ideal S384x384 .f32) (m : FVec Ideal S384x1 .f32) : FVec Ideal S384x1 .f32 :=
  maximumf m (shapeCast S384x1 (multiReduction .maximumf [1] S384 s 0xFF800000#32 reduces_S384x384_S384 (.inl rfl) rfl) shapeCasts_S384_S384x1)
def np (s : FVec Ideal S384x384 .f32) (m : FVec Ideal S384x1 .f32) : FVec Ideal S384x384 .f32 :=
  exp2 (subf s (broadcastTo S384x384 (nm s m) broadcasts_S384x1_S384x384))
def na (s : FVec Ideal S384x384 .f32) (m : FVec Ideal S384x1 .f32) : FVec Ideal S384x1 .f32 := exp2 (subf m (nm s m))
def nl (s : FVec Ideal S384x384 .f32) (m l : FVec Ideal S384x1 .f32) : FVec Ideal S384x1 .f32 :=
  addf (mulf (na s m) l) (shapeCast S384x1 (multiReduction .add [1] S384 (np s m) 0x00000000#32 reduces_S384x384_S384 (.inl rfl) rfl) shapeCasts_S384_S384x1)
def nacc (s : FVec Ideal S384x384 .f32) (m : FVec Ideal S384x1 .f32) (a : FVec Ideal S384x128 .f32) (v : Vec Ideal S384x128 .bf16) : FVec Ideal S384x128 .f32 :=
  addf (mulf (broadcastTo S384x128 (na s m) broadcasts_S384x1_S384x128) a)
    (matmul dot_S384x384_S384x128_S384x128_1_0_0_1_n_n none (truncf .bf16 (np s m) bitsLt_bf16_f32) (shapeCast S384x128 v shapeCasts_S384x128_S384x128 : FVec Ideal S384x128 .bf16) (constant S384x128 .f32 0x00000000#32))

variable (s : FVec Ideal S384x384 .f32) (m l : FVec Ideal S384x1 .f32) (a : FVec Ideal S384x128 .f32) (v : Vec Ideal S384x128 .bf16) (r : Fin 384)

theorem nm_apply : nm s m (ix2 r (0 : Fin 1)) = max (m (ix2 r (0 : Fin 1))) (Finset.univ.sup fun x : Fin 384 => s (ix2 r x)) := by
  unfold nm
  generalize hz : multiReduction .maximumf [1] S384 s 0xFF800000#32 reduces_S384x384_S384 (.inl rfl) rfl = z
  pointwise []
  have e : ∀ q : Fin 384, z (ix1 q) = Finset.univ.sup fun x : Fin 384 => s (ix2 q x) := by
    intro q
    rw [← hz]
    refine (Ideal.multiReduction_maximumf_single s 0xFF800000#32 reduces_S384x384_S384 (.inl rfl) rfl (ix1 q)).trans ?_
    rw [show FloatOps.ofBits (F := Ideal) .f32 0xFF800000#32 = (⊥ : EReal) from bot_word]
    refine (fold_max _).trans (Finset.sup_congr rfl fun x _ => congrArg s ?_)
    funext c
    fin_cases c <;> rfl
  rw [e]

theorem np_apply (x : Fin 384) : np s m (ix2 r x) = e2 (s (ix2 r x) - nm s m (ix2 r (0 : Fin 1))) := by
  unfold np
  generalize nm s m = z
  pointwise []
  rfl

theorem na_apply : na s m (ix2 r (0 : Fin 1)) = e2 (m (ix2 r (0 : Fin 1)) - nm s m (ix2 r (0 : Fin 1))) := by
  unfold na
  generalize nm s m = z
  pointwise []
  rfl

theorem nl_apply : nl s m l (ix2 r (0 : Fin 1)) = na s m (ix2 r (0 : Fin 1)) * l (ix2 r (0 : Fin 1)) + ∑ x, np s m (ix2 r x) := by
  unfold nl
  generalize np s m = z
  generalize na s m = y
  pointwise []

theorem nacc_apply (d : Fin 128) : nacc s m a v (ix2 r d) = na s m (ix2 r (0 : Fin 1)) * a (ix2 r d) + ∑ x, np s m (ix2 r x) * v (ix2 x d) := by
  unfold nacc
  generalize np s m = z
  generalize na s m = y
  pointwise []

end W384

section W768

def wnm (s : FVec Ideal S384x768 .f32) (m : FVec Ideal S384x1 .f32) : FVec Ideal S384x1 .f32 :=
  maximumf m (shapeCast S384x1 (multiReduction .maximumf [1] S384 s 0xFF800000#32 reduces_S384x768_S384 (.inl rfl) rfl) shapeCasts_S384_S384x1)
def wnp (s : FVec Ideal S384x768 .f32) (m : FVec Ideal S384x1 .f32) : FVec Ideal S384x768 .f32 :=
  exp2 (subf s (broadcastTo S384x768 (wnm s m) broadcasts_S384x1_S384x768))
def wna (s : FVec Ideal S384x768 .f32) (m : FVec Ideal S384x1 .f32) : FVec Ideal S384x1 .f32 := exp2 (subf m (wnm s m))
def wnl (s : FVec Ideal S384x768 .f32) (m l : FVec Ideal S384x1 .f32) : FVec Ideal S384x1 .f32 :=
  addf (mulf (wna s m) l) (shapeCast S384x1 (multiReduction .add [1] S384 (wnp s m) 0x00000000#32 reduces_S384x768_S384 (.inl rfl) rfl) shapeCasts_S384_S384x1)
def wnacc (s : FVec Ideal S384x768 .f32) (m : FVec Ideal S384x1 .f32) (a : FVec Ideal S384x128 .f32) (v : Vec Ideal S768x128 .bf16) : FVec Ideal S384x128 .f32 :=
  addf (mulf (broadcastTo S384x128 (wna s m) broadcasts_S384x1_S384x128) a)
    (matmul dot_S384x768_S768x128_S384x128_1_0_0_1_n_n none (truncf .bf16 (wnp s m) bitsLt_bf16_f32) (shapeCast S768x128 v shapeCasts_S768x128_S768x128 : FVec Ideal S768x128 .bf16) (constant S384x128 .f32 0x00000000#32))

variable (s : FVec Ideal S384x768 .f32) (m l : FVec Ideal S384x1 .f32) (a : FVec Ideal S384x128 .f32) (v : Vec Ideal S768x128 .bf16) (r : Fin 384)

theorem wnm_apply : wnm s m (ix2 r (0 : Fin 1)) = max (m (ix2 r (0 : Fin 1))) (Finset.univ.sup fun x : Fin 768 => s (ix2 r x)) := by
  unfold wnm
  generalize hz : multiReduction .maximumf [1] S384 s 0xFF800000#32 reduces_S384x768_S384 (.inl rfl) rfl = z
  pointwise []
  have e : ∀ q : Fin 384, z (ix1 q) = Finset.univ.sup fun x : Fin 768 => s (ix2 q x) := by
    intro q
    rw [← hz]
    refine (Ideal.multiReduction_maximumf_single s 0xFF800000#32 reduces_S384x768_S384 (.inl rfl) rfl (ix1 q)).trans ?_
    rw [show FloatOps.ofBits (F := Ideal) .f32 0xFF800000#32 = (⊥ : EReal) from bot_word]
    refine (fold_max _).trans (Finset.sup_congr rfl fun x _ => congrArg s ?_)
    funext c
    fin_cases c <;> rfl
  rw [e]

theorem wnp_apply (x : Fin 768) : wnp s m (ix2 r x) = e2 (s (ix2 r x) - wnm s m (ix2 r (0 : Fin 1))) := by
  unfold wnp
  generalize wnm s m = z
  pointwise []
  rfl

theorem wna_apply : wna s m (ix2 r (0 : Fin 1)) = e2 (m (ix2 r (0 : Fin 1)) - wnm s m (ix2 r (0 : Fin 1))) := by
  unfold wna
  generalize wnm s m = z
  pointwise []
  rfl

theorem wnl_apply : wnl s m l (ix2 r (0 : Fin 1)) = wna s m (ix2 r (0 : Fin 1)) * l (ix2 r (0 : Fin 1)) + ∑ x, wnp s m (ix2 r x) := by
  unfold wnl
  generalize wnp s m = z
  generalize wna s m = y
  pointwise []

theorem wnacc_apply (d : Fin 128) : wnacc s m a v (ix2 r d) = wna s m (ix2 r (0 : Fin 1)) * a (ix2 r d) + ∑ x, wnp s m (ix2 r x) * v (ix2 x d) := by
  unfold wnacc
  generalize wnp s m = z
  generalize wna s m = y
  pointwise []

end W768

/-! ## The scores -/

/-- The scores of 384 columns, and of 768. -/
def sc (q k : Vec Ideal S384x256 .bf16) : FVec Ideal S384x384 .f32 := k0_pay1 q k
def wsc (q : Vec Ideal S384x256 .bf16) (k : Vec Ideal S768x256 .bf16) : FVec Ideal S384x768 .f32 := k0_pay18 q k

theorem sc_apply (q k : Vec Ideal S384x256 .bf16) (r x : Fin 384) : sc q k (ix2 r x) = (∑ e : Fin 256, q (ix2 r e) * k (ix2 x e)) * ((c2 : ℝ) : EReal) := by
  unfold sc
  pointwise [k0_pay1]
  rw [named_c2]

theorem wsc_apply (q : Vec Ideal S384x256 .bf16) (k : Vec Ideal S768x256 .bf16) (r : Fin 384) (x : Fin 768) :
    wsc q k (ix2 r x) = (∑ e : Fin 256, q (ix2 r e) * k (ix2 x e)) * ((c2 : ℝ) : EReal) := by
  unfold wsc
  pointwise [k0_pay18]
  rw [named_c2]

/-- The mask's condition on 32-bit words is the one on numbers. -/
theorem mask_words (a b : ℕ) (ha : a < 11) (hb : b < 11) (x y : Fin 384) :
    IntOp.andi (IntOp.cmpi CmpIPredicate.sle (IntOp.addi (BitVec.ofNat 32 (384 * b)) (BitVec.ofNat 32 x.val)) (IntOp.addi (BitVec.ofNat 32 (384 * a)) (BitVec.ofNat 32 y.val)))
      (IntOp.cmpi CmpIPredicate.sge (IntOp.addi (BitVec.ofNat 32 (384 * b)) (BitVec.ofNat 32 x.val)) 112#32)
      = if 384 * b + x.val ≤ 384 * a + y.val ∧ 112 ≤ 384 * b + x.val then 1#1 else 0#1 := by
  have hs : ∀ m n : ℕ, IntOp.addi (BitVec.ofNat 32 m) (BitVec.ofNat 32 n) = BitVec.ofNat 32 (m + n) := by
    intro m n
    show _ + _ = _
    rw [← BitVec.ofNat_add]
  have hi : ∀ n : ℕ, n < 5000 → (BitVec.ofNat 32 n).toInt = n := by
    intro n hn
    rw [BitVec.toInt_eq_toNat_cond, BitVec.toNat_ofNat, Nat.mod_eq_of_lt (by omega), if_pos (by omega)]
  have hx := x.isLt
  have hy := y.isLt
  have hle : ∀ m n : ℕ, m < 5000 → n < 5000 → BitVec.ofBool (BitVec.sle (BitVec.ofNat 32 m) (BitVec.ofNat 32 n)) = BitVec.ofBool (decide (m ≤ n)) := by
    intro m n hm hn
    rw [BitVec.sle, hi _ hm, hi _ hn]
    congr 1
    simp only [decide_eq_decide]; omega
  rw [hs, hs]
  have e1 : IntOp.cmpi CmpIPredicate.sle (BitVec.ofNat 32 (384 * b + x.val)) (BitVec.ofNat 32 (384 * a + y.val)) = BitVec.ofBool (decide (384 * b + x.val ≤ 384 * a + y.val)) :=
    hle _ _ (by omega) (by omega)
  have e2 : IntOp.cmpi CmpIPredicate.sge (BitVec.ofNat 32 (384 * b + x.val)) 112#32 = BitVec.ofBool (decide (112 ≤ 384 * b + x.val)) := hle 112 _ (by omega) (by omega)
  rw [e1, e2]
  by_cases h1 : 384 * b + x.val ≤ 384 * a + y.val <;> by_cases h2 : 112 ≤ 384 * b + x.val <;> simp only [h1, h2] <;> rfl

theorem mul384 (n : ℕ) : Scalar.muli (BitVec.ofNat 32 n) 384#32 = BitVec.ofNat 32 (384 * n) := by
  show BitVec.ofNat 32 n * 384#32 = _
  rw [← BitVec.ofNat_mul, Nat.mul_comm]

theorem select_mask (c : Prop) [Decidable c] (a b : EReal) : Scalar.select (if c then 1#1 else 0#1) a b = if c then a else b := by
  by_cases h : c <;> simp only [h, if_true, if_false] <;> rfl

/-- The first block's scores, with the mask. -/
theorem first_apply (i : grid0.Coords) (q k : Vec Ideal S384x256 .bf16) (r x : Fin 384) :
    k0_pay66 i q k (ix2 r x) = if x.val ≤ 384 * (i 1).val + r.val ∧ 112 ≤ x.val then sc q k (ix2 r x) else ⊥ := by
  have hi : (i 1).val < 11 := (i 1).isLt
  rw [sc_apply]
  unfold k0_pay66
  generalize (i 1).val = a at hi ⊢
  have hw := mask_words a 0 hi (by omega) x r
  simp only [Nat.mul_zero, Nat.zero_add] at hw
  rw [mul384]
  pointwise []
  rw [named_c2, named_mask]
  refine (congrArg (fun w => Scalar.select w _ _) hw).trans (select_mask _ _ _)

/-- The diagonal block's scores, with the mask. -/
theorem diag_apply (i : grid0.Coords) (a1 lo st : BitVec 32) (t : Fin (k0_t7_loop i).trips) (b : ℕ) (hb : b < 11) (h1 : a1 = BitVec.ofNat 32 b) (h2 : Scf.iv lo st t = BitVec.ofNat 32 b)
    (q k : Vec Ideal S384x256 .bf16) (r x : Fin 384) :
    k0_pay51 i a1 lo st t q k (ix2 r x) = if 384 * b + x.val ≤ 384 * b + r.val ∧ 112 ≤ 384 * b + x.val then sc q k (ix2 r x) else ⊥ := by
  rw [sc_apply]
  unfold k0_pay51
  have hw := mask_words b b hb hb x r
  rw [h1, h2, mul384]
  pointwise []
  rw [named_c2, named_mask]
  refine (congrArg (fun w => Scalar.select w _ _) hw).trans (select_mask _ _ _)

/-! ## A block of columns more -/

section Block

variable {H : Head} {i n : ℕ} {m l : FVec Ideal S384x1 .f32} {a : FVec Ideal S384x128 .f32}

theorem Carry.block (h : Carry H i n m l a) {s : FVec Ideal S384x384 .f32} {v : Vec Ideal S384x128 .bf16}
    (hs : ∀ r x : Fin 384, s (ix2 r x) = H.σ (384 * i + r.val) (n + x.val)) (hv : ∀ (x : Fin 384) d, v (ix2 x d) = H.V (n + x.val) d) :
    Carry H i (n + 384) (nm s m) (nl s m l) (nacc s m a v) := by
  intro r d
  refine (h r d).step ?_ ?_ ?_
  · rw [nm_apply]; simp only [hs]
  · rw [nl_apply, na_apply]; simp only [np_apply, hs]
  · rw [nacc_apply, na_apply]; simp only [np_apply, hs, hv]

theorem Carry.wblock (h : Carry H i n m l a) {s : FVec Ideal S384x768 .f32} {v : Vec Ideal S768x128 .bf16}
    (hs : ∀ (r : Fin 384) (x : Fin 768), s (ix2 r x) = H.σ (384 * i + r.val) (n + x.val)) (hv : ∀ (x : Fin 768) d, v (ix2 x d) = H.V (n + x.val) d) :
    Carry H i (n + 768) (wnm s m) (wnl s m l) (wnacc s m a v) := by
  intro r d
  refine (h r d).step ?_ ?_ ?_
  · rw [wnm_apply]; simp only [hs]
  · rw [wnl_apply, wna_apply]; simp only [wnp_apply, hs]
  · rw [wnacc_apply, wna_apply]; simp only [wnp_apply, hs, hv]

/-- The scores of columns before the diagonal block and behind the padding. -/
theorem sc_open {q k : Vec Ideal S384x256 .bf16} (hq : ∀ (r : Fin 384) e, q (ix2 r e) = H.Q (384 * i + r.val) e) (hk : ∀ (x : Fin 384) e, k (ix2 x e) = H.K (n + x.val) e)
    (h1 : 112 ≤ n) (h2 : n + 384 ≤ 384 * i) (r x : Fin 384) : sc q k (ix2 r x) = H.σ (384 * i + r.val) (n + x.val) := by
  rw [sc_apply, Head.σ, if_pos ⟨by omega, by omega⟩]
  simp only [hq, hk]
  rfl

theorem wsc_open {q : Vec Ideal S384x256 .bf16} {k : Vec Ideal S768x256 .bf16} (hq : ∀ (r : Fin 384) e, q (ix2 r e) = H.Q (384 * i + r.val) e)
    (hk : ∀ (x : Fin 768) e, k (ix2 x e) = H.K (n + x.val) e) (h1 : 112 ≤ n) (h2 : n + 768 ≤ 384 * i) (r : Fin 384) (x : Fin 768) :
    wsc q k (ix2 r x) = H.σ (384 * i + r.val) (n + x.val) := by
  rw [wsc_apply, Head.σ, if_pos ⟨by omega, by omega⟩]
  simp only [hq, hk]
  rfl

end Block

/-! ## What the body stores -/

theorem out_apply (l : FVec Ideal S384x1 .f32) (a : FVec Ideal S384x128 .f32) (r : Fin 384) (d : Fin 128) :
    k0_pay15 l a (ix2 r d) = Ideal.div (a (ix2 r d)) (l (ix2 r (0 : Fin 1))) := by
  unfold k0_pay15
  pointwise []

theorem lse_apply (m l : FVec Ideal S384x1 .f32) (z : Fin 8) (r : Fin 384) :
    k0_pay16 m l (ix4 (0 : Fin 1) (0 : Fin 1) z r) = m (ix2 r (0 : Fin 1)) + Ideal.log (l (ix2 r (0 : Fin 1))) * (((Real.log 2)⁻¹ : ℝ) : EReal) := by
  unfold k0_pay16
  pointwise []
  rw [named_log2e]

end Cert.Kernel2Ideal.Step
-- ==== Proof.Offs2.lean ====
/- Where each step of the forward kernel's body reads, and how many steps each of its loops takes: the block numbers as numbers. -/
module

public import proofs.«01_k».proof.Proof.Gen.Kernel2Ideal.Loops

@[expose] public section

set_option maxRecDepth 16384

noncomputable section

namespace Cert.Kernel2Ideal.Offs

open Idealize.ShloMosaic Cert.Kernel2Ideal Cert.Kernel2Ideal.Gen

/-- The row block that a point of the grid works on. -/
def ii (i : grid0.Coords) : ℕ := (i 1).val

theorem ii_lt (i : grid0.Coords) : ii i < 11 := (i 1).isLt

/-- How many steps of four column blocks follow the first block. -/
def n1 (j : ℕ) : ℕ := (j - 1) / 4

/-- The first block behind these. -/
def st3 (j : ℕ) : ℕ := 1 + 4 * n1 j

/-- How many steps of two blocks follow. -/
def n3 (j : ℕ) : ℕ := (j - st3 j) / 2

/-- The first block behind these. -/
def st5 (j : ℕ) : ℕ := st3 j + 2 * n3 j

/-- How many steps of one block follow. -/
def n5 (j : ℕ) : ℕ := j - st5 j

/-- Is there a diagonal block besides the first? -/
def n7 (j : ℕ) : ℕ := min j 1

theorem n1_le (j : ℕ) (hj : j < 11) : n1 j ≤ 2 := by unfold n1; omega
theorem n3_le (j : ℕ) : n3 j ≤ 1 := by unfold n3 st3 n1; omega
theorem n5_le (j : ℕ) : n5 j ≤ 1 := by unfold n5 st5 n3 st3 n1; omega
theorem n7_le (j : ℕ) : n7 j ≤ 1 := by unfold n7; omega

theorem trips1 (i : grid0.Coords) : (k0_t1_loop i).trips = n1 (ii i) := by
  have hj := ii_lt i
  unfold ii at *
  unfold k0_t1_loop
  generalize (i 1).val = j at *
  interval_cases j <;> rfl

theorem trips2 (i : grid0.Coords) : (k0_t2_loop i).trips = 0 := by
  have hj := ii_lt i
  unfold ii at *
  unfold k0_t2_loop
  generalize (i 1).val = j at *
  interval_cases j <;> rfl

theorem trips3 (i : grid0.Coords) : (k0_t3_loop i).trips = n3 (ii i) := by
  have hj := ii_lt i
  unfold ii at *
  unfold k0_t3_loop
  generalize (i 1).val = j at *
  interval_cases j <;> rfl

theorem trips4 (i : grid0.Coords) : (k0_t4_loop i).trips = 0 := by
  have hj := ii_lt i
  unfold ii at *
  unfold k0_t4_loop
  generalize (i 1).val = j at *
  interval_cases j <;> rfl

theorem trips5 (i : grid0.Coords) : (k0_t5_loop i).trips = n5 (ii i) := by
  have hj := ii_lt i
  unfold ii at *
  unfold k0_t5_loop
  generalize (i 1).val = j at *
  interval_cases j <;> rfl

theorem trips6 (i : grid0.Coords) : (k0_t6_loop i).trips = 0 := by
  have hj := ii_lt i
  unfold ii at *
  unfold k0_t6_loop
  generalize (i 1).val = j at *
  interval_cases j <;> rfl

theorem trips7 (i : grid0.Coords) : (k0_t7_loop i).trips = n7 (ii i) := by
  have hj := ii_lt i
  unfold ii at *
  unfold k0_t7_loop
  generalize (i 1).val = j at *
  interval_cases j <;> rfl

theorem trips8 (i : grid0.Coords) : (k0_t8_loop i).trips = 0 := by
  have hj := ii_lt i
  unfold ii at *
  unfold k0_t8_loop
  generalize (i 1).val = j at *
  interval_cases j <;> rfl

theorem pos7 (i : grid0.Coords) (k : Fin (k0_t7_loop i).trips) : ii i ≠ 0 := fun h =>
  absurd (k.isLt.trans_eq (trips7 i)) (by unfold n7; omega)

/-- The diagonal loop's only step is at the diagonal block. -/
theorem iv7 (i : grid0.Coords) (k : Fin (k0_t7_loop i).trips) :
    Scf.iv (Scalar.maxsi (BitVec.ofNat 32 (i 1).val) 1#32) 1#32 k.val = BitVec.ofNat 32 (ii i) := by
  have hj := ii_lt i
  have hk : k.val < 1 := lt_of_lt_of_le k.isLt ((trips7 i).trans_le (n7_le _))
  have h0 := pos7 i k
  unfold ii at *
  generalize k.val = t at *
  clear k
  generalize (i 1).val = j at *
  interval_cases t <;> interval_cases j <;> first | exact absurd rfl h0 | rfl

/-! ## Row offsets -/

theorem off1 (i : grid0.Coords) (k : Fin (k0_t1_loop i).trips) (r : ℕ) (hr : r < 2) :
    k0_off1 i k (BitVec.ofNat 32 (768 * r)) = ![384 * (1 + 4 * k.val + 2 * r), 0] := by
  have hj := ii_lt i
  have hk : k.val < 2 := lt_of_lt_of_le k.isLt ((trips1 i).trans_le (n1_le _ (ii_lt i)))
  unfold ii at *
  unfold k0_off1
  generalize k.val = t at *
  clear k
  generalize (i 1).val = j at *
  interval_cases r <;> interval_cases t <;> interval_cases j <;> rfl

theorem off2 (i : grid0.Coords) (k : Fin (k0_t1_loop i).trips) (r : ℕ) (hr : r < 2) :
    k0_off2 i k (BitVec.ofNat 32 (768 * r)) = ![384 * (1 + 4 * k.val + 2 * r), 0] := by
  have hj := ii_lt i
  have hk : k.val < 2 := lt_of_lt_of_le k.isLt ((trips1 i).trans_le (n1_le _ (ii_lt i)))
  unfold ii at *
  unfold k0_off2
  generalize k.val = t at *
  clear k
  generalize (i 1).val = j at *
  interval_cases r <;> interval_cases t <;> interval_cases j <;> rfl

theorem off5 (i : grid0.Coords) (k : Fin (k0_t3_loop i).trips) (r : ℕ) (hr : r < 2) :
    k0_off5 i k (BitVec.ofNat 32 (384 * r)) = ![384 * (st3 (ii i) + 2 * k.val + 1 * r), 0] := by
  have hj := ii_lt i
  have hk : k.val < 1 := lt_of_lt_of_le k.isLt ((trips3 i).trans_le (n3_le _))
  unfold ii at *
  unfold k0_off5
  generalize k.val = t at *
  clear k
  generalize (i 1).val = j at *
  interval_cases r <;> interval_cases t <;> interval_cases j <;> rfl

theorem off6 (i : grid0.Coords) (k : Fin (k0_t3_loop i).trips) (r : ℕ) (hr : r < 2) :
    k0_off6 i k (BitVec.ofNat 32 (384 * r)) = ![384 * (st3 (ii i) + 2 * k.val + 1 * r), 0] := by
  have hj := ii_lt i
  have hk : k.val < 1 := lt_of_lt_of_le k.isLt ((trips3 i).trans_le (n3_le _))
  unfold ii at *
  unfold k0_off6
  generalize k.val = t at *
  clear k
  generalize (i 1).val = j at *
  interval_cases r <;> interval_cases t <;> interval_cases j <;> rfl

theorem off9 (i : grid0.Coords) (k : Fin (k0_t5_loop i).trips) : k0_off9 i k = ![384 * (st5 (ii i) + k.val), 0] := by
  have hj := ii_lt i
  have hk : k.val < 1 := lt_of_lt_of_le k.isLt ((trips5 i).trans_le (n5_le _))
  unfold ii at *
  unfold k0_off9
  generalize k.val = t at *
  clear k
  generalize (i 1).val = j at *
  interval_cases t <;> interval_cases j <;> rfl

theorem off10 (i : grid0.Coords) (k : Fin (k0_t5_loop i).trips) : k0_off10 i k = ![384 * (st5 (ii i) + k.val), 0] := by
  have hj := ii_lt i
  have hk : k.val < 1 := lt_of_lt_of_le k.isLt ((trips5 i).trans_le (n5_le _))
  unfold ii at *
  unfold k0_off10
  generalize k.val = t at *
  clear k
  generalize (i 1).val = j at *
  interval_cases t <;> interval_cases j <;> rfl

theorem off13 (i : grid0.Coords) (k : Fin (k0_t7_loop i).trips) : k0_off13 i k = ![384 * (ii i), 0] := by
  have hj := ii_lt i
  have hk : k.val < 1 := lt_of_lt_of_le k.isLt ((trips7 i).trans_le (n7_le _))
  have h0 := pos7 i k
  unfold ii at *
  unfold k0_off13
  generalize k.val = t at *
  clear k
  generalize (i 1).val = j at *
  interval_cases t <;> interval_cases j <;> first | exact absurd rfl h0 | rfl

theorem off14 (i : grid0.Coords) (k : Fin (k0_t7_loop i).trips) : k0_off14 i k = ![384 * (ii i), 0] := by
  have hj := ii_lt i
  have hk : k.val < 1 := lt_of_lt_of_le k.isLt ((trips7 i).trans_le (n7_le _))
  have h0 := pos7 i k
  unfold ii at *
  unfold k0_off14
  generalize k.val = t at *
  clear k
  generalize (i 1).val = j at *
  interval_cases t <;> interval_cases j <;> first | exact absurd rfl h0 | rfl

end Cert.Kernel2Ideal.Offs

end
-- ==== Proof.Trip2.lean ====
/- One step of each of the forward kernel's loops: it takes the running maximum, sum and output past its columns. -/
module

public import proofs.«01_k».proof.Proof.Trip
public import proofs.«01_k».proof.Proof.Step2
public import proofs.«01_k».proof.Proof.Offs2

@[expose] public section

set_option maxRecDepth 16384

noncomputable section

namespace Cert.Kernel2Ideal.Trip

open Idealize.ShloMosaic Cert.Kernel2Ideal Cert.Kernel2Ideal.Gen Cert.Kernel2Ideal.Step Cert.Kernel2Ideal.Offs

/-- What a grid point reads: its row block's queries, and the head's keys and values. -/
structure Env (H : Head) (i : ℕ) (x0 : Vec Ideal S384x256 .bf16) (x1 : Vec Ideal S4224x256 .bf16) (x2 : Vec Ideal S4224x128 .bf16) : Prop where
  q : ∀ (r : Fin 384) (e : Fin 256), x0 (ix2 r e) = H.Q (384 * i + r.val) e
  k : ∀ (r : Fin 4224) (e : Fin 256), x1 (ix2 r e) = H.K r.val e
  v : ∀ (r : Fin 4224) (d : Fin 128), x2 (ix2 r d) = H.V r.val d

/-- The loops' carried values. -/
abbrev Carried : Type := FVec Ideal S384x1 .f32 × FVec Ideal S384x1 .f32 × FVec Ideal S384x128 .f32

/-- The same of the triple that the loops carry. -/
def At (H : Head) (i n : ℕ) (s : Carried) : Prop := Carry H i n s.1 s.2.1 s.2.2

theorem at_cast {H : Head} {i n n' : ℕ} {s : Carried} (h : At H i n s) (e : n = n') : At H i n' s := e ▸ h

variable (𝒱 : Variants) (c : Dev nD) (bd : Option 𝒱.V) (i : grid0.Coords) (arg2 : Memref sig .tc .vmem S384x256 .bf16) (harg2 : arg2.IsWhole)
  (arg3 : Memref sig .tc .vmem S4224x256 .bf16) (harg3 : arg3.IsWhole) (arg4 : Memref sig .tc .vmem S4224x128 .bf16) (harg4 : arg4.IsWhole)
  (arg5 : Memref sig .tc .vmem S384x128 .f32) (harg5 : arg5.IsWhole) (arg6 : Memref sig .tc .vmem S1x1x8x384 .f32) (harg6 : arg6.IsWhole)
  (a1 w1 w2 w3 w4 w5 w6 : BitVec 32) (v27 v36 : FVec Ideal S384x1 .f32) (v38 : FVec Ideal S384x128 .f32) (v39 : FVec Ideal S384x384 .bf16) (v41 : Vec Ideal S384x128 .bf16)
  (X2 : BufTy.Contents (Elt Ideal) arg2.view.ty) (X3 : BufTy.Contents (Elt Ideal) arg3.view.ty) (X4 : BufTy.Contents (Elt Ideal) arg4.view.ty)
  (H : Head) (s : Carried)

/-- A step of one block before the diagonal. -/
theorem t5_step (E : Env H (ii i) (arg2.view.read (Elt Ideal) X2) (arg3.view.read (Elt Ideal) X3) (arg4.view.read (Elt Ideal) X4)) (k : Fin (k0_t5_loop i).trips)
    (h : At H (ii i) (384 * (st5 (ii i) + k.val)) s) :
    At H (ii i) (384 * (st5 (ii i) + (k.val + 1))) (tripR_k0_t5 (F := Ideal) 𝒱 c bd i arg2 harg2 arg3 harg3 arg4 harg4 arg5 harg5 arg6 harg6  X2 X3 X4 k s) := by
  obtain ⟨m, l, a⟩ := s
  have hj := ii_lt i
  have hk5 : k.val < n5 (ii i) := lt_of_lt_of_eq k.isLt (trips5 i)
  have hs5 : 1 ≤ st5 (ii i) := by unfold st5 st3; omega
  have hle : st5 (ii i) + k.val + 1 ≤ ii i := by unfold n5 at hk5; omega
  have hq : ∀ inb (r : Fin 384) (e : Fin 256), arg2.view.readAt (Elt Ideal) (Rect.unit (s := S384x256) ![0, 0] ![384, 256] inb).toLoadRect X2 (ix2 r e) = H.Q (384 * ii i + r.val) e :=
    fun inb r e => (congrFun (View.readAt_full arg2.view X2 inb) _).trans (E.q r e)
  have hk0 := @Cert.KernelIdeal.Trip.ld_rows _ _ _ _ _ (st5 (ii i) + k.val) _ 384 arg3.view X3 H.K E.k (by omega) _ (off9 i k)
  have hv0 := @Cert.KernelIdeal.Trip.ld_rows _ _ _ _ _ (st5 (ii i) + k.val) _ 384 arg4.view X4 H.V E.v (by omega) _ (off10 i k)
  unfold tripR_k0_t5 trip_k0_t5
  exact at_cast (s := (_, _, _)) (Carry.block h (s := sc _ _) (v := _) (sc_open (hq _) (hk0 _) (by omega) (by omega)) (hv0 _)) (by omega)

/-- A step of four blocks before the diagonal. -/
theorem t1_step (E : Env H (ii i) (arg2.view.read (Elt Ideal) X2) (arg3.view.read (Elt Ideal) X3) (arg4.view.read (Elt Ideal) X4)) (k : Fin (k0_t1_loop i).trips)
    (h : At H (ii i) (384 * (1 + 4 * k.val)) s) :
    At H (ii i) (384 * (1 + 4 * (k.val + 1))) (tripR_k0_t1 (F := Ideal) 𝒱 c bd i arg2 harg2 arg3 harg3 arg4 harg4 arg5 harg5 arg6 harg6 a1 v27 v36 v38 v39 v41 X2 X3 X4 k s) := by
  obtain ⟨m, l, a⟩ := s
  have hj := ii_lt i
  have hk' : k.val < n1 (ii i) := lt_of_lt_of_eq k.isLt (trips1 i)
  have hle : 1 + 4 * k.val + 4 ≤ ii i := by unfold n1 at hk'; omega
  have hq : ∀ inb (r : Fin 384) (e : Fin 256), arg2.view.readAt (Elt Ideal) (Rect.unit (s := S384x256) ![0, 0] ![384, 256] inb).toLoadRect X2 (ix2 r e) = H.Q (384 * ii i + r.val) e :=
    fun inb r e => (congrFun (View.readAt_full arg2.view X2 inb) _).trans (E.q r e)
  have hk0 := @Cert.KernelIdeal.Trip.ld_rows _ _ _ _ _ (1 + 4 * k.val + 2 * 0) _ 768 arg3.view X3 H.K E.k (by omega) _ (off1 i k 0 (by omega))
  have hv0 := @Cert.KernelIdeal.Trip.ld_rows _ _ _ _ _ (1 + 4 * k.val + 2 * 0) _ 768 arg4.view X4 H.V E.v (by omega) _ (off2 i k 0 (by omega))
  have hk1 := @Cert.KernelIdeal.Trip.ld_rows _ _ _ _ _ (1 + 4 * k.val + 2 * 1) _ 768 arg3.view X3 H.K E.k (by omega) _ (off1 i k 1 (by omega))
  have hv1 := @Cert.KernelIdeal.Trip.ld_rows _ _ _ _ _ (1 + 4 * k.val + 2 * 1) _ 768 arg4.view X4 H.V E.v (by omega) _ (off2 i k 1 (by omega))
  unfold tripR_k0_t1 trip_k0_t1
  have h1 := Carry.wblock h (s := wsc _ _) (v := _) (wsc_open (hq inb_S384x256_S384x256_0_0) (hk0 (k0_off1_inb i k 0)) (by omega) (by omega)) (hv0 (k0_off2_inb i k 0))
  have h2 := Carry.wblock (at_cast (s := (_, _, _)) h1 (n' := 384 * (1 + 4 * k.val + 2 * 1)) (by omega)) (s := wsc _ _) (v := _) (wsc_open (hq inb_S384x256_S384x256_0_0) (hk1 (k0_off1_inb i k 1)) (by omega) (by omega)) (hv1 (k0_off2_inb i k 1))
  exact at_cast (s := (_, _, _)) h2 (by omega)

/-- A step of two blocks before the diagonal. -/
theorem t3_step (E : Env H (ii i) (arg2.view.read (Elt Ideal) X2) (arg3.view.read (Elt Ideal) X3) (arg4.view.read (Elt Ideal) X4)) (k : Fin (k0_t3_loop i).trips)
    (h : At H (ii i) (384 * (st3 (ii i) + 2 * k.val)) s) :
    At H (ii i) (384 * (st3 (ii i) + 2 * (k.val + 1))) (tripR_k0_t3 (F := Ideal) 𝒱 c bd i arg2 harg2 arg3 harg3 arg4 harg4 arg5 harg5 arg6 harg6 a1 v27 v36 v38 w1 w2 w3 w4 w5 w6 X2 X3 X4 k s) := by
  obtain ⟨m, l, a⟩ := s
  have hj := ii_lt i
  have hk' : k.val < n3 (ii i) := lt_of_lt_of_eq k.isLt (trips3 i)
  have hs : 1 ≤ st3 (ii i) := by unfold st3; omega
  have hle : st3 (ii i) + 2 * k.val + 2 ≤ ii i := by unfold n3 at hk'; omega
  have hq : ∀ inb (r : Fin 384) (e : Fin 256), arg2.view.readAt (Elt Ideal) (Rect.unit (s := S384x256) ![0, 0] ![384, 256] inb).toLoadRect X2 (ix2 r e) = H.Q (384 * ii i + r.val) e :=
    fun inb r e => (congrFun (View.readAt_full arg2.view X2 inb) _).trans (E.q r e)
  have hk0 := @Cert.KernelIdeal.Trip.ld_rows _ _ _ _ _ (st3 (ii i) + 2 * k.val + 1 * 0) _ 384 arg3.view X3 H.K E.k (by omega) _ (off5 i k 0 (by omega))
  have hv0 := @Cert.KernelIdeal.Trip.ld_rows _ _ _ _ _ (st3 (ii i) + 2 * k.val + 1 * 0) _ 384 arg4.view X4 H.V E.v (by omega) _ (off6 i k 0 (by omega))
  have hk1 := @Cert.KernelIdeal.Trip.ld_rows _ _ _ _ _ (st3 (ii i) + 2 * k.val + 1 * 1) _ 384 arg3.view X3 H.K E.k (by omega) _ (off5 i k 1 (by omega))
  have hv1 := @Cert.KernelIdeal.Trip.ld_rows _ _ _ _ _ (st3 (ii i) + 2 * k.val + 1 * 1) _ 384 arg4.view X4 H.V E.v (by omega) _ (off6 i k 1 (by omega))
  unfold tripR_k0_t3 trip_k0_t3
  have h1 := Carry.block h (s := sc _ _) (v := _) (sc_open (hq inb_S384x256_S384x256_0_0) (hk0 (k0_off5_inb i k 0)) (by omega) (by omega)) (hv0 (k0_off6_inb i k 0))
  have h2 := Carry.block (at_cast (s := (_, _, _)) h1 (n' := 384 * (st3 (ii i) + 2 * k.val + 1 * 1)) (by omega)) (s := sc _ _) (v := _) (sc_open (hq inb_S384x256_S384x256_0_0) (hk1 (k0_off5_inb i k 1)) (by omega) (by omega)) (hv1 (k0_off6_inb i k 1))
  exact at_cast (s := (_, _, _)) h2 (by omega)

/-- The diagonal block. -/
theorem t7_step (E : Env H (ii i) (arg2.view.read (Elt Ideal) X2) (arg3.view.read (Elt Ideal) X3) (arg4.view.read (Elt Ideal) X4)) (k : Fin (k0_t7_loop i).trips)
    (h : At H (ii i) (384 * (ii i + k.val)) s) :
    At H (ii i) (384 * (ii i + (k.val + 1))) (tripR_k0_t7 (F := Ideal) 𝒱 c bd i arg2 harg2 arg3 harg3 arg4 harg4 arg5 harg5 arg6 harg6 (BitVec.ofNat 32 (i 1).val) (Scalar.maxsi (BitVec.ofNat 32 (i 1).val) 1#32) X2 X3 X4 k s) := by
  obtain ⟨m, l, a⟩ := s
  have hj := ii_lt i
  have hz : k.val = 0 := by have hk := lt_of_lt_of_le k.isLt ((trips7 i).trans_le (n7_le _)); omega
  rw [hz, Nat.add_zero] at h
  rw [hz]
  have hq : ∀ inb (r : Fin 384) (e : Fin 256), arg2.view.readAt (Elt Ideal) (Rect.unit (s := S384x256) ![0, 0] ![384, 256] inb).toLoadRect X2 (ix2 r e) = H.Q (384 * ii i + r.val) e :=
    fun inb r e => (congrFun (View.readAt_full arg2.view X2 inb) _).trans (E.q r e)
  have hk0 := @Cert.KernelIdeal.Trip.ld_rows _ _ _ _ _ (ii i) _ 384 arg3.view X3 H.K E.k (by omega) _ (off13 i k)
  have hv0 := @Cert.KernelIdeal.Trip.ld_rows _ _ _ _ _ (ii i) _ 384 arg4.view X4 H.V E.v (by omega) _ (off14 i k)
  unfold tripR_k0_t7 trip_k0_t7
  refine at_cast (s := (_, _, _)) (Carry.block h (s := k0_pay51 i _ _ _ k _ _) (v := _) (fun r x => ?_) (hv0 _)) (by omega)
  refine (diag_apply i _ _ _ k (ii i) hj rfl (iv7 i k) _ _ r x).trans ?_
  rw [sc_apply, Head.σ]
  simp only [hq, hk0]
  rfl

end Cert.Kernel2Ideal.Trip

end
-- ==== Proof.Case2.lean ====
/- The forward kernel's loops, and what its body leaves in the two outputs' buffers at a grid point: the softmax over the columns up to the diagonal. -/
module

public import proofs.«01_k».proof.Proof.Trip2
public import proofs.«01_k».proof.Proof.Gen.Kernel2Ideal.Frame

@[expose] public section

set_option maxRecDepth 16384

noncomputable section

namespace Cert.Kernel2Ideal.Case

open Idealize.ShloMosaic Cert.Kernel2Ideal Cert.Kernel2Ideal.Gen Cert.Kernel2Ideal.Step Cert.Kernel2Ideal.Offs Cert.Kernel2Ideal.Trip Cert.Fwd

variable {H : Head} {b : ℕ}

/-- A loop whose step `k` goes from `row k` to `row (k + 1)` goes from `row 0` to `row N`. -/
theorem iterate {N : ℕ} (row : ℕ → ℕ) {s : Carried} (st : ℕ → Carried) (T : Fin N → Carried → Carried) (h0 : st 0 = s) (hs : ∀ k : Fin N, st (k.val + 1) = T k (st k.val))
    (step : ∀ (k : Fin N) s, At H b (384 * row k.val) s → At H b (384 * row (k.val + 1)) (T k s)) {n : ℕ} (hn : n = N) {lo hi : ℕ} (hlo : lo = row 0) (hhi : hi = row N)
    (h : At H b (384 * lo) s) : At H b (384 * hi) (st n) := by
  subst hn hlo hhi
  have e : ∀ n' ≤ n, At H b (384 * row n') (st n') := by
    intro n'
    induction n' with
    | zero => intro _; rw [h0]; exact h
    | succ q ih => intro hq; rw [hs ⟨q, hq⟩]; exact step ⟨q, hq⟩ _ (ih (Nat.le_of_succ_le hq))
  exact e n le_rfl

/-- A loop without steps. -/
theorem idle {s : Carried} (st : ℕ → Carried) (h0 : st 0 = s) {n N : ℕ} (hn : n = N) (hN : N = 0) {lo : ℕ} (h : At H b lo s) : At H b lo (st n) := by
  subst hn hN; rw [h0]; exact h

variable (𝒱 : Variants) (c : Dev nD) (bd : Option 𝒱.V) (i : grid0.Coords) (arg2 : Memref sig .tc .vmem S384x256 .bf16) (harg2 : arg2.IsWhole)
  (arg3 : Memref sig .tc .vmem S4224x256 .bf16) (harg3 : arg3.IsWhole) (arg4 : Memref sig .tc .vmem S4224x128 .bf16) (harg4 : arg4.IsWhole)
  (arg5 : Memref sig .tc .vmem S384x128 .f32) (harg5 : arg5.IsWhole) (arg6 : Memref sig .tc .vmem S1x1x8x384 .f32) (harg6 : arg6.IsWhole)
  (a1 w1 w2 w3 w4 w5 w6 w7 : BitVec 32) (v27 v36 : FVec Ideal S384x1 .f32) (v38 : FVec Ideal S384x128 .f32) (v39 : FVec Ideal S384x384 .bf16) (v41 : Vec Ideal S384x128 .bf16)
  (X2 : BufTy.Contents (Elt Ideal) arg2.view.ty) (X3 : BufTy.Contents (Elt Ideal) arg3.view.ty) (X4 : BufTy.Contents (Elt Ideal) arg4.view.ty)
  (s : Carried)

theorem loop1 (E : Env H (ii i) (arg2.view.read (Elt Ideal) X2) (arg3.view.read (Elt Ideal) X3) (arg4.view.read (Elt Ideal) X4)) {n : ℕ} (hn : n = (k0_t1_loop i).trips)
    (h : At H (ii i) (384 * 1) s) : At H (ii i) (384 * st3 (ii i)) (st_k0_t1 (F := Ideal) 𝒱 c bd i arg2 harg2 arg3 harg3 arg4 harg4 arg5 harg5 arg6 harg6 a1 v27 v36 v38 v39 v41 X2 X3 X4 s n) :=
  iterate (fun k => 1 + 4 * k) _ _ rfl (st_k0_t1_succ (F := Ideal) 𝒱 c bd i arg2 harg2 arg3 harg3 arg4 harg4 arg5 harg5 arg6 harg6 a1 v27 v36 v38 v39 v41 X2 X3 X4 s)
    (fun k s h => t1_step 𝒱 c bd i arg2 harg2 arg3 harg3 arg4 harg4 arg5 harg5 arg6 harg6 a1 v27 v36 v38 v39 v41 X2 X3 X4 H s E k h) hn (by simp) (by simp only [trips1 i]; try rfl) h

theorem loop2 {lo n : ℕ} (hn : n = (k0_t2_loop i).trips) (h : At H b lo s) :
    At H b lo (st_k0_t2 (F := Ideal) 𝒱 c bd i arg2 harg2 arg3 harg3 arg4 harg4 arg5 harg5 arg6 harg6 a1 v27 v36 v38 v39 v41 w1 X2 X3 X4 s n) :=
  idle _ rfl hn (trips2 i) h

theorem loop3 (E : Env H (ii i) (arg2.view.read (Elt Ideal) X2) (arg3.view.read (Elt Ideal) X3) (arg4.view.read (Elt Ideal) X4)) {n : ℕ} (hn : n = (k0_t3_loop i).trips)
    (h : At H (ii i) (384 * st3 (ii i)) s) : At H (ii i) (384 * st5 (ii i)) (st_k0_t3 (F := Ideal) 𝒱 c bd i arg2 harg2 arg3 harg3 arg4 harg4 arg5 harg5 arg6 harg6 a1 v27 v36 v38 w1 w2 w3 w4 w5 w6 X2 X3 X4 s n) :=
  iterate (fun k => st3 (ii i) + 2 * k) _ _ rfl (st_k0_t3_succ (F := Ideal) 𝒱 c bd i arg2 harg2 arg3 harg3 arg4 harg4 arg5 harg5 arg6 harg6 a1 v27 v36 v38 w1 w2 w3 w4 w5 w6 X2 X3 X4 s)
    (fun k s h => t3_step 𝒱 c bd i arg2 harg2 arg3 harg3 arg4 harg4 arg5 harg5 arg6 harg6 a1 w1 w2 w3 w4 w5 w6 v27 v36 v38 X2 X3 X4 H s E k h) hn (by simp) (by simp only [trips3 i]; try rfl) h

theorem loop4 {lo n : ℕ} (hn : n = (k0_t4_loop i).trips) (h : At H b lo s) :
    At H b lo (st_k0_t4 (F := Ideal) 𝒱 c bd i arg2 harg2 arg3 harg3 arg4 harg4 arg5 harg5 arg6 harg6 a1 v27 v36 v38 w1 w2 w3 w4 w5 w6 w7 X2 X3 X4 s n) :=
  idle _ rfl hn (trips4 i) h

theorem loop5 (E : Env H (ii i) (arg2.view.read (Elt Ideal) X2) (arg3.view.read (Elt Ideal) X3) (arg4.view.read (Elt Ideal) X4)) {n : ℕ} (hn : n = (k0_t5_loop i).trips)
    (h : At H (ii i) (384 * st5 (ii i)) s) : At H (ii i) (384 * (st5 (ii i) + n5 (ii i))) (st_k0_t5 (F := Ideal) 𝒱 c bd i arg2 harg2 arg3 harg3 arg4 harg4 arg5 harg5 arg6 harg6  X2 X3 X4 s n) :=
  iterate (fun k => st5 (ii i) + k) _ _ rfl (st_k0_t5_succ (F := Ideal) 𝒱 c bd i arg2 harg2 arg3 harg3 arg4 harg4 arg5 harg5 arg6 harg6  X2 X3 X4 s)
    (fun k s h => t5_step 𝒱 c bd i arg2 harg2 arg3 harg3 arg4 harg4 arg5 harg5 arg6 harg6  X2 X3 X4 H s E k h) hn (by simp) (by simp only [trips5 i]; try rfl) h

theorem loop6 {lo n : ℕ} (hn : n = (k0_t6_loop i).trips) (h : At H b lo s) :
    At H b lo (st_k0_t6 (F := Ideal) 𝒱 c bd i arg2 harg2 arg3 harg3 arg4 harg4 arg5 harg5 arg6 harg6  X2 X3 X4 s n) :=
  idle _ rfl hn (trips6 i) h

theorem loop7 (E : Env H (ii i) (arg2.view.read (Elt Ideal) X2) (arg3.view.read (Elt Ideal) X3) (arg4.view.read (Elt Ideal) X4)) {n : ℕ} (hn : n = (k0_t7_loop i).trips)
    (h : At H (ii i) (384 * (st5 (ii i) + n5 (ii i))) s) :
    At H (ii i) (384 * (ii i + 1)) (st_k0_t7 (F := Ideal) 𝒱 c bd i arg2 harg2 arg3 harg3 arg4 harg4 arg5 harg5 arg6 harg6 (BitVec.ofNat 32 (i 1).val) (Scalar.maxsi (BitVec.ofNat 32 (i 1).val) 1#32) X2 X3 X4 s n) :=
  iterate (fun k => max (ii i) 1 + k) _ _ rfl (st_k0_t7_succ (F := Ideal) 𝒱 c bd i arg2 harg2 arg3 harg3 arg4 harg4 arg5 harg5 arg6 harg6 (BitVec.ofNat 32 (i 1).val) (Scalar.maxsi (BitVec.ofNat 32 (i 1).val) 1#32) X2 X3 X4 s)
    (fun k s h => by
      have e : max (ii i) 1 = ii i := by have := pos7 i k; omega
      simp only [e] at h ⊢
      exact t7_step 𝒱 c bd i arg2 harg2 arg3 harg3 arg4 harg4 arg5 harg5 arg6 harg6 X2 X3 X4 H s E k h) hn (by unfold n5 st5 n3 st3 n1; omega) (by simp only [trips7 i]; unfold n7; omega) h

theorem loop8 {lo n : ℕ} (hn : n = (k0_t8_loop i).trips) (h : At H b lo s) :
    At H b lo (st_k0_t8 (F := Ideal) 𝒱 c bd i arg2 harg2 arg3 harg3 arg4 harg4 arg5 harg5 arg6 harg6 a1 w1 X2 X3 X4 s n) :=
  idle _ rfl hn (trips8 i) h

/-- The first block, masked, from nothing. -/
theorem first (q k : Vec Ideal S384x256 .bf16) (v : Vec Ideal S384x128 .bf16) (hq : ∀ (r : Fin 384) e, q (ix2 r e) = H.Q (384 * ii i + r.val) e)
    (hk : ∀ (x : Fin 384) e, k (ix2 x e) = H.K (384 * 0 + x.val) e) (hv : ∀ (x : Fin 384) d, v (ix2 x d) = H.V (384 * 0 + x.val) d) :
    At H (ii i) (384 * 1) (k0_pay67 i q k, k0_pay70 i q k, k0_pay73 (k0_pay71 i q k) (k0_pay72 i q k) v) := by
  have h0 : Carry H (ii i) (384 * 0) k0_pay65 (broadcast S384x1 (Scalar.ofBits .f32 0x00000000#32)) (broadcast S384x128 (Scalar.ofBits .f32 0x00000000#32)) := by
    intro r d
    have e1 : (k0_pay65 (F := Ideal)) (ix2 r (0 : Fin 1)) = ⊥ := by
      pointwise [k0_pay65]
      exact named_mask
    have e2 : (broadcast S384x1 (Scalar.ofBits .f32 0x00000000#32) : FVec Ideal S384x1 .f32) (ix2 r (0 : Fin 1)) = 0 := by pointwise []
    have e3 : (broadcast S384x128 (Scalar.ofBits .f32 0x00000000#32) : FVec Ideal S384x128 .f32) (ix2 r d) = 0 := by pointwise []
    rw [e1, e2, e3]
    exact sofar_zero _ _
  refine at_cast (s := (_, _, _)) (Carry.block h0 (s := k0_pay66 i q k) (v := v) (fun r x => ?_) hv) (by omega)
  rw [first_apply, sc_apply, Head.σ]
  simp only [hq, hk, Nat.mul_zero, Nat.zero_add]
  rfl

theorem of_at {n : ℕ} {m l : FVec Ideal S384x1 .f32} {a : FVec Ideal S384x128 .f32} (h : At H b n (m, l, a)) : Carry H b n m l a := h

attribute [local irreducible] At

variable (x0 : Vec Ideal S384x256 .bf16) (x1 : Vec Ideal S4224x256 .bf16) (x2 : Vec Ideal S4224x128 .bf16)

set_option maxHeartbeats 4000000 in
/-- What the body leaves: the output and the logarithms of three values that have taken all the columns up to the diagonal. -/
theorem case (E : Env H (ii i) x0 x1 x2) : ∃ m l a, Carry H (ii i) (384 * (ii i + 1)) m l a
    ∧ out0_A_3 c i arg2 harg2 arg3 harg3 arg4 harg4 arg5 harg5 arg6 harg6 x0 x1 x2 = k0_pay15 l a
    ∧ out0_A_4 c i arg2 harg2 arg3 harg3 arg4 harg4 arg5 harg5 arg6 harg6 x0 x1 x2 = k0_pay16 m l := by
  have E' : Env H (ii i) (arg2.view.read (Elt Ideal) (harg2.unread x0)) (arg3.view.read (Elt Ideal) (harg3.unread x1)) (arg4.view.read (Elt Ideal) (harg4.unread x2)) := by
    rw [harg2.read_unread, harg3.read_unread, harg4.read_unread]; exact E
  have hq : ∀ inb (r : Fin 384) (e : Fin 256), arg2.view.readAt (Elt Ideal) (Rect.unit (s := S384x256) ![0, 0] ![384, 256] inb).toLoadRect (harg2.unread x0) (ix2 r e) = H.Q (384 * ii i + r.val) e :=
    fun inb r e => (congrFun (View.readAt_full arg2.view (harg2.unread x0) inb) _).trans (E'.q r e)
  have hk := @Cert.KernelIdeal.Trip.ld_rows _ _ _ _ _ 0 _ 384 arg3.view (harg3.unread x1) H.K E'.k (by omega) _ rfl
  have hv := @Cert.KernelIdeal.Trip.ld_rows _ _ _ _ _ 0 _ 384 arg4.view (harg4.unread x2) H.V E'.v (by omega) _ rfl
  unfold out0_A_3 out0_A_4
  rw [View.read_writes_of_cover VO0_3 _ arg5.view arg5.view.junk _ (cover0_A_3 c i arg2 harg2 arg3 harg3 arg4 harg4 arg5 harg5 arg6 harg6 x0 x1 x2),
    View.read_writes_of_cover VO0_4 _ arg6.view arg6.view.junk _ (cover0_A_4 c i arg2 harg2 arg3 harg3 arg4 harg4 arg5 harg5 arg6 harg6 x0 x1 x2)]
  unfold kernelRun0_A
  dsimp only
  refine ⟨_, _, _, ?_, View.read_writes_full _ _ _ _ _, View.read_writes_full _ _ _ _ _⟩
  refine of_at ?_
  refine loop8 (hn := rfl) (h := ?_) ..
  refine loop7 (hn := rfl) (E := E') (h := ?_) ..
  refine loop6 (hn := rfl) (h := ?_) ..
  refine loop5 (hn := rfl) (E := E') (h := ?_) ..
  refine loop4 (hn := rfl) (h := ?_) ..
  refine loop3 (hn := rfl) (E := E') (h := ?_) ..
  refine loop2 (hn := rfl) (h := ?_) ..
  refine loop1 (hn := rfl) (E := E') (h := ?_) ..
  exact first i _ _ _ (hq _) (hk _) (hv _)

end Cert.Kernel2Ideal.Case

end
-- ==== Proof.Arrays2.lean ====
/- The forward kernel's two result arrays after the run. -/
module

public import proofs.«01_k».proof.Proof.Case2
public import Idealize.ShloMosaic.Lib.Decide
public import Idealize.ShloMosaic.Lib.Pipeline.ValueKit.Geometry

@[expose] public section

set_option maxRecDepth 16384

noncomputable section

namespace Cert.Kernel2Ideal.Step.Head

variable (H : Head)

/-- A query's largest score, the sum of its keys' weights and their weighted sum of values. -/
def M (i : ℕ) : EReal := (Finset.range 4224).sup (H.σ i)
def Z (i : ℕ) : EReal := ∑ k ∈ Finset.range 4224, Cert.Fwd.e2 (H.σ i k - H.M i)
def A (i : ℕ) (d : Fin 128) : EReal := ∑ k ∈ Finset.range 4224, Cert.Fwd.e2 (H.σ i k - H.M i) * H.V k d

/-- What the kernel makes of them. -/
def out (i : ℕ) (d : Fin 128) : EReal := Idealize.ShloMosaic.Ideal.div (H.A i d) (H.Z i)
def lse (i : ℕ) : EReal := H.M i + Idealize.ShloMosaic.Ideal.log (H.Z i) * (((Real.log 2)⁻¹ : ℝ) : EReal)

end Cert.Kernel2Ideal.Step.Head

namespace Cert.Kernel2Ideal.Arrays

open Idealize.ShloMosaic Idealize.ShloMosaic.Pipeline Cert.Kernel2Ideal Cert.Kernel2Ideal.Gen Cert.Kernel2Ideal.Step Cert.Kernel2Ideal.Offs Cert.Kernel2Ideal.Trip Cert.Fwd

/-- The columns past the diagonal add nothing. -/
theorem whole {H : Head} {b : ℕ} (hb : b < 11) {m l : FVec Ideal S384x1 .f32} {a : FVec Ideal S384x128 .f32} (h : Carry H b (384 * (b + 1)) m l a) (r : Fin 384) (d : Fin 128) :
    m (ix2 r (0 : Fin 1)) = H.M (384 * b + r.val) ∧ l (ix2 r (0 : Fin 1)) = H.Z (384 * b + r.val) ∧ a (ix2 r d) = H.A (384 * b + r.val) d := by
  obtain ⟨h1, h2, h3⟩ := (h r d).mono (n' := 4224) (by omega) fun k hk => if_neg (by omega)
  exact ⟨h1, by rw [h2, h1]; rfl, by rw [h3, h1]; rfl⟩

variable (m : (ℓ : Loc nD τ sig) → Buf (Elt Ideal) ℓ) (c : Dev nD)

/-- The pipeline's input arrays hold the heads' rows. -/
structure Holds (H : ℕ → Head) : Prop where
  q : ∀ (h : Fin 8) (r : Fin 4224) (e : Fin 256), V m c main_v2 (ix2 r (⟨256 * h.val + e.val, by omega⟩ : Fin 2048)) = (H h.val).Q r.val e
  k : ∀ (h : Fin 8) (r : Fin 4224) (e : Fin 256), V m c main_v5 (ix2 r (⟨256 * h.val + e.val, by omega⟩ : Fin 2048)) = (H h.val).K r.val e
  v : ∀ (h : Fin 8) (r : Fin 4224) (d : Fin 128), V m c main_v8 (ix2 r (⟨128 * h.val + d.val, by omega⟩ : Fin 1024)) = (H h.val).V r.val d

theorem lt88 (t : Fin cfg0.N) : t.val < 88 := lt_of_lt_of_eq t.isLt N_0

theorem ix0 (t : Fin cfg0.N) : (cfg0.win 0).index t 0 = t.val % 11 ∧ (cfg0.win 0).index t 1 = t.val / 11 := by
  revert t; decide +kernel
theorem ix1' (t : Fin cfg0.N) : (cfg0.win 1).index t 0 = 0 ∧ (cfg0.win 1).index t 1 = t.val / 11 := by
  revert t; decide +kernel
theorem ix2' (t : Fin cfg0.N) : (cfg0.win 2).index t 0 = 0 ∧ (cfg0.win 2).index t 1 = t.val / 11 := by
  revert t; decide +kernel
theorem ix3' (t : Fin cfg0.N) : (cfg0.win 3).index t 0 = t.val % 11 ∧ (cfg0.win 3).index t 1 = t.val / 11 := by
  revert t; decide +kernel
theorem ix4' (t : Fin cfg0.N) : (cfg0.win 4).index t 0 = t.val / 11 ∧ (cfg0.win 4).index t 1 = t.val % 11 ∧ (cfg0.win 4).index t 2 = 0 ∧ (cfg0.win 4).index t 3 = 0 := by
  revert t; decide +kernel
theorem ii_coords (t : Fin cfg0.N) : ii (grid0.coords t) = t.val % 11 := by
  revert t; decide +kernel

variable {m c} {H : ℕ → Head}

theorem env (W : Holds m c H) (t : Fin cfg0.N) : Env (H (t.val / 11)) (ii (grid0.coords t)) (iblk m c 0 t) (iblk m c 1 t) (iblk m c 2 t) := by
  have h88 := lt88 t
  have hh : t.val / 11 < 8 := by omega
  rw [ii_coords]
  refine ⟨fun r e => ?_, fun r e => ?_, fun r d => ?_⟩
  · refine Eq.trans (congrArg (V m c main_v2) (funext fun a => Fin.ext ?_)) (W.q ⟨t.val / 11, hh⟩ ⟨384 * (t.val % 11) + r.val, by omega⟩ e)
    refine (Pipeline.Window.rect_emb_val (cfg0.win 0) t (ix2 r e) a).trans ?_
    fin_cases a
    · show (cfg0.win 0).index t 0 * 384 + r.val = 384 * (t.val % 11) + r.val
      rw [(ix0 t).1]; omega
    · show (cfg0.win 0).index t 1 * 256 + e.val = 256 * (t.val / 11) + e.val
      rw [(ix0 t).2]; omega
  · refine Eq.trans (congrArg (V m c main_v5) (funext fun a => Fin.ext ?_)) (W.k ⟨t.val / 11, hh⟩ r e)
    refine (Pipeline.Window.rect_emb_val (cfg0.win 1) t (ix2 r e) a).trans ?_
    fin_cases a
    · show (cfg0.win 1).index t 0 * 4224 + r.val = r.val
      rw [(ix1' t).1]; omega
    · show (cfg0.win 1).index t 1 * 256 + e.val = 256 * (t.val / 11) + e.val
      rw [(ix1' t).2]; omega
  · refine Eq.trans (congrArg (V m c main_v8) (funext fun a => Fin.ext ?_)) (W.v ⟨t.val / 11, hh⟩ r d)
    refine (Pipeline.Window.rect_emb_val (cfg0.win 2) t (ix2 r d) a).trans ?_
    fin_cases a
    · show (cfg0.win 2).index t 0 * 4224 + r.val = r.val
      rw [(ix2' t).1]; omega
    · show (cfg0.win 2).index t 1 * 128 + d.val = 128 * (t.val / 11) + d.val
      rw [(ix2' t).2]; omega

theorem fst_eq (t : Fin cfg0.N) : (outsAt0 m c t).1 = out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by
  unfold outsAt0; dsimp only
theorem snd_eq (t : Fin cfg0.N) : (outsAt0 m c t).2 = out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by
  unfold outsAt0; dsimp only

/-- What a point leaves. -/
theorem outs (W : Holds m c H) (t : Fin cfg0.N) :
    (∀ (r : Fin 384) (d : Fin 128), (outsAt0 m c t).1 (ix2 r d) = (H (t.val / 11)).out (384 * (t.val % 11) + r.val) d)
      ∧ ∀ (z : Fin 8) (r : Fin 384), (outsAt0 m c t).2 (ix4 (0 : Fin 1) (0 : Fin 1) z r) = (H (t.val / 11)).lse (384 * (t.val % 11) + r.val) := by
  obtain ⟨x, l, a, hc, h3, h4⟩ := Case.case c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (env W t)
  rw [ii_coords] at hc
  have hw := whole (Nat.mod_lt _ (by decide)) hc
  refine ⟨fun r d => ?_, fun z r => ?_⟩
  · rw [fst_eq, h3, out_apply, (hw r d).2.1, (hw r d).2.2]
    rfl
  · rw [snd_eq, h4, lse_apply, (hw r 0).1, (hw r 0).2.1]
    rfl

/-- The output, all heads side by side. -/
def outA (H : ℕ → Head) (i : S4224x1024.Idx) : EReal := (H ((i 1).val / 128)).out (i 0).val ⟨(i 1).val % 128, Nat.mod_lt _ (by decide)⟩

/-- The rows' logarithms, head by head and block by block, every block eight times. -/
def lseA (H : ℕ → Head) (i : S8x11x8x384.Idx) : EReal := (H (i 0).val).lse (384 * (i 1).val + (i 3).val)

theorem outA_at (h r : ℕ) (d : Fin 128) (i : S4224x1024.Idx) (h0 : (i 0).val = r) (h1 : (i 1).val = 128 * h + d.val) : outA H i = (H h).out r d := by
  unfold outA
  simp only [h0, h1]
  simp only [show (128 * h + d.val) / 128 = h by omega, show (128 * h + d.val) % 128 = d.val by omega]

theorem lseA_at (h r : ℕ) (i : S8x11x8x384.Idx) (h0 : (i 0).val = h) (h1 : 384 * (i 1).val + (i 3).val = r) : lseA H i = (H h).lse r := by
  unfold lseA
  rw [h0, h1]

theorem arr3 (W : Holds m c H) : (dats m 0 c).arrAt 3 cfg0.N = outA H := by
  refine (dats m 0 c).arrAt_eq_of_covers 3 _ (by decide +kernel) fun t hf y => ?_
  rw [after0_3]
  obtain ⟨i0, i1⟩ := ix3' t
  refine Eq.trans (congrArg (outsAt0 m c t).1 (eq_ix2 ((cfg0.win 3).xinj (cfg0.grid.coords t) y))) ?_
  refine Eq.trans ((outs W t).1 (y 0) (y 1)) (outA_at (t.val / 11) _ (y 1) _ ?_ ?_).symm
  · refine (Window.rect_emb_val (cfg0.win 3) t y 0).trans ?_
    rw [i0]; show t.val % 11 * 384 + _ = _; omega
  · refine (Window.rect_emb_val (cfg0.win 3) t y 1).trans ?_
    rw [i1]; show t.val / 11 * 128 + _ = _; omega

theorem eq_ix4 (y : S1x1x8x384.Idx) : y = ix4 (0 : Fin 1) (0 : Fin 1) (y 2) (y 3) := by
  funext a
  fin_cases a
  · exact Subsingleton.elim (α := Fin 1) _ _
  · exact Subsingleton.elim (α := Fin 1) _ _
  · rfl
  · rfl

theorem arr4 (W : Holds m c H) : (dats m 0 c).arrAt 4 cfg0.N = lseA H := by
  refine (dats m 0 c).arrAt_eq_of_covers 4 _ (by decide +kernel) fun t hf y => ?_
  rw [after0_4]
  obtain ⟨i0, i1, i2, i3⟩ := ix4' t
  have y0 : (y 0).val = 0 := Nat.lt_one_iff.mp (y 0).isLt
  have y1 : (y 1).val = 0 := Nat.lt_one_iff.mp (y 1).isLt
  refine Eq.trans (congrArg (outsAt0 m c t).2 (eq_ix4 ((cfg0.win 4).xinj (cfg0.grid.coords t) y))) ?_
  refine Eq.trans ((outs W t).2 (y 2) (y 3)) (lseA_at (t.val / 11) _ _ ?_ ?_).symm
  · refine (Window.rect_emb_val (cfg0.win 4) t y 0).trans ?_
    rw [i0, y0]; show t.val / 11 * 1 + 0 = _; omega
  · have e1 := Window.rect_emb_val (cfg0.win 4) t y 1
    have e3 := Window.rect_emb_val (cfg0.win 4) t y 3
    rw [i1, y1] at e1
    rw [i3] at e3
    refine (congrArg₂ (fun a b => 384 * a + b) e1 e3).trans ?_
    show 384 * (t.val % 11 * 1 + 0) + (0 * 384 + _) = _
    omega

/-! ## The lines after the region -/

theorem arr_inj : Function.Injective (Pipeline.arrRef spec0) := by decide

theorem left3 (W : Holds m c H) : Pipeline.withArrays spec0 c (V0 m c) (fun w => (dats m 0 c).arrAt w cfg0.N) (Proc.devRef .tc main_v9_0) = outA H :=
  (Pipeline.withArrays_arr spec0 arr_inj c (V0 m c) (fun w => (dats m 0 c).arrAt w cfg0.N) 3).trans (arr3 W)

theorem left4 (W : Holds m c H) : Pipeline.withArrays spec0 c (V0 m c) (fun w => (dats m 0 c).arrAt w cfg0.N) (Proc.devRef .tc main_v9_1) = lseA H :=
  (Pipeline.withArrays_arr spec0 arr_inj c (V0 m c) (fun w => (dats m 0 c).arrAt w cfg0.N) 4).trans (arr4 W)

/-- The output as the program returns it. -/
theorem tail_out (W : Holds m c H) (r : Fin 4112) (h : Fin 8) (d : Fin 128) :
    Pipeline.afterTail₀ cfgs (dats m) 0 (V0 m) [hostOps1] c main_v11 (ix3 r h d) = (H h.val).out (112 + r.val) d := by
  unfold Pipeline.afterTail₀
  simp only [hostOps1, List.flatten_cons, List.flatten_nil, List.append_nil]
  after_results
  generalize hA : Pipeline.withArrays _ _ _ _ _ = A
  obtain rfl : A = outA H := hA.symm.trans (left3 W)
  pointwise []
  refine outA_at h.val (112 + r.val) d _ ?_ ?_
  · rfl
  · show h.val * 128 + d.val = 128 * h.val + d.val
    omega

/-- The rows' logarithms as the program returns them. -/
theorem tail_lse (W : Holds m c H) (h : Fin 8) (r : Fin 4112) :
    Pipeline.afterTail₀ cfgs (dats m) 0 (V0 m) [hostOps1] c main_v15 (ix2 h r) = (H h.val).lse (112 + r.val) := by
  unfold Pipeline.afterTail₀
  simp only [hostOps1, List.flatten_cons, List.flatten_nil, List.append_nil]
  after_results
  generalize hA : Pipeline.withArrays _ _ _ _ _ = A
  obtain rfl : A = lseA H := hA.symm.trans (left4 W)
  pointwise []
  refine lseA_at h.val (112 + r.val) _ ?_ ?_
  · rfl
  · show 384 * ((112 + r.val) / 384) + (112 + r.val) % 384 = 112 + r.val
    omega

end Cert.Kernel2Ideal.Arrays

end
-- ==== Proof.Heads2.lean ====
/- The forward call's heads, row by row, from its arguments, and one query's maximum and sums in the natural base. -/
module

public import proofs.«01_k».proof.Proof.Arrays2
public import Idealize.ShloMosaic.Lib.Pointwise
public import Idealize.ShloMosaic.PureOps.Ideal.Laws

@[expose] public section

set_option maxRecDepth 16384

noncomputable section

namespace Cert.Fwd

open Idealize.ShloMosaic Cert.Kernel2Ideal.Step

/-- The rows under 112 rows of zeros, and zeros right of the `n` columns. -/
def padded {n w : ℕ} (f : Fin 4112 → Fin n → EReal) (r : ℕ) (e : Fin w) : EReal :=
  if hr : (112 ≤ r ∧ r - 112 < 4112) ∧ e.val < n then f ⟨r - 112, hr.1.2⟩ ⟨e.val, hr.2⟩ else 0

theorem padded_row {n w : ℕ} (f : Fin 4112 → Fin n → EReal) (i : Fin 4112) (e : Fin w) (e' : Fin n) (he : e.val = e'.val) : padded f (112 + i.val) e = f i e' := by
  have hi := i.isLt
  have he' := e'.isLt
  unfold padded
  rw [dif_pos (by omega)]
  congr 1
  · exact Fin.ext (by dsimp only; omega)
  · exact Fin.ext he

theorem padded_wide {n w : ℕ} (f : Fin 4112 → Fin n → EReal) (r : ℕ) (e : Fin w) (he : n ≤ e.val) : padded f r e = 0 := by
  unfold padded
  rw [dif_neg (by omega)]

/-- A dot product of padded rows is that of the rows. -/
theorem dot_padded (f g : Fin 4112 → Fin 192 → EReal) (i k : Fin 4112) :
    (∑ e : Fin 256, padded f (112 + i.val) e * padded g (112 + k.val) e) = ∑ e : Fin 192, f i e * g k e := by
  refine (Fin.sum_univ_add (a := 192) (b := 64) _).trans ?_
  rw [Finset.sum_eq_zero (s := Finset.univ) (f := fun e : Fin 64 => _) fun e _ => by rw [padded_wide f _ _ (by simp), zero_mul], add_zero]
  exact Finset.sum_congr rfl fun e _ => congrArg₂ _ (padded_row f i _ e rfl) (padded_row g k _ e rfl)

variable (x0 x1 : FVec Ideal ⟨3, ![4112, 8, 192]⟩ .f32) (x2 : FVec Ideal ⟨3, ![4112, 8, 128]⟩ .f32)

/-- One head of the arguments. -/
def head (h : Fin 8) : Head where
  Q := padded fun i e => x0 (ix3 i h e)
  K := padded fun i e => x1 (ix3 i h e)
  V := padded fun i d => x2 (ix3 i h d)

/-- All of them, by head number. -/
def heads (n : ℕ) : Head := if hn : n < 8 then head x0 x1 x2 ⟨n, hn⟩ else head x0 x1 x2 0

theorem heads_val (h : Fin 8) : heads x0 x1 x2 h.val = head x0 x1 x2 h := by unfold heads; rw [dif_pos h.isLt]

/-- The natural score of a key for a query. -/
def score (h : Fin 8) (i k : Fin 4112) : EReal := if k ≤ i then (∑ e, x0 (ix3 i h e) * x1 (ix3 k h e)) * (((Real.sqrt 192)⁻¹ : ℝ) : EReal) else ⊥

theorem score_eq (h : Fin 8) (i k : Fin 4112) : score x0 x1 h i k = (head x0 x1 x2 h).σ (112 + i.val) (112 + k.val) * (Real.log 2 : ℝ) := by
  unfold score Head.σ
  by_cases hk : k ≤ i
  · have hk' : k.val ≤ i.val := hk
    rw [if_pos hk, if_pos (by omega)]
    unfold Head.s c2
    rw [score_base]
    congr 1
    exact (dot_padded (fun i e => x0 (ix3 i h e)) (fun i e => x1 (ix3 i h e)) i k).symm
  · have hk' : ¬ k.val ≤ i.val := hk
    rw [if_neg hk, if_neg (by omega), EReal.bot_mul_coe_of_pos (Real.log_pos (by norm_num))]

/-- The largest score, the sum of the exponentials and their weighted sum of values, as the kernel has them. -/
theorem sums (h : Fin 8) (i : Fin 4112) (d : Fin 128) :
    Finset.univ.sup (score x0 x1 h i) = (head x0 x1 x2 h).M (112 + i.val) * (Real.log 2 : ℝ)
      ∧ ∑ k, Ideal.exp (score x0 x1 h i k - Finset.univ.sup (score x0 x1 h i)) = (head x0 x1 x2 h).Z (112 + i.val)
      ∧ ∑ k, Ideal.exp (score x0 x1 h i k - Finset.univ.sup (score x0 x1 h i)) * x2 (ix3 k h d) = (head x0 x1 x2 h).A (112 + i.val) d := by
  have hS : Sofar ((head x0 x1 x2 h).σ (112 + i.val)) (fun k => (head x0 x1 x2 h).V k d) (112 + 4112) ((head x0 x1 x2 h).M (112 + i.val)) ((head x0 x1 x2 h).Z (112 + i.val))
      ((head x0 x1 x2 h).A (112 + i.val) d) := ⟨rfl, rfl, rfl⟩
  obtain ⟨h1, h2, h3⟩ := hS.natural (fun k hk => if_neg (by omega)) (score x0 x1 h i) (score_eq x0 x1 x2 h i)
  refine ⟨h1, h2, Eq.trans (Finset.sum_congr rfl fun k _ => ?_) h3⟩
  exact congrArg _ (padded_row (fun i d => x2 (ix3 i h d)) k d d rfl).symm

end Cert.Fwd

end
-- ==== Proof.HostLines2.lean ====
/- The host lines before the forward region: the arrays that the pipeline reads hold the heads' rows. -/
module

public import proofs.«01_k».proof.Proof.Heads2
public import Idealize.ShloMosaic.Lib.StableHlo.ReadAt

@[expose] public section

set_option maxRecDepth 16384

noncomputable section

namespace Cert.Kernel2Ideal.HostLines

open Idealize.ShloMosaic Cert.Kernel2Ideal Cert.Kernel2Ideal.Gen Cert.Fwd

variable (m : (ℓ : Loc nD τ sig) → Buf (Elt Ideal) ℓ) (c : Dev nD)

theorem zero_word : (FloatOps.sitofp (F := Ideal) FTy.f32 0#32 : EReal) = 0 := by
  show (((0#32 : BitVec 32).toInt : ℝ) : EReal) = _
  norm_num

theorem dite_same {p q : Prop} [Decidable p] [Decidable q] (hpq : p ↔ q) (a : p → EReal) (b : q → EReal) (hab : ∀ hp hq, a hp = b hq) :
    dite p a (fun _ => 0) = dite q b (fun _ => 0) := by
  by_cases hq : q
  · rw [dif_pos hq, dif_pos (hpq.mpr hq), hab _ hq]
  · rw [dif_neg hq, dif_neg (fun hp => hq (hpq.mp hp))]

/-- The heads of the program's arguments. -/
abbrev given (m : (ℓ : Loc nD τ sig) → Buf (Elt Ideal) ℓ) (c : Dev nD) : ℕ → Step.Head :=
  heads (m (c, Proc.devRef .tc main_arg0)) (m (c, Proc.devRef .tc main_arg1)) (m (c, Proc.devRef .tc main_arg2))

theorem at2 (h : Fin 8) (r : Fin 4224) (e : Fin 256) :
    V m c main_v2 (ix2 r (⟨256 * h.val + e.val, by omega⟩ : Fin 2048)) = (given m c h.val).Q r.val e := by
  rw [given, heads_val]
  unfold_abbrev_sides
  after_reads_at
  rw [zero_word]
  refine dite_same (by omega) _ _ fun hp hq => ?_
  congr 2 <;> exact Fin.ext (by dsimp only; omega)

theorem at5 (h : Fin 8) (r : Fin 4224) (e : Fin 256) :
    V m c main_v5 (ix2 r (⟨256 * h.val + e.val, by omega⟩ : Fin 2048)) = (given m c h.val).K r.val e := by
  rw [given, heads_val]
  unfold_abbrev_sides
  after_reads_at
  rw [zero_word]
  refine dite_same (by omega) _ _ fun hp hq => ?_
  congr 2 <;> exact Fin.ext (by dsimp only; omega)

theorem at8 (h : Fin 8) (r : Fin 4224) (d : Fin 128) :
    V m c main_v8 (ix2 r (⟨128 * h.val + d.val, by omega⟩ : Fin 1024)) = (given m c h.val).V r.val d := by
  rw [given, heads_val]
  unfold_abbrev_sides
  after_reads_at
  rw [zero_word]
  refine dite_same (by omega) _ _ fun hp hq => ?_
  congr 2 <;> exact Fin.ext (by dsimp only; omega)

/-- The arrays that the pipeline reads hold the heads' rows. -/
theorem holds : Arrays.Holds m c (given m c) where
  q := at2 m c
  k := at5 m c
  v := at8 m c

end Cert.Kernel2Ideal.HostLines

end
-- ==== Proof.Ref2.lean ====
/- The forward reference's two results from the heads' maxima and sums. -/
module

public import proofs.«01_k».proof.Proof.Heads2
public import proofs.«01_k».proof.Proof.Softmax
public import proofs.«01_k».proof.Proof.Gen.Reference2Ideal.Read

@[expose] public section

set_option maxRecDepth 16384

noncomputable section

namespace Cert.Reference2Ideal.Ref

open Idealize.ShloMosaic Cert.Reference2Ideal Cert.Reference2Ideal.Gen Cert.Reference2Ideal.Read Cert.Att Cert.Fwd

/-- A row's greatest element. -/
theorem row_max (x : FVec Ideal S8x4112x4112 .f32) (hr : S8x4112x4112.ReducesTo [2] S8x4112) (hu : 0 < S_.numel) (h : Fin 8) (i : Fin 4112) :
    Host.reduce (FloatOps.maximumf (F := Ideal)) x (constant S_ .f32 0xFF800000#32) hr hu (ix2 h i) = Finset.univ.sup fun k : Fin 4112 => x (ix3 h i k) := by
  have hd : S8x4112x4112.Reduces [2] S8x4112 := by decide
  have hl : ∀ k : Fin 4112, hd.lift (ix2 h i) k = ix3 h i k := by
    intro k; funext a; fin_cases a <;> rfl
  rw [Host.reduce_eq_fold_single _ _ _ hr hd]
  have hf : (x ∘ hd.lift (ix2 h i)) = fun k : Fin 4112 => x (ix3 h i k) := funext fun k => congrArg x (hl k)
  rw [show constant (F := Ideal) S_ .f32 0xFF800000#32 (Shape.Idx.first hu) = (⊥ : EReal) from bot_word]
  exact congrArg (Finset.univ.sup) hf

variable (x0 x1 : FVec Ideal S4112x8x192 .f32) (x2 : FVec Ideal S4112x8x128 .f32)

theorem at12 (h : Fin 8) (i k : Fin 4112) : val_main_v12 (F := Ideal) x0 x1 (ix3 h i k) = score x0 x1 h i k := by
  unfold score val_main_v12 val_main_call0_v1 val_main_v11 val_main_v10 val_main_v9 val_main_v8 val_main_v7 val_main_v6 val_main_v5 val_main_v4 val_main_v3 val_main_v2
    val_main_v1 val_main_v0 val_main_cst val_main_call0_v2 val_main_call0_v0 val_main_cst_0
  pointwise []
  rw [select_sees, root_word, Ideal.div_coe (by positivity), one_div]
  exact congrArg _ bot_word

theorem at13 (h : Fin 8) (i : Fin 4112) : val_main_v13 (F := Ideal) x0 x1 (ix2 h i) = Finset.univ.sup (score x0 x1 h i) := by
  have h12 := at12 x0 x1 h i
  unfold val_main_v13 val_main_cst_1
  generalize val_main_v12 (F := Ideal) x0 x1 = x at h12 ⊢
  rw [row_max]
  exact congrArg (Finset.univ.sup) (funext h12)

theorem at17 (h : Fin 8) (i k : Fin 4112) :
    val_main_v17 (F := Ideal) x0 x1 (ix3 h i k) = Ideal.exp (score x0 x1 h i k - Finset.univ.sup (score x0 x1 h i)) := by
  have h12 := at12 x0 x1 h i k
  have h13 := at13 x0 x1 h i
  unfold val_main_v17 val_main_v16 val_main_v15 val_main_v14
  generalize val_main_v12 (F := Ideal) x0 x1 = x at h12 ⊢
  generalize val_main_v13 (F := Ideal) x0 x1 = y at h13 ⊢
  pointwise []
  rw [h12, h13]

theorem at18 (h : Fin 8) (i : Fin 4112) : val_main_v18 (F := Ideal) x0 x1 (ix2 h i) = (head x0 x1 x2 h).Z (112 + i.val) := by
  have h17 := at17 x0 x1 h i
  refine Eq.trans ?_ (sums x0 x1 x2 h i 0).2.1
  unfold val_main_v18 val_main_cst_2
  generalize val_main_v17 (F := Ideal) x0 x1 = x at h17 ⊢
  pointwise []
  simp only [h17]

/-- The output. -/
theorem at24 (i : Fin 4112) (h : Fin 8) (d : Fin 128) : val_main_v24 (F := Ideal) x0 x1 x2 (ix3 i h d) = (head x0 x1 x2 h).out (112 + i.val) d := by
  have h17 := at17 x0 x1 h i
  have h18 := at18 x0 x1 x2 h i
  unfold Cert.Kernel2Ideal.Step.Head.out
  rw [← (sums x0 x1 x2 h i d).2.2]
  unfold val_main_v24 val_main_v23 val_main_v22 val_main_v21 val_main_v20 val_main_v19
  generalize val_main_v17 (F := Ideal) x0 x1 = x at h17 ⊢
  generalize val_main_v18 (F := Ideal) x0 x1 = y at h18 ⊢
  pointwise []
  rw [h18]
  congr 1
  exact Finset.sum_congr rfl fun k _ => by rw [h17, mul_comm]

theorem log_at (x y : FVec Ideal S8x4112 .f32) (h : Fin 8) (i : Fin 4112) (a b : EReal) (hx : x (ix2 h i) = a) (hy : y (ix2 h i) = b) :
    (Host.divf (addf x (Host.log y)) (broadcastInDim S8x4112 ![] bcast_S_S8x4112 (Host.log (constant S_ .f32 0x40000000#32))) : FVec Ideal S8x4112 .f32) (ix2 h i)
      = Ideal.div (a + Ideal.log b) ((Real.log 2 : ℝ) : EReal) := by
  rw [← log_two_word, ← hx, ← hy]
  rfl

/-- The rows' logarithms. -/
theorem at29 (h : Fin 8) (i : Fin 4112) : val_main_v29 (F := Ideal) x0 x1 (ix2 h i) = (head x0 x1 x2 h).lse (112 + i.val) := by
  have h13 := at13 x0 x1 h i
  have h18 := at18 x0 x1 x2 h i
  have hlog : Real.log 2 ≠ 0 := (Real.log_pos (by norm_num)).ne'
  rw [(sums x0 x1 x2 h i 0).1] at h13
  unfold val_main_v29 val_main_v28 val_main_v27 val_main_v26 val_main_v25 val_main_cst_3 Cert.Kernel2Ideal.Step.Head.lse
  generalize val_main_v13 (F := Ideal) x0 x1 = x at h13 ⊢
  generalize val_main_v18 (F := Ideal) x0 x1 = y at h18 ⊢
  refine (log_at x y h i _ _ h13 h18).trans ?_
  rw [Ideal.div_coe hlog, one_div, lse_base]

end Cert.Reference2Ideal.Ref

end
-- ==== Proof.Value2.lean ====
/- The forward kernel's results are the forward reference's. -/
module

public import proofs.«01_k».proof.Proof.Value
public import proofs.«01_k».proof.Proof.HostLines2
public import proofs.«01_k».proof.Proof.Ref2

@[expose] public section

set_option maxRecDepth 16384

noncomputable section

namespace Cert.Proof

open Idealize.ShloMosaic Idealize.ShloMosaic.TcCoe Idealize.SL.Sem Cert.Kernel2Ideal Cert.Kernel2Ideal.Gen Cert.Fwd

/-- The forward reference has no semaphores, and its run leaves the three arguments as they were. -/
theorem frame_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The three named constants have in the table what they stand for. -/
theorem ledger2 : Cert.preserves_Kernel2_Kernel2Ideal :=
  ⟨IdealRules.named_const.statement Cert.Kernel2Ideal.κ "mask" .f32 0xF149F2CA#32 ⊥ rfl,
    IdealRules.named_const.statement Cert.Kernel2Ideal.κ "c2" .f32 0x3DD53B95#32
      (((Real.sqrt 192)⁻¹ * (Real.log 2)⁻¹ : ℝ) : EReal) rfl,
    IdealRules.named_const.statement Cert.Kernel2Ideal.κ "log2e" .f32 0x3FB8AA3B#32 (((Real.log 2)⁻¹ : ℝ) : EReal) rfl⟩

variable (m : (ℓ : Loc nD τ sig) → Buf (Elt Ideal) ℓ) (c : Dev nD)

theorem eq_of_at2 {a b : ℕ} (x y : FVec Ideal ⟨2, ![a, b]⟩ .f32) (h : ∀ i j, x (ix2 i j) = y (ix2 i j)) : x = y := by
  funext i
  have hi : i = ix2 (i 0) (i 1) := by funext k; fin_cases k <;> rfl
  rw [hi]
  exact h _ _

theorem same_out : (Cert.Reference2Ideal.Read.val_main_v24 (F := Ideal) (m (c, Proc.devRef .tc main_arg0)) (m (c, Proc.devRef .tc main_arg1)) (m (c, Proc.devRef .tc main_arg2)) : FVec Ideal S4112x8x128 .f32)
    = Pipeline.afterTail₀ cfgs (dats m) 0 (V0 m) [hostOps1] c main_v11 :=
  eq_of_at _ _ fun i h d => (Cert.Reference2Ideal.Ref.at24 _ _ _ i h d).trans
    ((Arrays.tail_out (HostLines.holds m c) i h d).trans (by rw [HostLines.given, heads_val])).symm

theorem same_lse : (Cert.Reference2Ideal.Read.val_main_v29 (F := Ideal) (m (c, Proc.devRef .tc main_arg0)) (m (c, Proc.devRef .tc main_arg1)) : FVec Ideal S8x4112 .f32)
    = Pipeline.afterTail₀ cfgs (dats m) 0 (V0 m) [hostOps1] c main_v15 :=
  eq_of_at2 _ _ fun h i => (Cert.Reference2Ideal.Ref.at29 _ _ (m (c, Proc.devRef .tc main_arg2)) h i).trans
    ((Arrays.tail_lse (HostLines.holds m c) h i).trans (by rw [HostLines.given, heads_val])).symm

/-- The run of the idealized forward kernel: its two results and its unchanged arguments. -/
theorem run_kernel2 (ρ : Dev nD → PrngReg) :
    θ_run defs (onTc (τ := τ) (main (F := Ideal))) ⟨m, fun _ => 0, ρ⟩ (fun r => ∀ c : Dev nD,
      r.2.mem ((c.tc : Thread nD τ).loc main_v11) = Pipeline.afterTail₀ cfgs (dats m) 0 (V0 m) [hostOps1] c main_v11
      ∧ r.2.mem ((c.tc : Thread nD τ).loc main_v15) = Pipeline.afterTail₀ cfgs (dats m) 0 (V0 m) [hostOps1] c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2 main_v11 (Pipeline.mem_restRefs_of main_v11 (by decide) (by decide)),
      (h.1 c).2 main_v15 (Pipeline.mem_restRefs_of main_v15 (by decide) (by decide)), h.2 c⟩)
    (θ_run_and (run_main m ρ) (unchanged m ρ))

theorem value2 : Cert.algebraic_Kernel2Ideal_Reference2Ideal := by
  intro m ρ m' ρ' _ hagree
  refine ⟨_, _, run_kernel2 m ρ, ?_⟩
  refine (θ_run Cert.Reference2Ideal.defs _ _).mono (fun _ h c => ?_) (Cert.Reference2Ideal.Value.run (F := Ideal) m' ρ')
  obtain ⟨h0, h1, ha⟩ := h c
  obtain ⟨g0, g1, g2⟩ := hagree c
  refine ⟨h0.trans ?_, h1.trans ?_, ha⟩
  · rw [Cert.Reference2Ideal.Read.val_main_v24_eq, g0, g1, g2]
    exact same_out m c
  · rw [Cert.Reference2Ideal.Read.val_main_v29_eq, g0, g1]
    exact same_lse m c

end Cert.Proof

end
-- ==== Proof.Norm3.lean ====
/- The gradient of a row over its root mean square: the kernel's expression and the derivative of the reference are equal on all extended reals. -/
module

public import proofs.«01_k».proof.Proof.Online

@[expose] public section

noncomputable section

namespace Cert.Norm

open Idealize.ShloMosaic Cert.Fwd

/-- The real the word of the norm's small constant stands for. -/
def eps : ℝ := (Ideal.ofBits .f32 0x358637BD#32).toReal

theorem eps_word : Ideal.ofBits .f32 0x358637BD#32 = ((eps : ℝ) : EReal) ∧ 0 < eps := by
  have h : ∃ e : ℝ, 0 < e ∧ Ideal.ofBits .f32 0x358637BD#32 = ((e : ℝ) : EReal) := by
    refine ⟨_, ?_, by simp [Ideal.ofBits, Ideal.ieee, -EReal.coe_mul]; rfl⟩
    norm_num
  obtain ⟨e, he, hw⟩ := h
  have : eps = e := by unfold eps; rw [hw, EReal.toReal_coe]
  rw [this]; exact ⟨hw, he⟩

theorem width_word : Ideal.ofBits .f32 0x44800000#32 = ((1024 : ℝ) : EReal) := by
  simp [Ideal.ofBits, Ideal.ieee, -EReal.coe_mul]; norm_num

theorem half_word : Ideal.ofBits .f32 0xBF000000#32 = ((-(1 / 2) : ℝ) : EReal) := by
  simp [Ideal.ofBits, Ideal.ieee, -EReal.coe_mul]; norm_num

variable {n : ℕ} (x : Fin n → EReal)

/-- The mean square, with the small constant. -/
def ms : EReal := Ideal.div (∑ k, x k * x k) ((1024 : ℝ) : EReal) + ((eps : ℝ) : EReal)

/-- One over the root mean square. -/
def rs : EReal := Ideal.rsqrt (ms x)

theorem square_nonneg (a : EReal) : 0 ≤ a * a := by
  induction a using EReal.rec with
  | bot => simp
  | top => simp
  | coe a => rw [← EReal.coe_mul]; exact EReal.coe_nonneg.mpr (mul_self_nonneg a)

/-- The mean square is a positive real or infinite. -/
theorem ms_cases : ms x = ⊤ ∨ ∃ v : ℝ, 0 < v ∧ ms x = (v : EReal) := by
  have hs : 0 ≤ ∑ k, x k * x k := Finset.sum_nonneg fun k _ => square_nonneg (x k)
  unfold ms
  rw [Ideal.div_coe (by norm_num)]
  generalize (∑ k, x k * x k) = s at hs
  induction s using EReal.rec with
  | bot => exact absurd hs (by simp)
  | top => exact .inl (by rw [EReal.top_mul_coe_of_pos (by norm_num), EReal.top_add_coe])
  | coe s =>
    have hs' : 0 ≤ s := EReal.coe_nonneg.mp hs
    refine .inr ⟨s * (1 / 1024) + eps, ?_, by rw [EReal.coe_add, EReal.coe_mul]⟩
    have := eps_word.2
    positivity

/-- Its root's reciprocal is zero, or a real whose square is the mean square's reciprocal. -/
theorem rs_cases : (ms x = ⊤ ∧ rs x = 0) ∨ ∃ v r : ℝ, 0 < v ∧ 0 ≤ r ∧ r * r = 1 / v ∧ ms x = (v : EReal) ∧ rs x = (r : EReal) := by
  unfold rs
  rcases ms_cases x with h | ⟨v, hv, h⟩
  · exact .inl ⟨h, by rw [h]; rfl⟩
  · refine .inr ⟨v, (Real.sqrt v)⁻¹, hv, by positivity, ?_, h, ?_⟩
    · rw [← mul_inv, Real.mul_self_sqrt hv.le, one_div]
    · rw [h]
      show (if v < 0 then ⊥ else if v = 0 then ⊤ else (((Real.sqrt v)⁻¹ : ℝ) : EReal)) = _
      rw [if_neg (by linarith), if_neg hv.ne']

theorem double (κ : ℝ) (hκ : 0 ≤ κ) (z : EReal) : ((-κ : ℝ) : EReal) * z + ((-κ : ℝ) : EReal) * z = -(((κ + κ : ℝ) : EReal) * z) := by
  rw [EReal.coe_neg, neg_mul, ← mul_neg, ← mul_neg,
    ← EReal.right_distrib_of_nonneg (EReal.coe_nonneg.mpr hκ) (EReal.coe_nonneg.mpr hκ), ← EReal.coe_add]

/-- The kernel's gradient of the row in direction `d`, over what is added. -/
def grad (d : Fin n → EReal) (res : EReal) (k : Fin n) : EReal :=
  rs x * (d k - x k * rs x * Ideal.div (∑ j, d j * (x j * rs x)) ((1024 : ℝ) : EReal)) + res

/-- What the reference multiplies the row by, from the derivative of the mean square's root. -/
def coef (d : Fin n → EReal) : EReal :=
  Ideal.div ((∑ j, x j * d j) * (((-(1 / 2) : ℝ) : EReal) * Ideal.div (rs x) (ms x))) ((1024 : ℝ) : EReal)

theorem grad_eq (d : Fin n → EReal) (res : EReal) (k : Fin n) :
    grad x d res k = res + d k * rs x + x k * coef x d + coef x d * x k := by
  unfold grad coef
  rcases rs_cases x with ⟨hm, hr⟩ | ⟨v, r, hv, hr, hrr, hm, hrs⟩
  · have h0 : Ideal.div 0 ⊤ = 0 := by simp [Ideal.div]
    have h1 : Ideal.div 0 ((1024 : ℝ) : EReal) = 0 := by rw [Ideal.div_coe (by norm_num), zero_mul]
    simp only [hm, hr, h0, mul_zero, zero_mul, h1]
    simp
  · rw [hm, hrs, Ideal.div_coe (by norm_num), Ideal.div_coe (by norm_num), Ideal.div_coe hv.ne', ← EReal.coe_mul, ← EReal.coe_mul]
    have hT : (∑ j, d j * (x j * (r : EReal))) = (r : EReal) * ∑ j, x j * d j := by
      rw [coe_mul_sum r hr]
      exact Finset.sum_congr rfl fun j _ => by rw [← mul_assoc, mul_comm, mul_comm (d j)]
    rw [hT]
    generalize (∑ j, x j * d j) = T
    have e1 : x k * (r : EReal) * ((r : EReal) * T * ((1 / 1024 : ℝ) : EReal)) = ((r * r * (1 / 1024) : ℝ) : EReal) * (x k * T) := by
      rw [EReal.coe_mul, EReal.coe_mul]; ac_rfl
    have hκ : 0 ≤ r * (r * r) * (1 / 2048) := by positivity
    have e2 : x k * (T * ((-(1 / 2) * (r * (1 / v)) : ℝ) : EReal) * ((1 / 1024 : ℝ) : EReal)) = ((-(r * (r * r) * (1 / 2048)) : ℝ) : EReal) * (x k * T) := by
      rw [← hrr, show (-(r * (r * r) * (1 / 2048)) : ℝ) = (-(1 / 2) * (r * (r * r))) * (1 / 1024) by ring, EReal.coe_mul (-(1 / 2) * (r * (r * r)))]
      ac_rfl
    rw [mul_comm _ (x k), e2, add_assoc (res + _), double _ hκ, e1, sub_eq_add_neg, coe_mul_add r hr, mul_neg, ← mul_assoc, ← EReal.coe_mul,
      show r * (r * r * (1 / 1024)) = r * (r * r) * (1 / 2048) + r * (r * r) * (1 / 2048) by ring, mul_comm (d k)]
    ac_rfl

end Cert.Norm

end
-- ==== Proof.Rows3.lean ====
/- The three gradients of a normalized projection, by row: of the rows before the norm, of the matrix, and of the norm's weights. -/
module

public import proofs.«01_k».proof.Proof.Norm3

@[expose] public section

noncomputable section

namespace Cert.Norm

open Idealize.ShloMosaic

/-- The rows before the norm, the norm's weights, the matrix, the projection's gradient, and what is added to the rows' gradient. -/
structure Rows (N : ℕ) where
  X : ℕ → Fin 1024 → EReal
  G : Fin 1024 → EReal
  W : Fin 1024 → Fin N → EReal
  Y : ℕ → Fin N → EReal
  R : ℕ → Fin 1024 → EReal

namespace Rows

variable {N : ℕ} (H : Rows N)

/-- The normalized row. -/
def xh (r : ℕ) (k : Fin 1024) : EReal := H.X r k * rs (H.X r)

/-- The gradient of the weighted normalized row. -/
def dn (r : ℕ) (k : Fin 1024) : EReal := ∑ e, H.Y r e * H.W k e

/-- The gradient of the row. -/
def dx (r : ℕ) (k : Fin 1024) : EReal := grad (H.X r) (fun j => H.dn r j * H.G j) (H.R r k) k

/-- The first `n` rows' part of the matrix's gradient. -/
def dw (n : ℕ) (k : Fin 1024) (e : Fin N) : EReal := ∑ r ∈ Finset.range n, H.xh r k * H.G k * H.Y r e

/-- The first `n` rows' part of the weights' gradient. -/
def dg (n : ℕ) (k : Fin 1024) : EReal := ∑ r ∈ Finset.range n, H.dn r k * H.xh r k

theorem dw_zero (k : Fin 1024) (e : Fin N) : H.dw (384 * 0) k e = 0 := Finset.sum_range_zero _

theorem dg_zero (k : Fin 1024) : H.dg (384 * 0) k = 0 := Finset.sum_range_zero _

theorem dw_add (n : ℕ) (k : Fin 1024) (e : Fin N) : H.dw (n + 384) k e = H.dw n k e + ∑ r : Fin 384, H.xh (n + r.val) k * H.G k * H.Y (n + r.val) e := by
  unfold dw
  rw [Finset.sum_range_add, Finset.sum_range (fun x => H.xh (n + x) k * H.G k * H.Y (n + x) e)]

theorem dg_add (n : ℕ) (k : Fin 1024) : H.dg (n + 384) k = H.dg n k + ∑ r : Fin 384, H.dn (n + r.val) k * H.xh (n + r.val) k := by
  unfold dg
  rw [Finset.sum_range_add, Finset.sum_range (fun x => H.dn (n + x) k * H.xh (n + x) k)]

end Rows

/-- The rows of six arrays. -/
def rows (x0 : FVec Ideal ⟨2, ![4224, 1024]⟩ .f32) (x1 : FVec Ideal ⟨2, ![1, 1024]⟩ .f32) (x2 : FVec Ideal ⟨2, ![1024, 2048]⟩ .bf16)
    (x3 x4 : FVec Ideal ⟨2, ![4224, 1024]⟩ .bf16) (x5 : FVec Ideal ⟨2, ![4224, 1024]⟩ .f32) : Rows 2048 where
  X r k := if h : r < 4224 then x0 (ix2 (⟨r, h⟩ : Fin 4224) k) else 0
  G k := x1 (ix2 (0 : Fin 1) k)
  W k e := x2 (ix2 k e)
  Y r e := if h : r < 4224 then (if he : e.val < 1024 then x3 (ix2 (⟨r, h⟩ : Fin 4224) (⟨e.val, he⟩ : Fin 1024))
    else x4 (ix2 (⟨r, h⟩ : Fin 4224) (⟨e.val - 1024, by omega⟩ : Fin 1024))) else 0
  R r k := if h : r < 4224 then x5 (ix2 (⟨r, h⟩ : Fin 4224) k) else 0

end Cert.Norm

end
-- ==== Proof.Step3.lean ====
/- The third kernel's payloads at a point, element by element: the row's norm, its gradient, and what the point adds to the two accumulated gradients. -/
module

public import proofs.«01_k».proof.Proof.Norm3
public import proofs.«01_k».proof.Proof.Gen.Kernel3Ideal.Skeleton

@[expose] public section

set_option maxRecDepth 16384

noncomputable section

namespace Cert.Kernel3Ideal.Step

open Idealize.ShloMosaic Cert.Kernel3Ideal Cert.Kernel3Ideal.Gen Cert.Norm

variable (x : Vec Ideal S384x1024 .f32) (g : Vec Ideal S1x1024 .f32) (w : Vec Ideal S1024x2048 .bf16) (y : Vec Ideal S384x2048 .bf16)
  (r : Fin 384) (k : Fin 1024)

theorem rs_apply : k0_pay8 x (ix2 r (0 : Fin 1)) = rs fun j => x (ix2 r j) := by
  pointwise [k0_pay8]
  rw [width_word, eps_word.1]
  rfl

theorem xh_apply : k0_pay9 x (ix2 r k) = x (ix2 r k) * rs fun j => x (ix2 r j) := by
  rw [← rs_apply x r]
  unfold k0_pay9
  generalize k0_pay8 x = z
  pointwise []

theorem nb_apply : k0_pay10 x g (ix2 r k) = (x (ix2 r k) * rs fun j => x (ix2 r j)) * g (ix2 (0 : Fin 1) k) := by
  rw [← xh_apply x r k]
  unfold k0_pay10
  generalize k0_pay9 x = z
  pointwise []

theorem dn_apply : k0_pay11 y w (ix2 r k) = ∑ e : Fin 2048, y (ix2 r e) * w (ix2 k e) := by
  pointwise [k0_pay11]

theorem dx_apply (n res : FVec Ideal S384x1024 .f32) :
    k0_pay3 g (k0_pay8 x) (k0_pay9 x) n res (ix2 r k)
      = grad (fun j => x (ix2 r j)) (fun j => n (ix2 r j) * g (ix2 (0 : Fin 1) j)) (res (ix2 r k)) k := by
  have h8 := rs_apply x r
  have h9 := xh_apply x r
  generalize k0_pay8 x = z at h8 ⊢
  generalize k0_pay9 x = u at h9 ⊢
  pointwise [k0_pay3]
  simp only [h8, h9, width_word]
  rfl

theorem dw_apply (nb : FVec Ideal S384x1024 .bf16) (acc : FVec Ideal S1024x2048 .f32) (e : Fin 2048) :
    k0_pay1 y nb (k0_pay12 acc) (constant S1024x2048 .f32 0x00000000#32) (ix2 k e) = acc (ix2 k e) + ∑ r : Fin 384, nb (ix2 r k) * y (ix2 r e) := by
  pointwise [k0_pay1, k0_pay12]

theorem dg_apply (xh n : FVec Ideal S384x1024 .f32) (acc : Vec Ideal S1x1024 .f32) :
    k0_pay2 xh n acc (ix2 (0 : Fin 1) k) = acc (ix2 (0 : Fin 1) k) + ∑ r : Fin 384, n (ix2 r k) * xh (ix2 r k) := by
  pointwise [k0_pay2]

theorem zero_dw (e : Fin 2048) : (k0_pay4 (F := Ideal)) (ix2 k e) = 0 := by pointwise [k0_pay4]

theorem zero_dg : (k0_pay5 (F := Ideal)) (ix2 (0 : Fin 1) k) = 0 := by pointwise [k0_pay5]

end Cert.Kernel3Ideal.Step

end
-- ==== Proof.Case3.lean ====
/- What the third kernel's body leaves in its three outputs' buffers at a grid point, from its input blocks and what the point before left. -/
module

public import proofs.«01_k».proof.Proof.Step3
public import proofs.«01_k».proof.Proof.Gen.Kernel3Ideal.Frame
public import Idealize.ShloMosaic.Lib.VecWindow

@[expose] public section

set_option maxRecDepth 16384

noncomputable section

namespace Cert.Kernel3Ideal.Case

open Idealize.ShloMosaic Cert.Kernel3Ideal Cert.Kernel3Ideal.Gen

/-- Two blocks side by side, as the scratch holds them. -/
def both (a b : Vec Ideal S384x1024 .bf16) : Vec Ideal S384x2048 .bf16 := fun y =>
  if h : (y 1).val < 1024 then a (ix2 (y 0) (⟨(y 1).val, h⟩ : Fin 1024)) else b (ix2 (y 0) (⟨(y 1).val - 1024, by have : (y 1).val < 2048 := (y 1).isLt; omega⟩ : Fin 1024))

theorem whole {s : Shape} {e : EltTy} (M : Memref sig .tc .vmem s e) (hM : M.IsWhole) (x : Vec Ideal s e) {off : Fin s.rank → ℕ} (inb : ∀ a, off a + s.size a ≤ s.size a) :
    M.view.readAt (Elt Ideal) (Rect.unit off s.size inb).toLoadRect (hM.unread x) = x := by
  rw [View.readAt_full]; exact hM.read_unread x

theorem staged (M : Memref sig .tc .vmem S384x2048 .bf16) (a b : Vec Ideal S384x1024 .bf16) {inb0 inb1 inb} :
    M.view.readCov (Val := Elt Ideal) [⟨Rect.unit ![0, 1024] S384x1024.size inb1, b⟩, ⟨Rect.unit ![0, 0] S384x1024.size inb0, a⟩]
      (Rect.unit (s := S384x2048) ![0, 0] S384x2048.size inb).toLoadRect = both a b := by
  unfold View.readCov
  rw [View.readAt_full]
  funext y
  unfold both
  have hy : (y 1).val < 2048 := (y 1).isLt
  by_cases h : (y 1).val < 1024
  · rw [dif_pos h, View.read_writes_cons_unit_of_not_mem _ _ _ _ _ y rfl 1 (.inl h)]
    refine View.read_writes_cons_unit_of_mem _ _ _ _ _ y (ix2 (y 0) (⟨(y 1).val, h⟩ : Fin 1024)) rfl fun k => ?_
    fin_cases k
    · exact (Nat.zero_add _).symm
    · exact (Nat.zero_add _).symm
  · rw [dif_neg h]
    refine View.read_writes_cons_unit_of_mem _ _ _ _ _ y (ix2 (y 0) (⟨(y 1).val - 1024, by omega⟩ : Fin 1024)) rfl fun k => ?_
    fin_cases k
    · exact (Nat.zero_add _).symm
    · show (y 1).val = 1024 + ((y 1).val - 1024)
      omega

theorem pay6 (a : Vec Ideal S384x1024 .bf16) : k0_pay6 a = a := by
  funext i
  rw [show i = ix2 (i 0) (i 1) from by funext k; fin_cases k <;> rfl]
  pointwise [k0_pay6]

theorem pay7 (a : Vec Ideal S384x1024 .bf16) : k0_pay7 a = a := pay6 a

variable (c : Dev nD) (i : grid0.Coords) (arg1 : Memref sig .tc .vmem S384x1024 .f32) (harg1 : arg1.IsWhole) (arg2 : Memref sig .tc .vmem S1x1024 .f32) (harg2 : arg2.IsWhole)
  (arg3 : Memref sig .tc .vmem S1024x2048 .bf16) (harg3 : arg3.IsWhole) (arg4 : Memref sig .tc .vmem S384x1024 .bf16) (harg4 : arg4.IsWhole)
  (arg5 : Memref sig .tc .vmem S384x1024 .bf16) (harg5 : arg5.IsWhole) (arg6 : Memref sig .tc .vmem S384x1024 .f32) (harg6 : arg6.IsWhole)
  (arg7 : Memref sig .tc .vmem S384x1024 .f32) (harg7 : arg7.IsWhole) (arg8 : Memref sig .tc .vmem S1024x2048 .f32) (harg8 : arg8.IsWhole)
  (arg9 : Memref sig .tc .vmem S1x1024 .f32) (harg9 : arg9.IsWhole) (arg10 : Memref sig .tc .vmem S384x2048 .bf16) (harg10 : arg10.IsWhole)
  (x0 : Vec Ideal S384x1024 .f32) (x1 : Vec Ideal S1x1024 .f32) (x2 : Vec Ideal S1024x2048 .bf16) (x3 x4 : Vec Ideal S384x1024 .bf16) (x5 : Vec Ideal S384x1024 .f32)
  (xo7 : Vec Ideal S1024x2048 .f32) (xo8 : Vec Ideal S1x1024 .f32)

/-- The first point: the gradients start from zero. -/
theorem case_A (hc0 : cond0_0 i) :
    out0_A_6 c i arg1 harg1 arg2 harg2 arg3 harg3 arg4 harg4 arg5 harg5 arg6 harg6 arg7 harg7 arg8 harg8 arg9 harg9 arg10 harg10 hc0 x0 x1 x2 x3 x4 x5
        = k0_pay3 x1 (k0_pay8 x0) (k0_pay9 x0) (k0_pay11 (both x3 x4) x2) x5
    ∧ out0_A_7 c i arg1 harg1 arg2 harg2 arg3 harg3 arg4 harg4 arg5 harg5 arg6 harg6 arg7 harg7 arg8 harg8 arg9 harg9 arg10 harg10 hc0 x0 x1 x2 x3 x4 x5
        = k0_pay1 (both x3 x4) (k0_pay10 x0 x1) (k0_pay12 (k0_pay4 (F := Ideal))) (constant S1024x2048 .f32 0x00000000#32)
    ∧ out0_A_8 c i arg1 harg1 arg2 harg2 arg3 harg3 arg4 harg4 arg5 harg5 arg6 harg6 arg7 harg7 arg8 harg8 arg9 harg9 arg10 harg10 hc0 x0 x1 x2 x3 x4 x5
        = k0_pay2 (k0_pay9 x0) (k0_pay11 (both x3 x4) x2) (k0_pay5 (F := Ideal)) := by
  unfold out0_A_6 out0_A_7 out0_A_8 kernelRun0_A
  dsimp only
  unfold kernelRun0_A.sl.r kernelRun0_A.sl.r_1 kernelRun0_A.sl.r_2 kernelRun0_A.sl.r_3 kernelRun0_A.sl.r_4 kernelRun0_A.sl.r_5 kernelRun0_A.sl.cst_20 kernelRun0_A.sl.v23
  try unfold kernelRun0_A.sl.HS0_2
  try unfold kernelRun0_A.sl.HS0_1
  try unfold kernelRun0_A.sl.v34
  try unfold kernelRun0_A.sl.v29
  try unfold kernelRun0_A.sl.H7_1
  try unfold kernelRun0_A.sl.H8_1
  have e0 := whole arg1 harg1 x0 inb_S384x1024_S384x1024_0_0
  have e1 := whole arg2 harg2 x1 inb_S1x1024_S1x1024_0_0
  have e2 := whole arg3 harg3 x2 inb_S1024x2048_S1024x2048_0_0
  have e3 := whole arg4 harg4 x3 inb_S384x1024_S384x1024_0_0
  have e4 := whole arg5 harg5 x4 inb_S384x1024_S384x1024_0_0
  have e5 := whole arg6 harg6 x5 inb_S384x1024_S384x1024_0_0
  rw [e0, e1, e2, e3, e4, pay6, pay7, staged]
  refine ⟨(View.read_writes_full _ _ _ _ _).trans ?_, (View.read_writes_full _ _ _ _ _).trans ?_, (View.read_writes_full _ _ _ _ _).trans ?_⟩
  · exact congrArg _ e5
  · rw [View.readCov_full]
  · exact congrArg _ (View.readCov_full _ _ _ _ _)

/-- A later point: they go on from what the point before left. -/
theorem case_B (hc0 : ¬cond0_0 i) :
    out0_B_6 c i arg1 harg1 arg2 harg2 arg3 harg3 arg4 harg4 arg5 harg5 arg6 harg6 arg7 harg7 arg8 harg8 arg9 harg9 arg10 harg10 hc0 x0 x1 x2 x3 x4 x5 xo7 xo8
        = k0_pay3 x1 (k0_pay8 x0) (k0_pay9 x0) (k0_pay11 (both x3 x4) x2) x5
    ∧ out0_B_7 c i arg1 harg1 arg2 harg2 arg3 harg3 arg4 harg4 arg5 harg5 arg6 harg6 arg7 harg7 arg8 harg8 arg9 harg9 arg10 harg10 hc0 x0 x1 x2 x3 x4 x5 xo7 xo8
        = k0_pay1 (both x3 x4) (k0_pay10 x0 x1) (k0_pay12 xo7) (constant S1024x2048 .f32 0x00000000#32)
    ∧ out0_B_8 c i arg1 harg1 arg2 harg2 arg3 harg3 arg4 harg4 arg5 harg5 arg6 harg6 arg7 harg7 arg8 harg8 arg9 harg9 arg10 harg10 hc0 x0 x1 x2 x3 x4 x5 xo7 xo8
        = k0_pay2 (k0_pay9 x0) (k0_pay11 (both x3 x4) x2) xo8 := by
  unfold out0_B_6 out0_B_7 out0_B_8 kernelRun0_B
  dsimp only
  unfold kernelRun0_B.sl.r kernelRun0_B.sl.r_1 kernelRun0_B.sl.r_2 kernelRun0_B.sl.r_3 kernelRun0_B.sl.r_4 kernelRun0_B.sl.r_5 kernelRun0_B.sl.cst_20 kernelRun0_B.sl.v23
  try unfold kernelRun0_B.sl.HS0_2
  try unfold kernelRun0_B.sl.HS0_1
  have e0 := whole arg1 harg1 x0 inb_S384x1024_S384x1024_0_0
  have e1 := whole arg2 harg2 x1 inb_S1x1024_S1x1024_0_0
  have e2 := whole arg3 harg3 x2 inb_S1024x2048_S1024x2048_0_0
  have e3 := whole arg4 harg4 x3 inb_S384x1024_S384x1024_0_0
  have e4 := whole arg5 harg5 x4 inb_S384x1024_S384x1024_0_0
  have e5 := whole arg6 harg6 x5 inb_S384x1024_S384x1024_0_0
  have e7 := whole arg8 harg8 xo7 inb_S1024x2048_S1024x2048_0_0
  have e8 := whole arg9 harg9 xo8 inb_S1x1024_S1x1024_0_0
  rw [e0, e1, e2, e3, e4, pay6, pay7, staged]
  refine ⟨(View.read_writes_full _ _ _ _ _).trans ?_, (View.read_writes_full _ _ _ _ _).trans ?_, (View.read_writes_full _ _ _ _ _).trans ?_⟩
  · exact congrArg _ e5
  · rw [e7]
  · exact congrArg _ e8

end Cert.Kernel3Ideal.Case

end
-- ==== Proof.Chain3.lean ====
/- The third kernel's buffers over its points: each row tile gives its rows' gradient, and the two accumulated gradients grow tile by tile. -/
module

public import proofs.«01_k».proof.Proof.Rows3
public import proofs.«01_k».proof.Proof.Case3
public import proofs.«01_k».proof.Proof.Gen.Kernel3Ideal.Value
public import Idealize.ShloMosaic.Lib.Decide
public import Idealize.ShloMosaic.Lib.Pipeline.ValueKit.Geometry

@[expose] public section

set_option maxRecDepth 16384

noncomputable section

namespace Cert.Kernel3Ideal.Chain

open Idealize.ShloMosaic Idealize.ShloMosaic.Pipeline Cert.Kernel3Ideal Cert.Kernel3Ideal.Gen Cert.Kernel3Ideal.Step Cert.Kernel3Ideal.Case Cert.Norm

variable (m : (ℓ : Loc nD τ sig) → Buf (Elt Ideal) ℓ) (c : Dev nD)

/-- The arguments' rows. -/
def given : Rows 2048 := rows (m (c, Proc.devRef .tc main_arg0)) (m (c, Proc.devRef .tc main_arg1)) (m (c, Proc.devRef .tc main_arg2))
  (m (c, Proc.devRef .tc main_arg3)) (m (c, Proc.devRef .tc main_arg4)) (m (c, Proc.devRef .tc main_arg5))

theorem lt11 (t : Fin cfg0.N) : t.val < 11 := lt_of_lt_of_eq t.isLt N_0

theorem at0 (t : Fin cfg0.N) : (cfg0.win 0).index t 0 = t.val ∧ (cfg0.win 0).index t 1 = 0 := by revert t; decide +kernel
theorem at1 (t : Fin cfg0.N) : (cfg0.win 1).index t 0 = 0 ∧ (cfg0.win 1).index t 1 = 0 := by revert t; decide +kernel
theorem at2 (t : Fin cfg0.N) : (cfg0.win 2).index t 0 = 0 ∧ (cfg0.win 2).index t 1 = 0 := by revert t; decide +kernel
theorem at3 (t : Fin cfg0.N) : (cfg0.win 3).index t 0 = t.val ∧ (cfg0.win 3).index t 1 = 0 := by revert t; decide +kernel
theorem at4 (t : Fin cfg0.N) : (cfg0.win 4).index t 0 = t.val ∧ (cfg0.win 4).index t 1 = 0 := by revert t; decide +kernel
theorem at5 (t : Fin cfg0.N) : (cfg0.win 5).index t 0 = t.val ∧ (cfg0.win 5).index t 1 = 0 := by revert t; decide +kernel
theorem at6 (t : Fin cfg0.N) : (cfg0.win 6).index t 0 = t.val ∧ (cfg0.win 6).index t 1 = 0 := by revert t; decide +kernel
theorem at7 (t : Fin cfg0.N) : (cfg0.win 7).index t 0 = 0 ∧ (cfg0.win 7).index t 1 = 0 := by revert t; decide +kernel
theorem at8 (t : Fin cfg0.N) : (cfg0.win 8).index t 0 = 0 ∧ (cfg0.win 8).index t 1 = 0 := by revert t; decide +kernel

/-- A row of a tile, by the tile's number. -/
theorem row_lt (t : Fin cfg0.N) (r : Fin 384) : 384 * t.val + r.val < 4224 := by have := lt11 t; omega

theorem blk0 (t : Fin cfg0.N) (r : Fin 384) (k : Fin 1024) :
    iblk m c 0 t (ix2 r k) = m (c, Proc.devRef .tc main_arg0) (ix2 (⟨384 * t.val + r.val, row_lt t r⟩ : Fin 4224) k) := by
  refine (congrArg (V m c main_arg0) (funext fun a => Fin.ext ?_)).trans (congrFun (V_main_arg0 m c) _)
  refine (Window.rect_emb_val (cfg0.win 0) t (ix2 r k) a).trans ?_
  fin_cases a
  · show (cfg0.win 0).index t 0 * 384 + r.val = 384 * t.val + r.val
    rw [(at0 t).1]; omega
  · show (cfg0.win 0).index t 1 * 1024 + k.val = k.val
    rw [(at0 t).2]; omega

theorem blk1 (t : Fin cfg0.N) (k : Fin 1024) : iblk m c 1 t (ix2 (0 : Fin 1) k) = m (c, Proc.devRef .tc main_arg1) (ix2 (0 : Fin 1) k) := by
  refine (congrArg (V m c main_arg1) (funext fun a => Fin.ext ?_)).trans (congrFun (V_main_arg1 m c) _)
  refine (Window.rect_emb_val (cfg0.win 1) t (ix2 (0 : Fin 1) k) a).trans ?_
  fin_cases a
  · show (cfg0.win 1).index t 0 * 1 + 0 = 0
    rw [(at1 t).1]
  · show (cfg0.win 1).index t 1 * 1024 + k.val = k.val
    rw [(at1 t).2]; omega

theorem blk2 (t : Fin cfg0.N) (k : Fin 1024) (e : Fin 2048) : iblk m c 2 t (ix2 k e) = m (c, Proc.devRef .tc main_arg2) (ix2 k e) := by
  refine (congrArg (V m c main_arg2) (funext fun a => Fin.ext ?_)).trans (congrFun (V_main_arg2 m c) _)
  refine (Window.rect_emb_val (cfg0.win 2) t (ix2 k e) a).trans ?_
  fin_cases a
  · show (cfg0.win 2).index t 0 * 1024 + k.val = k.val
    rw [(at2 t).1]; omega
  · show (cfg0.win 2).index t 1 * 2048 + e.val = e.val
    rw [(at2 t).2]; omega

theorem blk3 (t : Fin cfg0.N) (r : Fin 384) (k : Fin 1024) :
    iblk m c 3 t (ix2 r k) = m (c, Proc.devRef .tc main_arg3) (ix2 (⟨384 * t.val + r.val, row_lt t r⟩ : Fin 4224) k) := by
  refine (congrArg (V m c main_arg3) (funext fun a => Fin.ext ?_)).trans (congrFun (V_main_arg3 m c) _)
  refine (Window.rect_emb_val (cfg0.win 3) t (ix2 r k) a).trans ?_
  fin_cases a
  · show (cfg0.win 3).index t 0 * 384 + r.val = 384 * t.val + r.val
    rw [(at3 t).1]; omega
  · show (cfg0.win 3).index t 1 * 1024 + k.val = k.val
    rw [(at3 t).2]; omega

theorem blk4 (t : Fin cfg0.N) (r : Fin 384) (k : Fin 1024) :
    iblk m c 4 t (ix2 r k) = m (c, Proc.devRef .tc main_arg4) (ix2 (⟨384 * t.val + r.val, row_lt t r⟩ : Fin 4224) k) := by
  refine (congrArg (V m c main_arg4) (funext fun a => Fin.ext ?_)).trans (congrFun (V_main_arg4 m c) _)
  refine (Window.rect_emb_val (cfg0.win 4) t (ix2 r k) a).trans ?_
  fin_cases a
  · show (cfg0.win 4).index t 0 * 384 + r.val = 384 * t.val + r.val
    rw [(at4 t).1]; omega
  · show (cfg0.win 4).index t 1 * 1024 + k.val = k.val
    rw [(at4 t).2]; omega

theorem blk5 (t : Fin cfg0.N) (r : Fin 384) (k : Fin 1024) :
    iblk m c 5 t (ix2 r k) = m (c, Proc.devRef .tc main_arg5) (ix2 (⟨384 * t.val + r.val, row_lt t r⟩ : Fin 4224) k) := by
  refine (congrArg (V m c main_arg5) (funext fun a => Fin.ext ?_)).trans (congrFun (V_main_arg5 m c) _)
  refine (Window.rect_emb_val (cfg0.win 5) t (ix2 r k) a).trans ?_
  fin_cases a
  · show (cfg0.win 5).index t 0 * 384 + r.val = 384 * t.val + r.val
    rw [(at5 t).1]; omega
  · show (cfg0.win 5).index t 1 * 1024 + k.val = k.val
    rw [(at5 t).2]; omega

/-- A tile's blocks are the given rows' from `384 j` on. -/
structure Env (H : Rows 2048) (j : ℕ) (x0 : Vec Ideal S384x1024 .f32) (x1 : Vec Ideal S1x1024 .f32) (x2 : Vec Ideal S1024x2048 .bf16) (x3 x4 : Vec Ideal S384x1024 .bf16)
    (x5 : Vec Ideal S384x1024 .f32) : Prop where
  x (r : Fin 384) (k : Fin 1024) : x0 (ix2 r k) = H.X (384 * j + r.val) k
  g (k : Fin 1024) : x1 (ix2 (0 : Fin 1) k) = H.G k
  w (k : Fin 1024) (e : Fin 2048) : x2 (ix2 k e) = H.W k e
  y (r : Fin 384) (e : Fin 2048) : both x3 x4 (ix2 r e) = H.Y (384 * j + r.val) e
  r (r : Fin 384) (k : Fin 1024) : x5 (ix2 r k) = H.R (384 * j + r.val) k

theorem env (t : Fin cfg0.N) : Env (given m c) t.val (iblk m c 0 t) (iblk m c 1 t) (iblk m c 2 t) (iblk m c 3 t) (iblk m c 4 t) (iblk m c 5 t) := by
  refine ⟨fun r k => ?_, fun k => blk1 m c t k, fun k e => blk2 m c t k e, fun r e => ?_, fun r k => ?_⟩
  · unfold given rows; dsimp only
    rw [dif_pos (row_lt t r)]; exact blk0 m c t r k
  · unfold given rows both; dsimp only
    rw [dif_pos (row_lt t r)]
    by_cases he : e.val < 1024
    · rw [dif_pos he]; exact (dif_pos he).trans (blk3 m c t r _)
    · rw [dif_neg he]; exact (dif_neg he).trans (blk4 m c t r _)
  · unfold given rows; dsimp only
    rw [dif_pos (row_lt t r)]; exact blk5 m c t r k

section Point

variable {H : Rows 2048} {j : ℕ} {x0 : Vec Ideal S384x1024 .f32} {x1 : Vec Ideal S1x1024 .f32} {x2 : Vec Ideal S1024x2048 .bf16} {x3 x4 : Vec Ideal S384x1024 .bf16}
  {x5 : Vec Ideal S384x1024 .f32} (E : Env H j x0 x1 x2 x3 x4 x5)
include E

theorem point_xh (r : Fin 384) (k : Fin 1024) : k0_pay9 x0 (ix2 r k) = H.xh (384 * j + r.val) k := by
  rw [xh_apply]; simp only [E.x]; rfl

theorem point_dn (r : Fin 384) (k : Fin 1024) : k0_pay11 (both x3 x4) x2 (ix2 r k) = H.dn (384 * j + r.val) k := by
  rw [dn_apply]; simp only [E.y, E.w]; rfl

theorem point_dx (r : Fin 384) (k : Fin 1024) :
    k0_pay3 x1 (k0_pay8 x0) (k0_pay9 x0) (k0_pay11 (both x3 x4) x2) x5 (ix2 r k) = H.dx (384 * j + r.val) k := by
  rw [dx_apply]; simp only [E.x, point_dn E, E.g, E.r]; rfl

theorem point_dw (acc : FVec Ideal S1024x2048 .f32) (h : ∀ k e, acc (ix2 k e) = H.dw (384 * j) k e) (k : Fin 1024) (e : Fin 2048) :
    k0_pay1 (both x3 x4) (k0_pay10 x0 x1) (k0_pay12 acc) (constant S1024x2048 .f32 0x00000000#32) (ix2 k e) = H.dw (384 * (j + 1)) k e := by
  rw [dw_apply, h, Nat.mul_succ, Rows.dw_add]
  refine congrArg _ (Finset.sum_congr rfl fun r _ => ?_)
  rw [nb_apply, ← xh_apply, point_xh E, E.g, E.y]

theorem point_dg (acc : Vec Ideal S1x1024 .f32) (h : ∀ k, acc (ix2 (0 : Fin 1) k) = H.dg (384 * j) k) (k : Fin 1024) :
    k0_pay2 (k0_pay9 x0) (k0_pay11 (both x3 x4) x2) acc (ix2 (0 : Fin 1) k) = H.dg (384 * (j + 1)) k := by
  rw [dg_apply, h, Nat.mul_succ, Rows.dg_add]
  refine congrArg _ (Finset.sum_congr rfl fun r _ => ?_)
  rw [point_xh E, point_dn E]

end Point

/-- What the buffers hold after the point of row tile `j`. -/
structure After (H : Rows 2048) (j : ℕ) (o : Vec Ideal S384x1024 .f32 × Vec Ideal S1024x2048 .f32 × Vec Ideal S1x1024 .f32) : Prop where
  dx (r : Fin 384) (k : Fin 1024) : o.1 (ix2 r k) = H.dx (384 * j + r.val) k
  dw (k : Fin 1024) (e : Fin 2048) : o.2.1 (ix2 k e) = H.dw (384 * (j + 1)) k e
  dg (k : Fin 1024) : o.2.2 (ix2 (0 : Fin 1) k) = H.dg (384 * (j + 1)) k

theorem after_of {H : Rows 2048} {j : ℕ} {x0 : Vec Ideal S384x1024 .f32} {x1 : Vec Ideal S1x1024 .f32} {x2 : Vec Ideal S1024x2048 .bf16} {x3 x4 : Vec Ideal S384x1024 .bf16}
    {x5 : Vec Ideal S384x1024 .f32} (E : Env H j x0 x1 x2 x3 x4 x5) {a7 : FVec Ideal S1024x2048 .f32} {a8 : Vec Ideal S1x1024 .f32}
    (h7 : ∀ k e, a7 (ix2 k e) = H.dw (384 * j) k e) (h8 : ∀ k, a8 (ix2 (0 : Fin 1) k) = H.dg (384 * j) k)
    {o6 : Vec Ideal S384x1024 .f32} {o7 : Vec Ideal S1024x2048 .f32} {o8 : Vec Ideal S1x1024 .f32}
    (h : o6 = k0_pay3 x1 (k0_pay8 x0) (k0_pay9 x0) (k0_pay11 (both x3 x4) x2) x5
      ∧ o7 = k0_pay1 (both x3 x4) (k0_pay10 x0 x1) (k0_pay12 a7) (constant S1024x2048 .f32 0x00000000#32)
      ∧ o8 = k0_pay2 (k0_pay9 x0) (k0_pay11 (both x3 x4) x2) a8) : After H j (o6, o7, o8) := by
  obtain ⟨rfl, rfl, rfl⟩ := h
  exact ⟨point_dx E, point_dw E _ h7, point_dg E _ h8⟩

theorem step (t : Fin cfg0.N) (ih : ¬t.val % 11 = 0 → After (given m c) (t.val - 1) (outsAt0 m c (t.val - 1) (Nat.lt_of_le_of_lt (Nat.sub_le _ _) t.isLt))) :
    After (given m c) t.val (outsAt0 m c t.val t.isLt) := by
  have E := env m c t
  have h11 := lt11 t
  by_cases h0 : t.val % 11 = 0
  · rw [outsAt0_A m c t h0]
    have ht : t.val = 0 := by omega
    refine after_of E (a7 := k0_pay4 (F := Ideal)) (a8 := k0_pay5 (F := Ideal)) (fun k e => ?_) (fun k => ?_) (case_A ..)
    · rw [zero_dw, ht]; exact (Rows.dw_zero _ k e).symm
    · rw [zero_dg, ht]; exact (Rows.dg_zero _ k).symm
  · rw [outsAt0_B m c t h0]
    have h := ih h0
    have ht : t.val - 1 + 1 = t.val := by omega
    refine after_of E (fun k e => ?_) (fun k => ?_) (case_B ..)
    · rw [h.dw, ht]
    · rw [h.dg, ht]

theorem outs : ∀ (n : ℕ) (hn : n < cfg0.N), After (given m c) n (outsAt0 m c n hn) := by
  intro n
  induction n with
  | zero => exact fun hn => step m c ⟨0, hn⟩ fun h0 => absurd rfl h0
  | succ n ih => exact fun hn => step m c ⟨n + 1, hn⟩ fun _ => ih (by omega)

/-! ## The three result arrays -/

def dxA (H : Rows 2048) : S4224x1024.Idx → EReal := fun i => H.dx (i 0).val (i 1)
def dwA (H : Rows 2048) : S1024x2048.Idx → EReal := fun i => H.dw 4224 (i 0) (i 1)
def dgA (H : Rows 2048) : S1x1024.Idx → EReal := fun i => H.dg 4224 (i 1)

theorem arr6 : (dats m 0 c).arrAt 6 cfg0.N = dxA (given m c) := by
  refine (dats m 0 c).arrAt_eq_of_covers 6 _ (by decide +kernel) fun t hf y => ?_
  rw [after0_6]
  obtain ⟨i0, i1⟩ := at6 t
  refine Eq.trans (congrArg (outsAt0 m c t.val t.isLt).1 (eq_ix2 ((cfg0.win 6).xinj (cfg0.grid.coords t) y))) ?_
  refine Eq.trans ((outs m c t.val t.isLt).dx (y 0) (y 1)) ?_
  refine congrArg₂ (Rows.dx _) (Eq.symm ?_) (Fin.ext (Eq.symm ?_))
  · refine (Window.rect_emb_val (cfg0.win 6) t y 0).trans ?_
    rw [i0]; show t.val * 384 + _ = 384 * t.val + _; rw [Nat.mul_comm]
  · refine (Window.rect_emb_val (cfg0.win 6) t y 1).trans ?_
    rw [i1]; show 0 * 1024 + _ = _; rw [Nat.zero_mul, Nat.zero_add]

theorem arr7 : (dats m 0 c).arrAt 7 cfg0.N = dwA (given m c) := by
  refine (dats m 0 c).arrAt_eq_of_covers 7 _ (by decide +kernel) fun t hf y => ?_
  rw [after0_7]
  obtain ⟨i0, i1⟩ := at7 t
  have ht : t.val = 10 := by have h := (flush0_7 t).mp hf; have := lt11 t; omega
  refine Eq.trans (congrArg (outsAt0 m c t.val t.isLt).2.1 (eq_ix2 ((cfg0.win 7).xinj (cfg0.grid.coords t) y))) ?_
  refine Eq.trans ((outs m c t.val t.isLt).dw (y 0) (y 1)) ?_
  rw [ht]
  refine congrArg₂ (Rows.dw _ 4224) (Fin.ext (Eq.symm ?_)) (Fin.ext (Eq.symm ?_))
  · refine (Window.rect_emb_val (cfg0.win 7) t y 0).trans ?_
    rw [i0]; show 0 * 1024 + _ = _; rw [Nat.zero_mul, Nat.zero_add]
  · refine (Window.rect_emb_val (cfg0.win 7) t y 1).trans ?_
    rw [i1]; show 0 * 2048 + _ = _; rw [Nat.zero_mul, Nat.zero_add]

theorem arr8 : (dats m 0 c).arrAt 8 cfg0.N = dgA (given m c) := by
  refine (dats m 0 c).arrAt_eq_of_covers 8 _ (by decide +kernel) fun t hf y => ?_
  rw [after0_8]
  obtain ⟨i0, i1⟩ := at8 t
  have ht : t.val = 10 := by have h := (flush0_8 t).mp hf; have := lt11 t; omega
  have hy : (cfg0.win 8).xinj (cfg0.grid.coords t) y = ix2 (0 : Fin 1) (y 1) := by
    refine (eq_ix2 _).trans (congrArg (fun z => ix2 z _) ?_)
    exact Fin.ext (by have : (y 0).val < 1 := (y 0).isLt; show (y 0).val = 0; omega)
  refine Eq.trans (congrArg (outsAt0 m c t.val t.isLt).2.2 hy) ?_
  refine Eq.trans ((outs m c t.val t.isLt).dg (y 1)) ?_
  rw [ht]
  refine congrArg (Rows.dg _ 4224) (Fin.ext (Eq.symm ?_))
  refine (Window.rect_emb_val (cfg0.win 8) t y 1).trans ?_
  rw [i1]; show 0 * 1024 + _ = _; rw [Nat.zero_mul, Nat.zero_add]

end Cert.Kernel3Ideal.Chain

end
-- ==== Proof.Ref3.lean ====
/- The third reference's three results from the rows. -/
module

public import proofs.«01_k».proof.Proof.Rows3
public import proofs.«01_k».proof.Proof.Softmax
public import proofs.«01_k».proof.Proof.Gen.Reference3Ideal.Read

@[expose] public section

set_option maxRecDepth 16384

noncomputable section

namespace Cert.Reference3Ideal.Ref

open Idealize.ShloMosaic Cert.Reference3Ideal Cert.Reference3Ideal.Gen Cert.Reference3Ideal.Read Cert.Att Cert.Norm

variable (x0 : FVec Ideal S4224x1024 .f32) (x1 : FVec Ideal S1x1024 .f32) (x2 : FVec Ideal S1024x2048 .bf16) (x3 x4 : FVec Ideal S4224x1024 .bf16)
  (x5 : FVec Ideal S4224x1024 .f32)

theorem x_val (r : Fin 4224) (k : Fin 1024) : x0 (ix2 r k) = (rows x0 x1 x2 x3 x4 x5).X r.val k := by
  unfold rows; dsimp only; rw [dif_pos r.isLt]

theorem r_val (r : Fin 4224) (k : Fin 1024) : x5 (ix2 r k) = (rows x0 x1 x2 x3 x4 x5).R r.val k := by
  unfold rows; dsimp only; rw [dif_pos r.isLt]

theorem at21 (r : Fin 4224) (e : Fin 2048) : val_main_v21 (F := Ideal) x3 x4 (ix2 r e) = (rows x0 x1 x2 x3 x4 x5).Y r.val e := by
  unfold rows val_main_v21; dsimp only
  rw [dif_pos r.isLt]
  by_cases he : e.val < 1024
  · rw [dif_pos he]
    exact concatenate_pair_apply_left (t := S4224x2048) (s₁ := S4224x1024) (s₂ := S4224x1024) 1 _ _ _ (ix2 r e) rfl (ix2 r (⟨e.val, he⟩ : Fin 1024))
      (fun b => by fin_cases b <;> rfl)
  · rw [dif_neg he]
    exact concatenate_pair_apply_right (t := S4224x2048) (s₁ := S4224x1024) (s₂ := S4224x1024) 1 _ _ _ (ix2 r e) rfl rfl (ix2 r (⟨e.val - 1024, by omega⟩ : Fin 1024))
      (fun b hb => by fin_cases b <;> first | rfl | exact absurd rfl hb) (by show e.val - 1024 + 1024 = e.val; omega)

theorem at7 (r : Fin 4224) : val_main_v7 (F := Ideal) x0 (ix2 r (0 : Fin 1)) = ms ((rows x0 x1 x2 x3 x4 x5).X r.val) := by
  unfold ms val_main_v7 val_main_v6 val_main_v5 val_main_v4 val_main_v3 val_main_v2 val_main_v1 val_main_cst val_main_cst_0 val_main_cst_1
  simp only [← x_val x0 x1 x2 x3 x4 x5 r]
  pointwise []
  rw [eps_word.1, width_word]

theorem at8 (r : Fin 4224) : val_main_v8 (F := Ideal) x0 (ix2 r (0 : Fin 1)) = rs ((rows x0 x1 x2 x3 x4 x5).X r.val) := by
  unfold rs
  rw [← at7 x0 x1 x2 x3 x4 x5 r]
  rfl

theorem at11 (r : Fin 4224) : val_main_v11 (F := Ideal) x0 (ix2 r (0 : Fin 1))
    = ((-(1 / 2) : ℝ) : EReal) * Ideal.div (rs ((rows x0 x1 x2 x3 x4 x5).X r.val)) (ms ((rows x0 x1 x2 x3 x4 x5).X r.val)) := by
  have h7 := at7 x0 x1 x2 x3 x4 x5 r
  have h8 := at8 x0 x1 x2 x3 x4 x5 r
  unfold val_main_v11 val_main_v10 val_main_v9 val_main_cst_2
  generalize val_main_v7 (F := Ideal) x0 = a at h7 ⊢
  generalize val_main_v8 (F := Ideal) x0 = b at h8 ⊢
  pointwise []
  rw [h7, h8, half_word]

theorem at13 (r : Fin 4224) (k : Fin 1024) : val_main_v13 (F := Ideal) x0 (ix2 r k) = (rows x0 x1 x2 x3 x4 x5).xh r.val k := by
  have h8 := at8 x0 x1 x2 x3 x4 x5 r
  unfold Rows.xh
  rw [← x_val x0 x1 x2 x3 x4 x5 r k]
  unfold val_main_v13 val_main_v12
  generalize val_main_v8 (F := Ideal) x0 = b at h8 ⊢
  pointwise []
  rw [h8]

theorem at15 (r : Fin 4224) (k : Fin 1024) : val_main_v15 (F := Ideal) x0 x1 (ix2 r k) = (rows x0 x1 x2 x3 x4 x5).xh r.val k * (rows x0 x1 x2 x3 x4 x5).G k := by
  have h13 := at13 x0 x1 x2 x3 x4 x5 r k
  unfold val_main_v15 val_main_v14
  generalize val_main_v13 (F := Ideal) x0 = b at h13 ⊢
  pointwise []
  rw [h13]
  rfl

theorem at24 (r : Fin 4224) (k : Fin 1024) : val_main_v24 (F := Ideal) x2 x3 x4 (ix2 r k) = (rows x0 x1 x2 x3 x4 x5).dn r.val k := by
  have h21 := at21 x0 x1 x2 x3 x4 x5 r
  unfold Rows.dn val_main_v24 val_main_v0
  generalize val_main_v21 (F := Ideal) x3 x4 = a at h21 ⊢
  pointwise []
  exact Finset.sum_congr rfl fun e _ => by rw [h21]; rfl

/-- The matrix's gradient. -/
theorem at23 (k : Fin 1024) (e : Fin 2048) : val_main_v23 (F := Ideal) x0 x1 x3 x4 (ix2 k e) = (rows x0 x1 x2 x3 x4 x5).dw 4224 k e := by
  have h21 := fun r => at21 x0 x1 x2 x3 x4 x5 r e
  have h15 := fun r => at15 x0 x1 x2 x3 x4 x5 r k
  unfold Rows.dw val_main_v23 val_main_v22
  rw [Finset.sum_range]
  generalize val_main_v21 (F := Ideal) x3 x4 = a at h21 ⊢
  generalize val_main_v15 (F := Ideal) x0 x1 = b at h15 ⊢
  pointwise []
  exact Finset.sum_congr rfl fun r _ => by rw [h21, h15, mul_comm]

/-- The norm's weights' gradient. -/
theorem at27 (k : Fin 1024) : val_main_v27 (F := Ideal) x0 x2 x3 x4 (ix2 (0 : Fin 1) k) = (rows x0 x1 x2 x3 x4 x5).dg 4224 k := by
  have h13 := fun r => at13 x0 x1 x2 x3 x4 x5 r k
  have h24 := fun r => at24 x0 x1 x2 x3 x4 x5 r k
  unfold Rows.dg val_main_v27 val_main_v26 val_main_v25 val_main_cst_3
  rw [Finset.sum_range]
  generalize val_main_v13 (F := Ideal) x0 = a at h13 ⊢
  generalize val_main_v24 (F := Ideal) x2 x3 x4 = b at h24 ⊢
  pointwise []
  exact Finset.sum_congr rfl fun r _ => by rw [h13, h24, mul_comm]

theorem at29 (r : Fin 4224) (k : Fin 1024) : val_main_v29 (F := Ideal) x1 x2 x3 x4 (ix2 r k) = (rows x0 x1 x2 x3 x4 x5).dn r.val k * (rows x0 x1 x2 x3 x4 x5).G k := by
  have h24 := at24 x0 x1 x2 x3 x4 x5 r k
  unfold val_main_v29 val_main_v28
  generalize val_main_v24 (F := Ideal) x2 x3 x4 = b at h24 ⊢
  pointwise []
  rw [h24]
  rfl

theorem at40 (r : Fin 4224) (k : Fin 1024) : val_main_v40 (F := Ideal) x0 x1 x2 x3 x4 (ix2 r k)
    = coef ((rows x0 x1 x2 x3 x4 x5).X r.val) (fun j => (rows x0 x1 x2 x3 x4 x5).dn r.val j * (rows x0 x1 x2 x3 x4 x5).G j) := by
  have h29 := at29 x0 x1 x2 x3 x4 x5 r
  have h11 := at11 x0 x1 x2 x3 x4 x5 r
  unfold coef
  rw [← h11]
  simp only [← x_val x0 x1 x2 x3 x4 x5 r, ← h29]
  unfold val_main_v40 val_main_v39 val_main_v38 val_main_v37 val_main_v36 val_main_v32 val_main_v31 val_main_v30 val_main_cst_4 val_main_cst_5 val_main_cst_6
  generalize val_main_v11 (F := Ideal) x0 = a
  generalize val_main_v29 (F := Ideal) x1 x2 x3 x4 = b
  pointwise []
  rw [width_word]
  exact Fin.sum_univ_one _

/-- The rows' gradient. -/
theorem at44 (r : Fin 4224) (k : Fin 1024) : val_main_v44 (F := Ideal) x0 x1 x2 x3 x4 x5 (ix2 r k) = (rows x0 x1 x2 x3 x4 x5).dx r.val k := by
  have h8 := at8 x0 x1 x2 x3 x4 x5 r
  have h29 := at29 x0 x1 x2 x3 x4 x5 r k
  have h40 := at40 x0 x1 x2 x3 x4 x5 r k
  unfold Rows.dx
  rw [grad_eq, ← h40, ← h8, ← h29, ← x_val x0 x1 x2 x3 x4 x5 r, ← r_val x0 x1 x2 x3 x4 x5 r]
  unfold val_main_v44 val_main_v43 val_main_v42 val_main_v41 val_main_v35 val_main_v34 val_main_v33
  generalize val_main_v40 (F := Ideal) x0 x1 x2 x3 x4 = a
  generalize val_main_v29 (F := Ideal) x1 x2 x3 x4 = b
  generalize val_main_v8 (F := Ideal) x0 = d
  pointwise []

end Cert.Reference3Ideal.Ref

end
-- ==== Proof.Value3.lean ====
/- The third kernel's results are the third reference's. -/
module

public import proofs.«01_k».proof.Proof.Value2
public import proofs.«01_k».proof.Proof.Chain3
public import proofs.«01_k».proof.Proof.Ref3

@[expose] public section

set_option maxRecDepth 16384

noncomputable section

namespace Cert.Proof

open Idealize.ShloMosaic Idealize.ShloMosaic.TcCoe Idealize.SL.Sem Cert.Kernel3Ideal Cert.Kernel3Ideal.Gen

/-- The third reference has no semaphores, and its run leaves the six arguments as they were. -/
theorem frame_reference3 : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

variable (m : (ℓ : Loc nD τ sig) → Buf (Elt Ideal) ℓ) (c : Dev nD)

theorem same_dx : (Cert.Reference3Ideal.Read.val_main_v44 (F := Ideal) (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) : FVec Ideal S4224x1024 .f32) = (dats m 0 c).arrAt 6 cfg0.N :=
  (eq_of_at2 _ _ fun r k => Cert.Reference3Ideal.Ref.at44 _ _ _ _ _ _ r k).trans (Chain.arr6 m c).symm

theorem same_dw : (Cert.Reference3Ideal.Read.val_main_v23 (F := Ideal) (m (c, Proc.devRef .tc main_arg0)) (m (c, Proc.devRef .tc main_arg1))
    (m (c, Proc.devRef .tc main_arg3)) (m (c, Proc.devRef .tc main_arg4)) : FVec Ideal S1024x2048 .f32) = (dats m 0 c).arrAt 7 cfg0.N :=
  (eq_of_at2 _ _ fun k e => Cert.Reference3Ideal.Ref.at23 _ _ (m (c, Proc.devRef .tc main_arg2)) _ _ (m (c, Proc.devRef .tc main_arg5)) k e).trans (Chain.arr7 m c).symm

theorem same_dg : (Cert.Reference3Ideal.Read.val_main_v27 (F := Ideal) (m (c, Proc.devRef .tc main_arg0)) (m (c, Proc.devRef .tc main_arg2))
    (m (c, Proc.devRef .tc main_arg3)) (m (c, Proc.devRef .tc main_arg4)) : FVec Ideal S1x1024 .f32) = (dats m 0 c).arrAt 8 cfg0.N := by
  refine (eq_of_at2 _ (Chain.dgA (Chain.given m c)) fun z k => ?_).trans (Chain.arr8 m c).symm
  obtain rfl : z = 0 := Subsingleton.elim _ _
  exact Cert.Reference3Ideal.Ref.at27 _ (m (c, Proc.devRef .tc main_arg1)) _ _ _ (m (c, Proc.devRef .tc main_arg5)) k

theorem value3 : Cert.algebraic_Kernel3Ideal_Reference3Ideal := by
  intro m ρ m' ρ' _ hagree
  refine ⟨_, _, _, Cert.Kernel3Ideal.Value.run_blocks m ρ, ?_⟩
  refine (θ_run Cert.Reference3Ideal.defs _ _).mono (fun _ h c => ?_) (Cert.Reference3Ideal.Value.run (F := Ideal) m' ρ')
  obtain ⟨h0, h1, h2, ha⟩ := h c
  obtain ⟨g0, g1, g2, g3, g4, g5⟩ := hagree c
  refine ⟨h0.trans ?_, h1.trans ?_, h2.trans ?_, ha⟩
  · rw [Cert.Reference3Ideal.Read.val_main_v44_eq, g0, g1, g2, g3, g4, g5]
    exact same_dx m c
  · rw [Cert.Reference3Ideal.Read.val_main_v23_eq, g0, g1, g3, g4]
    exact same_dw m c
  · rw [Cert.Reference3Ideal.Read.val_main_v27_eq, g0, g2, g3, g4]
    exact same_dg m c

end Cert.Proof

end
-- ==== Proof.Proj4.lean ====
/- The gated output projection with its residual, and the next layer's normalized input projection, by row. -/
module

public import proofs.«01_k».proof.Proof.Rows3

@[expose] public section

noncomputable section

namespace Cert.Proj

open Idealize.ShloMosaic Cert.Norm

/-- A row of the output projection and what it is added to gives a row of the residual stream; its norm goes into the input projection. -/
structure Proj where
  A : ℕ → Fin 1024 → EReal
  T : ℕ → Fin 1024 → EReal
  O : Fin 1024 → Fin 1024 → EReal
  H : ℕ → Fin 1024 → EReal
  G : Fin 1024 → EReal
  W : Fin 1024 → Fin 2048 → EReal

/-- The gate's sigmoid. -/
def sg (t : EReal) : EReal := Ideal.div ((1 : ℝ) : EReal) (((1 : ℝ) : EReal) + Ideal.exp (-t))

namespace Proj

variable (P : Proj)

/-- The residual stream. -/
def h (r : ℕ) (k : Fin 1024) : EReal := P.H r k + ∑ j, P.A r j * (P.T r j * sg (P.T r j)) * P.O j k

/-- The input projection. -/
def z (r : ℕ) (e : Fin 2048) : EReal := ∑ k, P.h r k * rs (P.h r) * P.G k * P.W k e

end Proj

/-- An element of either half of a projection. -/
def low (k : Fin 1024) : Fin 2048 := ⟨k.val, by omega⟩
def high (k : Fin 1024) : Fin 2048 := ⟨1024 + k.val, by omega⟩

/-- The projections of six arrays. -/
def proj (x0 x1 : FVec Ideal ⟨2, ![4224, 1024]⟩ .f32) (x2 : FVec Ideal ⟨2, ![1024, 1024]⟩ .bf16) (x3 : FVec Ideal ⟨2, ![4224, 1024]⟩ .f32)
    (x4 : FVec Ideal ⟨2, ![1, 1024]⟩ .f32) (x5 : FVec Ideal ⟨2, ![1024, 2048]⟩ .bf16) : Proj where
  A r k := if h : r < 4224 then x0 (ix2 (⟨r, h⟩ : Fin 4224) k) else 0
  T r k := if h : r < 4224 then x1 (ix2 (⟨r, h⟩ : Fin 4224) k) else 0
  O j k := x2 (ix2 j k)
  H r k := if h : r < 4224 then x3 (ix2 (⟨r, h⟩ : Fin 4224) k) else 0
  G k := x4 (ix2 (0 : Fin 1) k)
  W k e := x5 (ix2 k e)

end Cert.Proj

end
-- ==== Proof.Step4.lean ====
/- What the fourth kernel's body leaves in its three outputs' buffers at a grid point, element by element. -/
module

public import proofs.«01_k».proof.Proof.Proj4
public import proofs.«01_k».proof.Proof.Ref
public import proofs.«01_k».proof.Proof.Gen.Kernel4Ideal.Frame
public import Idealize.ShloMosaic.Lib.Pipeline.Value

@[expose] public section

set_option maxRecDepth 16384

noncomputable section

namespace Cert.Kernel4Ideal.Step

open Idealize.ShloMosaic Cert.Kernel4Ideal Cert.Kernel4Ideal.Gen Cert.Norm Cert.Proj

/-- A tile's blocks are the rows from `384 j` on. -/
structure Env (P : Proj) (j : ℕ) (x0 x1 : Vec Ideal S384x1024 .f32) (x2 : Vec Ideal S1024x1024 .bf16) (x3 : Vec Ideal S384x1024 .f32) (x4 : Vec Ideal S1x1024 .f32)
    (x5 : Vec Ideal S1024x2048 .bf16) : Prop where
  a (r : Fin 384) (k : Fin 1024) : x0 (ix2 r k) = P.A (384 * j + r.val) k
  t (r : Fin 384) (k : Fin 1024) : x1 (ix2 r k) = P.T (384 * j + r.val) k
  o (i k : Fin 1024) : x2 (ix2 i k) = P.O i k
  h (r : Fin 384) (k : Fin 1024) : x3 (ix2 r k) = P.H (384 * j + r.val) k
  g (k : Fin 1024) : x4 (ix2 (0 : Fin 1) k) = P.G k
  w (k : Fin 1024) (e : Fin 2048) : x5 (ix2 k e) = P.W k e

variable {P : Proj} {j : ℕ} {x0 x1 : Vec Ideal S384x1024 .f32} {x2 : Vec Ideal S1024x1024 .bf16} {x3 : Vec Ideal S384x1024 .f32} {x4 : Vec Ideal S1x1024 .f32}
  {x5 : Vec Ideal S1024x2048 .bf16} (E : Env P j x0 x1 x2 x3 x4 x5)
include E

theorem h_apply (r : Fin 384) (k : Fin 1024) : k0_pay2 x1 x0 x3 x2 (ix2 r k) = P.h (384 * j + r.val) k := by
  pointwise [k0_pay2]
  unfold Proj.h sg
  simp only [E.a, E.t, E.o, E.h, Cert.ReferenceIdeal.Ref.one_bits, zero_sub, EReal.coe_one]

theorem z_apply (r : Fin 384) (e : Fin 2048) : k0_pay3 x1 x0 x3 x2 x4 x5 (ix2 r e) = P.z (384 * j + r.val) e := by
  have hh := h_apply E r
  unfold k0_pay3
  generalize k0_pay2 x1 x0 x3 x2 = y at hh ⊢
  pointwise []
  unfold Proj.z rs ms
  simp only [hh, E.g, E.w, width_word, eps_word.1]

theorem low_apply (r : Fin 384) (k : Fin 1024) : k0_pay4 x1 x0 x3 x2 x4 x5 (ix2 r k) = P.z (384 * j + r.val) (low k) := by
  rw [← z_apply E]
  unfold k0_pay4
  generalize k0_pay3 x1 x0 x3 x2 x4 x5 = y
  exact extractStridedSlice_apply ![0, 0] y _ (ix2 r k) (ix2 r (low k)) (fun a => by fin_cases a <;> exact (Nat.zero_add _).symm)

theorem high_apply (r : Fin 384) (k : Fin 1024) : k0_pay1 (k0_pay3 x1 x0 x3 x2 x4 x5) (ix2 r k) = P.z (384 * j + r.val) (high k) := by
  rw [← z_apply E]
  generalize k0_pay3 x1 x0 x3 x2 x4 x5 = y
  unfold k0_pay1
  exact extractStridedSlice_apply ![0, 1024] y _ (ix2 r k) (ix2 r (high k)) (fun a => by fin_cases a <;> first | rfl | exact (Nat.zero_add _).symm)

omit E in
theorem off0 : (![0, 0] : Fin 2 → ℕ) = fun _ => 0 := by funext a; fin_cases a <;> rfl

theorem out_h (r : Fin 384) (k : Fin 1024) : out0_6 x0 x1 x2 x3 x4 x5 (ix2 r k) = P.h (384 * j + r.val) k := by
  unfold out0_6
  rw [View.ld_unit_zero off0, View.ld_unit_zero off0, View.ld_unit_zero off0, View.ld_unit_zero off0, View.canon_unit_zero off0]
  exact h_apply E r k

theorem out_low (r : Fin 384) (k : Fin 1024) : out0_7 x0 x1 x2 x3 x4 x5 (ix2 r k) = P.z (384 * j + r.val) (low k) := by
  unfold out0_7
  rw [View.ld_unit_zero off0, View.ld_unit_zero off0, View.ld_unit_zero off0, View.ld_unit_zero off0, View.ld_unit_zero off0, View.ld_unit_zero off0, View.canon_unit_zero off0]
  exact low_apply E r k

theorem out_high (r : Fin 384) (k : Fin 1024) : out0_8 x0 x1 x2 x3 x4 x5 (ix2 r k) = P.z (384 * j + r.val) (high k) := by
  unfold out0_8
  rw [View.ld_unit_zero off0, View.ld_unit_zero off0, View.ld_unit_zero off0, View.ld_unit_zero off0, View.ld_unit_zero off0, View.ld_unit_zero off0, View.canon_unit_zero off0]
  exact high_apply E r k

end Cert.Kernel4Ideal.Step

end
-- ==== Proof.Chain4.lean ====
/- The fourth kernel's three outputs over its points: each row tile gives its rows' residual stream and both halves of their projection. -/
module

public import proofs.«01_k».proof.Proof.Step4
public import proofs.«01_k».proof.Proof.Gen.Kernel4Ideal.Value
public import Idealize.ShloMosaic.Lib.Decide
public import Idealize.ShloMosaic.Lib.Pipeline.ValueKit.Geometry

@[expose] public section

set_option maxRecDepth 16384

noncomputable section

namespace Cert.Kernel4Ideal.Chain

open Idealize.ShloMosaic Idealize.ShloMosaic.Pipeline Cert.Kernel4Ideal Cert.Kernel4Ideal.Gen Cert.Kernel4Ideal.Step Cert.Proj

variable (m : (ℓ : Loc nD τ sig) → Buf (Elt Ideal) ℓ) (c : Dev nD)

/-- The arguments' projections. -/
def given : Proj := proj (m (c, Proc.devRef .tc main_arg0)) (m (c, Proc.devRef .tc main_arg1)) (m (c, Proc.devRef .tc main_arg2))
  (m (c, Proc.devRef .tc main_arg3)) (m (c, Proc.devRef .tc main_arg4)) (m (c, Proc.devRef .tc main_arg5))

theorem row_lt (t : Fin cfg0.N) (r : Fin 384) : 384 * t.val + r.val < 4224 := by have := lt_of_lt_of_eq t.isLt N_0; omega

/-- The windows over row tiles, and those that stay. -/
theorem at_rows (t : Fin cfg0.N) : ((cfg0.win 0).index t 0 = t.val ∧ (cfg0.win 0).index t 1 = 0) ∧ ((cfg0.win 1).index t 0 = t.val ∧ (cfg0.win 1).index t 1 = 0) ∧
    ((cfg0.win 3).index t 0 = t.val ∧ (cfg0.win 3).index t 1 = 0) := by revert t; decide +kernel
theorem at_outs (t : Fin cfg0.N) : ((cfg0.win 6).index t 0 = t.val ∧ (cfg0.win 6).index t 1 = 0) ∧ ((cfg0.win 7).index t 0 = t.val ∧ (cfg0.win 7).index t 1 = 0) ∧
    ((cfg0.win 8).index t 0 = t.val ∧ (cfg0.win 8).index t 1 = 0) := by revert t; decide +kernel
theorem at_whole (t : Fin cfg0.N) : ((cfg0.win 2).index t 0 = 0 ∧ (cfg0.win 2).index t 1 = 0) ∧ ((cfg0.win 4).index t 0 = 0 ∧ (cfg0.win 4).index t 1 = 0) ∧
    ((cfg0.win 5).index t 0 = 0 ∧ (cfg0.win 5).index t 1 = 0) := by revert t; decide +kernel

/-- Where a window over row tiles reads, and where one that stays does. -/
theorem tile_pos {i n t r : ℕ} (h : i = t) : i * n + r = n * t + r := by rw [h, Nat.mul_comm]
theorem stay_pos {i n k : ℕ} (h : i = 0) : i * n + k = k := by rw [h, Nat.zero_mul, Nat.zero_add]

theorem blk0 (t : Fin cfg0.N) (r : Fin 384) (k : Fin 1024) :
    iblk m c 0 t (ix2 r k) = m (c, Proc.devRef .tc main_arg0) (ix2 (⟨384 * t.val + r.val, row_lt t r⟩ : Fin 4224) k) := by
  refine (congrArg (V m c main_arg0) (funext fun a => Fin.ext ?_)).trans (congrFun (V_main_arg0 m c) _)
  refine (Window.rect_emb_val (cfg0.win 0) t (ix2 r k) a).trans ?_
  fin_cases a
  · exact tile_pos (at_rows t).1.1
  · exact stay_pos (at_rows t).1.2

theorem blk1 (t : Fin cfg0.N) (r : Fin 384) (k : Fin 1024) :
    iblk m c 1 t (ix2 r k) = m (c, Proc.devRef .tc main_arg1) (ix2 (⟨384 * t.val + r.val, row_lt t r⟩ : Fin 4224) k) := by
  refine (congrArg (V m c main_arg1) (funext fun a => Fin.ext ?_)).trans (congrFun (V_main_arg1 m c) _)
  refine (Window.rect_emb_val (cfg0.win 1) t (ix2 r k) a).trans ?_
  fin_cases a
  · exact tile_pos (at_rows t).2.1.1
  · exact stay_pos (at_rows t).2.1.2

theorem blk2 (t : Fin cfg0.N) (i k : Fin 1024) : iblk m c 2 t (ix2 i k) = m (c, Proc.devRef .tc main_arg2) (ix2 i k) := by
  refine (congrArg (V m c main_arg2) (funext fun a => Fin.ext ?_)).trans (congrFun (V_main_arg2 m c) _)
  refine (Window.rect_emb_val (cfg0.win 2) t (ix2 i k) a).trans ?_
  fin_cases a
  · exact stay_pos (at_whole t).1.1
  · exact stay_pos (at_whole t).1.2

theorem blk3 (t : Fin cfg0.N) (r : Fin 384) (k : Fin 1024) :
    iblk m c 3 t (ix2 r k) = m (c, Proc.devRef .tc main_arg3) (ix2 (⟨384 * t.val + r.val, row_lt t r⟩ : Fin 4224) k) := by
  refine (congrArg (V m c main_arg3) (funext fun a => Fin.ext ?_)).trans (congrFun (V_main_arg3 m c) _)
  refine (Window.rect_emb_val (cfg0.win 3) t (ix2 r k) a).trans ?_
  fin_cases a
  · exact tile_pos (at_rows t).2.2.1
  · exact stay_pos (at_rows t).2.2.2

theorem blk4 (t : Fin cfg0.N) (k : Fin 1024) : iblk m c 4 t (ix2 (0 : Fin 1) k) = m (c, Proc.devRef .tc main_arg4) (ix2 (0 : Fin 1) k) := by
  refine (congrArg (V m c main_arg4) (funext fun a => Fin.ext ?_)).trans (congrFun (V_main_arg4 m c) _)
  refine (Window.rect_emb_val (cfg0.win 4) t (ix2 (0 : Fin 1) k) a).trans ?_
  fin_cases a
  · exact stay_pos (at_whole t).2.1.1
  · exact stay_pos (at_whole t).2.1.2

theorem blk5 (t : Fin cfg0.N) (k : Fin 1024) (e : Fin 2048) : iblk m c 5 t (ix2 k e) = m (c, Proc.devRef .tc main_arg5) (ix2 k e) := by
  refine (congrArg (V m c main_arg5) (funext fun a => Fin.ext ?_)).trans (congrFun (V_main_arg5 m c) _)
  refine (Window.rect_emb_val (cfg0.win 5) t (ix2 k e) a).trans ?_
  fin_cases a
  · exact stay_pos (at_whole t).2.2.1
  · exact stay_pos (at_whole t).2.2.2

theorem env (t : Fin cfg0.N) : Env (given m c) t.val (iblk m c 0 t) (iblk m c 1 t) (iblk m c 2 t) (iblk m c 3 t) (iblk m c 4 t) (iblk m c 5 t) := by
  refine ⟨fun r k => ?_, fun r k => ?_, blk2 m c t, fun r k => ?_, blk4 m c t, blk5 m c t⟩
  · unfold given proj; dsimp only
    rw [dif_pos (row_lt t r)]; exact blk0 m c t r k
  · unfold given proj; dsimp only
    rw [dif_pos (row_lt t r)]; exact blk1 m c t r k
  · unfold given proj; dsimp only
    rw [dif_pos (row_lt t r)]; exact blk3 m c t r k

/-! ## The three result arrays -/

def hA (P : Proj) : S4224x1024.Idx → EReal := fun i => P.h (i 0).val (i 1)
def lowA (P : Proj) : S4224x1024.Idx → EReal := fun i => P.z (i 0).val (low (i 1))
def highA (P : Proj) : S4224x1024.Idx → EReal := fun i => P.z (i 0).val (high (i 1))

theorem arr6 : (dats m 0 c).arrAt 6 cfg0.N = hA (given m c) := by
  refine (dats m 0 c).arrAt_eq_of_covers 6 _ (by decide +kernel) fun t hf y => ?_
  rw [after0_6]
  have E := out_h (env m c t)
  generalize out0_6 (iblk m c 0 t) (iblk m c 1 t) (iblk m c 2 t) (iblk m c 3 t) (iblk m c 4 t) (iblk m c 5 t) = o at E ⊢
  refine Eq.trans (congrArg o (eq_ix2 ((cfg0.win 6).xinj (cfg0.grid.coords t) y))) ?_
  refine Eq.trans (E (y 0) (y 1)) ?_
  refine congrArg₂ (Proj.h _) (Eq.symm ?_) (Fin.ext (Eq.symm ?_))
  · exact (Window.rect_emb_val (cfg0.win 6) t y 0).trans (tile_pos (at_outs t).1.1)
  · exact (Window.rect_emb_val (cfg0.win 6) t y 1).trans (stay_pos (at_outs t).1.2)

theorem arr7 : (dats m 0 c).arrAt 7 cfg0.N = lowA (given m c) := by
  refine (dats m 0 c).arrAt_eq_of_covers 7 _ (by decide +kernel) fun t hf y => ?_
  rw [after0_7]
  have E := out_low (env m c t)
  generalize out0_7 (iblk m c 0 t) (iblk m c 1 t) (iblk m c 2 t) (iblk m c 3 t) (iblk m c 4 t) (iblk m c 5 t) = o at E ⊢
  refine Eq.trans (congrArg o (eq_ix2 ((cfg0.win 7).xinj (cfg0.grid.coords t) y))) ?_
  refine Eq.trans (E (y 0) (y 1)) ?_
  refine congrArg₂ (Proj.z _) (Eq.symm ?_) (congrArg low (Fin.ext (Eq.symm ?_)))
  · exact (Window.rect_emb_val (cfg0.win 7) t y 0).trans (tile_pos (at_outs t).2.1.1)
  · exact (Window.rect_emb_val (cfg0.win 7) t y 1).trans (stay_pos (at_outs t).2.1.2)

theorem arr8 : (dats m 0 c).arrAt 8 cfg0.N = highA (given m c) := by
  refine (dats m 0 c).arrAt_eq_of_covers 8 _ (by decide +kernel) fun t hf y => ?_
  rw [after0_8]
  have E := out_high (env m c t)
  generalize out0_8 (iblk m c 0 t) (iblk m c 1 t) (iblk m c 2 t) (iblk m c 3 t) (iblk m c 4 t) (iblk m c 5 t) = o at E ⊢
  refine Eq.trans (congrArg o (eq_ix2 ((cfg0.win 8).xinj (cfg0.grid.coords t) y))) ?_
  refine Eq.trans (E (y 0) (y 1)) ?_
  refine congrArg₂ (Proj.z _) (Eq.symm ?_) (congrArg high (Fin.ext (Eq.symm ?_)))
  · exact (Window.rect_emb_val (cfg0.win 8) t y 0).trans (tile_pos (at_outs t).2.2.1)
  · exact (Window.rect_emb_val (cfg0.win 8) t y 1).trans (stay_pos (at_outs t).2.2.2)

end Cert.Kernel4Ideal.Chain

end
-- ==== Proof.Ref4.lean ====
/- The fourth reference's three results from the rows. -/
module

public import proofs.«01_k».proof.Proof.Proj4
public import proofs.«01_k».proof.Proof.Ref
public import proofs.«01_k».proof.Proof.Gen.Reference4Ideal.Read

@[expose] public section

set_option maxRecDepth 16384

noncomputable section

namespace Cert.Reference4Ideal.Ref

open Idealize.ShloMosaic Cert.Reference4Ideal Cert.Reference4Ideal.Gen Cert.Reference4Ideal.Read Cert.Norm Cert.Proj

variable (x0 x1 : FVec Ideal S4224x1024 .f32) (x2 : FVec Ideal S1024x1024 .bf16) (x3 : FVec Ideal S4224x1024 .f32) (x4 : FVec Ideal S1x1024 .f32)
  (x5 : FVec Ideal S1024x2048 .bf16)

theorem at_call (r : Fin 4224) (k : Fin 1024) : val_main_v0 (F := Ideal) x1 (ix2 r k) = x1 (ix2 r k) * sg (x1 (ix2 r k)) := by
  unfold sg val_main_v0 val_main_call0_v5 val_main_call0_v4 val_main_call0_v3 val_main_call0_v2 val_main_call0_v1 val_main_call0_v0 val_main_call0_cst val_main_call0_cst_0
  pointwise []
  rw [EReal.coe_one]

/-- The residual stream. -/
theorem at4 (r : Fin 4224) (k : Fin 1024) : val_main_v4 (F := Ideal) x0 x1 x2 x3 (ix2 r k) = (proj x0 x1 x2 x3 x4 x5).h r.val k := by
  have hc := at_call x1 r
  unfold Proj.h proj val_main_v4 val_main_v3 val_main_v2 val_main_v1
  dsimp only
  simp only [dif_pos r.isLt]
  generalize val_main_v0 (F := Ideal) x1 = y at hc ⊢
  pointwise []
  simp only [hc]

theorem at18 (r : Fin 4224) (e : Fin 2048) : val_main_v18 (F := Ideal) x0 x1 x2 x3 x4 x5 (ix2 r e) = (proj x0 x1 x2 x3 x4 x5).z r.val e := by
  have h4 := at4 x0 x1 x2 x3 x4 x5 r
  unfold Proj.z rs ms
  simp only [← h4]
  unfold val_main_v18 val_main_v17 val_main_v16 val_main_v15 val_main_v14 val_main_v13 val_main_v12 val_main_v11 val_main_v10 val_main_v9 val_main_v8 val_main_v7 val_main_v6
    val_main_v5 val_main_cst val_main_cst_0 val_main_cst_1
  generalize val_main_v4 (F := Ideal) x0 x1 x2 x3 = y
  pointwise []
  simp only [width_word, eps_word.1]
  rfl

/-- The projection's two halves. -/
theorem at19 (r : Fin 4224) (k : Fin 1024) : val_main_v19 (F := Ideal) x0 x1 x2 x3 x4 x5 (ix2 r k) = (proj x0 x1 x2 x3 x4 x5).z r.val (low k) := by
  rw [← at18, val_main_v19_apply]
  exact congrArg _ (funext fun a => by fin_cases a <;> rfl)

theorem at20 (r : Fin 4224) (k : Fin 1024) : val_main_v20 (F := Ideal) x0 x1 x2 x3 x4 x5 (ix2 r k) = (proj x0 x1 x2 x3 x4 x5).z r.val (high k) := by
  rw [← at18, val_main_v20_apply]
  exact congrArg _ (funext fun a => by fin_cases a <;> rfl)

end Cert.Reference4Ideal.Ref

end
-- ==== Proof.Value4.lean ====
/- The fourth kernel's results are the fourth reference's. -/
module

public import proofs.«01_k».proof.Proof.Value3
public import proofs.«01_k».proof.Proof.Chain4
public import proofs.«01_k».proof.Proof.Ref4

@[expose] public section

set_option maxRecDepth 16384

noncomputable section

namespace Cert.Proof

open Idealize.ShloMosaic Idealize.ShloMosaic.TcCoe Idealize.SL.Sem Cert.Kernel4Ideal Cert.Kernel4Ideal.Gen

/-- The fourth reference has no semaphores, and its run leaves the six arguments as they were. -/
theorem frame_reference4 : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

variable (m : (ℓ : Loc nD τ sig) → Buf (Elt Ideal) ℓ) (c : Dev nD)

theorem same_h : (Cert.Reference4Ideal.Read.val_main_v4 (F := Ideal) (m (c, Proc.devRef .tc main_arg0)) (m (c, Proc.devRef .tc main_arg1)) (m (c, Proc.devRef .tc main_arg2))
    (m (c, Proc.devRef .tc main_arg3)) : FVec Ideal S4224x1024 .f32) = (dats m 0 c).arrAt 6 cfg0.N :=
  (eq_of_at2 _ _ fun r k => Cert.Reference4Ideal.Ref.at4 _ _ _ _ (m (c, Proc.devRef .tc main_arg4)) (m (c, Proc.devRef .tc main_arg5)) r k).trans (Chain.arr6 m c).symm

theorem same_low : (Cert.Reference4Ideal.Read.val_main_v19 (F := Ideal) (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) : FVec Ideal S4224x1024 .f32) = (dats m 0 c).arrAt 7 cfg0.N :=
  (eq_of_at2 _ _ fun r k => Cert.Reference4Ideal.Ref.at19 _ _ _ _ _ _ r k).trans (Chain.arr7 m c).symm

theorem same_high : (Cert.Reference4Ideal.Read.val_main_v20 (F := Ideal) (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) : FVec Ideal S4224x1024 .f32) = (dats m 0 c).arrAt 8 cfg0.N :=
  (eq_of_at2 _ _ fun r k => Cert.Reference4Ideal.Ref.at20 _ _ _ _ _ _ r k).trans (Chain.arr8 m c).symm

theorem value4 : Cert.algebraic_Kernel4Ideal_Reference4Ideal := by
  intro m ρ m' ρ' _ hagree
  refine ⟨_, _, _, Cert.Kernel4Ideal.Value.run_blocks m ρ, ?_⟩
  refine (θ_run Cert.Reference4Ideal.defs _ _).mono (fun _ h c => ?_) (Cert.Reference4Ideal.Value.run (F := Ideal) m' ρ')
  obtain ⟨h0, h1, h2, ha⟩ := h c
  obtain ⟨g0, g1, g2, g3, g4, g5⟩ := hagree c
  refine ⟨h0.trans ?_, h1.trans ?_, h2.trans ?_, ha⟩
  · rw [Cert.Reference4Ideal.Read.val_main_v4_eq, g0, g1, g2, g3]
    exact same_h m c
  · rw [Cert.Reference4Ideal.Read.val_main_v19_eq, g0, g1, g2, g3, g4, g5]
    exact same_low m c
  · rw [Cert.Reference4Ideal.Read.val_main_v20_eq, g0, g1, g2, g3, g4, g5]
    exact same_high m c

end Cert.Proof

end
-- ==== Proof.Rows5.lean ====
/- The rows of the attention's input projection: four blocks of columns side by side, and a matrix given by its columns. -/
module

public import proofs.«01_k».proof.Proof.Rows3

@[expose] public section

noncomputable section

namespace Cert.Norm

open Idealize.ShloMosaic

/-- Four rows one behind the other. -/
def four (a : Fin 384 → EReal) (b : Fin 256 → EReal) (d : Fin 128 → EReal) (g : Fin 1024 → EReal) (e : Fin 1792) : EReal :=
  if h0 : e.val < 384 then a ⟨e.val, h0⟩ else if h1 : e.val < 640 then b ⟨e.val - 384, by omega⟩
  else if h2 : e.val < 768 then d ⟨e.val - 640, by omega⟩ else g ⟨e.val - 768, by omega⟩

/-- The rows of eight arrays. -/
def rows5 (x0 : FVec Ideal ⟨2, ![4224, 1024]⟩ .f32) (x1 : FVec Ideal ⟨2, ![1, 1024]⟩ .f32) (x2 : FVec Ideal ⟨2, ![1792, 1024]⟩ .bf16)
    (x3 : FVec Ideal ⟨2, ![4224, 384]⟩ .bf16) (x4 : FVec Ideal ⟨2, ![4224, 256]⟩ .bf16) (x5 : FVec Ideal ⟨2, ![4224, 128]⟩ .bf16)
    (x6 : FVec Ideal ⟨2, ![4224, 1024]⟩ .bf16) (x7 : FVec Ideal ⟨2, ![4224, 1024]⟩ .f32) : Rows 1792 where
  X r k := if h : r < 4224 then x0 (ix2 (⟨r, h⟩ : Fin 4224) k) else 0
  G k := x1 (ix2 (0 : Fin 1) k)
  W k e := x2 (ix2 e k)
  Y r e := if h : r < 4224 then four (fun k => x3 (ix2 (⟨r, h⟩ : Fin 4224) k)) (fun k => x4 (ix2 (⟨r, h⟩ : Fin 4224) k))
    (fun k => x5 (ix2 (⟨r, h⟩ : Fin 4224) k)) (fun k => x6 (ix2 (⟨r, h⟩ : Fin 4224) k)) e else 0
  R r k := if h : r < 4224 then x7 (ix2 (⟨r, h⟩ : Fin 4224) k) else 0

end Cert.Norm

end
-- ==== Proof.Step5.lean ====
/- The fifth kernel's payloads at a point, element by element: the row's norm, its gradient, and what the point adds to the two accumulated gradients. -/
module

public import proofs.«01_k».proof.Proof.Norm3
public import proofs.«01_k».proof.Proof.Gen.Kernel5Ideal.Skeleton

@[expose] public section

set_option maxRecDepth 16384

noncomputable section

namespace Cert.Kernel5Ideal.Step

open Idealize.ShloMosaic Cert.Kernel5Ideal Cert.Kernel5Ideal.Gen Cert.Norm

variable (x : Vec Ideal S384x1024 .f32) (g : Vec Ideal S1x1024 .f32) (w : Vec Ideal S1792x1024 .bf16) (y : Vec Ideal S384x1792 .bf16)
  (r : Fin 384) (k : Fin 1024)

theorem rs_apply : k0_pay7 x (ix2 r (0 : Fin 1)) = rs fun j => x (ix2 r j) := by
  pointwise [k0_pay7]
  rw [width_word, eps_word.1]
  rfl

theorem xh_apply : k0_pay8 x (k0_pay7 x) (ix2 r k) = x (ix2 r k) * rs fun j => x (ix2 r j) := by
  rw [← rs_apply x r]
  unfold k0_pay8
  generalize k0_pay7 x = z
  pointwise []

theorem dn_apply : k0_pay9 y w (ix2 r k) = ∑ e : Fin 1792, y (ix2 r e) * w (ix2 e k) := by
  pointwise [k0_pay9]

theorem dx_apply (res : Vec Ideal S384x1024 .f32) : k0_pay12 x g (k0_pay7 x) y w res (ix2 r k)
    = grad (fun j => x (ix2 r j)) (fun j => (∑ e : Fin 1792, y (ix2 r e) * w (ix2 e j)) * g (ix2 (0 : Fin 1) j)) (res (ix2 r k)) k := by
  have h7 := rs_apply x r
  have h8 := xh_apply x r
  have h9 := dn_apply w y r
  unfold k0_pay12
  generalize k0_pay8 x (k0_pay7 x) = u at h8 ⊢
  generalize k0_pay7 x = z at h7 ⊢
  generalize k0_pay9 y w = n at h9 ⊢
  pointwise []
  simp only [h7, h8, h9, width_word]
  rfl

theorem dw_apply (acc : Vec Ideal S1792x1024 .f32) (e : Fin 1792) : k0_pay10 x g (k0_pay7 x) y acc (ix2 e k)
    = acc (ix2 e k) + ∑ r : Fin 384, y (ix2 r e) * ((x (ix2 r k) * rs fun j => x (ix2 r j)) * g (ix2 (0 : Fin 1) k)) := by
  have h8 := fun r => xh_apply x r k
  unfold k0_pay10
  generalize k0_pay8 x (k0_pay7 x) = u at h8 ⊢
  pointwise []
  simp only [h8]

theorem dg_apply (acc : Vec Ideal S1x1024 .f32) : k0_pay11 x (k0_pay7 x) y w acc (ix2 (0 : Fin 1) k)
    = acc (ix2 (0 : Fin 1) k) + ∑ r : Fin 384, (∑ e : Fin 1792, y (ix2 r e) * w (ix2 e k)) * (x (ix2 r k) * rs fun j => x (ix2 r j)) := by
  have h8 := fun r => xh_apply x r k
  have h9 := fun r => dn_apply w y r k
  unfold k0_pay11
  generalize k0_pay8 x (k0_pay7 x) = u at h8 ⊢
  generalize k0_pay9 y w = n at h9 ⊢
  pointwise []
  simp only [h8, h9]

theorem zero_dw (e : Fin 1792) : (k0_pay1 (F := Ideal)) (ix2 e k) = 0 := by pointwise [k0_pay1]

theorem zero_dg : (k0_pay2 (F := Ideal)) (ix2 (0 : Fin 1) k) = 0 := by pointwise [k0_pay2]

end Cert.Kernel5Ideal.Step

end
-- ==== Proof.Case5.lean ====
/- What the fifth kernel's body leaves in its three outputs' buffers at a grid point, from its input blocks and what the point before left. -/
module

public import proofs.«01_k».proof.Proof.Rows5
public import proofs.«01_k».proof.Proof.Step5
public import proofs.«01_k».proof.Proof.Gen.Kernel5Ideal.Frame
public import Idealize.ShloMosaic.Lib.VecWindow

@[expose] public section

set_option maxRecDepth 16384

noncomputable section

namespace Cert.Kernel5Ideal.Case

open Idealize.ShloMosaic Cert.Kernel5Ideal Cert.Kernel5Ideal.Gen Cert.Norm

/-- Four blocks side by side, as the scratch holds them. -/
def beside (a : Vec Ideal S384x384 .bf16) (b : Vec Ideal S384x256 .bf16) (d : Vec Ideal S384x128 .bf16) (g : Vec Ideal S384x1024 .bf16) : Vec Ideal S384x1792 .bf16 := fun y =>
  four (fun k => a (ix2 (y 0) k)) (fun k => b (ix2 (y 0) k)) (fun k => d (ix2 (y 0) k)) (fun k => g (ix2 (y 0) k)) (y 1)

theorem whole {s : Shape} {e : EltTy} (M : Memref sig .tc .vmem s e) (hM : M.IsWhole) (x : Vec Ideal s e) {off : Fin s.rank → ℕ} (inb : ∀ a, off a + s.size a ≤ s.size a) :
    M.view.readAt (Elt Ideal) (Rect.unit off s.size inb).toLoadRect (hM.unread x) = x := by
  rw [View.readAt_full]; exact hM.read_unread x

theorem staged (M : Memref sig .tc .vmem S384x1792 .bf16) (a : Vec Ideal S384x384 .bf16) (b : Vec Ideal S384x256 .bf16) (d : Vec Ideal S384x128 .bf16) (g : Vec Ideal S384x1024 .bf16)
    {inb0 inb1 inb2 inb3 inb} :
    M.view.readCov (Val := Elt Ideal) [⟨Rect.unit ![0, 768] S384x1024.size inb3, g⟩, ⟨Rect.unit ![0, 640] S384x128.size inb2, d⟩,
      ⟨Rect.unit ![0, 384] S384x256.size inb1, b⟩, ⟨Rect.unit ![0, 0] S384x384.size inb0, a⟩]
      (Rect.unit (s := S384x1792) ![0, 0] S384x1792.size inb).toLoadRect = beside a b d g := by
  unfold View.readCov
  rw [View.readAt_full]
  funext y
  unfold beside four
  have hy : (y 1).val < 1792 := (y 1).isLt
  by_cases h0 : (y 1).val < 384
  · rw [dif_pos h0, View.read_writes_cons_unit_of_not_mem _ _ _ _ _ y rfl 1 (.inl (lt_of_lt_of_le h0 (by decide))),
      View.read_writes_cons_unit_of_not_mem _ _ _ _ _ y rfl 1 (.inl (lt_of_lt_of_le h0 (by decide))), View.read_writes_cons_unit_of_not_mem _ _ _ _ _ y rfl 1 (.inl h0)]
    refine View.read_writes_cons_unit_of_mem _ _ _ _ _ y (ix2 (y 0) (⟨(y 1).val, h0⟩ : Fin 384)) rfl fun k => ?_
    fin_cases k <;> exact (Nat.zero_add _).symm
  rw [dif_neg h0]
  by_cases h1 : (y 1).val < 640
  · rw [dif_pos h1, View.read_writes_cons_unit_of_not_mem _ _ _ _ _ y rfl 1 (.inl (lt_of_lt_of_le h1 (by decide))), View.read_writes_cons_unit_of_not_mem _ _ _ _ _ y rfl 1 (.inl h1)]
    refine View.read_writes_cons_unit_of_mem _ _ _ _ _ y (ix2 (y 0) (⟨(y 1).val - 384, by omega⟩ : Fin 256)) rfl fun k => ?_
    fin_cases k
    · exact (Nat.zero_add _).symm
    · show (y 1).val = 384 + ((y 1).val - 384)
      omega
  rw [dif_neg h1]
  by_cases h2 : (y 1).val < 768
  · rw [dif_pos h2, View.read_writes_cons_unit_of_not_mem _ _ _ _ _ y rfl 1 (.inl h2)]
    refine View.read_writes_cons_unit_of_mem _ _ _ _ _ y (ix2 (y 0) (⟨(y 1).val - 640, by omega⟩ : Fin 128)) rfl fun k => ?_
    fin_cases k
    · exact (Nat.zero_add _).symm
    · show (y 1).val = 640 + ((y 1).val - 640)
      omega
  rw [dif_neg h2]
  refine View.read_writes_cons_unit_of_mem _ _ _ _ _ y (ix2 (y 0) (⟨(y 1).val - 768, by omega⟩ : Fin 1024)) rfl fun k => ?_
  fin_cases k
  · exact (Nat.zero_add _).symm
  · show (y 1).val = 768 + ((y 1).val - 768)
    omega

/-- A cast to the same shape changes nothing. -/
theorem pay3 (a : Vec Ideal S384x384 .bf16) : k0_pay3 a = a := by
  funext i; rw [eq_ix2 i]; pointwise [k0_pay3]
theorem pay4 (a : Vec Ideal S384x256 .bf16) : k0_pay4 a = a := by
  funext i; rw [eq_ix2 i]; pointwise [k0_pay4]
theorem pay5 (a : Vec Ideal S384x128 .bf16) : k0_pay5 a = a := by
  funext i; rw [eq_ix2 i]; pointwise [k0_pay5]
theorem pay6 (a : Vec Ideal S384x1024 .bf16) : k0_pay6 a = a := by
  funext i; rw [eq_ix2 i]; pointwise [k0_pay6]

variable (c : Dev nD) (i : grid0.Coords) (arg1 : Memref sig .tc .vmem S384x1024 .f32) (harg1 : arg1.IsWhole) (arg2 : Memref sig .tc .vmem S1x1024 .f32) (harg2 : arg2.IsWhole)
  (arg3 : Memref sig .tc .vmem S1792x1024 .bf16) (harg3 : arg3.IsWhole) (arg4 : Memref sig .tc .vmem S384x384 .bf16) (harg4 : arg4.IsWhole)
  (arg5 : Memref sig .tc .vmem S384x256 .bf16) (harg5 : arg5.IsWhole) (arg6 : Memref sig .tc .vmem S384x128 .bf16) (harg6 : arg6.IsWhole)
  (arg7 : Memref sig .tc .vmem S384x1024 .bf16) (harg7 : arg7.IsWhole) (arg8 : Memref sig .tc .vmem S384x1024 .f32) (harg8 : arg8.IsWhole)
  (arg9 : Memref sig .tc .vmem S384x1024 .f32) (harg9 : arg9.IsWhole) (arg10 : Memref sig .tc .vmem S1792x1024 .f32) (harg10 : arg10.IsWhole)
  (arg11 : Memref sig .tc .vmem S1x1024 .f32) (harg11 : arg11.IsWhole) (arg12 : Memref sig .tc .vmem S384x1792 .bf16) (harg12 : arg12.IsWhole)
  (x0 : Vec Ideal S384x1024 .f32) (x1 : Vec Ideal S1x1024 .f32) (x2 : Vec Ideal S1792x1024 .bf16) (x3 : Vec Ideal S384x384 .bf16) (x4 : Vec Ideal S384x256 .bf16)
  (x5 : Vec Ideal S384x128 .bf16) (x6 : Vec Ideal S384x1024 .bf16) (x7 : Vec Ideal S384x1024 .f32) (xo9 : Vec Ideal S1792x1024 .f32) (xo10 : Vec Ideal S1x1024 .f32)

/-- The first point: the gradients start from zero. -/
theorem case_A (hc0 : cond0_0 i) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7
        = k0_pay12 x0 x1 (k0_pay7 x0) (beside x3 x4 x5 x6) x2 x7
    ∧ out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7
        = k0_pay10 x0 x1 (k0_pay7 x0) (beside x3 x4 x5 x6) (k0_pay1 (F := Ideal))
    ∧ out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7
        = k0_pay11 x0 (k0_pay7 x0) (beside x3 x4 x5 x6) x2 (k0_pay2 (F := Ideal)) := by
  unfold out0_A_8 out0_A_9 out0_A_10 kernelRun0_A
  dsimp only
  unfold kernelRun0_A.sl.r kernelRun0_A.sl.r_1 kernelRun0_A.sl.r_2 kernelRun0_A.sl.v31
  try unfold kernelRun0_A.sl.HS0_4
  try unfold kernelRun0_A.sl.HS0_3
  try unfold kernelRun0_A.sl.HS0_2
  try unfold kernelRun0_A.sl.HS0_1
  try unfold kernelRun0_A.sl.v37
  try unfold kernelRun0_A.sl.v42
  try unfold kernelRun0_A.sl.H9_1
  try unfold kernelRun0_A.sl.H10_1
  have e0 := whole arg1 harg1 x0 inb_S384x1024_S384x1024_0_0
  have e1 := whole arg2 harg2 x1 inb_S1x1024_S1x1024_0_0
  have e2 := whole arg3 harg3 x2 inb_S1792x1024_S1792x1024_0_0
  have e3 := whole arg4 harg4 x3 inb_S384x384_S384x384_0_0
  have e4 := whole arg5 harg5 x4 inb_S384x256_S384x256_0_0
  have e5 := whole arg6 harg6 x5 inb_S384x128_S384x128_0_0
  have e6 := whole arg7 harg7 x6 inb_S384x1024_S384x1024_0_0
  have e7 := whole arg8 harg8 x7 inb_S384x1024_S384x1024_0_0
  rw [e0, e1, e2, e3, e4, e5, e6, pay3, pay4, pay5, pay6, staged]
  refine ⟨(View.read_writes_full _ _ _ _ _).trans ?_, (View.read_writes_full _ _ _ _ _).trans ?_, (View.read_writes_full _ _ _ _ _).trans ?_⟩
  · exact congrArg _ e7
  · exact congrArg _ (View.readCov_full _ _ _ _ _)
  · exact congrArg _ (View.readCov_full _ _ _ _ _)

/-- A later point: they go on from what the point before left. -/
theorem case_B (hc0 : ¬cond0_0 i) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10
        = k0_pay12 x0 x1 (k0_pay7 x0) (beside x3 x4 x5 x6) x2 x7
    ∧ out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10
        = k0_pay10 x0 x1 (k0_pay7 x0) (beside x3 x4 x5 x6) xo9
    ∧ out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10
        = k0_pay11 x0 (k0_pay7 x0) (beside x3 x4 x5 x6) x2 xo10 := by
  unfold out0_B_8 out0_B_9 out0_B_10 kernelRun0_B
  dsimp only
  unfold kernelRun0_B.sl.r kernelRun0_B.sl.r_1 kernelRun0_B.sl.r_2 kernelRun0_B.sl.v31
  try unfold kernelRun0_B.sl.HS0_4
  try unfold kernelRun0_B.sl.HS0_3
  try unfold kernelRun0_B.sl.HS0_2
  try unfold kernelRun0_B.sl.HS0_1
  have e0 := whole arg1 harg1 x0 inb_S384x1024_S384x1024_0_0
  have e1 := whole arg2 harg2 x1 inb_S1x1024_S1x1024_0_0
  have e2 := whole arg3 harg3 x2 inb_S1792x1024_S1792x1024_0_0
  have e3 := whole arg4 harg4 x3 inb_S384x384_S384x384_0_0
  have e4 := whole arg5 harg5 x4 inb_S384x256_S384x256_0_0
  have e5 := whole arg6 harg6 x5 inb_S384x128_S384x128_0_0
  have e6 := whole arg7 harg7 x6 inb_S384x1024_S384x1024_0_0
  have e7 := whole arg8 harg8 x7 inb_S384x1024_S384x1024_0_0
  have e9 := whole arg10 harg10 xo9 inb_S1792x1024_S1792x1024_0_0
  have e10 := whole arg11 harg11 xo10 inb_S1x1024_S1x1024_0_0
  rw [e0, e1, e2, e3, e4, e5, e6, pay3, pay4, pay5, pay6, staged]
  refine ⟨(View.read_writes_full _ _ _ _ _).trans ?_, (View.read_writes_full _ _ _ _ _).trans ?_, (View.read_writes_full _ _ _ _ _).trans ?_⟩
  · exact congrArg _ e7
  · exact congrArg _ e9
  · exact congrArg _ e10

end Cert.Kernel5Ideal.Case

end
-- ==== Proof.Chain5.lean ====
/- The fifth kernel's buffers over its points: each row tile gives its rows' gradient, and the two accumulated gradients grow tile by tile. -/
module

public import proofs.«01_k».proof.Proof.Rows5
public import proofs.«01_k».proof.Proof.Case5
public import proofs.«01_k».proof.Proof.Gen.Kernel5Ideal.Value
public import Idealize.ShloMosaic.Lib.Decide
public import Idealize.ShloMosaic.Lib.Pipeline.ValueKit.Geometry

@[expose] public section

set_option maxRecDepth 16384

noncomputable section

namespace Cert.Kernel5Ideal.Chain

open Idealize.ShloMosaic Idealize.ShloMosaic.Pipeline Cert.Kernel5Ideal Cert.Kernel5Ideal.Gen Cert.Kernel5Ideal.Step Cert.Kernel5Ideal.Case Cert.Norm

variable (m : (ℓ : Loc nD τ sig) → Buf (Elt Ideal) ℓ) (c : Dev nD)

/-- The arguments' rows. -/
def given : Rows 1792 := rows5 (m (c, Proc.devRef .tc main_arg0)) (m (c, Proc.devRef .tc main_arg1)) (m (c, Proc.devRef .tc main_arg2)) (m (c, Proc.devRef .tc main_arg3))
  (m (c, Proc.devRef .tc main_arg4)) (m (c, Proc.devRef .tc main_arg5)) (m (c, Proc.devRef .tc main_arg6)) (m (c, Proc.devRef .tc main_arg7))

theorem lt11 (t : Fin cfg0.N) : t.val < 11 := lt_of_lt_of_eq t.isLt N_0

theorem at0 (t : Fin cfg0.N) : (cfg0.win 0).index t 0 = t.val ∧ (cfg0.win 0).index t 1 = 0 := by revert t; decide +kernel
theorem at1 (t : Fin cfg0.N) : (cfg0.win 1).index t 0 = 0 ∧ (cfg0.win 1).index t 1 = 0 := by revert t; decide +kernel
theorem at2 (t : Fin cfg0.N) : (cfg0.win 2).index t 0 = 0 ∧ (cfg0.win 2).index t 1 = 0 := by revert t; decide +kernel
theorem at3 (t : Fin cfg0.N) : (cfg0.win 3).index t 0 = t.val ∧ (cfg0.win 3).index t 1 = 0 := by revert t; decide +kernel
theorem at4 (t : Fin cfg0.N) : (cfg0.win 4).index t 0 = t.val ∧ (cfg0.win 4).index t 1 = 0 := by revert t; decide +kernel
theorem at5 (t : Fin cfg0.N) : (cfg0.win 5).index t 0 = t.val ∧ (cfg0.win 5).index t 1 = 0 := by revert t; decide +kernel
theorem at6 (t : Fin cfg0.N) : (cfg0.win 6).index t 0 = t.val ∧ (cfg0.win 6).index t 1 = 0 := by revert t; decide +kernel
theorem at7 (t : Fin cfg0.N) : (cfg0.win 7).index t 0 = t.val ∧ (cfg0.win 7).index t 1 = 0 := by revert t; decide +kernel
theorem at8 (t : Fin cfg0.N) : (cfg0.win 8).index t 0 = t.val ∧ (cfg0.win 8).index t 1 = 0 := by revert t; decide +kernel
theorem at9 (t : Fin cfg0.N) : (cfg0.win 9).index t 0 = 0 ∧ (cfg0.win 9).index t 1 = 0 := by revert t; decide +kernel
theorem at10 (t : Fin cfg0.N) : (cfg0.win 10).index t 0 = 0 ∧ (cfg0.win 10).index t 1 = 0 := by revert t; decide +kernel

/-- A row of a tile, by the tile's number. -/
theorem row_lt (t : Fin cfg0.N) (r : Fin 384) : 384 * t.val + r.val < 4224 := by have := lt11 t; omega

theorem blk0 (t : Fin cfg0.N) (r : Fin 384) (k : Fin 1024) :
    iblk m c 0 t (ix2 r k) = m (c, Proc.devRef .tc main_arg0) (ix2 (⟨384 * t.val + r.val, row_lt t r⟩ : Fin 4224) k) := by
  refine (congrArg (V m c main_arg0) (funext fun a => Fin.ext ?_)).trans (congrFun (V_main_arg0 m c) _)
  refine (Window.rect_emb_val (cfg0.win 0) t (ix2 r k) a).trans ?_
  fin_cases a
  · show (cfg0.win 0).index t 0 * 384 + r.val = 384 * t.val + r.val
    rw [(at0 t).1]; omega
  · show (cfg0.win 0).index t 1 * 1024 + k.val = k.val
    rw [(at0 t).2]; omega

theorem blk3 (t : Fin cfg0.N) (r : Fin 384) (k : Fin 384) :
    iblk m c 3 t (ix2 r k) = m (c, Proc.devRef .tc main_arg3) (ix2 (⟨384 * t.val + r.val, row_lt t r⟩ : Fin 4224) k) := by
  refine (congrArg (V m c main_arg3) (funext fun a => Fin.ext ?_)).trans (congrFun (V_main_arg3 m c) _)
  refine (Window.rect_emb_val (cfg0.win 3) t (ix2 r k) a).trans ?_
  fin_cases a
  · show (cfg0.win 3).index t 0 * 384 + r.val = 384 * t.val + r.val
    rw [(at3 t).1]; omega
  · show (cfg0.win 3).index t 1 * 384 + k.val = k.val
    rw [(at3 t).2]; omega

theorem blk4 (t : Fin cfg0.N) (r : Fin 384) (k : Fin 256) :
    iblk m c 4 t (ix2 r k) = m (c, Proc.devRef .tc main_arg4) (ix2 (⟨384 * t.val + r.val, row_lt t r⟩ : Fin 4224) k) := by
  refine (congrArg (V m c main_arg4) (funext fun a => Fin.ext ?_)).trans (congrFun (V_main_arg4 m c) _)
  refine (Window.rect_emb_val (cfg0.win 4) t (ix2 r k) a).trans ?_
  fin_cases a
  · show (cfg0.win 4).index t 0 * 384 + r.val = 384 * t.val + r.val
    rw [(at4 t).1]; omega
  · show (cfg0.win 4).index t 1 * 256 + k.val = k.val
    rw [(at4 t).2]; omega

theorem blk5 (t : Fin cfg0.N) (r : Fin 384) (k : Fin 128) :
    iblk m c 5 t (ix2 r k) = m (c, Proc.devRef .tc main_arg5) (ix2 (⟨384 * t.val + r.val, row_lt t r⟩ : Fin 4224) k) := by
  refine (congrArg (V m c main_arg5) (funext fun a => Fin.ext ?_)).trans (congrFun (V_main_arg5 m c) _)
  refine (Window.rect_emb_val (cfg0.win 5) t (ix2 r k) a).trans ?_
  fin_cases a
  · show (cfg0.win 5).index t 0 * 384 + r.val = 384 * t.val + r.val
    rw [(at5 t).1]; omega
  · show (cfg0.win 5).index t 1 * 128 + k.val = k.val
    rw [(at5 t).2]; omega

theorem blk6 (t : Fin cfg0.N) (r : Fin 384) (k : Fin 1024) :
    iblk m c 6 t (ix2 r k) = m (c, Proc.devRef .tc main_arg6) (ix2 (⟨384 * t.val + r.val, row_lt t r⟩ : Fin 4224) k) := by
  refine (congrArg (V m c main_arg6) (funext fun a => Fin.ext ?_)).trans (congrFun (V_main_arg6 m c) _)
  refine (Window.rect_emb_val (cfg0.win 6) t (ix2 r k) a).trans ?_
  fin_cases a
  · show (cfg0.win 6).index t 0 * 384 + r.val = 384 * t.val + r.val
    rw [(at6 t).1]; omega
  · show (cfg0.win 6).index t 1 * 1024 + k.val = k.val
    rw [(at6 t).2]; omega

theorem blk7 (t : Fin cfg0.N) (r : Fin 384) (k : Fin 1024) :
    iblk m c 7 t (ix2 r k) = m (c, Proc.devRef .tc main_arg7) (ix2 (⟨384 * t.val + r.val, row_lt t r⟩ : Fin 4224) k) := by
  refine (congrArg (V m c main_arg7) (funext fun a => Fin.ext ?_)).trans (congrFun (V_main_arg7 m c) _)
  refine (Window.rect_emb_val (cfg0.win 7) t (ix2 r k) a).trans ?_
  fin_cases a
  · show (cfg0.win 7).index t 0 * 384 + r.val = 384 * t.val + r.val
    rw [(at7 t).1]; omega
  · show (cfg0.win 7).index t 1 * 1024 + k.val = k.val
    rw [(at7 t).2]; omega

theorem blk1 (t : Fin cfg0.N) (k : Fin 1024) : iblk m c 1 t (ix2 (0 : Fin 1) k) = m (c, Proc.devRef .tc main_arg1) (ix2 (0 : Fin 1) k) := by
  refine (congrArg (V m c main_arg1) (funext fun a => Fin.ext ?_)).trans (congrFun (V_main_arg1 m c) _)
  refine (Window.rect_emb_val (cfg0.win 1) t (ix2 (0 : Fin 1) k) a).trans ?_
  fin_cases a
  · show (cfg0.win 1).index t 0 * 1 + 0 = 0
    rw [(at1 t).1]
  · show (cfg0.win 1).index t 1 * 1024 + k.val = k.val
    rw [(at1 t).2]; omega

theorem blk2 (t : Fin cfg0.N) (e : Fin 1792) (k : Fin 1024) : iblk m c 2 t (ix2 e k) = m (c, Proc.devRef .tc main_arg2) (ix2 e k) := by
  refine (congrArg (V m c main_arg2) (funext fun a => Fin.ext ?_)).trans (congrFun (V_main_arg2 m c) _)
  refine (Window.rect_emb_val (cfg0.win 2) t (ix2 e k) a).trans ?_
  fin_cases a
  · show (cfg0.win 2).index t 0 * 1792 + e.val = e.val
    rw [(at2 t).1]; omega
  · show (cfg0.win 2).index t 1 * 1024 + k.val = k.val
    rw [(at2 t).2]; omega

/-- A tile's blocks are the given rows' from `384 j` on. -/
structure Env (H : Rows 1792) (j : ℕ) (x0 : Vec Ideal S384x1024 .f32) (x1 : Vec Ideal S1x1024 .f32) (x2 : Vec Ideal S1792x1024 .bf16) (x3 : Vec Ideal S384x384 .bf16)
    (x4 : Vec Ideal S384x256 .bf16) (x5 : Vec Ideal S384x128 .bf16) (x6 : Vec Ideal S384x1024 .bf16) (x7 : Vec Ideal S384x1024 .f32) : Prop where
  x (r : Fin 384) (k : Fin 1024) : x0 (ix2 r k) = H.X (384 * j + r.val) k
  g (k : Fin 1024) : x1 (ix2 (0 : Fin 1) k) = H.G k
  w (e : Fin 1792) (k : Fin 1024) : x2 (ix2 e k) = H.W k e
  y (r : Fin 384) (e : Fin 1792) : beside x3 x4 x5 x6 (ix2 r e) = H.Y (384 * j + r.val) e
  r (r : Fin 384) (k : Fin 1024) : x7 (ix2 r k) = H.R (384 * j + r.val) k

theorem env (t : Fin cfg0.N) : Env (given m c) t.val (iblk m c 0 t) (iblk m c 1 t) (iblk m c 2 t) (iblk m c 3 t) (iblk m c 4 t) (iblk m c 5 t) (iblk m c 6 t) (iblk m c 7 t) := by
  refine ⟨fun r k => ?_, fun k => blk1 m c t k, fun e k => blk2 m c t e k, fun r e => ?_, fun r k => ?_⟩
  · unfold given rows5; dsimp only
    rw [dif_pos (row_lt t r)]; exact blk0 m c t r k
  · unfold given rows5; dsimp only
    rw [dif_pos (row_lt t r)]
    have h3 := funext fun k => blk3 m c t r k
    have h4 := funext fun k => blk4 m c t r k
    have h5 := funext fun k => blk5 m c t r k
    have h6 := funext fun k => blk6 m c t r k
    rw [← h3, ← h4, ← h5, ← h6]
    rfl
  · unfold given rows5; dsimp only
    rw [dif_pos (row_lt t r)]; exact blk7 m c t r k

section Point

variable {H : Rows 1792} {j : ℕ} {x0 : Vec Ideal S384x1024 .f32} {x1 : Vec Ideal S1x1024 .f32} {x2 : Vec Ideal S1792x1024 .bf16} {x3 : Vec Ideal S384x384 .bf16}
    {x4 : Vec Ideal S384x256 .bf16} {x5 : Vec Ideal S384x128 .bf16} {x6 : Vec Ideal S384x1024 .bf16} {x7 : Vec Ideal S384x1024 .f32} (E : Env H j x0 x1 x2 x3 x4 x5 x6 x7)
include E

theorem point_rs (r : Fin 384) : k0_pay7 x0 (ix2 r (0 : Fin 1)) = rs (H.X (384 * j + r.val)) := by
  rw [rs_apply]; simp only [E.x]

theorem point_dn (r : Fin 384) (k : Fin 1024) : ∑ e : Fin 1792, beside x3 x4 x5 x6 (ix2 r e) * x2 (ix2 e k) = H.dn (384 * j + r.val) k := by
  simp only [E.y, E.w]; rfl

theorem point_dx (r : Fin 384) (k : Fin 1024) : k0_pay12 x0 x1 (k0_pay7 x0) (beside x3 x4 x5 x6) x2 x7 (ix2 r k) = H.dx (384 * j + r.val) k := by
  rw [dx_apply]; simp only [E.x, E.y, E.w, E.g, E.r]; rfl

theorem point_dw (acc : Vec Ideal S1792x1024 .f32) (h : ∀ e k, acc (ix2 e k) = H.dw (384 * j) k e) (e : Fin 1792) (k : Fin 1024) :
    k0_pay10 x0 x1 (k0_pay7 x0) (beside x3 x4 x5 x6) acc (ix2 e k) = H.dw (384 * (j + 1)) k e := by
  rw [dw_apply, h, Nat.mul_succ, Rows.dw_add]
  refine congrArg _ (Finset.sum_congr rfl fun r _ => ?_)
  simp only [E.x, E.y, E.g]
  exact mul_comm _ _

theorem point_dg (acc : Vec Ideal S1x1024 .f32) (h : ∀ k, acc (ix2 (0 : Fin 1) k) = H.dg (384 * j) k) (k : Fin 1024) :
    k0_pay11 x0 (k0_pay7 x0) (beside x3 x4 x5 x6) x2 acc (ix2 (0 : Fin 1) k) = H.dg (384 * (j + 1)) k := by
  rw [dg_apply, h, Nat.mul_succ, Rows.dg_add]
  refine congrArg _ (Finset.sum_congr rfl fun r _ => ?_)
  simp only [E.x, E.y, E.w]
  rfl

end Point

/-- What the buffers hold after the point of row tile `j`. -/
structure After (H : Rows 1792) (j : ℕ) (o : Vec Ideal S384x1024 .f32 × Vec Ideal S1792x1024 .f32 × Vec Ideal S1x1024 .f32) : Prop where
  dx (r : Fin 384) (k : Fin 1024) : o.1 (ix2 r k) = H.dx (384 * j + r.val) k
  dw (e : Fin 1792) (k : Fin 1024) : o.2.1 (ix2 e k) = H.dw (384 * (j + 1)) k e
  dg (k : Fin 1024) : o.2.2 (ix2 (0 : Fin 1) k) = H.dg (384 * (j + 1)) k

theorem after_of {H : Rows 1792} {j : ℕ} {x0 : Vec Ideal S384x1024 .f32} {x1 : Vec Ideal S1x1024 .f32} {x2 : Vec Ideal S1792x1024 .bf16} {x3 : Vec Ideal S384x384 .bf16}
    {x4 : Vec Ideal S384x256 .bf16} {x5 : Vec Ideal S384x128 .bf16} {x6 : Vec Ideal S384x1024 .bf16} {x7 : Vec Ideal S384x1024 .f32} (E : Env H j x0 x1 x2 x3 x4 x5 x6 x7) {a9 : Vec Ideal S1792x1024 .f32} {a10 : Vec Ideal S1x1024 .f32}
    (h9 : ∀ e k, a9 (ix2 e k) = H.dw (384 * j) k e) (h10 : ∀ k, a10 (ix2 (0 : Fin 1) k) = H.dg (384 * j) k)
    {o8 : Vec Ideal S384x1024 .f32} {o9 : Vec Ideal S1792x1024 .f32} {o10 : Vec Ideal S1x1024 .f32}
    (h : o8 = k0_pay12 x0 x1 (k0_pay7 x0) (beside x3 x4 x5 x6) x2 x7
      ∧ o9 = k0_pay10 x0 x1 (k0_pay7 x0) (beside x3 x4 x5 x6) a9
      ∧ o10 = k0_pay11 x0 (k0_pay7 x0) (beside x3 x4 x5 x6) x2 a10) : After H j (o8, o9, o10) := by
  obtain ⟨rfl, rfl, rfl⟩ := h
  exact ⟨point_dx E, point_dw E _ h9, point_dg E _ h10⟩

theorem step (t : Fin cfg0.N) (ih : ¬t.val % 11 = 0 → After (given m c) (t.val - 1) (outsAt0 m c (t.val - 1) (Nat.lt_of_le_of_lt (Nat.sub_le _ _) t.isLt))) :
    After (given m c) t.val (outsAt0 m c t.val t.isLt) := by
  have E := env m c t
  have h11 := lt11 t
  by_cases h0 : t.val % 11 = 0
  · rw [outsAt0_A m c t h0]
    have ht : t.val = 0 := by omega
    refine after_of E (a9 := k0_pay1 (F := Ideal)) (a10 := k0_pay2 (F := Ideal)) (fun e k => ?_) (fun k => ?_) (case_A ..)
    · rw [zero_dw, ht]; exact (Rows.dw_zero _ k e).symm
    · rw [zero_dg, ht]; exact (Rows.dg_zero _ k).symm
  · rw [outsAt0_B m c t h0]
    have h := ih h0
    have ht : t.val - 1 + 1 = t.val := by omega
    refine after_of E (fun e k => ?_) (fun k => ?_) (case_B ..)
    · rw [h.dw, ht]
    · rw [h.dg, ht]

theorem outs : ∀ (n : ℕ) (hn : n < cfg0.N), After (given m c) n (outsAt0 m c n hn) := by
  intro n
  induction n with
  | zero => exact fun hn => step m c ⟨0, hn⟩ fun h0 => absurd rfl h0
  | succ n ih => exact fun hn => step m c ⟨n + 1, hn⟩ fun _ => ih (by omega)

/-! ## The three result arrays -/

def dxA (H : Rows 1792) : S4224x1024.Idx → EReal := fun i => H.dx (i 0).val (i 1)
def dwA (H : Rows 1792) : S1792x1024.Idx → EReal := fun i => H.dw 4224 (i 1) (i 0)
def dgA (H : Rows 1792) : S1x1024.Idx → EReal := fun i => H.dg 4224 (i 1)

theorem arr8 : (dats m 0 c).arrAt 8 cfg0.N = dxA (given m c) := by
  refine (dats m 0 c).arrAt_eq_of_covers 8 _ (by decide +kernel) fun t hf y => ?_
  rw [after0_8]
  obtain ⟨i0, i1⟩ := at8 t
  refine Eq.trans (congrArg (outsAt0 m c t.val t.isLt).1 (eq_ix2 ((cfg0.win 8).xinj (cfg0.grid.coords t) y))) ?_
  refine Eq.trans ((outs m c t.val t.isLt).dx (y 0) (y 1)) ?_
  refine congrArg₂ (Rows.dx _) (Eq.symm ?_) (Fin.ext (Eq.symm ?_))
  · refine (Window.rect_emb_val (cfg0.win 8) t y 0).trans ?_
    rw [i0]; show t.val * 384 + _ = 384 * t.val + _; rw [Nat.mul_comm]
  · refine (Window.rect_emb_val (cfg0.win 8) t y 1).trans ?_
    rw [i1]; show 0 * 1024 + _ = _; rw [Nat.zero_mul, Nat.zero_add]

theorem arr9 : (dats m 0 c).arrAt 9 cfg0.N = dwA (given m c) := by
  refine (dats m 0 c).arrAt_eq_of_covers 9 _ (by decide +kernel) fun t hf y => ?_
  rw [after0_9]
  obtain ⟨i0, i1⟩ := at9 t
  have ht : t.val = 10 := by have h := (flush0_9 t).mp hf; have := lt11 t; omega
  refine Eq.trans (congrArg (outsAt0 m c t.val t.isLt).2.1 (eq_ix2 ((cfg0.win 9).xinj (cfg0.grid.coords t) y))) ?_
  refine Eq.trans ((outs m c t.val t.isLt).dw (y 0) (y 1)) ?_
  rw [ht]
  refine congrArg₂ (Rows.dw _ 4224) (Fin.ext (Eq.symm ?_)) (Fin.ext (Eq.symm ?_))
  · refine (Window.rect_emb_val (cfg0.win 9) t y 1).trans ?_
    rw [i1]; show 0 * 1024 + _ = _; rw [Nat.zero_mul, Nat.zero_add]
  · refine (Window.rect_emb_val (cfg0.win 9) t y 0).trans ?_
    rw [i0]; show 0 * 1792 + _ = _; rw [Nat.zero_mul, Nat.zero_add]

theorem arr10 : (dats m 0 c).arrAt 10 cfg0.N = dgA (given m c) := by
  refine (dats m 0 c).arrAt_eq_of_covers 10 _ (by decide +kernel) fun t hf y => ?_
  rw [after0_10]
  obtain ⟨i0, i1⟩ := at10 t
  have ht : t.val = 10 := by have h := (flush0_10 t).mp hf; have := lt11 t; omega
  have hy : (cfg0.win 10).xinj (cfg0.grid.coords t) y = ix2 (0 : Fin 1) (y 1) := by
    refine (eq_ix2 _).trans (congrArg (fun z => ix2 z _) ?_)
    exact Fin.ext (by have : (y 0).val < 1 := (y 0).isLt; show (y 0).val = 0; omega)
  refine Eq.trans (congrArg (outsAt0 m c t.val t.isLt).2.2 hy) ?_
  refine Eq.trans ((outs m c t.val t.isLt).dg (y 1)) ?_
  rw [ht]
  refine congrArg (Rows.dg _ 4224) (Fin.ext (Eq.symm ?_))
  refine (Window.rect_emb_val (cfg0.win 10) t y 1).trans ?_
  rw [i1]; show 0 * 1024 + _ = _; rw [Nat.zero_mul, Nat.zero_add]

end Cert.Kernel5Ideal.Chain

end
-- ==== Proof.Ref5.lean ====
/- The fifth reference's three results from the rows. What it has of the rows and weights alone is the third reference's. -/
module

public import proofs.«01_k».proof.Proof.Rows5
public import proofs.«01_k».proof.Proof.Ref3
public import proofs.«01_k».proof.Proof.Gen.Reference5Ideal.Read

@[expose] public section

set_option maxRecDepth 16384

noncomputable section

namespace Cert.Reference5Ideal.Ref

open Idealize.ShloMosaic Cert.Reference5Ideal Cert.Reference5Ideal.Gen Cert.Reference5Ideal.Read Cert.Norm

variable (x0 : FVec Ideal S4224x1024 .f32) (x1 : FVec Ideal S1x1024 .f32) (x2 : FVec Ideal S1792x1024 .bf16) (x3 : FVec Ideal S4224x384 .bf16)
  (x4 : FVec Ideal S4224x256 .bf16) (x5 : FVec Ideal S4224x128 .bf16) (x6 : FVec Ideal S4224x1024 .bf16) (x7 : FVec Ideal S4224x1024 .f32)

theorem x_val (r : Fin 4224) (k : Fin 1024) : x0 (ix2 r k) = (rows5 x0 x1 x2 x3 x4 x5 x6 x7).X r.val k := by
  unfold rows5; dsimp only; rw [dif_pos r.isLt]

theorem r_val (r : Fin 4224) (k : Fin 1024) : x7 (ix2 r k) = (rows5 x0 x1 x2 x3 x4 x5 x6 x7).R r.val k := by
  unfold rows5; dsimp only; rw [dif_pos r.isLt]

theorem at26 (r : Fin 4224) (e : Fin 1792) : val_main_v26 (F := Ideal) x3 x4 x5 x6 (ix2 r e) = (rows5 x0 x1 x2 x3 x4 x5 x6 x7).Y r.val e := by
  unfold rows5 val_main_v26; dsimp only
  rw [dif_pos r.isLt]
  unfold four
  have he := e.isLt
  by_cases h0 : e.val < 384
  · rw [dif_pos h0]
    exact concatenate_apply_piece (t := S4224x1792) 1 _ _ (ix2 r e) 0 (by show 0 < 4; decide) S4224x384 (val_main_v0 (F := Ideal) x3) rfl rfl 0 rfl (ix2 r (⟨e.val, h0⟩ : Fin 384))
      (fun b hb => by fin_cases b <;> first | rfl | exact absurd rfl hb) (Nat.zero_add _)
  rw [dif_neg h0]
  by_cases h1 : e.val < 640
  · rw [dif_pos h1]
    exact concatenate_apply_piece (t := S4224x1792) 1 _ _ (ix2 r e) 1 (by show 1 < 4; decide) S4224x256 (val_main_v1 (F := Ideal) x4) rfl rfl 384 rfl (ix2 r (⟨e.val - 384, by omega⟩ : Fin 256))
      (fun b hb => by fin_cases b <;> first | rfl | exact absurd rfl hb) (by show 384 + (e.val - 384) = e.val; omega)
  rw [dif_neg h1]
  by_cases h2 : e.val < 768
  · rw [dif_pos h2]
    exact concatenate_apply_piece (t := S4224x1792) 1 _ _ (ix2 r e) 2 (by show 2 < 4; decide) S4224x128 (val_main_v2 (F := Ideal) x5) rfl rfl 640 rfl (ix2 r (⟨e.val - 640, by omega⟩ : Fin 128))
      (fun b hb => by fin_cases b <;> first | rfl | exact absurd rfl hb) (by show 640 + (e.val - 640) = e.val; omega)
  rw [dif_neg h2]
  exact concatenate_apply_piece (t := S4224x1792) 1 _ _ (ix2 r e) 3 (by show 3 < 4; decide) S4224x1024 (val_main_v3 (F := Ideal) x6) rfl rfl 768 rfl (ix2 r (⟨e.val - 768, by omega⟩ : Fin 1024))
    (fun b hb => by fin_cases b <;> first | rfl | exact absurd rfl hb) (by show 768 + (e.val - 768) = e.val; omega)

/-- The norm's terms are the third reference's: they read the rows and the weights alone. -/
theorem rs_same : (val_main_v12 (F := Ideal) x0 : FVec Ideal ⟨2, ![4224, 1]⟩ .f32) = Cert.Reference3Ideal.Read.val_main_v8 (F := Ideal) x0 := rfl
theorem scale_same : (val_main_v15 (F := Ideal) x0 : FVec Ideal ⟨2, ![4224, 1]⟩ .f32) = Cert.Reference3Ideal.Read.val_main_v11 (F := Ideal) x0 := rfl
theorem xh_same : (val_main_v17 (F := Ideal) x0 : FVec Ideal ⟨2, ![4224, 1024]⟩ .f32) = Cert.Reference3Ideal.Read.val_main_v13 (F := Ideal) x0 := rfl
theorem nb_same : (val_main_v19 (F := Ideal) x0 x1 : FVec Ideal ⟨2, ![4224, 1024]⟩ .f32) = Cert.Reference3Ideal.Read.val_main_v15 (F := Ideal) x0 x1 := rfl

/-- The third reference's other arguments, which these terms do not read. -/
def none2 : FVec Ideal ⟨2, ![1024, 2048]⟩ .bf16 := fun _ => 0
def none3 : FVec Ideal ⟨2, ![4224, 1024]⟩ .bf16 := fun _ => 0

theorem at12 (r : Fin 4224) : val_main_v12 (F := Ideal) x0 (ix2 r (0 : Fin 1)) = rs ((rows5 x0 x1 x2 x3 x4 x5 x6 x7).X r.val) :=
  (congrFun (rs_same x0) _).trans (Cert.Reference3Ideal.Ref.at8 x0 x1 none2 none3 none3 x7 r)

theorem at15 (r : Fin 4224) : val_main_v15 (F := Ideal) x0 (ix2 r (0 : Fin 1))
    = ((-(1 / 2) : ℝ) : EReal) * Ideal.div (rs ((rows5 x0 x1 x2 x3 x4 x5 x6 x7).X r.val)) (ms ((rows5 x0 x1 x2 x3 x4 x5 x6 x7).X r.val)) :=
  (congrFun (scale_same x0) _).trans (Cert.Reference3Ideal.Ref.at11 x0 x1 none2 none3 none3 x7 r)

theorem at17 (r : Fin 4224) (k : Fin 1024) : val_main_v17 (F := Ideal) x0 (ix2 r k) = (rows5 x0 x1 x2 x3 x4 x5 x6 x7).xh r.val k :=
  (congrFun (xh_same x0) _).trans (Cert.Reference3Ideal.Ref.at13 x0 x1 none2 none3 none3 x7 r k)

theorem at19 (r : Fin 4224) (k : Fin 1024) : val_main_v19 (F := Ideal) x0 x1 (ix2 r k)
    = (rows5 x0 x1 x2 x3 x4 x5 x6 x7).xh r.val k * (rows5 x0 x1 x2 x3 x4 x5 x6 x7).G k :=
  (congrFun (nb_same x0 x1) _).trans (Cert.Reference3Ideal.Ref.at15 x0 x1 none2 none3 none3 x7 r k)

theorem at29 (r : Fin 4224) (k : Fin 1024) : val_main_v29 (F := Ideal) x2 x3 x4 x5 x6 (ix2 r k) = (rows5 x0 x1 x2 x3 x4 x5 x6 x7).dn r.val k := by
  have h26 := at26 x0 x1 x2 x3 x4 x5 x6 x7 r
  unfold Rows.dn val_main_v29 val_main_v20 val_main_v4
  generalize val_main_v26 (F := Ideal) x3 x4 x5 x6 = a at h26 ⊢
  pointwise []
  exact Finset.sum_congr rfl fun e _ => by rw [h26]; rfl

/-- The matrix's gradient. -/
theorem at30 (e : Fin 1792) (k : Fin 1024) : val_main_v30 (F := Ideal) x0 x1 x3 x4 x5 x6 (ix2 e k) = (rows5 x0 x1 x2 x3 x4 x5 x6 x7).dw 4224 k e := by
  have h26 := fun r => at26 x0 x1 x2 x3 x4 x5 x6 x7 r e
  have h19 := fun r => at19 x0 x1 x2 x3 x4 x5 x6 x7 r k
  unfold Rows.dw val_main_v30 val_main_v28 val_main_v27
  rw [Finset.sum_range]
  generalize val_main_v26 (F := Ideal) x3 x4 x5 x6 = a at h26 ⊢
  generalize val_main_v19 (F := Ideal) x0 x1 = b at h19 ⊢
  pointwise []
  exact Finset.sum_congr rfl fun r _ => by rw [h26, h19, mul_comm]

/-- The norm's weights' gradient. -/
theorem at33 (k : Fin 1024) : val_main_v33 (F := Ideal) x0 x2 x3 x4 x5 x6 (ix2 (0 : Fin 1) k) = (rows5 x0 x1 x2 x3 x4 x5 x6 x7).dg 4224 k := by
  have h17 := fun r => at17 x0 x1 x2 x3 x4 x5 x6 x7 r k
  have h29 := fun r => at29 x0 x1 x2 x3 x4 x5 x6 x7 r k
  unfold Rows.dg val_main_v33 val_main_v32 val_main_v31 val_main_cst_3
  rw [Finset.sum_range]
  generalize val_main_v17 (F := Ideal) x0 = a at h17 ⊢
  generalize val_main_v29 (F := Ideal) x2 x3 x4 x5 x6 = b at h29 ⊢
  pointwise []
  exact Finset.sum_congr rfl fun r _ => by rw [h17, h29, mul_comm]

theorem at35 (r : Fin 4224) (k : Fin 1024) : val_main_v35 (F := Ideal) x1 x2 x3 x4 x5 x6 (ix2 r k)
    = (rows5 x0 x1 x2 x3 x4 x5 x6 x7).dn r.val k * (rows5 x0 x1 x2 x3 x4 x5 x6 x7).G k := by
  have h29 := at29 x0 x1 x2 x3 x4 x5 x6 x7 r k
  unfold val_main_v35 val_main_v34
  generalize val_main_v29 (F := Ideal) x2 x3 x4 x5 x6 = b at h29 ⊢
  pointwise []
  rw [h29]
  rfl

theorem at46 (r : Fin 4224) (k : Fin 1024) : val_main_v46 (F := Ideal) x0 x1 x2 x3 x4 x5 x6 (ix2 r k)
    = coef ((rows5 x0 x1 x2 x3 x4 x5 x6 x7).X r.val) (fun j => (rows5 x0 x1 x2 x3 x4 x5 x6 x7).dn r.val j * (rows5 x0 x1 x2 x3 x4 x5 x6 x7).G j) := by
  have h35 := at35 x0 x1 x2 x3 x4 x5 x6 x7 r
  have h15 := at15 x0 x1 x2 x3 x4 x5 x6 x7 r
  unfold coef
  rw [← h15]
  simp only [← x_val x0 x1 x2 x3 x4 x5 x6 x7 r, ← h35]
  unfold val_main_v46 val_main_v45 val_main_v44 val_main_v43 val_main_v42 val_main_v38 val_main_v37 val_main_v36 val_main_cst_4 val_main_cst_5 val_main_cst_6
  generalize val_main_v15 (F := Ideal) x0 = a
  generalize val_main_v35 (F := Ideal) x1 x2 x3 x4 x5 x6 = b
  pointwise []
  rw [width_word]
  exact Fin.sum_univ_one _

/-- The rows' gradient. -/
theorem at50 (r : Fin 4224) (k : Fin 1024) : val_main_v50 (F := Ideal) x0 x1 x2 x3 x4 x5 x6 x7 (ix2 r k) = (rows5 x0 x1 x2 x3 x4 x5 x6 x7).dx r.val k := by
  have h12 := at12 x0 x1 x2 x3 x4 x5 x6 x7 r
  have h35 := at35 x0 x1 x2 x3 x4 x5 x6 x7 r k
  have h46 := at46 x0 x1 x2 x3 x4 x5 x6 x7 r k
  unfold Rows.dx
  rw [grad_eq, ← h46, ← h12, ← h35, ← x_val x0 x1 x2 x3 x4 x5 x6 x7 r, ← r_val x0 x1 x2 x3 x4 x5 x6 x7 r]
  unfold val_main_v50 val_main_v49 val_main_v48 val_main_v47 val_main_v41 val_main_v40 val_main_v39
  generalize val_main_v46 (F := Ideal) x0 x1 x2 x3 x4 x5 x6 = a
  generalize val_main_v35 (F := Ideal) x1 x2 x3 x4 x5 x6 = b
  generalize val_main_v12 (F := Ideal) x0 = d
  pointwise []

end Cert.Reference5Ideal.Ref

end
-- ==== Proof.Value5.lean ====
/- The fifth kernel's results are the fifth reference's. -/
module

public import proofs.«01_k».proof.Proof.Value4
public import proofs.«01_k».proof.Proof.Chain5
public import proofs.«01_k».proof.Proof.Ref5

@[expose] public section

set_option maxRecDepth 16384

noncomputable section

namespace Cert.Proof

open Idealize.ShloMosaic Idealize.ShloMosaic.TcCoe Idealize.SL.Sem Cert.Kernel5Ideal Cert.Kernel5Ideal.Gen

/-- The fifth reference has no semaphores, and its run leaves the eight arguments as they were. -/
theorem frame_reference5 : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

variable (m : (ℓ : Loc nD τ sig) → Buf (Elt Ideal) ℓ) (c : Dev nD)

theorem same5_dx : (Cert.Reference5Ideal.Read.val_main_v50 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) : FVec Ideal S4224x1024 .f32) = (dats m 0 c).arrAt 8 cfg0.N :=
  (eq_of_at2 _ _ fun r k => Cert.Reference5Ideal.Ref.at50 _ _ _ _ _ _ _ _ r k).trans (Chain.arr8 m c).symm

theorem same5_dw : (Cert.Reference5Ideal.Read.val_main_v30 (F := Ideal) (m (c, Proc.devRef .tc main_arg0)) (m (c, Proc.devRef .tc main_arg1)) (m (c, Proc.devRef .tc main_arg3)) (m (c, Proc.devRef .tc main_arg4)) (m (c, Proc.devRef .tc main_arg5)) (m (c, Proc.devRef .tc main_arg6)) : FVec Ideal S1792x1024 .f32) = (dats m 0 c).arrAt 9 cfg0.N :=
  (eq_of_at2 _ _ fun e k => Cert.Reference5Ideal.Ref.at30 _ _ (m (c, Proc.devRef .tc main_arg2)) _ _ _ _ (m (c, Proc.devRef .tc main_arg7)) e k).trans (Chain.arr9 m c).symm

theorem same5_dg : (Cert.Reference5Ideal.Read.val_main_v33 (F := Ideal) (m (c, Proc.devRef .tc main_arg0)) (m (c, Proc.devRef .tc main_arg2)) (m (c, Proc.devRef .tc main_arg3)) (m (c, Proc.devRef .tc main_arg4)) (m (c, Proc.devRef .tc main_arg5)) (m (c, Proc.devRef .tc main_arg6)) : FVec Ideal S1x1024 .f32) = (dats m 0 c).arrAt 10 cfg0.N := by
  refine (eq_of_at2 _ (Chain.dgA (Chain.given m c)) fun z k => ?_).trans (Chain.arr10 m c).symm
  obtain rfl : z = 0 := Subsingleton.elim _ _
  exact Cert.Reference5Ideal.Ref.at33 _ (m (c, Proc.devRef .tc main_arg1)) _ _ _ _ _ (m (c, Proc.devRef .tc main_arg7)) k

theorem value5 : Cert.algebraic_Kernel5Ideal_Reference5Ideal := by
  intro m ρ m' ρ' _ hagree
  refine ⟨_, _, _, Cert.Kernel5Ideal.Value.run_blocks m ρ, ?_⟩
  refine (θ_run Cert.Reference5Ideal.defs _ _).mono (fun _ h c => ?_) (Cert.Reference5Ideal.Value.run (F := Ideal) m' ρ')
  obtain ⟨h0, h1, h2, ha⟩ := h c
  obtain ⟨g0, g1, g2, g3, g4, g5, g6, g7⟩ := hagree c
  refine ⟨h0.trans ?_, h1.trans ?_, h2.trans ?_, ha⟩
  · rw [Cert.Reference5Ideal.Read.val_main_v50_eq, g0, g1, g2, g3, g4, g5, g6, g7]
    exact same5_dx m c
  · rw [Cert.Reference5Ideal.Read.val_main_v30_eq, g0, g1, g3, g4, g5, g6]
    exact same5_dw m c
  · rw [Cert.Reference5Ideal.Read.val_main_v33_eq, g0, g2, g3, g4, g5, g6]
    exact same5_dg m c

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Basics
public import proofs.«01_k».proof.Proof.Value
public import proofs.«01_k».proof.Proof.Value2
public import proofs.«01_k».proof.Proof.Value3
public import proofs.«01_k».proof.Proof.Value4
public import proofs.«01_k».proof.Proof.Value5

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference, fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5, ledger, value, ledger2, value2, trivial, value3, trivial, value4, trivial, value5⟩

end Cert.Proof

end
